-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ffn [hPre_tables : Cert.Pre_tables.Facts] (m : (ℓ : Loc Cert.Ffn.nD Cert.Ffn.τ Cert.Ffn.sig) → Buf (Elt Bits) ℓ) : Prop :=
  ∀ c : Dev Cert.Ffn.nD,
    (Cert.Pre_tables.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5))) = (fun _ => 1#1)

def Pre_FfnIdeal [hPre_tables : Cert.Pre_tables.Facts] (m : (ℓ : Loc Cert.FfnIdeal.nD Cert.FfnIdeal.τ Cert.FfnIdeal.sig) → Buf (Elt Ideal) ℓ) : Prop :=
  ∀ c : Dev Cert.FfnIdeal.nD,
    (Cert.Pre_tables.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_tables [hPre_tables : Cert.Pre_tables.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_tables.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_finite_heads [hPre_finite_heads : Cert.Pre_finite_heads.Facts] (m : (ℓ : Loc Cert.RetIdeal.nD Cert.RetIdeal.τ Cert.RetIdeal.sig) → Buf (Elt Ideal) ℓ) : Prop :=
  ∀ c : Dev Cert.RetIdeal.nD,
    (Cert.Pre_finite_heads.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1))) = (fun _ => 1#1)

def Pre_RetRefIdeal (m : (ℓ : Loc Cert.RetRefIdeal.nD Cert.RetRefIdeal.τ Cert.RetRefIdeal.sig) → Buf (Elt Ideal) ℓ) : Prop :=
  True

def Pre_RetRefIdeal_finite_heads [hPre_finite_heads : Cert.Pre_finite_heads.Facts] (m : (ℓ : Loc Cert.RetRefIdeal.nD Cert.RetRefIdeal.τ Cert.RetRefIdeal.sig) → Buf (Elt Ideal) ℓ) : Prop :=
  ∀ c : Dev Cert.RetRefIdeal.nD,
    (Cert.Pre_finite_heads.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_finite_router [hPre_finite_router : Cert.Pre_finite_router.Facts] (m : (ℓ : Loc Cert.OutIdeal.nD Cert.OutIdeal.τ Cert.OutIdeal.sig) → Buf (Elt Ideal) ℓ) : Prop :=
  ∀ c : Dev Cert.OutIdeal.nD,
    (Cert.Pre_finite_router.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_finite_router [hPre_finite_router : Cert.Pre_finite_router.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_finite_router.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8)) (m ((c.tc : Thread Cert.OutRefIdeal.nD Cert.OutRefIdeal.τ).loc Cert.OutRefIdeal.main_arg9))) = (fun _ => 1#1)

def Pre_Comb [hPre_rows_in_range : Cert.Pre_rows_in_range.Facts] (m : (ℓ : Loc Cert.Comb.nD Cert.Comb.τ Cert.Comb.sig) → Buf (Elt Bits) ℓ) : Prop :=
  ∀ c : Dev Cert.Comb.nD,
    (Cert.Pre_rows_in_range.fn (F := Bits) (m ((c.tc : Thread Cert.Comb.nD Cert.Comb.τ).loc Cert.Comb.main_arg0)) (m ((c.tc : Thread Cert.Comb.nD Cert.Comb.τ).loc Cert.Comb.main_arg1)) (m ((c.tc : Thread Cert.Comb.nD Cert.Comb.τ).loc Cert.Comb.main_arg2)) (m ((c.tc : Thread Cert.Comb.nD Cert.Comb.τ).loc Cert.Comb.main_arg3)) (m ((c.tc : Thread Cert.Comb.nD Cert.Comb.τ).loc Cert.Comb.main_arg4))) = (fun _ => 1#1)

def Pre_CombIdeal [hPre_rows_in_range : Cert.Pre_rows_in_range.Facts] (m : (ℓ : Loc Cert.CombIdeal.nD Cert.CombIdeal.τ Cert.CombIdeal.sig) → Buf (Elt Ideal) ℓ) : Prop :=
  ∀ c : Dev Cert.CombIdeal.nD,
    (Cert.Pre_rows_in_range.fn (F := Ideal) (m ((c.tc : Thread Cert.CombIdeal.nD Cert.CombIdeal.τ).loc Cert.CombIdeal.main_arg0)) (m ((c.tc : Thread Cert.CombIdeal.nD Cert.CombIdeal.τ).loc Cert.CombIdeal.main_arg1)) (m ((c.tc : Thread Cert.CombIdeal.nD Cert.CombIdeal.τ).loc Cert.CombIdeal.main_arg2)) (m ((c.tc : Thread Cert.CombIdeal.nD Cert.CombIdeal.τ).loc Cert.CombIdeal.main_arg3)) (m ((c.tc : Thread Cert.CombIdeal.nD Cert.CombIdeal.τ).loc Cert.CombIdeal.main_arg4))) = (fun _ => 1#1)

def Pre_CombRefIdeal (m : (ℓ : Loc Cert.CombRefIdeal.nD Cert.CombRefIdeal.τ Cert.CombRefIdeal.sig) → Buf (Elt Ideal) ℓ) : Prop :=
  True

def Pre_CombRefIdeal_rows_in_range [hPre_rows_in_range : Cert.Pre_rows_in_range.Facts] (m : (ℓ : Loc Cert.CombRefIdeal.nD Cert.CombRefIdeal.τ Cert.CombRefIdeal.sig) → Buf (Elt Ideal) ℓ) : Prop :=
  ∀ c : Dev Cert.CombRefIdeal.nD,
    (Cert.Pre_rows_in_range.fn (F := Ideal) (m ((c.tc : Thread Cert.CombRefIdeal.nD Cert.CombRefIdeal.τ).loc Cert.CombRefIdeal.main_arg0)) (m ((c.tc : Thread Cert.CombRefIdeal.nD Cert.CombRefIdeal.τ).loc Cert.CombRefIdeal.main_arg1)) (m ((c.tc : Thread Cert.CombRefIdeal.nD Cert.CombRefIdeal.τ).loc Cert.CombRefIdeal.main_arg2)) (m ((c.tc : Thread Cert.CombRefIdeal.nD Cert.CombRefIdeal.τ).loc Cert.CombRefIdeal.main_arg3)) (m ((c.tc : Thread Cert.CombRefIdeal.nD Cert.CombRefIdeal.τ).loc Cert.CombRefIdeal.main_arg4))) = (fun _ => 1#1)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Ffn [hFfn : Cert.Ffn.Facts] [hPre_tables : Cert.Pre_tables.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] [hPre_tables : Cert.Pre_tables.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_tables [hFfnRefIdeal : Cert.FfnRefIdeal.Facts] [hPre_tables : Cert.Pre_tables.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_tables m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetIdeal_pre_finite_heads [hRetIdeal : Cert.RetIdeal.Facts] [hPre_finite_heads : Cert.Pre_finite_heads.Facts] : Prop :=
  ∀ (m : (ℓ : Loc Cert.RetIdeal.nD Cert.RetIdeal.τ Cert.RetIdeal.sig) → Buf (Elt Ideal) ℓ) (g : Dev Cert.RetIdeal.nD → PrngReg), Pre_RetIdeal_finite_heads m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_RetRefIdeal_pre_finite_heads [hRetRefIdeal : Cert.RetRefIdeal.Facts] [hPre_finite_heads : Cert.Pre_finite_heads.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal_finite_heads m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ r.2.sem = fun _ => 0)

def quiescent_OutIdeal_pre_finite_router [hOutIdeal : Cert.OutIdeal.Facts] [hPre_finite_router : Cert.Pre_finite_router.Facts] : Prop :=
  ∀ (m : (ℓ : Loc Cert.OutIdeal.nD Cert.OutIdeal.τ Cert.OutIdeal.sig) → Buf (Elt Ideal) ℓ) (g : Dev Cert.OutIdeal.nD → PrngReg), Pre_OutIdeal_finite_router m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9))
      ∧ r.2.sem = fun _ => 0)

def quiescent_OutRefIdeal_pre_finite_router [hOutRefIdeal : Cert.OutRefIdeal.Facts] [hPre_finite_router : Cert.Pre_finite_router.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_finite_router m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9))
      ∧ r.2.sem = fun _ => 0)

def quiescent_Comb [hComb : Cert.Comb.Facts] [hPre_rows_in_range : Cert.Pre_rows_in_range.Facts] : Prop :=
  ∀ (m : (ℓ : Loc Cert.Comb.nD Cert.Comb.τ Cert.Comb.sig) → Buf (Elt Bits) ℓ) (g : Dev Cert.Comb.nD → PrngReg), Pre_Comb m →
    θ_run (Cert.Comb.defs (F := Bits)) (onTc (τ := Cert.Comb.τ) (Cert.Comb.main (F := Bits))) ⟨m, fun _ => 0, g⟩ (fun r => (∀ c : Dev Cert.Comb.nD,
      r.2.mem ((c.tc : Thread Cert.Comb.nD Cert.Comb.τ).loc Cert.Comb.main_arg0) = m ((c.tc : Thread Cert.Comb.nD Cert.Comb.τ).loc Cert.Comb.main_arg0)
      ∧ r.2.mem ((c.tc : Thread Cert.Comb.nD Cert.Comb.τ).loc Cert.Comb.main_arg1) = m ((c.tc : Thread Cert.Comb.nD Cert.Comb.τ).loc Cert.Comb.main_arg1)
      ∧ r.2.mem ((c.tc : Thread Cert.Comb.nD Cert.Comb.τ).loc Cert.Comb.main_arg2) = m ((c.tc : Thread Cert.Comb.nD Cert.Comb.τ).loc Cert.Comb.main_arg2)
      ∧ r.2.mem ((c.tc : Thread Cert.Comb.nD Cert.Comb.τ).loc Cert.Comb.main_arg3) = m ((c.tc : Thread Cert.Comb.nD Cert.Comb.τ).loc Cert.Comb.main_arg3)
      ∧ r.2.mem ((c.tc : Thread Cert.Comb.nD Cert.Comb.τ).loc Cert.Comb.main_arg4) = m ((c.tc : Thread Cert.Comb.nD Cert.Comb.τ).loc Cert.Comb.main_arg4))
      ∧ r.2.sem = fun _ => 0)

def quiescent_CombIdeal [hCombIdeal : Cert.CombIdeal.Facts] [hPre_rows_in_range : Cert.Pre_rows_in_range.Facts] : Prop :=
  ∀ (m : (ℓ : Loc Cert.CombIdeal.nD Cert.CombIdeal.τ Cert.CombIdeal.sig) → Buf (Elt Ideal) ℓ) (g : Dev Cert.CombIdeal.nD → PrngReg), Pre_CombIdeal m →
    θ_run (Cert.CombIdeal.defs (F := Ideal)) (onTc (τ := Cert.CombIdeal.τ) (Cert.CombIdeal.main (F := Ideal))) ⟨m, fun _ => 0, g⟩ (fun r => (∀ c : Dev Cert.CombIdeal.nD,
      r.2.mem ((c.tc : Thread Cert.CombIdeal.nD Cert.CombIdeal.τ).loc Cert.CombIdeal.main_arg0) = m ((c.tc : Thread Cert.CombIdeal.nD Cert.CombIdeal.τ).loc Cert.CombIdeal.main_arg0)
      ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
      ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
      ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
      ∧ r.2.mem ((c.tc : Thread Cert.CombIdeal.nD Cert.CombIdeal.τ).loc Cert.CombIdeal.main_arg4) = m ((c.tc : Thread Cert.CombIdeal.nD Cert.CombIdeal.τ).loc Cert.CombIdeal.main_arg4))
      ∧ r.2.sem = fun _ => 0)

def quiescent_CombRefIdeal [hCombRefIdeal : Cert.CombRefIdeal.Facts] : Prop :=
  ∀ (m : (ℓ : Loc Cert.CombRefIdeal.nD Cert.CombRefIdeal.τ Cert.CombRefIdeal.sig) → Buf (Elt Ideal) ℓ) (g : Dev Cert.CombRefIdeal.nD → PrngReg), Pre_CombRefIdeal m →
    θ_run (Cert.CombRefIdeal.defs (F := Ideal)) (onTc (τ := Cert.CombRefIdeal.τ) (Cert.CombRefIdeal.main (F := Ideal))) ⟨m, fun _ => 0, g⟩ (fun r => (∀ c : Dev Cert.CombRefIdeal.nD,
      r.2.mem ((c.tc : Thread Cert.CombRefIdeal.nD Cert.CombRefIdeal.τ).loc Cert.CombRefIdeal.main_arg0) = m ((c.tc : Thread Cert.CombRefIdeal.nD Cert.CombRefIdeal.τ).loc Cert.CombRefIdeal.main_arg0)
      ∧ r.2.mem ((c.tc : Thread Cert.CombRefIdeal.nD Cert.CombRefIdeal.τ).loc Cert.CombRefIdeal.main_arg1) = m ((c.tc : Thread Cert.CombRefIdeal.nD Cert.CombRefIdeal.τ).loc Cert.CombRefIdeal.main_arg1)
      ∧ r.2.mem ((c.tc : Thread Cert.CombRefIdeal.nD Cert.CombRefIdeal.τ).loc Cert.CombRefIdeal.main_arg2) = m ((c.tc : Thread Cert.CombRefIdeal.nD Cert.CombRefIdeal.τ).loc Cert.CombRefIdeal.main_arg2)
      ∧ r.2.mem ((c.tc : Thread Cert.CombRefIdeal.nD Cert.CombRefIdeal.τ).loc Cert.CombRefIdeal.main_arg3) = m ((c.tc : Thread Cert.CombRefIdeal.nD Cert.CombRefIdeal.τ).loc Cert.CombRefIdeal.main_arg3)
      ∧ r.2.mem ((c.tc : Thread Cert.CombRefIdeal.nD Cert.CombRefIdeal.τ).loc Cert.CombRefIdeal.main_arg4) = m ((c.tc : Thread Cert.CombRefIdeal.nD Cert.CombRefIdeal.τ).loc Cert.CombRefIdeal.main_arg4))
      ∧ r.2.sem = fun _ => 0)

def quiescent_CombRefIdeal_pre_rows_in_range [hCombRefIdeal : Cert.CombRefIdeal.Facts] [hPre_rows_in_range : Cert.Pre_rows_in_range.Facts] : Prop :=
  ∀ (m : (ℓ : Loc Cert.CombRefIdeal.nD Cert.CombRefIdeal.τ Cert.CombRefIdeal.sig) → Buf (Elt Ideal) ℓ) (g : Dev Cert.CombRefIdeal.nD → PrngReg), Pre_CombRefIdeal_rows_in_range m →
    θ_run (Cert.CombRefIdeal.defs (F := Ideal)) (onTc (τ := Cert.CombRefIdeal.τ) (Cert.CombRefIdeal.main (F := Ideal))) ⟨m, fun _ => 0, g⟩ (fun r => (∀ c : Dev Cert.CombRefIdeal.nD,
      r.2.mem ((c.tc : Thread Cert.CombRefIdeal.nD Cert.CombRefIdeal.τ).loc Cert.CombRefIdeal.main_arg0) = m ((c.tc : Thread Cert.CombRefIdeal.nD Cert.CombRefIdeal.τ).loc Cert.CombRefIdeal.main_arg0)
      ∧ r.2.mem ((c.tc : Thread Cert.CombRefIdeal.nD Cert.CombRefIdeal.τ).loc Cert.CombRefIdeal.main_arg1) = m ((c.tc : Thread Cert.CombRefIdeal.nD Cert.CombRefIdeal.τ).loc Cert.CombRefIdeal.main_arg1)
      ∧ r.2.mem ((c.tc : Thread Cert.CombRefIdeal.nD Cert.CombRefIdeal.τ).loc Cert.CombRefIdeal.main_arg2) = m ((c.tc : Thread Cert.CombRefIdeal.nD Cert.CombRefIdeal.τ).loc Cert.CombRefIdeal.main_arg2)
      ∧ r.2.mem ((c.tc : Thread Cert.CombRefIdeal.nD Cert.CombRefIdeal.τ).loc Cert.CombRefIdeal.main_arg3) = m ((c.tc : Thread Cert.CombRefIdeal.nD Cert.CombRefIdeal.τ).loc Cert.CombRefIdeal.main_arg3)
      ∧ r.2.mem ((c.tc : Thread Cert.CombRefIdeal.nD Cert.CombRefIdeal.τ).loc Cert.CombRefIdeal.main_arg4) = m ((c.tc : Thread Cert.CombRefIdeal.nD Cert.CombRefIdeal.τ).loc Cert.CombRefIdeal.main_arg4))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Ffn_FfnIdeal : Prop :=
  True

def algebraic_FfnIdeal_FfnRefIdeal [hFfnIdeal : Cert.FfnIdeal.Facts] [hFfnRefIdeal : Cert.FfnRefIdeal.Facts] [hPre_tables : Cert.Pre_tables.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v38) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v12)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v12) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v52) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_Ret_RetIdeal : Prop :=
  True

def algebraic_RetIdeal_RetRefIdeal_pre_finite_heads [hRetIdeal : Cert.RetIdeal.Facts] [hRetRefIdeal : Cert.RetRefIdeal.Facts] [hPre_finite_heads : Cert.Pre_finite_heads.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal_finite_heads m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)) →
    ∃ (v0 : (c : Dev Cert.RetIdeal.nD) → Buf (Elt Ideal) ((c.tc : Thread Cert.RetIdeal.nD Cert.RetIdeal.τ).loc Cert.RetIdeal.main_v111)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v111) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v107) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1))

def preserves_Out_OutIdeal : Prop :=
  True

def algebraic_OutIdeal_OutRefIdeal_pre_finite_router [hOutIdeal : Cert.OutIdeal.Facts] [hOutRefIdeal : Cert.OutRefIdeal.Facts] [hPre_finite_router : Cert.Pre_finite_router.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_finite_router m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)) →
    ∃ (v0 : (c : Dev Cert.OutIdeal.nD) → Buf (Elt Ideal) ((c.tc : Thread Cert.OutIdeal.nD Cert.OutIdeal.τ).loc Cert.OutIdeal.main_v11_0)) (v1 : (c : Dev Cert.OutIdeal.nD) → Buf (Elt Ideal) ((c.tc : Thread Cert.OutIdeal.nD Cert.OutIdeal.τ).loc Cert.OutIdeal.main_v11_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v11_0) = v0 c
          ∧ r.2.mem ((c.tc : Thread Cert.OutIdeal.nD Cert.OutIdeal.τ).loc Cert.OutIdeal.main_v11_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_v66) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9))

def preserves_Comb_CombIdeal : Prop :=
  True

def algebraic_CombIdeal_CombRefIdeal [hCombIdeal : Cert.CombIdeal.Facts] [hCombRefIdeal : Cert.CombRefIdeal.Facts] [hPre_rows_in_range : Cert.Pre_rows_in_range.Facts] : Prop :=
  ∀ (m : (ℓ : Loc Cert.CombIdeal.nD Cert.CombIdeal.τ Cert.CombIdeal.sig) → Buf (Elt Ideal) ℓ) (g : Dev Cert.CombIdeal.nD → PrngReg)
    (m' : (ℓ : Loc Cert.CombRefIdeal.nD Cert.CombRefIdeal.τ Cert.CombRefIdeal.sig) → Buf (Elt Ideal) ℓ) (g' : Dev Cert.CombRefIdeal.nD → PrngReg), Pre_CombIdeal m →
    (∀ c : Dev Cert.CombIdeal.nD,
      m' ((c.tc : Thread Cert.CombRefIdeal.nD Cert.CombRefIdeal.τ).loc Cert.CombRefIdeal.main_arg0) = m ((c.tc : Thread Cert.CombIdeal.nD Cert.CombIdeal.τ).loc Cert.CombIdeal.main_arg0)
      ∧ m' ((c.tc : Thread Cert.CombRefIdeal.nD Cert.CombRefIdeal.τ).loc Cert.CombRefIdeal.main_arg1) = m ((c.tc : Thread Cert.CombIdeal.nD Cert.CombIdeal.τ).loc Cert.CombIdeal.main_arg1)
      ∧ m' ((c.tc : Thread Cert.CombRefIdeal.nD Cert.CombRefIdeal.τ).loc Cert.CombRefIdeal.main_arg2) = m ((c.tc : Thread Cert.CombIdeal.nD Cert.CombIdeal.τ).loc Cert.CombIdeal.main_arg2)
      ∧ m' ((c.tc : Thread Cert.CombRefIdeal.nD Cert.CombRefIdeal.τ).loc Cert.CombRefIdeal.main_arg3) = m ((c.tc : Thread Cert.CombIdeal.nD Cert.CombIdeal.τ).loc Cert.CombIdeal.main_arg3)
      ∧ m' ((c.tc : Thread Cert.CombRefIdeal.nD Cert.CombRefIdeal.τ).loc Cert.CombRefIdeal.main_arg4) = m ((c.tc : Thread Cert.CombIdeal.nD Cert.CombIdeal.τ).loc Cert.CombIdeal.main_arg4)) →
    ∃ (v0 : (c : Dev Cert.CombIdeal.nD) → Buf (Elt Ideal) ((c.tc : Thread Cert.CombIdeal.nD Cert.CombIdeal.τ).loc Cert.CombIdeal.main_v3)),
      θ_run (Cert.CombIdeal.defs (F := Ideal)) (onTc (τ := Cert.CombIdeal.τ) (Cert.CombIdeal.main (F := Ideal))) ⟨m, fun _ => 0, g⟩ (fun r => ∀ c : Dev Cert.CombIdeal.nD,
          r.2.mem ((c.tc : Thread Cert.CombIdeal.nD Cert.CombIdeal.τ).loc Cert.CombIdeal.main_v3) = v0 c
          ∧ r.2.mem ((c.tc : Thread Cert.CombIdeal.nD Cert.CombIdeal.τ).loc Cert.CombIdeal.main_arg0) = m ((c.tc : Thread Cert.CombIdeal.nD Cert.CombIdeal.τ).loc Cert.CombIdeal.main_arg0)
          ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
          ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
          ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
          ∧ r.2.mem ((c.tc : Thread Cert.CombIdeal.nD Cert.CombIdeal.τ).loc Cert.CombIdeal.main_arg4) = m ((c.tc : Thread Cert.CombIdeal.nD Cert.CombIdeal.τ).loc Cert.CombIdeal.main_arg4))
      ∧ θ_run (Cert.CombRefIdeal.defs (F := Ideal)) (onTc (τ := Cert.CombRefIdeal.τ) (Cert.CombRefIdeal.main (F := Ideal))) ⟨m', fun _ => 0, g'⟩ (fun r => ∀ c : Dev Cert.CombRefIdeal.nD,
          r.2.mem ((c.tc : Thread Cert.CombRefIdeal.nD Cert.CombRefIdeal.τ).loc Cert.CombRefIdeal.main_v38) = v0 c
          ∧ r.2.mem ((c.tc : Thread Cert.CombRefIdeal.nD Cert.CombRefIdeal.τ).loc Cert.CombRefIdeal.main_arg0) = m' ((c.tc : Thread Cert.CombRefIdeal.nD Cert.CombRefIdeal.τ).loc Cert.CombRefIdeal.main_arg0)
          ∧ r.2.mem ((c.tc : Thread Cert.CombRefIdeal.nD Cert.CombRefIdeal.τ).loc Cert.CombRefIdeal.main_arg1) = m' ((c.tc : Thread Cert.CombRefIdeal.nD Cert.CombRefIdeal.τ).loc Cert.CombRefIdeal.main_arg1)
          ∧ r.2.mem ((c.tc : Thread Cert.CombRefIdeal.nD Cert.CombRefIdeal.τ).loc Cert.CombRefIdeal.main_arg2) = m' ((c.tc : Thread Cert.CombRefIdeal.nD Cert.CombRefIdeal.τ).loc Cert.CombRefIdeal.main_arg2)
          ∧ r.2.mem ((c.tc : Thread Cert.CombRefIdeal.nD Cert.CombRefIdeal.τ).loc Cert.CombRefIdeal.main_arg3) = m' ((c.tc : Thread Cert.CombRefIdeal.nD Cert.CombRefIdeal.τ).loc Cert.CombRefIdeal.main_arg3)
          ∧ r.2.mem ((c.tc : Thread Cert.CombRefIdeal.nD Cert.CombRefIdeal.τ).loc Cert.CombRefIdeal.main_arg4) = m' ((c.tc : Thread Cert.CombRefIdeal.nD Cert.CombRefIdeal.τ).loc Cert.CombRefIdeal.main_arg4))

def Claim : Prop :=
  ∃ (hInProj : Cert.InProj.Facts) (hInProjIdeal : Cert.InProjIdeal.Facts) (hInProjRefIdeal : Cert.InProjRefIdeal.Facts) (hFfn : Cert.Ffn.Facts) (hFfnIdeal : Cert.FfnIdeal.Facts) (hFfnRefIdeal : Cert.FfnRefIdeal.Facts) (hSgu : Cert.Sgu.Facts) (hSguIdeal : Cert.SguIdeal.Facts) (hSguRefIdeal : Cert.SguRefIdeal.Facts) (hRet : Cert.Ret.Facts) (hRetIdeal : Cert.RetIdeal.Facts) (hRetRefIdeal : Cert.RetRefIdeal.Facts) (hOut : Cert.Out.Facts) (hOutIdeal : Cert.OutIdeal.Facts) (hOutRefIdeal : Cert.OutRefIdeal.Facts) (hComb : Cert.Comb.Facts) (hCombIdeal : Cert.CombIdeal.Facts) (hCombRefIdeal : Cert.CombRefIdeal.Facts) (hPre_tables : Cert.Pre_tables.Facts) (hPre_finite_heads : Cert.Pre_finite_heads.Facts) (hPre_finite_router : Cert.Pre_finite_router.Facts) (hPre_rows_in_range : Cert.Pre_rows_in_range.Facts),
    quiescent_InProj (hInProj := hInProj)
    ∧ quiescent_InProjIdeal (hInProjIdeal := hInProjIdeal)
    ∧ quiescent_InProjRefIdeal (hInProjRefIdeal := hInProjRefIdeal)
    ∧ quiescent_Ffn (hFfn := hFfn) (hPre_tables := hPre_tables)
    ∧ quiescent_FfnIdeal (hFfnIdeal := hFfnIdeal) (hPre_tables := hPre_tables)
    ∧ quiescent_FfnRefIdeal (hFfnRefIdeal := hFfnRefIdeal)
    ∧ quiescent_FfnRefIdeal_pre_tables (hFfnRefIdeal := hFfnRefIdeal) (hPre_tables := hPre_tables)
    ∧ quiescent_Sgu (hSgu := hSgu)
    ∧ quiescent_SguIdeal (hSguIdeal := hSguIdeal)
    ∧ quiescent_SguRefIdeal (hSguRefIdeal := hSguRefIdeal)
    ∧ quiescent_Ret (hRet := hRet)
    ∧ quiescent_RetIdeal (hRetIdeal := hRetIdeal)
    ∧ quiescent_RetIdeal_pre_finite_heads (hRetIdeal := hRetIdeal) (hPre_finite_heads := hPre_finite_heads)
    ∧ quiescent_RetRefIdeal (hRetRefIdeal := hRetRefIdeal)
    ∧ quiescent_RetRefIdeal_pre_finite_heads (hRetRefIdeal := hRetRefIdeal) (hPre_finite_heads := hPre_finite_heads)
    ∧ quiescent_Out (hOut := hOut)
    ∧ quiescent_OutIdeal (hOutIdeal := hOutIdeal)
    ∧ quiescent_OutIdeal_pre_finite_router (hOutIdeal := hOutIdeal) (hPre_finite_router := hPre_finite_router)
    ∧ quiescent_OutRefIdeal (hOutRefIdeal := hOutRefIdeal)
    ∧ quiescent_OutRefIdeal_pre_finite_router (hOutRefIdeal := hOutRefIdeal) (hPre_finite_router := hPre_finite_router)
    ∧ quiescent_Comb (hComb := hComb) (hPre_rows_in_range := hPre_rows_in_range)
    ∧ quiescent_CombIdeal (hCombIdeal := hCombIdeal) (hPre_rows_in_range := hPre_rows_in_range)
    ∧ quiescent_CombRefIdeal (hCombRefIdeal := hCombRefIdeal)
    ∧ quiescent_CombRefIdeal_pre_rows_in_range (hCombRefIdeal := hCombRefIdeal) (hPre_rows_in_range := hPre_rows_in_range)
    ∧ preserves_InProj_InProjIdeal
    ∧ algebraic_InProjIdeal_InProjRefIdeal (hInProjIdeal := hInProjIdeal) (hInProjRefIdeal := hInProjRefIdeal)
    ∧ preserves_Ffn_FfnIdeal
    ∧ algebraic_FfnIdeal_FfnRefIdeal (hFfnIdeal := hFfnIdeal) (hFfnRefIdeal := hFfnRefIdeal) (hPre_tables := hPre_tables)
    ∧ preserves_Sgu_SguIdeal
    ∧ algebraic_SguIdeal_SguRefIdeal (hSguIdeal := hSguIdeal) (hSguRefIdeal := hSguRefIdeal)
    ∧ preserves_Ret_RetIdeal
    ∧ algebraic_RetIdeal_RetRefIdeal_pre_finite_heads (hRetIdeal := hRetIdeal) (hRetRefIdeal := hRetRefIdeal) (hPre_finite_heads := hPre_finite_heads)
    ∧ preserves_Out_OutIdeal
    ∧ algebraic_OutIdeal_OutRefIdeal_pre_finite_router (hOutIdeal := hOutIdeal) (hOutRefIdeal := hOutRefIdeal) (hPre_finite_router := hPre_finite_router)
    ∧ preserves_Comb_CombIdeal
    ∧ algebraic_CombIdeal_CombRefIdeal (hCombIdeal := hCombIdeal) (hCombRefIdeal := hCombRefIdeal) (hPre_rows_in_range := hPre_rows_in_range)
-- ==== Pre_finite_heads.lean ====
abbrev S8x4096x3072 : Shape := ⟨3, ![8, 4096, 3072]⟩
abbrev S256 : Shape := ⟨1, ![256]⟩
abbrev S8x4096x768 : Shape := ⟨3, ![8, 4096, 768]⟩
abbrev S_ : Shape := ⟨0, ![]⟩

class Facts : Prop where
  slices_S8x4096x3072_S8x4096x768_0_0_2048 : S8x4096x3072.Slices ![0, 0, 2048] S8x4096x768
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel

variable [Facts]

def fn {F : FTy → Type} [FloatOps F] (main_arg0 : FVec F S8x4096x3072 .f32) (main_arg1 : FVec F S256 .f32) : IVec S_ 1 :=
  let main_v0 : FVec F S8x4096x768 .f32 := (extractStridedSlice S8x4096x768 ![0, 0, 2048] · slices_S8x4096x3072_S8x4096x768_0_0_2048) main_arg0
  let main_v1 : FVec F S8x4096x768 .f32 := Host.absf main_v0
  let main_cst : FVec F S_ .f32 := constant S_ .f32 0x7F800000#32
  let main_v2 : FVec F S8x4096x768 .f32 := broadcastInDim S8x4096x768 ![] bcast_S_S8x4096x768 main_cst
  let main_v3 : IVec S8x4096x768 1 := cmpf .olt main_v1 main_v2
  let main_c : IVec S_ 1 := constantI S_ 1 1#1
  let main_v4 : IVec S_ 1 := (fun x v => Host.reduce IntOp.andi x v reducesTo_S8x4096x768_S_d0_1_2 h_S_) main_v3 main_c
  main_v4
-- ==== Pre_finite_router.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg9 : FVec F S16 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S16 .f32 := Host.absf main_arg9
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S32768x1024 .f32) (main_arg1 : FVec F S32768x256 .f32) (main_arg2 : FVec F S32768x512 .f32) (main_arg3 : FVec F S32768x256 .f32) (main_arg4 : FVec F S1024x1024 .f32) (main_arg5 : FVec F S1024 .f32) (main_arg6 : FVec F S1024x4 .f32) (main_arg7 : FVec F S4 .f32) (main_arg8 : FVec F S1024x16 .f32) (main_arg9 : FVec F S16 .f32) : IVec S_ 1 :=
  let main_v0 : FVec F S1024 .f32 := Host.absf main_arg5
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4 .f32 := Host.absf main_arg6
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S4 .f32 := Host.absf main_arg7
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S1024x16 .f32 := Host.absf main_arg8
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg9 main_v13 main_v16
-- ==== Pre_rows_in_range.lean ====
abbrev S69632x1024 : Shape := ⟨2, ![69632, 1024]⟩
abbrev S32768x1024 : Shape := ⟨2, ![32768, 1024]⟩
abbrev S2x32768 : Shape := ⟨2, ![2, 32768]⟩
abbrev S32768x2 : Shape := ⟨2, ![32768, 2]⟩
abbrev S1024 : Shape := ⟨1, ![1024]⟩
abbrev S_ : Shape := ⟨0, ![]⟩

class Facts : Prop where
  bcast_S_S2x32768 : S_.BroadcastsInDim S2x32768 (![] : Fin 0 → Fin S2x32768.rank)
  reducesTo_S2x32768_S_d0_1 : S2x32768.ReducesTo [0, 1] S_
  h_S_ : 0 < S_.numel

variable [Facts]

def fn {F : FTy → Type} [FloatOps F] (main_arg0 : FVec F S69632x1024 .f32) (main_arg1 : FVec F S32768x1024 .f32) (main_arg2 : IVec S2x32768 32) (main_arg3 : FVec F S32768x2 .f32) (main_arg4 : FVec F S1024 .f32) : IVec S_ 1 :=
  let main_c : IVec S_ 32 := constantI S_ 32 0#32
  let main_v0 : IVec S2x32768 32 := broadcastInDim S2x32768 ![] bcast_S_S2x32768 main_c
  let main_v1 : IVec S2x32768 1 := cmpi .sge main_arg2 main_v0
  let main_c_0 : IVec S_ 32 := constantI S_ 32 69632#32
  let main_v2 : IVec S2x32768 32 := broadcastInDim S2x32768 ![] bcast_S_S2x32768 main_c_0
  let main_v3 : IVec S2x32768 1 := cmpi .slt main_arg2 main_v2
  let main_v4 : IVec S2x32768 1 := andi main_v1 main_v3
  let main_c_1 : IVec S_ 1 := constantI S_ 1 1#1
  let main_v5 : IVec S_ 1 := (fun x v => Host.reduce IntOp.andi x v reducesTo_S2x32768_S_d0_1 h_S_) main_v4 main_c_1
  main_v5
-- ==== Pre_tables.lean ====
abbrev S272 : Shape := ⟨1, ![272]⟩
abbrev S1 : Shape := ⟨1, ![1]⟩
abbrev S69632x1024 : Shape := ⟨2, ![69632, 1024]⟩
abbrev S1x1024 : Shape := ⟨2, ![1, 1024]⟩
abbrev S16x1024x1024 : Shape := ⟨3, ![16, 1024, 1024]⟩
abbrev S16x512x1024 : Shape := ⟨3, ![16, 512, 1024]⟩
abbrev S_ : Shape := ⟨0, ![]⟩

class Facts : Prop where
  bcast_S_S272 : S_.BroadcastsInDim S272 (![] : Fin 0 → Fin S272.rank)
  reducesTo_S272_S_d0 : S272.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S272 32) (main_arg1 : IVec S1 32) (main_arg2 : FVec F S69632x1024 .f32) (main_arg3 : FVec F S1x1024 .f32) (main_arg4 : FVec F S16x1024x1024 .bf16) (main_arg5 : FVec F S16x512x1024 .bf16) : IVec S_ 1 :=
  let main_c : IVec S_ 32 := constantI S_ 32 0#32
  let main_v0 : IVec S272 32 := broadcastInDim S272 ![] bcast_S_S272 main_c
  let main_v1 : IVec S272 1 := cmpi .sge main_arg0 main_v0
  let main_c_0 : IVec S_ 32 := constantI S_ 32 16#32
  let main_v2 : IVec S272 32 := broadcastInDim S272 ![] bcast_S_S272 main_c_0
  let main_v3 : IVec S272 1 := cmpi .slt main_arg0 main_v2
  let main_v4 : IVec S272 1 := andi main_v1 main_v3
  let main_c_1 : IVec S_ 1 := constantI S_ 1 1#1
  let main_v5 : IVec S_ 1 := (fun x v => Host.reduce IntOp.andi x v reducesTo_S272_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 272#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== InProj.lean ====
abbrev S32768x1024 : Shape := ⟨2, ![32768, 1024]⟩
abbrev S1024 : Shape := ⟨1, ![1024]⟩
abbrev S1024x3072 : Shape := ⟨2, ![1024, 3072]⟩
abbrev S1x1024 : Shape := ⟨2, ![1, 1024]⟩
abbrev S32768x3072 : Shape := ⟨2, ![32768, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S32768x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .f32⟩
  | .local _ .vmem, ⟨5, _⟩ => ⟨S512x3072, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjRefIdeal.lean ====
abbrev S32768x1024 : Shape := ⟨2, ![32768, 1024]⟩
abbrev S1024 : Shape := ⟨1, ![1024]⟩
abbrev S1024x3072 : Shape := ⟨2, ![1024, 3072]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3072 : Shape := ⟨2, ![32768, 3072]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3072, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Ffn.lean ====
abbrev S272 : Shape := ⟨1, ![272]⟩
abbrev S1 : Shape := ⟨1, ![1]⟩
abbrev S69632x1024 : Shape := ⟨2, ![69632, 1024]⟩
abbrev S1x1024 : Shape := ⟨2, ![1, 1024]⟩
abbrev S16x1024x1024 : Shape := ⟨3, ![16, 1024, 1024]⟩
abbrev S16x512x1024 : Shape := ⟨3, ![16, 512, 1024]⟩
abbrev S256x1024 : Shape := ⟨2, ![256, 1024]⟩
abbrev S1x1024x1024 : Shape := ⟨3, ![1, 1024, 1024]⟩
abbrev S1x512x1024 : Shape := ⟨3, ![1, 512, 1024]⟩
abbrev S256 : Shape := ⟨1, ![256]⟩
abbrev S256x1 : Shape := ⟨2, ![256, 1]⟩
abbrev S1024x1024 : Shape := ⟨2, ![1024, 1024]⟩
abbrev S256x512 : Shape := ⟨2, ![256, 512]⟩
abbrev S512x1024 : Shape := ⟨2, ![512, 1024]⟩

abbrev nBuf : Space → Nat
  | .hbm => 5
  | .vmem => 9
  | .smem => 2
  | _ => 0

abbrev bufTy : (tb : Table) → Fin (tcTables nBuf tb) → BufTy
  | .hbm, ⟨0, _⟩ => ⟨S69632x1024, .f32⟩
  | .hbm, ⟨1, _⟩ => ⟨S1x1024, .f32⟩
  | .hbm, ⟨2, _⟩ => ⟨S16x1024x1024, .bf16⟩
  | .hbm, ⟨3, _⟩ => ⟨S16x512x1024, .bf16⟩
  | .hbm, ⟨4, _⟩ => ⟨S69632x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S256x1024, .f32⟩
  | .local _ .vmem, ⟨8, _⟩ => ⟨S256x1024, .f32⟩
  | .local _ .smem, ⟨0, _⟩ => ⟨S272, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![272], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S272 : Shape := ⟨1, ![272]⟩
abbrev S1 : Shape := ⟨1, ![1]⟩
abbrev S69632x1024 : Shape := ⟨2, ![69632, 1024]⟩
abbrev S1x1024 : Shape := ⟨2, ![1, 1024]⟩
abbrev S16x1024x1024 : Shape := ⟨3, ![16, 1024, 1024]⟩
abbrev S16x512x1024 : Shape := ⟨3, ![16, 512, 1024]⟩
abbrev S_ : Shape := ⟨0, ![]⟩
abbrev S69632 : Shape := ⟨1, ![69632]⟩
abbrev S69632x1 : Shape := ⟨2, ![69632, 1]⟩
abbrev S16x1024x512 : Shape := ⟨3, ![16, 1024, 512]⟩
abbrev S69632x16x512 : Shape := ⟨3, ![69632, 16, 512]⟩
abbrev S16x1024x69632 : Shape := ⟨3, ![16, 1024, 69632]⟩
abbrev S69632x16x1024 : Shape := ⟨3, ![69632, 16, 1024]⟩
abbrev S272x256 : Shape := ⟨2, ![272, 256]⟩
abbrev S1x16 : Shape := ⟨2, ![1, 16]⟩
abbrev S69632x16 : Shape := ⟨2, ![69632, 16]⟩
abbrev S69632x16x1 : Shape := ⟨3, ![69632, 16, 1]⟩

abbrev nBuf : Space → Nat
  | .hbm => 62
  | .vmem => 0
  | .smem => 0
  | _ => 0

abbrev bufTy : (tb : Table) → Fin (tcTables nBuf tb) → BufTy
  | .hbm, ⟨0, _⟩ => ⟨S272, .i32⟩
  | .hbm, ⟨1, _⟩ => ⟨S1, .i32⟩
  | .hbm, ⟨2, _⟩ => ⟨S69632x1024, .f32⟩
  | .hbm, ⟨3, _⟩ => ⟨S1x1024, .f32⟩
  | .hbm, ⟨4, _⟩ => ⟨S16x1024x1024, .bf16⟩
  | .hbm, ⟨5, _⟩ => ⟨S16x512x1024, .bf16⟩
  | .hbm, ⟨6, _⟩ => ⟨S69632x1024, .f32⟩
  | .hbm, ⟨7, _⟩ => ⟨S_, .f32⟩
  | .hbm, ⟨8, _⟩ => ⟨S69632, .f32⟩
  | .hbm, ⟨9, _⟩ => ⟨S69632x1, .f32⟩
  | .hbm, ⟨10, _⟩ => ⟨S_, .f32⟩
  | .hbm, ⟨11, _⟩ => ⟨S69632x1, .f32⟩
  | .hbm, ⟨12, _⟩ => ⟨S69632x1, .f32⟩
  | .hbm, ⟨13, _⟩ => ⟨S_, .f32⟩
  | .hbm, ⟨14, _⟩ => ⟨S69632x1, .f32⟩
  | .hbm, ⟨15, _⟩ => ⟨S69632x1, .f32⟩
  | .hbm, ⟨16, _⟩ => ⟨S69632x1, .f32⟩
  | .hbm, ⟨17, _⟩ => ⟨S69632x1024, .f32⟩
  | .hbm, ⟨18, _⟩ => ⟨S69632x1024, .f32⟩
  | .hbm, ⟨19, _⟩ => ⟨S69632x1024, .f32⟩
  | .hbm, ⟨20, _⟩ => ⟨S69632x1024, .f32⟩
  | .hbm, ⟨21, _⟩ => ⟨S16x1024x512, .bf16⟩
  | .hbm, ⟨22, _⟩ => ⟨S16x1024x512, .f32⟩
  | .hbm, ⟨23, _⟩ => ⟨S16x1024x512, .bf16⟩
  | .hbm, ⟨24, _⟩ => ⟨S16x1024x512, .f32⟩
  | .hbm, ⟨25, _⟩ => ⟨S69632x16x512, .f32⟩
  | .hbm, ⟨26, _⟩ => ⟨S69632x16x512, .f32⟩
  | .hbm, ⟨27, _⟩ => ⟨S69632x16x512, .f32⟩
  | .hbm, ⟨28, _⟩ => ⟨S_, .f32⟩
  | .hbm, ⟨29, _⟩ => ⟨S69632x16x512, .f32⟩
  | .hbm, ⟨30, _⟩ => ⟨S69632x16x512, .f32⟩
  | .hbm, ⟨31, _⟩ => ⟨S_, .f32⟩
  | .hbm, ⟨32, _⟩ => ⟨S69632x16x512, .f32⟩
  | .hbm, ⟨33, _⟩ => ⟨S69632x16x512, .f32⟩
  | .hbm, ⟨34, _⟩ => ⟨S69632x16x512, .f32⟩
  | .hbm, ⟨35, _⟩ => ⟨S69632x16x512, .f32⟩
  | .hbm, ⟨36, _⟩ => ⟨S69632x16x512, .f32⟩
  | .hbm, ⟨37, _⟩ => ⟨S16x512x1024, .f32⟩
  | .hbm, ⟨38, _⟩ => ⟨S16x1024x69632, .f32⟩
  | .hbm, ⟨39, _⟩ => ⟨S69632x16x1024, .f32⟩
  | .hbm, ⟨40, _⟩ => ⟨S272x256, .i32⟩
  | .hbm, ⟨41, _⟩ => ⟨S69632, .i32⟩
  | .hbm, ⟨42, _⟩ => ⟨S272, .i32⟩
  | .hbm, ⟨43, _⟩ => ⟨S272, .i32⟩
  | .hbm, ⟨44, _⟩ => ⟨S272, .i1⟩
  | .hbm, ⟨45, _⟩ => ⟨S272x256, .i1⟩
  | .hbm, ⟨46, _⟩ => ⟨S69632, .i1⟩
  | .hbm, ⟨47, _⟩ => ⟨S69632x1, .i32⟩
  | .hbm, ⟨48, _⟩ => ⟨S1x16, .i32⟩
  | .hbm, ⟨49, _⟩ => ⟨S69632x16, .i32⟩
  | .hbm, ⟨50, _⟩ => ⟨S69632x16, .i32⟩
  | .hbm, ⟨51, _⟩ => ⟨S69632x16, .i1⟩
  | .hbm, ⟨52, _⟩ => ⟨S69632x16, .f32⟩
  | .hbm, ⟨53, _⟩ => ⟨S69632x1, .i1⟩
  | .hbm, ⟨54, _⟩ => ⟨S69632x1, .f32⟩
  | .hbm, ⟨55, _⟩ => ⟨S69632x16, .f32⟩
  | .hbm, ⟨56, _⟩ => ⟨S69632x16, .f32⟩
  | .hbm, ⟨57, _⟩ => ⟨S69632x16x1, .f32⟩
  | .hbm, ⟨58, _⟩ => ⟨S69632x16x1024, .f32⟩
  | .hbm, ⟨59, _⟩ => ⟨S69632x16x1024, .f32⟩
  | .hbm, ⟨60, _⟩ => ⟨S_, .f32⟩
  | .hbm, ⟨61, _⟩ => ⟨S69632x1024, .f32⟩
  | _, _ => ⟨S272, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== Sgu.lean ====
abbrev S32768x3072 : Shape := ⟨2, ![32768, 3072]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S128x128 : Shape := ⟨2, ![128, 128]⟩
abbrev S1x128x128 : Shape := ⟨3, ![1, 128, 128]⟩
abbrev S128x4x128 : Shape := ⟨3, ![128, 4, 128]⟩
abbrev S128x512 : Shape := ⟨2, ![128, 512]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S32768x256 : Shape := ⟨2, ![32768, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 31
  | .vmem => 8
  | .smem => 0
  | _ => 0

abbrev bufTy : (tb : Table) → Fin (tcTables nBuf tb) → BufTy
  | .hbm, ⟨0, _⟩ => ⟨S32768x3072, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S4x128x128, .i1⟩
  | .hbm, ⟨20, _⟩ => ⟨S4x128x128, .f32⟩
  | .hbm, ⟨21, _⟩ => ⟨S4x128x128, .f32⟩
  | .hbm, ⟨22, _⟩ => ⟨S128x4x128, .f32⟩
  | .hbm, ⟨23, _⟩ => ⟨S128x512, .f32⟩
  | .hbm, ⟨24, _⟩ => ⟨S128x4, .f32⟩
  | .hbm, ⟨25, _⟩ => ⟨S128x4x64, .f32⟩
  | .hbm, ⟨26, _⟩ => ⟨S128x256, .f32⟩
  | .hbm, ⟨27, _⟩ => ⟨S1x256, .f32⟩
  | .hbm, ⟨28, _⟩ => ⟨S1x256, .f32⟩
  | .hbm, ⟨29, _⟩ => ⟨S128x512, .bf16⟩
  | .hbm, ⟨30, _⟩ => ⟨S32768x256, .f32⟩
  | .local _ .vmem, ⟨0, _⟩ => ⟨S512x512, .f32⟩
  | .local _ .vmem, ⟨1, _⟩ => ⟨S512x512, .f32⟩
  | .local _ .vmem, ⟨2, _⟩ => ⟨S1x256, .f32⟩
  | .local _ .vmem, ⟨3, _⟩ => ⟨S1x256, .f32⟩
  | .local _ .vmem, ⟨4, _⟩ => ⟨S128x512, .bf16⟩
  | .local _ .vmem, ⟨5, _⟩ => ⟨S128x256, .f32⟩
  | .local _ .vmem, ⟨6, _⟩ => ⟨S512x256, .f32⟩
  | .local _ .vmem, ⟨7, _⟩ => ⟨S512x256, .f32⟩
  | _, _ => ⟨S32768x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguRefIdeal.lean ====
abbrev S32768x3072 : Shape := ⟨2, ![32768, 3072]⟩
abbrev S256 : Shape := ⟨1, ![256]⟩
abbrev S4x128x128 : Shape := ⟨3, ![4, 128, 128]⟩
abbrev S4x128 : Shape := ⟨2, ![4, 128]⟩
abbrev S32768x512 : Shape := ⟨2, ![32768, 512]⟩
abbrev S_ : Shape := ⟨0, ![]⟩
abbrev S32768x256 : Shape := ⟨2, ![32768, 256]⟩
abbrev S32768 : Shape := ⟨1, ![32768]⟩
abbrev S32768x1 : Shape := ⟨2, ![32768, 1]⟩
abbrev S1x256 : Shape := ⟨2, ![1, 256]⟩
abbrev S256x128x4x64 : Shape := ⟨4, ![256, 128, 4, 64]⟩
abbrev S128x128 : Shape := ⟨2, ![128, 128]⟩
abbrev S4x256x64x128 : Shape := ⟨4, ![4, 256, 64, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 80
  | .vmem => 0
  | .smem => 0
  | _ => 0

abbrev bufTy : (tb : Table) → Fin (tcTables nBuf tb) → BufTy
  | .hbm, ⟨0, _⟩ => ⟨S32768x3072, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S32768x512, .f32⟩
  | .hbm, ⟨6, _⟩ => ⟨S32768x512, .f32⟩
  | .hbm, ⟨7, _⟩ => ⟨S32768x512, .f32⟩
  | .hbm, ⟨8, _⟩ => ⟨S_, .f32⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S_, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S_, .f32⟩
  | .hbm, ⟨17, _⟩ => ⟨S32768x512, .f32⟩
  | .hbm, ⟨18, _⟩ => ⟨S32768x512, .f32⟩
  | .hbm, ⟨19, _⟩ => ⟨S_, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S32768x256, .f32⟩
  | .hbm, ⟨24, _⟩ => ⟨S32768x256, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x256, .f32⟩
  | .hbm, ⟨32, _⟩ => ⟨S32768x256, .f32⟩
  | .hbm, ⟨33, _⟩ => ⟨S32768x256, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x256, .f32⟩
  | .hbm, ⟨41, _⟩ => ⟨S32768x256, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x256, .f32⟩
  | .hbm, ⟨47, _⟩ => ⟨S32768x256, .f32⟩
  | .hbm, ⟨48, _⟩ => ⟨S1x256, .f32⟩
  | .hbm, ⟨49, _⟩ => ⟨S32768x256, .f32⟩
  | .hbm, ⟨50, _⟩ => ⟨S32768x256, .f32⟩
  | .hbm, ⟨51, _⟩ => ⟨S1x256, .f32⟩
  | .hbm, ⟨52, _⟩ => ⟨S32768x256, .f32⟩
  | .hbm, ⟨53, _⟩ => ⟨S32768x256, .f32⟩
  | .hbm, ⟨54, _⟩ => ⟨S256x128x4x64, .f32⟩
  | .hbm, ⟨55, _⟩ => ⟨S_, .i1⟩
  | .hbm, ⟨56, _⟩ => ⟨S128x128, .i1⟩
  | .hbm, ⟨57, _⟩ => ⟨S128x128, .i32⟩
  | .hbm, ⟨58, _⟩ => ⟨S_, .i32⟩
  | .hbm, ⟨59, _⟩ => ⟨S128x128, .i32⟩
  | .hbm, ⟨60, _⟩ => ⟨S128x128, .i32⟩
  | .hbm, ⟨61, _⟩ => ⟨S128x128, .i32⟩
  | .hbm, ⟨62, _⟩ => ⟨S128x128, .i1⟩
  | .hbm, ⟨63, _⟩ => ⟨S_, .i1⟩
  | .hbm, ⟨64, _⟩ => ⟨S128x128, .i1⟩
  | .hbm, ⟨65, _⟩ => ⟨S128x128, .i1⟩
  | .hbm, ⟨66, _⟩ => ⟨S_, .f32⟩
  | .hbm, ⟨67, _⟩ => ⟨S_, .f32⟩
  | .hbm, ⟨68, _⟩ => ⟨S4x128x128, .i1⟩
  | .hbm, ⟨69, _⟩ => ⟨S4x128x128, .f32⟩
  | .hbm, ⟨70, _⟩ => ⟨S4x128x128, .f32⟩
  | .hbm, ⟨71, _⟩ => ⟨S4x256x64x128, .f32⟩
  | .hbm, ⟨72, _⟩ => ⟨S256x128x4x64, .f32⟩
  | .hbm, ⟨73, _⟩ => ⟨S128x4, .f32⟩
  | .hbm, ⟨74, _⟩ => ⟨S128x4x1, .f32⟩
  | .hbm, ⟨75, _⟩ => ⟨S1x128x4x1, .f32⟩
  | .hbm, ⟨76, _⟩ => ⟨S256x128x4x64, .f32⟩
  | .hbm, ⟨77, _⟩ => ⟨S256x128x4x64, .f32⟩
  | .hbm, ⟨78, _⟩ => ⟨S32768x256, .f32⟩
  | .hbm, ⟨79, _⟩ => ⟨S32768x256, .f32⟩
  | _, _ => ⟨S32768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_v41 : Ref sig .tc := ⟨.hbm, 56, rfl⟩
abbrev main_call0_v0 : Ref sig .tc := ⟨.hbm, 57, rfl⟩
abbrev main_call0_c : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_c_0 : Ref sig .tc := ⟨.hbm, 63, rfl⟩
abbrev main_call0_v5 : Ref sig .tc := ⟨.hbm, 64, rfl⟩
abbrev main_v42 : Ref sig .tc := ⟨.hbm, 65, rfl⟩
abbrev main_cst_8 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== Ret.lean ====
abbrev S8x4096x3072 : Shape := ⟨3, ![8, 4096, 3072]⟩
abbrev S256 : Shape := ⟨1, ![256]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S4096x256 : Shape := ⟨2, ![4096, 256]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S128x4x128 : Shape := ⟨3, ![128, 4, 128]⟩
abbrev S128x512 : Shape := ⟨2, ![128, 512]⟩
abbrev S4x64 : Shape := ⟨2, ![4, 64]⟩
abbrev S256x1 : Shape := ⟨2, ![256, 1]⟩
abbrev S1x256 : Shape := ⟨2, ![1, 256]⟩
abbrev S128x256 : Shape := ⟨2, ![128, 256]⟩
abbrev S256x256 : Shape := ⟨2, ![256, 256]⟩
abbrev S8x4096x256 : Shape := ⟨3, ![8, 4096, 256]⟩
abbrev S1x512x256 : Shape := ⟨3, ![1, 512, 256]⟩
abbrev S512x256 : Shape := ⟨2, ![512, 256]⟩
abbrev S1x128x256 : Shape := ⟨3, ![1, 128, 256]⟩

abbrev nBuf : Space → Nat
  | .hbm => 143
  | .vmem => 23
  | .smem => 0
  | _ => 0

abbrev hbmTy0_0 (i : Nat) : BufTy := match i % 128 with
  | 0 => ⟨S8x4096x3072, .f32⟩
  | 1 => ⟨S256, .f32⟩
  | 2 => ⟨S32, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S4096, .f32⟩
  | 11 => ⟨S4096x1, .f32⟩
  | 12 => ⟨S1x32, .f32⟩
  | 13 => ⟨S4096x32, .f32⟩
  | 14 => ⟨S4096x32, .f32⟩
  | 15 => ⟨S4096x32, .f32⟩
  | 16 => ⟨S4096x32, .f32⟩
  | 17 => ⟨S4096x32, .f32⟩
  | 18 => ⟨S_, .f32⟩
  | 19 => ⟨S4096x32, .f32⟩
  | 20 => ⟨S4096x64, .f32⟩
  | 21 => ⟨S1x4096x1x64, .f32⟩
  | 22 => ⟨S1x4096x4x64, .f32⟩
  | 23 => ⟨S4096x256, .f32⟩
  | 24 => ⟨S4096x64, .f32⟩
  | 25 => ⟨S1x4096x1x64, .f32⟩
  | 26 => ⟨S1x4096x4x64, .f32⟩
  | 27 => ⟨S4096x256, .f32⟩
  | 28 => ⟨S4096x32, .f32⟩
  | 29 => ⟨S4096x64, .f32⟩
  | 30 => ⟨S1x4096x1x64, .f32⟩
  | 31 => ⟨S1x4096x4x64, .f32⟩
  | 32 => ⟨S4096x256, .f32⟩
  | 33 => ⟨S4, .f32⟩
  | 34 => ⟨S_, .f32⟩
  | 35 => ⟨S4, .f32⟩
  | 36 => ⟨S4, .f32⟩
  | 37 => ⟨S_, .f32⟩
  | 38 => ⟨S4, .f32⟩
  | 39 => ⟨S4, .f32⟩
  | 40 => ⟨S_, .f32⟩
  | 41 => ⟨S4, .f32⟩
  | 42 => ⟨S4, .f32⟩
  | 43 => ⟨S4, .f32⟩
  | 44 => ⟨S128, .i32⟩
  | 45 => ⟨S128x1, .i32⟩
  | 46 => ⟨S1x128, .i32⟩
  | 47 => ⟨S128x128, .i32⟩
  | 48 => ⟨S128x128, .i32⟩
  | 49 => ⟨S128x128, .i32⟩
  | 50 => ⟨S_, .i32⟩
  | 51 => ⟨S128x128, .i32⟩
  | 52 => ⟨S128x128, .i1⟩
  | 53 => ⟨S4x1x1, .f32⟩
  | 54 => ⟨S_, .i32⟩
  | 55 => ⟨S128x128, .i32⟩
  | 56 => ⟨S128x128, .i32⟩
  | 57 => ⟨S1x128x128, .i32⟩
  | 58 => ⟨S1x128x128, .f32⟩
  | 59 => ⟨S4x128x128, .f32⟩
  | 60 => ⟨S4x128x128, .f32⟩
  | 61 => ⟨S4x128x128, .f32⟩
  | 62 => ⟨S4x128x128, .f32⟩
  | 63 => ⟨S_, .f32⟩
  | 64 => ⟨S_, .f32⟩
  | 65 => ⟨S4x128x128, .i1⟩
  | 66 => ⟨S4x128x128, .f32⟩
  | 67 => ⟨S4x128x128, .f32⟩
  | 68 => ⟨S128x4x128, .f32⟩
  | 69 => ⟨S128x512, .f32⟩
  | 70 => ⟨S4, .i32⟩
  | 71 => ⟨S4x64, .i32⟩
  | 72 => ⟨S256, .i32⟩
  | 73 => ⟨S_, .i32⟩
  | 74 => ⟨S256, .i32⟩
  | 75 => ⟨S256, .i1⟩
  | 76 => ⟨S_, .i32⟩
  | 77 => ⟨S256, .i32⟩
  | 78 => ⟨S256, .i32⟩
  | 79 => ⟨S256, .i32⟩
  | 80 => ⟨S256x1, .i32⟩
  | 81 => ⟨S256, .f32⟩
  | 82 => ⟨S1x256, .f32⟩
  | 83 => ⟨S_, .i32⟩
  | 84 => ⟨S128, .i32⟩
  | 85 => ⟨S128, .i32⟩
  | 86 => ⟨S128x1, .i32⟩
  | 87 => ⟨S128x1, .f32⟩
  | 88 => ⟨S128x256, .f32⟩
  | 89 => ⟨S128x256, .f32⟩
  | 90 => ⟨S128x256, .f32⟩
  | 91 => ⟨S128x256, .f32⟩
  | 92 => ⟨S_, .i32⟩
  | 93 => ⟨S256, .i32⟩
  | 94 => ⟨S256, .i1⟩
  | 95 => ⟨S_, .i32⟩
  | 96 => ⟨S256, .i32⟩
  | 97 => ⟨S256, .i32⟩
  | 98 => ⟨S256, .i32⟩
  | 99 => ⟨S256x1, .i32⟩
  | 100 => ⟨S256, .f32⟩
  | 101 => ⟨S1x256, .f32⟩
  | 102 => ⟨S_, .i32⟩
  | 103 => ⟨S128, .i32⟩
  | 104 => ⟨S128, .i32⟩
  | 105 => ⟨S128x1, .i32⟩
  | 106 => ⟨S128x1, .f32⟩
  | 107 => ⟨S128x256, .f32⟩
  | 108 => ⟨S128x256, .f32⟩
  | 109 => ⟨S128x256, .f32⟩
  | 110 => ⟨S128x256, .f32⟩
  | 111 => ⟨S256x1, .i32⟩
  | 112 => ⟨S1x256, .i32⟩
  | 113 => ⟨S256x256, .i32⟩
  | 114 => ⟨S256x256, .i32⟩
  | 115 => ⟨S256x256, .i1⟩
  | 116 => ⟨S_, .f32⟩
  | 117 => ⟨S4, .f32⟩
  | 118 => ⟨S4, .f32⟩
  | 119 => ⟨S4, .f32⟩
  | 120 => ⟨S_, .i32⟩
  | 121 => ⟨S256, .i32⟩
  | 122 => ⟨S256, .i1⟩
  | 123 => ⟨S_, .i32⟩
  | 124 => ⟨S256, .i32⟩
  | 125 => ⟨S256, .i32⟩
  | 126 => ⟨S256, .i32⟩
  | 127 => ⟨S256x1, .i32⟩
  | _ => ⟨S8x4096x3072, .f32⟩

abbrev hbmTy0_1 (i : Nat) : BufTy := match i % 128 with
  | 0 => ⟨S256, .f32⟩
  | 1 => ⟨S256x1, .f32⟩
  | 2 => ⟨S_, .f32⟩
  | 3 => ⟨S_, .f32⟩
  | 4 => ⟨S256x256, .f32⟩
  | 5 => ⟨S256x256, .f32⟩
  | 6 => ⟨S256x256, .f32⟩
  | 7 => ⟨S_, .f32⟩
  | 8 => ⟨S_, .f32⟩
  | 9 => ⟨S256x256, .f32⟩
  | 10 => ⟨S256x256, .f32⟩
  | 11 => ⟨S256x256, .f32⟩
  | 12 => ⟨S256x256, .bf16⟩
  | 13 => ⟨S1x256, .f32⟩
  | 14 => ⟨S8x4096x256, .f32⟩
  | _ => ⟨S8x4096x3072, .f32⟩

abbrev hbmTy (i : Nat) : BufTy := match i / 128 with
  | 0 => hbmTy0_0 i
  | 1 => hbmTy0_1 i
  | _ => ⟨S8x4096x3072, .f32⟩

abbrev bufTy : (tb : Table) → Fin (tcTables nBuf tb) → BufTy
  | .hbm, ⟨i, _⟩ => hbmTy i
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S128x512, .f32⟩
  | .local _ .vmem, ⟨15, _⟩ => ⟨S128x256, .f32⟩
  | .local _ .vmem, ⟨16, _⟩ => ⟨S128x256, .f32⟩
  | .local _ .vmem, ⟨17, _⟩ => ⟨S256x256, .f32⟩
  | .local _ .vmem, ⟨18, _⟩ => ⟨S256x256, .bf16⟩
  | .local _ .vmem, ⟨19, _⟩ => ⟨S1x256, .f32⟩
  | .local _ .vmem, ⟨20, _⟩ => ⟨S1x512x256, .f32⟩
  | .local _ .vmem, ⟨21, _⟩ => ⟨S1x512x256, .f32⟩
  | .local _ .vmem, ⟨22, _⟩ => ⟨S256x256, .f32⟩
  | _, _ => ⟨S8x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_v30 : Ref sig .tc := ⟨.hbm, 36, rfl⟩
abbrev main_cst_3 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_c_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_6 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_7 : Ref sig .tc := ⟨.hbm, 73, rfl⟩
abbrev main_v59 : Ref sig .tc := ⟨.hbm, 74, rfl⟩
abbrev main_v60 : Ref sig .tc := ⟨.hbm, 75, rfl⟩
abbrev main_c_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_c_9 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_c_10 : Ref sig .tc := ⟨.hbm, 92, rfl⟩
abbrev main_v75 : Ref sig .tc := ⟨.hbm, 93, rfl⟩
abbrev main_v76 : Ref sig .tc := ⟨.hbm, 94, rfl⟩
abbrev main_c_11 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_c_12 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_cst_13 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_c_14 : Ref sig .tc := ⟨.hbm, 120, rfl⟩
abbrev main_v99 : Ref sig .tc := ⟨.hbm, 121, rfl⟩
abbrev main_v100 : Ref sig .tc := ⟨.hbm, 122, rfl⟩
abbrev main_c_15 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_16 : Ref sig .tc := ⟨.hbm, 130, rfl⟩
abbrev main_call1_v0 : Ref sig .tc := ⟨.hbm, 131, rfl⟩
abbrev main_call1_v1 : Ref sig .tc := ⟨.hbm, 132, rfl⟩
abbrev main_call1_v2 : Ref sig .tc := ⟨.hbm, 133, rfl⟩
abbrev main_v107 : Ref sig .tc := ⟨.hbm, 134, rfl⟩
abbrev main_cst_17 : Ref sig .tc := ⟨.hbm, 135, rfl⟩
abbrev main_cst_18 : Ref sig .tc := ⟨.hbm, 136, rfl⟩
abbrev main_call2_v0 : Ref sig .tc := ⟨.hbm, 137, rfl⟩
abbrev main_call2_v1 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== RetRefIdeal.lean ====
abbrev S8x4096x3072 : Shape := ⟨3, ![8, 4096, 3072]⟩
abbrev S256 : Shape := ⟨1, ![256]⟩
abbrev S8x4096x256 : Shape := ⟨3, ![8, 4096, 256]⟩
abbrev S8x4096x4x64 : Shape := ⟨4, ![8, 4096, 4, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S8x4096x4x32 : Shape := ⟨4, ![8, 4096, 4, 32]⟩
abbrev S4 : Shape := ⟨1, ![4]⟩
abbrev S1x4096 : Shape := ⟨2, ![1, 4096]⟩
abbrev S4096x4096 : Shape := ⟨2, ![4096, 4096]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S8x4x4096x4096 : Shape := ⟨4, ![8, 4, 4096, 4096]⟩
abbrev S1x4x4096x4096 : Shape := ⟨4, ![1, 4, 4096, 4096]⟩
abbrev S8x4x64x4096 : Shape := ⟨4, ![8, 4, 64, 4096]⟩
abbrev S8x4096x4 : Shape := ⟨3, ![8, 4096, 4]⟩
abbrev S8x4096x4x1 : Shape := ⟨4, ![8, 4096, 4, 1]⟩
abbrev S1x1x256 : Shape := ⟨3, ![1, 1, 256]⟩

abbrev nBuf : Space → Nat
  | .hbm => 135
  | .vmem => 0
  | .smem => 0
  | _ => 0

abbrev hbmTy0_0 (i : Nat) : BufTy := match i % 128 with
  | 0 => ⟨S8x4096x3072, .f32⟩
  | 1 => ⟨S256, .f32⟩
  | 2 => ⟨S8x4096x256, .f32⟩
  | 3 => ⟨S8x4096x4x64, .f32⟩
  | 4 => ⟨S8x4096x256, .f32⟩
  | 5 => ⟨S8x4096x4x64, .f32⟩
  | 6 => ⟨S8x4096x256, .f32⟩
  | 7 => ⟨S8x4096x4x64, .f32⟩
  | 8 => ⟨S4096, .i32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S4096, .f32⟩
  | 18 => ⟨S4096x1, .f32⟩
  | 19 => ⟨S1x32, .f32⟩
  | 20 => ⟨S4096x32, .f32⟩
  | 21 => ⟨S4096x32, .f32⟩
  | 22 => ⟨S4096x32, .f32⟩
  | 23 => ⟨S4096x32, .f32⟩
  | 24 => ⟨S1x4096x1x32, .f32⟩
  | 25 => ⟨S4096x32, .f32⟩
  | 26 => ⟨S1x4096x1x32, .f32⟩
  | 27 => ⟨S8x4096x4x32, .f32⟩
  | 28 => ⟨S8x4096x4x32, .f32⟩
  | 29 => ⟨S8x4096x4x32, .f32⟩
  | 30 => ⟨S8x4096x4x32, .f32⟩
  | 31 => ⟨S8x4096x4x32, .f32⟩
  | 32 => ⟨S8x4096x4x32, .f32⟩
  | 33 => ⟨S8x4096x4x32, .f32⟩
  | 34 => ⟨S8x4096x4x32, .f32⟩
  | 35 => ⟨S8x4096x4x32, .f32⟩
  | 36 => ⟨S8x4096x4x32, .f32⟩
  | 37 => ⟨S8x4096x4x32, .f32⟩
  | 38 => ⟨S8x4096x4x32, .f32⟩
  | 39 => ⟨S8x4096x4x64, .f32⟩
  | 40 => ⟨S8x4096x4x32, .f32⟩
  | 41 => ⟨S8x4096x4x32, .f32⟩
  | 42 => ⟨S8x4096x4x32, .f32⟩
  | 43 => ⟨S8x4096x4x32, .f32⟩
  | 44 => ⟨S8x4096x4x32, .f32⟩
  | 45 => ⟨S8x4096x4x32, .f32⟩
  | 46 => ⟨S8x4096x4x32, .f32⟩
  | 47 => ⟨S8x4096x4x32, .f32⟩
  | 48 => ⟨S8x4096x4x32, .f32⟩
  | 49 => ⟨S8x4096x4x32, .f32⟩
  | 50 => ⟨S8x4096x4x32, .f32⟩
  | 51 => ⟨S8x4096x4x32, .f32⟩
  | 52 => ⟨S8x4096x4x64, .f32⟩
  | 53 => ⟨S4, .f32⟩
  | 54 => ⟨S_, .f32⟩
  | 55 => ⟨S4, .f32⟩
  | 56 => ⟨S4, .f32⟩
  | 57 => ⟨S_, .f32⟩
  | 58 => ⟨S4, .f32⟩
  | 59 => ⟨S4, .f32⟩
  | 60 => ⟨S_, .f32⟩
  | 61 => ⟨S4, .f32⟩
  | 62 => ⟨S4, .f32⟩
  | 63 => ⟨S4, .f32⟩
  | 64 => ⟨S4096, .i32⟩
  | 65 => ⟨S4096x1, .i32⟩
  | 66 => ⟨S1x4096, .i32⟩
  | 67 => ⟨S4096x4096, .i32⟩
  | 68 => ⟨S4096x4096, .i32⟩
  | 69 => ⟨S4096x4096, .i32⟩
  | 70 => ⟨S_, .i32⟩
  | 71 => ⟨S4096x4096, .i32⟩
  | 72 => ⟨S4096x4096, .i1⟩
  | 73 => ⟨S4x1x1, .f32⟩
  | 74 => ⟨S_, .i32⟩
  | 75 => ⟨S4096x4096, .i32⟩
  | 76 => ⟨S4096x4096, .i32⟩
  | 77 => ⟨S1x4096x4096, .i32⟩
  | 78 => ⟨S1x4096x4096, .f32⟩
  | 79 => ⟨S4x4096x4096, .f32⟩
  | 80 => ⟨S4x4096x4096, .f32⟩
  | 81 => ⟨S4x4096x4096, .f32⟩
  | 82 => ⟨S4x4096x4096, .f32⟩
  | 83 => ⟨S_, .f32⟩
  | 84 => ⟨S_, .f32⟩
  | 85 => ⟨S4x4096x4096, .i1⟩
  | 86 => ⟨S4x4096x4096, .f32⟩
  | 87 => ⟨S4x4096x4096, .f32⟩
  | 88 => ⟨S_, .f32⟩
  | 89 => ⟨S8x4096x4x64, .f32⟩
  | 90 => ⟨S8x4096x4x64, .f32⟩
  | 91 => ⟨S8x4x4096x4096, .f32⟩
  | 92 => ⟨S1x4x4096x4096, .f32⟩
  | 93 => ⟨S8x4x4096x4096, .f32⟩
  | 94 => ⟨S8x4x4096x4096, .f32⟩
  | 95 => ⟨S8x4x64x4096, .f32⟩
  | 96 => ⟨S8x4096x4x64, .f32⟩
  | 97 => ⟨S_, .f32⟩
  | 98 => ⟨S8x4096x4, .f32⟩
  | 99 => ⟨S8x4096x4x1, .f32⟩
  | 100 => ⟨S_, .f32⟩
  | 101 => ⟨S8x4096x4x1, .f32⟩
  | 102 => ⟨S8x4096x4x1, .f32⟩
  | 103 => ⟨S8x4096x4x64, .f32⟩
  | 104 => ⟨S8x4096x4x64, .f32⟩
  | 105 => ⟨S8x4096x4x64, .f32⟩
  | 106 => ⟨S_, .f32⟩
  | 107 => ⟨S8x4096x4, .f32⟩
  | 108 => ⟨S8x4096x4x1, .f32⟩
  | 109 => ⟨S_, .f32⟩
  | 110 => ⟨S8x4096x4x1, .f32⟩
  | 111 => ⟨S8x4096x4x1, .f32⟩
  | 112 => ⟨S8x4096x4x64, .f32⟩
  | 113 => ⟨S8x4096x4x64, .f32⟩
  | 114 => ⟨S_, .f32⟩
  | 115 => ⟨S8x4096x4x1, .f32⟩
  | 116 => ⟨S8x4096x4x1, .f32⟩
  | 117 => ⟨S8x4096x4x1, .f32⟩
  | 118 => ⟨S8x4096x4x64, .f32⟩
  | 119 => ⟨S8x4096x4x64, .f32⟩
  | 120 => ⟨S8x4096x256, .f32⟩
  | 121 => ⟨S1x1x256, .f32⟩
  | 122 => ⟨S8x4096x256, .f32⟩
  | 123 => ⟨S8x4096x256, .f32⟩
  | 124 => ⟨S8x4096x256, .f32⟩
  | 125 => ⟨S8x4096x256, .f32⟩
  | 126 => ⟨S8x4096x256, .f32⟩
  | 127 => ⟨S_, .f32⟩
  | _ => ⟨S8x4096x3072, .f32⟩

abbrev hbmTy0_1 (i : Nat) : BufTy := match i % 128 with
  | 0 => ⟨S8x4096x256, .f32⟩
  | 1 => ⟨S8x4096x256, .f32⟩
  | 2 => ⟨S_, .f32⟩
  | 3 => ⟨S8x4096x256, .f32⟩
  | 4 => ⟨S8x4096x256, .f32⟩
  | 5 => ⟨S8x4096x256, .f32⟩
  | 6 => ⟨S8x4096x256, .f32⟩
  | _ => ⟨S8x4096x3072, .f32⟩

abbrev hbmTy (i : Nat) : BufTy := match i / 128 with
  | 0 => hbmTy0_0 i
  | 1 => hbmTy0_1 i
  | _ => ⟨S8x4096x3072, .f32⟩

abbrev bufTy : (tb : Table) → Fin (tcTables nBuf tb) → BufTy
  | .hbm, ⟨i, _⟩ => hbmTy i
  | _, _ => ⟨S8x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_cst_1 : Ref sig .tc := ⟨.hbm, 54, rfl⟩
abbrev main_v50 : Ref sig .tc := ⟨.hbm, 55, rfl⟩
abbrev main_v51 : Ref sig .tc := ⟨.hbm, 56, rfl⟩
abbrev main_cst_2 : Ref sig .tc := ⟨.hbm, 57, rfl⟩
abbrev main_v52 : Ref sig .tc := ⟨.hbm, 58, rfl⟩
abbrev main_v53 : Ref sig .tc := ⟨.hbm, 59, rfl⟩
abbrev main_cst_3 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_c : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_c_4 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_cst_5 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_v74 : Ref sig .tc := ⟨.hbm, 87, rfl⟩
abbrev main_cst_6 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_7 : Ref sig .tc := ⟨.hbm, 97, rfl⟩
abbrev main_v83 : Ref sig .tc := ⟨.hbm, 98, rfl⟩
abbrev main_v84 : Ref sig .tc := ⟨.hbm, 99, rfl⟩
abbrev main_cst_8 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_9 : Ref sig .tc := ⟨.hbm, 106, rfl⟩
abbrev main_v90 : Ref sig .tc := ⟨.hbm, 107, rfl⟩
abbrev main_v91 : Ref sig .tc := ⟨.hbm, 108, rfl⟩
abbrev main_cst_10 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_cst_11 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_call1_v0 : Ref sig .tc := ⟨.hbm, 125, rfl⟩
abbrev main_call1_v1 : Ref sig .tc := ⟨.hbm, 126, rfl⟩
abbrev main_call1_cst : Ref sig .tc := ⟨.hbm, 127, rfl⟩
abbrev main_call1_v2 : Ref sig .tc := ⟨.hbm, 128, rfl⟩
abbrev main_call1_v3 : Ref sig .tc := ⟨.hbm, 129, rfl⟩
abbrev main_call1_cst_0 : Ref sig .tc := ⟨.hbm, 130, rfl⟩
abbrev main_call1_v4 : Ref sig .tc := ⟨.hbm, 131, rfl⟩
abbrev main_call1_v5 : Ref sig .tc := ⟨.hbm, 132, rfl⟩
abbrev main_v106 : Ref sig .tc := ⟨.hbm, 133, rfl⟩
abbrev main_v107 : Ref sig .tc := ⟨.hbm, 134, rfl⟩

abbrev nD : Nat := 1
abbrev τ : Topo := Topo.v7x

variable {F : FTy → Type} [FloatOps F]
-- ==== Out.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S1024x20 : Shape := ⟨2, ![1024, 20]⟩
abbrev S_ : Shape := ⟨0, ![]⟩
abbrev S1024x128 : Shape := ⟨2, ![1024, 128]⟩
abbrev S20 : Shape := ⟨1, ![20]⟩
abbrev S128 : Shape := ⟨1, ![128]⟩
abbrev S1x128 : Shape := ⟨2, ![1, 128]⟩
abbrev S1x1024 : Shape := ⟨2, ![1, 1024]⟩
abbrev S8x32768 : Shape := ⟨2, ![8, 32768]⟩
abbrev S512x1024 : Shape := ⟨2, ![512, 1024]⟩
abbrev S512x256 : Shape := ⟨2, ![512, 256]⟩
abbrev S512x512 : Shape := ⟨2, ![512, 512]⟩
abbrev S8x512 : Shape := ⟨2, ![8, 512]⟩
abbrev S256x1024 : Shape := ⟨2, ![256, 1024]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S1x512 : Shape := ⟨2, ![1, 512]⟩

abbrev nBuf : Space → Nat
  | .hbm => 27
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x512, .f32⟩
  | .hbm, ⟨3, _⟩ => ⟨S32768x256, .f32⟩
  | .hbm, ⟨4, _⟩ => ⟨S1024x1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S1024x16, .f32⟩
  | .hbm, ⟨9, _⟩ => ⟨S16, .f32⟩
  | .hbm, ⟨10, _⟩ => ⟨S1024x1024, .bf16⟩
  | .hbm, ⟨11, _⟩ => ⟨S1024x20, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S1024x128, .f32⟩
  | .hbm, ⟨17, _⟩ => ⟨S1024x128, .f32⟩
  | .hbm, ⟨18, _⟩ => ⟨S1024x128, .bf16⟩
  | .hbm, ⟨19, _⟩ => ⟨S20, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S1x1024, .f32⟩
  | .hbm, ⟨25, _⟩ => ⟨S32768x1024, .f32⟩
  | .hbm, ⟨26, _⟩ => ⟨S8x32768, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S1024x1024, .bf16⟩
  | .local _ .vmem, ⟨9, _⟩ => ⟨S1x1024, .f32⟩
  | .local _ .vmem, ⟨10, _⟩ => ⟨S1024x128, .bf16⟩
  | .local _ .vmem, ⟨11, _⟩ => ⟨S1024x128, .bf16⟩
  | .local _ .vmem, ⟨12, _⟩ => ⟨S1x128, .f32⟩
  | .local _ .vmem, ⟨13, _⟩ => ⟨S512x1024, .f32⟩
  | .local _ .vmem, ⟨14, _⟩ => ⟨S512x1024, .f32⟩
  | .local _ .vmem, ⟨15, _⟩ => ⟨S8x512, .f32⟩
  | .local _ .vmem, ⟨16, _⟩ => ⟨S8x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutRefIdeal.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4 : Shape := ⟨2, ![32768, 4]⟩
abbrev S1x4 : Shape := ⟨2, ![1, 4]⟩
abbrev S32768x4x1 : Shape := ⟨3, ![32768, 4, 1]⟩
abbrev S32768x16 : Shape := ⟨2, ![32768, 16]⟩
abbrev S1x16 : Shape := ⟨2, ![1, 16]⟩
abbrev S32768x4x4 : Shape := ⟨3, ![32768, 4, 4]⟩
abbrev S32768x2 : Shape := ⟨2, ![32768, 2]⟩
abbrev S32768x8 : Shape := ⟨2, ![32768, 8]⟩
abbrev S8x32768 : Shape := ⟨2, ![8, 32768]⟩

abbrev nBuf : Space → Nat
  | .hbm => 99
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x512, .f32⟩
  | .hbm, ⟨3, _⟩ => ⟨S32768x256, .f32⟩
  | .hbm, ⟨4, _⟩ => ⟨S1024x1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S1024x16, .f32⟩
  | .hbm, ⟨9, _⟩ => ⟨S16, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S32768x4, .f32⟩
  | .hbm, ⟨30, _⟩ => ⟨S1x4, .f32⟩
  | .hbm, ⟨31, _⟩ => ⟨S32768x4, .f32⟩
  | .hbm, ⟨32, _⟩ => ⟨S32768x4, .f32⟩
  | .hbm, ⟨33, _⟩ => ⟨S_, .f32⟩
  | .hbm, ⟨34, _⟩ => ⟨S32768, .f32⟩
  | .hbm, ⟨35, _⟩ => ⟨S_, .f32⟩
  | .hbm, ⟨36, _⟩ => ⟨S32768, .f32⟩
  | .hbm, ⟨37, _⟩ => ⟨S32768, .f32⟩
  | .hbm, ⟨38, _⟩ => ⟨S32768x1, .f32⟩
  | .hbm, ⟨39, _⟩ => ⟨S32768x4, .f32⟩
  | .hbm, ⟨40, _⟩ => ⟨S32768x4, .f32⟩
  | .hbm, ⟨41, _⟩ => ⟨S32768x4, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S32768x4, .f32⟩
  | .hbm, ⟨46, _⟩ => ⟨S32768x4, .f32⟩
  | .hbm, ⟨47, _⟩ => ⟨S32768x1, .f32⟩
  | .hbm, ⟨48, _⟩ => ⟨S32768x1, .i32⟩
  | .hbm, ⟨49, _⟩ => ⟨S32768, .i32⟩
  | .hbm, ⟨50, _⟩ => ⟨S32768x1, .i32⟩
  | .hbm, ⟨51, _⟩ => ⟨S1x4, .i32⟩
  | .hbm, ⟨52, _⟩ => ⟨S32768x4, .i32⟩
  | .hbm, ⟨53, _⟩ => ⟨S32768x4, .i32⟩
  | .hbm, ⟨54, _⟩ => ⟨S32768x4, .i1⟩
  | .hbm, ⟨55, _⟩ => ⟨S32768x4, .f32⟩
  | .hbm, ⟨56, _⟩ => ⟨S32768x4, .f32⟩
  | .hbm, ⟨57, _⟩ => ⟨S_, .f32⟩
  | .hbm, ⟨58, _⟩ => ⟨S32768, .f32⟩
  | .hbm, ⟨59, _⟩ => ⟨S32768x1, .f32⟩
  | .hbm, ⟨60, _⟩ => ⟨S32768x4x1, .f32⟩
  | .hbm, ⟨61, _⟩ => ⟨S32768x16, .f32⟩
  | .hbm, ⟨62, _⟩ => ⟨S1x16, .f32⟩
  | .hbm, ⟨63, _⟩ => ⟨S32768x16, .f32⟩
  | .hbm, ⟨64, _⟩ => ⟨S32768x16, .f32⟩
  | .hbm, ⟨65, _⟩ => ⟨S32768x4x4, .f32⟩
  | .hbm, ⟨66, _⟩ => ⟨S32768x4x4, .f32⟩
  | .hbm, ⟨67, _⟩ => ⟨S32768x4x4, .f32⟩
  | .hbm, ⟨68, _⟩ => ⟨S_, .f32⟩
  | .hbm, ⟨69, _⟩ => ⟨S32768x4, .f32⟩
  | .hbm, ⟨70, _⟩ => ⟨S32768x2, .f32⟩
  | .hbm, ⟨71, _⟩ => ⟨S32768x2, .i32⟩
  | .hbm, ⟨72, _⟩ => ⟨S_, .f32⟩
  | .hbm, ⟨73, _⟩ => ⟨S32768, .f32⟩
  | .hbm, ⟨74, _⟩ => ⟨S_, .f32⟩
  | .hbm, ⟨75, _⟩ => ⟨S32768, .f32⟩
  | .hbm, ⟨76, _⟩ => ⟨S32768, .f32⟩
  | .hbm, ⟨77, _⟩ => ⟨S32768x1, .f32⟩
  | .hbm, ⟨78, _⟩ => ⟨S32768x2, .f32⟩
  | .hbm, ⟨79, _⟩ => ⟨S32768x2, .f32⟩
  | .hbm, ⟨80, _⟩ => ⟨S32768x2, .f32⟩
  | .hbm, ⟨81, _⟩ => ⟨S_, .f32⟩
  | .hbm, ⟨82, _⟩ => ⟨S32768, .f32⟩
  | .hbm, ⟨83, _⟩ => ⟨S32768x1, .f32⟩
  | .hbm, ⟨84, _⟩ => ⟨S32768x2, .f32⟩
  | .hbm, ⟨85, _⟩ => ⟨S32768x2, .f32⟩
  | .hbm, ⟨86, _⟩ => ⟨S32768x2, .f32⟩
  | .hbm, ⟨87, _⟩ => ⟨S32768x2, .f32⟩
  | .hbm, ⟨88, _⟩ => ⟨S32768x1, .i32⟩
  | .hbm, ⟨89, _⟩ => ⟨S_, .i32⟩
  | .hbm, ⟨90, _⟩ => ⟨S32768x1, .i32⟩
  | .hbm, ⟨91, _⟩ => ⟨S32768x1, .i32⟩
  | .hbm, ⟨92, _⟩ => ⟨S32768x2, .i32⟩
  | .hbm, ⟨93, _⟩ => ⟨S32768x2, .i32⟩
  | .hbm, ⟨94, _⟩ => ⟨S32768x2, .f32⟩
  | .hbm, ⟨95, _⟩ => ⟨S_, .f32⟩
  | .hbm, ⟨96, _⟩ => ⟨S32768x4, .f32⟩
  | .hbm, ⟨97, _⟩ => ⟨S32768x8, .f32⟩
  | .hbm, ⟨98, _⟩ => ⟨S8x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_values : Ref sig .tc := ⟨.hbm, 47, rfl⟩
abbrev main_indices : Ref sig .tc := ⟨.hbm, 48, rfl⟩
abbrev main_v31 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_values_7 : Ref sig .tc := ⟨.hbm, 70, rfl⟩
abbrev main_indices_8 : Ref sig .tc := ⟨.hbm, 71, rfl⟩
abbrev main_cst_9 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩

abbrev nD : Nat := 1
abbrev τ : Topo := Topo.v7x

variable {F : FTy → Type} [FloatOps F]
-- ==== Comb.lean ====
abbrev S69632x1024 : Shape := ⟨2, ![69632, 1024]⟩
abbrev S32768x1024 : Shape := ⟨2, ![32768, 1024]⟩
abbrev S2x32768 : Shape := ⟨2, ![2, 32768]⟩
abbrev S32768x2 : Shape := ⟨2, ![32768, 2]⟩
abbrev S1024 : Shape := ⟨1, ![1024]⟩
abbrev S2x128x256 : Shape := ⟨3, ![2, 128, 256]⟩
abbrev S128x2x256 : Shape := ⟨3, ![128, 2, 256]⟩
abbrev S1x1024 : Shape := ⟨2, ![1, 1024]⟩
abbrev S1x2x256 : Shape := ⟨3, ![1, 2, 256]⟩
abbrev S256x1024 : Shape := ⟨2, ![256, 1024]⟩
abbrev S256x2 : Shape := ⟨2, ![256, 2]⟩
abbrev S2x256x1024 : Shape := ⟨3, ![2, 256, 1024]⟩
abbrev S_ : Shape := ⟨0, ![]⟩
abbrev S1x1x1 : Shape := ⟨3, ![1, 1, 1]⟩
abbrev S1x1x1024 : Shape := ⟨3, ![1, 1, 1024]⟩
abbrev S256x1 : Shape := ⟨2, ![256, 1]⟩
abbrev S1x256x1024 : Shape := ⟨3, ![1, 256, 1024]⟩
abbrev S256 : Shape := ⟨1, ![256]⟩

abbrev nBuf : Space → Nat
  | .hbm => 9
  | .vmem => 8
  | .smem => 2
  | _ => 0

abbrev bufTy : (tb : Table) → Fin (tcTables nBuf tb) → BufTy
  | .hbm, ⟨0, _⟩ => ⟨S69632x1024, .f32⟩
  | .hbm, ⟨1, _⟩ => ⟨S32768x1024, .f32⟩
  | .hbm, ⟨2, _⟩ => ⟨S2x32768, .i32⟩
  | .hbm, ⟨3, _⟩ => ⟨S32768x2, .f32⟩
  | .hbm, ⟨4, _⟩ => ⟨S1024, .f32⟩
  | .hbm, ⟨5, _⟩ => ⟨S2x128x256, .i32⟩
  | .hbm, ⟨6, _⟩ => ⟨S128x2x256, .i32⟩
  | .hbm, ⟨7, _⟩ => ⟨S1x1024, .f32⟩
  | .hbm, ⟨8, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x2, .f32⟩
  | .local _ .vmem, ⟨3, _⟩ => ⟨S256x2, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S2x256x1024, .f32⟩
  | .local _ .smem, ⟨0, _⟩ => ⟨S1x2x256, .i32⟩
  | .local _ .smem, ⟨1, _⟩ => ⟨S1x2x256, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 3 → Nat :=
  let c0_18 : Index := 0#32
  let c0_19 : Index := 0#32
  let c0_i32 : BitVec 32 := 0#32
  let c1_i32 : BitVec 32 := 1#32
  let arg9 : BitVec 32 := Scf.iv c0_i32 c1_i32 k0_t1
  let v31 : Index := Scalar.indexCast arg9
  ![0, 0, v31.toNat]
def k0_off2 (k0_t1 : Fin k0_t1_loop.trips) : Fin 3 → Nat :=
  let c0_i32_20 : BitVec 32 := 0#32
  let c0_i32 : BitVec 32 := 0#32
  let c1_i32 : BitVec 32 := 1#32
  let arg9 : BitVec 32 := Scf.iv c0_i32 c1_i32 k0_t1
  let c0_i32_21 : BitVec 32 := 0#32
  ![0, arg9.toNat, 0]
def k0_off3 (v32 : BitVec 32) : Fin 2 → Nat :=
  let c0_i32_22 : BitVec 32 := 0#32
  ![v32.toNat, 0]

def k0_chk1 (v32 : BitVec 32) : Prop :=
  (∀ a, (k0_off3 v32) a + S1x1024.size a ≤ S69632x1024.size a)
theorem k0_off3_inb : ∀ (v32 : BitVec 32) (k0_hw1 : k0_chk1 v32), ∀ a, (k0_off3 v32) a + S1x1024.size a ≤ S69632x1024.size a := fun v32 k0_hw1 => k0_hw1

def k0_off4 (k0_t1 : Fin k0_t1_loop.trips) : Fin 3 → Nat :=
  let c0_23 : Index := 0#32
  let c1_24 : Index := 1#32
  let c0_i32 : BitVec 32 := 0#32
  let c1_i32 : BitVec 32 := 1#32
  let arg9 : BitVec 32 := Scf.iv c0_i32 c1_i32 k0_t1
  let v36 : Index := Scalar.indexCast arg9
  ![0, 1, v36.toNat]
def k0_off5 (k0_t1 : Fin k0_t1_loop.trips) : Fin 3 → Nat :=
  let c1_i32_25 : BitVec 32 := 1#32
  let c0_i32 : BitVec 32 := 0#32
  let c1_i32 : BitVec 32 := 1#32
  let arg9 : BitVec 32 := Scf.iv c0_i32 c1_i32 k0_t1
  let c0_i32_26 : BitVec 32 := 0#32
  ![1, arg9.toNat, 0]
def k0_off6 (v37 : BitVec 32) : Fin 2 → Nat :=
  let c0_i32_27 : BitVec 32 := 0#32
  ![v37.toNat, 0]

def k0_chk2 (v37 : BitVec 32) : Prop :=
  (∀ a, (k0_off6 v37) a + S1x1024.size a ≤ S69632x1024.size a)
theorem k0_off6_inb : ∀ (v37 : BitVec 32) (k0_hw2 : k0_chk2 v37), ∀ a, (k0_off6 v37) a + S1x1024.size a ≤ S69632x1024.size a := fun v37 k0_hw2 => k0_hw2

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x2x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CombRefIdeal.lean ====
abbrev S69632x1024 : Shape := ⟨2, ![69632, 1024]⟩
abbrev S32768x1024 : Shape := ⟨2, ![32768, 1024]⟩
abbrev S2x32768 : Shape := ⟨2, ![2, 32768]⟩
abbrev S32768x2 : Shape := ⟨2, ![32768, 2]⟩
abbrev S1024 : Shape := ⟨1, ![1024]⟩
abbrev S32768x1 : Shape := ⟨2, ![32768, 1]⟩
abbrev S1x32768 : Shape := ⟨2, ![1, 32768]⟩
abbrev S32768 : Shape := ⟨1, ![32768]⟩
abbrev S_ : Shape := ⟨0, ![]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S69632x1024, .f32⟩
  | .hbm, ⟨1, _⟩ => ⟨S32768x1024, .f32⟩
  | .hbm, ⟨2, _⟩ => ⟨S2x32768, .i32⟩
  | .hbm, ⟨3, _⟩ => ⟨S32768x2, .f32⟩
  | .hbm, ⟨4, _⟩ => ⟨S1024, .f32⟩
  | .hbm, ⟨5, _⟩ => ⟨S32768x1, .f32⟩
  | .hbm, ⟨6, _⟩ => ⟨S1x32768, .i32⟩
  | .hbm, ⟨7, _⟩ => ⟨S32768, .i32⟩
  | .hbm, ⟨8, _⟩ => ⟨S_, .i32⟩
  | .hbm, ⟨9, _⟩ => ⟨S32768, .i32⟩
  | .hbm, ⟨10, _⟩ => ⟨S32768, .i1⟩
  | .hbm, ⟨11, _⟩ => ⟨S_, .i32⟩
  | .hbm, ⟨12, _⟩ => ⟨S32768, .i32⟩
  | .hbm, ⟨13, _⟩ => ⟨S32768, .i32⟩
  | .hbm, ⟨14, _⟩ => ⟨S32768, .i32⟩
  | .hbm, ⟨15, _⟩ => ⟨S32768x1, .i32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1, .f32⟩
  | .hbm, ⟨21, _⟩ => ⟨S1x32768, .i32⟩
  | .hbm, ⟨22, _⟩ => ⟨S32768, .i32⟩
  | .hbm, ⟨23, _⟩ => ⟨S_, .i32⟩
  | .hbm, ⟨24, _⟩ => ⟨S32768, .i32⟩
  | .hbm, ⟨25, _⟩ => ⟨S32768, .i1⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S32768, .i32⟩
  | .hbm, ⟨30, _⟩ => ⟨S32768x1, .i32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Proof.Layer.Norm.lean ====
/-
  The row normalisation that both calls apply to their tokens, over the extended reals: as a function of one row, and
  read off the vector operations that compute it for a block of rows at a time.
-/
module

public import Idealize.ShloMosaic.PureOps.Ideal
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value
public import Idealize.ShloMosaic.Lib.Pointwise.Reduce

@[expose] public section

noncomputable section

namespace Cert.Layer

open Idealize.ShloMosaic hiding ix1 ix2 ix3 ix4 ix5
open Idealize.ShloMosaic.ValueIdx

/-- One over the root of a row's mean square, a small constant added under the root. -/
def invRms (x : Fin 1024 → EReal) : EReal :=
  Ideal.rsqrt (Ideal.div (∑ k, x k * x k) (Ideal.ofBits .f32 0x44800000#32) + Ideal.ofBits .f32 0x358637BD#32)

/-- A row normalised by its root mean square and scaled entry by entry with the gains `g`. -/
def normRow (x g : Fin 1024 → EReal) (k : Fin 1024) : EReal := x k * invRms x * g k

/-- A logistic-weighted gate: `z · 1/(1 + e⁻ᶻ)`. -/
def silu (z : EReal) : EReal := z * Ideal.logistic z

/-- The word that is minus infinity. -/
theorem neg_inf : Ideal.ofBits .f32 0xFF800000#32 = ⊥ := by
  simp [Ideal.ofBits, Ideal.ieee]

variable {R C : ℕ}

/-- A column broadcast along the rows is read at its row. -/
theorem column_apply {α : Type} (v : (⟨2, ![R, 1]⟩ : Shape).Idx → α) (h : (⟨2, ![R, 1]⟩ : Shape).Broadcasts ⟨2, ![R, C]⟩)
    (r : Fin R) (k : Fin C) : broadcastTo ⟨2, ![R, C]⟩ v h (ix2 r k) = v (ix2 r 0) := by
  refine broadcastTo_apply v h _ _ fun a => ?_
  match a with
  | ⟨0, _⟩ =>
    show r.val = if R = 1 then 0 else r.val
    split
    · have := r.isLt; omega
    · rfl
  | ⟨1, _⟩ => rfl

/-- A row broadcast down the columns is read at its column. -/
theorem row_apply {α : Type} (v : (⟨2, ![1, C]⟩ : Shape).Idx → α) (h : (⟨2, ![1, C]⟩ : Shape).Broadcasts ⟨2, ![R, C]⟩)
    (r : Fin R) (k : Fin C) : broadcastTo ⟨2, ![R, C]⟩ v h (ix2 r k) = v (ix2 0 k) := by
  refine broadcastTo_apply v h _ _ fun a => ?_
  match a with
  | ⟨0, _⟩ => rfl
  | ⟨1, _⟩ =>
    show k.val = if C = 1 then 0 else k.val
    split
    · have := k.isLt; omega
    · rfl

/-- The sum along a row, from the printed reduction. -/
theorem rowSum_apply (v : FVec Ideal ⟨2, ![R, C]⟩ .f32) (h : (⟨2, ![R, C]⟩ : Shape).Reduces [1] ⟨1, ![R]⟩)
    (hφ : FKind.Formats .f32) (h0 : (0x00000000#32 : BitVec FTy.f32.bits) = FKind.add.neutral .f32 hφ) (r : Fin R) :
    multiReduction .add [1] ⟨1, ![R]⟩ v 0x00000000#32 h hφ h0 (ix1 r) = ∑ k : Fin C, v (ix2 r k) :=
  (Ideal.reduceAdd_r2_a1 h v (ix1 r)).trans (Finset.sum_congr rfl fun k _ => congrArg v (funext fun a => by
    match a with
    | ⟨0, _⟩ => rfl
    | ⟨1, _⟩ => rfl))

/-- The normalisation of a block of rows, read at row `r` and column `k`. -/
theorem norm_apply (x : FVec Ideal ⟨2, ![R, 1024]⟩ .f32) (g : FVec Ideal ⟨2, ![1, 1024]⟩ .f32)
    (h : (⟨2, ![R, 1024]⟩ : Shape).Reduces [1] ⟨1, ![R]⟩)
    (hφ : FKind.Formats .f32) (h0 : (0x00000000#32 : BitVec FTy.f32.bits) = FKind.add.neutral .f32 hφ)
    (hs : (⟨1, ![R]⟩ : Shape).ShapeCasts ⟨2, ![R, 1]⟩) (hc : (⟨2, ![R, 1]⟩ : Shape).Broadcasts ⟨2, ![R, 1024]⟩)
    (hr : (⟨2, ![1, 1024]⟩ : Shape).Broadcasts ⟨2, ![R, 1024]⟩) (r : Fin R) (k : Fin 1024) :
    mulf (mulf x (broadcastTo ⟨2, ![R, 1024]⟩ (rsqrt (addf (divf
        (shapeCast ⟨2, ![R, 1]⟩ (multiReduction .add [1] ⟨1, ![R]⟩ (mulf x x) 0x00000000#32 h hφ h0) hs)
        (broadcast ⟨2, ![R, 1]⟩ (Scalar.ofBits (F := Ideal) .f32 0x44800000#32)))
        (broadcast ⟨2, ![R, 1]⟩ (Scalar.ofBits (F := Ideal) .f32 0x358637BD#32)))) hc))
      (broadcastTo ⟨2, ![R, 1024]⟩ g hr) (ix2 r k)
      = normRow (fun j => x (ix2 r j)) (fun j => g (ix2 0 j)) k := by
  show x (ix2 r k) * broadcastTo ⟨2, ![R, 1024]⟩ _ hc (ix2 r k) * broadcastTo ⟨2, ![R, 1024]⟩ g hr (ix2 r k) = _
  rw [row_apply, column_apply]
  unfold normRow invRms
  refine congrArg (fun z => x (ix2 r k) * Ideal.rsqrt (Ideal.div z _ + _) * g (ix2 0 k)) ?_
  rw [shapeCast_a_a1_apply, rowSum_apply]
  rfl

end Cert.Layer

end
-- ==== Proof.InProj.Tile.lean ====
/-
  What one point of the projection computes over the extended reals: its rows normalised and multiplied with the whole
  weight, in six strips of 512 columns that together are the block.
-/
module

public import proofs.«01_k».proof.Proof.Gen.InProjIdeal.Frame
public import proofs.«01_k».proof.Proof.Layer.Norm

@[expose] public section

set_option maxRecDepth 16384

noncomputable section

namespace Cert.InProjIdeal.Project

open Cert.InProjIdeal Cert.InProjIdeal.Gen Cert.Layer
open Idealize.ShloMosaic hiding ix1 ix2 ix3 ix4 ix5
open Idealize.ShloMosaic.ValueIdx

/-- A row's entry of the projection: the normalised row times a column of the weight. -/
def projected (x g w : Fin 1024 → EReal) : EReal := ∑ k, normRow x g k * w k

/-- It depends on its arguments' entries alone. -/
theorem projected_congr {x x' g g' w w' : Fin 1024 → EReal} (hx : ∀ k, x k = x' k) (hg : ∀ k, g k = g' k) (hw : ∀ k, w k = w' k) :
    projected x g w = projected x' g' w' := by
  rw [funext hx, funext hg, funext hw]

/-- The normalised block, read at row `r` and column `k`. -/
theorem pay3_apply (x : Vec Ideal S512x1024 .f32) (g : Vec Ideal S1x1024 .f32) (r : Fin 512) (k : Fin 1024) :
    k0_pay3 x g (ix2 r k) = normRow (fun j => x (ix2 r j)) (fun j => g (ix2 0 j)) k := by
  unfold k0_pay3
  rw [shapeCast_self]
  exact norm_apply x g _ _ _ _ _ _ r k

/-- A strip: a block of rows times 512 columns of the weight. -/
theorem strip_apply (v : FVec Ideal S512x1024 .bf16) (w : Vec Ideal S1024x512 .bf16) (r d : Fin 512) :
    k0_pay1 v w (ix2 r d) = ∑ k : Fin 1024, v (ix2 r k) * w (ix2 k d) := by
  unfold k0_pay1
  refine (Ideal.matmul_plain_apply none _ _ _ r d).trans ?_
  rw [shapeCast_self]
  have hz : constant (F := Ideal) S512x512 .f32 0x00000000#32 (ix2 r d) = 0 := Ideal.ofBits_zero_f32
  rw [hz, zero_add]

/-- The block a point leaves, as a function of the blocks it reads. -/
def tile (x : Vec Ideal S512x1024 .f32) (g : Vec Ideal S1x1024 .f32) (w : Vec Ideal S1024x3072 .bf16) (y : S512x3072.Idx) : EReal :=
  projected (fun k => x (ix2 (y 0) k)) (fun k => g (ix2 0 k)) (fun k => w (ix2 k (y 1)))

/-- The strip that starts at column `off` is the block's. -/
theorem strip_eq (x : Vec Ideal S512x1024 .f32) (g : Vec Ideal S1x1024 .f32) (w : Vec Ideal S1024x3072 .bf16) (off : ℕ)
    (hw : ∀ a, (![0, off] : Fin 2 → ℕ) a + S1024x512.size a ≤ S1024x3072.size a)
    (ho : ∀ a, (![0, off] : Fin 2 → ℕ) a + S512x512.size a ≤ S512x3072.size a) (y : S512x512.Idx) :
    k0_pay1 (k0_pay3 (View.ld x r0_0) (View.ld g r0_1)) (View.ld w (Rect.unit (s := S1024x3072) ![0, off] S1024x512.size hw)) y
      = tile x g w ((Rect.unit (s := S512x3072) ![0, off] S512x512.size ho).emb y) := by
  obtain ⟨r, d, rfl⟩ : ∃ r d, y = ix2 r d := ⟨_, _, ValueIdx.eq_ix2 y⟩
  have hz : (![0, 0] : Fin 2 → ℕ) = fun _ => 0 := funext fun a => by
    match a with
    | ⟨0, _⟩ => rfl
    | ⟨1, _⟩ => rfl
  rw [View.ld_unit_zero hz, View.ld_unit_zero hz, strip_apply]
  have h0 : (Rect.unit (s := S512x3072) ![0, off] S512x512.size ho).emb (ix2 r d) 0 = r :=
    Fin.ext (show 0 + 1 * r.val = r.val by omega)
  unfold tile projected
  rw [h0]
  refine Finset.sum_congr rfl fun k _ => ?_
  rw [pay3_apply]
  refine congrArg _ (congrArg w (funext fun a => Fin.ext ?_))
  match a with
  | ⟨0, _⟩ => exact (show 0 + 1 * k.val = k.val by omega)
  | ⟨1, _⟩ => rfl

/-- The six strips together are the block. -/
theorem out_apply (x : Vec Ideal S512x1024 .f32) (g : Vec Ideal S1x1024 .f32) (w : Vec Ideal S1024x3072 .bf16) (y : S512x3072.Idx) :
    out0_3 x g w y = tile x g w y := by
  unfold out0_3
  refine View.canon_apply_of_pieces (Val := Elt Ideal) (tile x g w) _ ?_ y (cover0_3 _ _ _ _ _ _ y)
  intro p hp
  simp only [List.mem_cons, List.not_mem_nil, or_false] at hp
  rcases hp with rfl | rfl | rfl | rfl | rfl | rfl
  · exact strip_eq x g w 2560 inb_S1024x3072_S1024x512_0_2560 inb_S512x3072_S512x512_0_2560
  · exact strip_eq x g w 2048 inb_S1024x3072_S1024x512_0_2048 inb_S512x3072_S512x512_0_2048
  · exact strip_eq x g w 1536 inb_S1024x3072_S1024x512_0_1536 inb_S512x3072_S512x512_0_1536
  · exact strip_eq x g w 1024 inb_S1024x3072_S1024x512_0_1024 inb_S512x3072_S512x512_0_1024
  · exact strip_eq x g w 512 inb_S1024x3072_S1024x512_0_512 inb_S512x3072_S512x512_0_512
  · exact strip_eq x g w 0 inb_S1024x3072_S1024x512_0_0 inb_S512x3072_S512x512_0_0

end Cert.InProjIdeal.Project

end
-- ==== Proof.InProj.Array.lean ====
/-
  The projection's result array over the extended reals: every row normalised and multiplied with the weight.
-/
module

public import proofs.«01_k».proof.Proof.Gen.InProjIdeal.Value
public import proofs.«01_k».proof.Proof.InProj.Tile

@[expose] public section

set_option maxRecDepth 16384

noncomputable section

namespace Cert.InProjIdeal.Project

open Cert.InProjIdeal Cert.InProjIdeal.Gen Cert.Layer
open Idealize.ShloMosaic hiding ix1 ix2 ix3 ix4 ix5
open Idealize.ShloMosaic.ValueIdx Idealize.ShloMosaic.TcCoe
open Idealize.ShloMosaic.StableHlo
open Idealize.ShloMosaic.Pipeline (Dat Cfg Window)

/-- The result as a function of the arguments: the tokens, the gains and the weight. -/
def whole (x : FVec Ideal S32768x1024 .f32) (g : FVec Ideal S1024 .f32) (w : FVec Ideal S1024x3072 .f32) (i : S32768x3072.Idx) : EReal :=
  projected (fun k => x (ix2 (i 0) k)) (fun k => g (ix1 k)) (fun k => w (ix2 k (i 1)))

variable (m : (ℓ : Loc nD τ sig) → Buf (Elt Ideal) ℓ)

/-- The launch's weight is the argument: the conversion to bfloat16 is the identity on extended reals. -/
theorem weight_eq (c : Dev nD) : (V m c main_v0 : S1024x3072.Idx → EReal) = m ((c : Thread nD τ).loc main_arg2) := by
  unfold_abbrev_sides
  after_results
  rfl

/-- The launch's gains are the argument as a row. -/
theorem gainsRow_eq (c : Dev nD) : (V m c main_v1 : S1x1024.Idx → EReal)
    = shapeCast S1x1024 (m ((c : Thread nD τ).loc main_arg1) : S1024.Idx → EReal) Cert.InProjIdeal.Gen.shapeCasts_S1024_S1x1024 := by
  unfold_abbrev_sides
  after_results
  rfl

/-- The index the rows' window and the result's take at a point. -/
theorem index_rows : ∀ t : Fin cfg0.N, (cfg0.win 0).index t = ![t.val, 0] :=
  (by decide +kernel : ∀ t : Fin grid0.N, win0_0.index t = ![t.val, 0])

theorem index_out : ∀ t : Fin cfg0.N, (cfg0.win 3).index t = ![t.val, 0] :=
  (by decide +kernel : ∀ t : Fin grid0.N, win0_3.index t = ![t.val, 0])

/-- The rows' block at a point: 512 rows from the point's own place. -/
theorem rows_apply (c : Dev nD) (t : Fin cfg0.N) (r : Fin 512) (q : Fin 32768) (hq : q.val = t.val * 512 + r.val) (j : Fin 1024) :
    (iblk m c 0 t : S512x1024.Idx → EReal) (ix2 r j) = (m ((c : Thread nD τ).loc main_arg0) : S32768x1024.Idx → EReal) (ix2 q j) := by
  refine Eq.trans ?_ (congrFun (V_main_arg0 m c) (ix2 q j))
  refine congrArg (V m c main_arg0 : S32768x1024.Idx → EReal) (funext fun a => Fin.ext ?_)
  refine ((cfg0.win 0).rect_emb_val t (ix2 r j) a rfl).trans ?_
  rw [index_rows]
  match a with
  | ⟨0, _⟩ => exact hq.symm
  | ⟨1, _⟩ => exact (Nat.zero_mul _).symm ▸ Nat.zero_add j.val

/-- The gains' block is the gains at every point. -/
theorem gains_apply (c : Dev nD) (t : Fin cfg0.N) (j : Fin 1024) :
    (iblk m c 1 t : S1x1024.Idx → EReal) (ix2 0 j) = (m ((c : Thread nD τ).loc main_arg1) : S1024.Idx → EReal) (ix1 j) := by
  refine Eq.trans ?_ ((congrFun (gainsRow_eq m c) (ix2 0 j)).trans (shapeCast_a_1a_apply _ _ 0 j))
  refine congrArg (V m c main_v1 : S1x1024.Idx → EReal) (funext fun a => Fin.ext ?_)
  refine ((cfg0.win 1).rect_emb_val t (ix2 0 j) a rfl).trans ?_
  match a with
  | ⟨0, _⟩ => rfl
  | ⟨1, _⟩ => exact (Nat.zero_mul _).symm ▸ Nat.zero_add j.val

/-- The weight's block is the weight at every point. -/
theorem weight_apply (c : Dev nD) (t : Fin cfg0.N) (k : Fin 1024) (d : Fin 3072) :
    (iblk m c 2 t : S1024x3072.Idx → EReal) (ix2 k d) = (m ((c : Thread nD τ).loc main_arg2) : S1024x3072.Idx → EReal) (ix2 k d) := by
  refine Eq.trans ?_ (congrFun (weight_eq m c) (ix2 k d))
  refine congrArg (V m c main_v0 : S1024x3072.Idx → EReal) (funext fun a => Fin.ext ?_)
  refine ((cfg0.win 2).rect_emb_val t (ix2 k d) a rfl).trans ?_
  match a with
  | ⟨0, _⟩ => exact (Nat.zero_mul _).symm ▸ Nat.zero_add k.val
  | ⟨1, _⟩ => exact (Nat.zero_mul _).symm ▸ Nat.zero_add d.val

/-- Where the result's block at a point lies. -/
theorem out_emb (t : Fin cfg0.N) (r : Fin 512) (d : Fin 3072) (q : Fin 32768) (hq : q.val = t.val * 512 + r.val) :
    ((cfg0.win 3).blk t).view.emb (ix2 r d) = (ix2 q d : S32768x3072.Idx) := by
  refine funext fun a => Fin.ext ?_
  refine ((cfg0.win 3).rect_emb_val t (ix2 r d) a rfl).trans ?_
  rw [index_out]
  match a with
  | ⟨0, _⟩ => exact hq.symm
  | ⟨1, _⟩ => exact (Nat.zero_mul _).symm ▸ Nat.zero_add d.val

/-- The result the launch leaves on core `c`, from its own arguments. -/
abbrev result (c : Dev nD) : S32768x3072.Idx → EReal :=
  whole (m ((c : Thread nD τ).loc main_arg0)) (m ((c : Thread nD τ).loc main_arg1)) (m ((c : Thread nD τ).loc main_arg2))

/-- Point `t` leaves its block of the result. -/
theorem point_apply (c : Dev nD) (t : Fin cfg0.N) (r : Fin 512) (d : Fin 3072) (q : Fin 32768) (hq : q.val = t.val * 512 + r.val) :
    out0_3 (iblk m c 0 t) (iblk m c 1 t) (iblk m c 2 t) (ix2 r d) = result m c (ix2 q d) :=
  (out_apply _ _ _ _).trans (projected_congr (rows_apply m c t r q hq) (gains_apply m c t) fun k => weight_apply m c t k d)

/-- A place of the result in row `512 t + r` lies in the block of point `t`. -/
theorem mem_block (i : S32768x3072.Idx) (t : Fin cfg0.N) (r : Fin 512) (hq : (i 0).val = t.val * 512 + r.val) :
    i ∈ ((cfg0.win 3).blk t).view.set := by
  have h : ((cfg0.win 3).blk t).view.emb (ix2 r (i 1)) = i :=
    (out_emb t r (i 1) (i 0) hq).trans (ValueIdx.eq_ix2 i).symm
  exact h ▸ View.emb_mem_set ((cfg0.win 3).blk t).view (ix2 r (i 1))

/-- Every place of the result lies in some point's block. -/
theorem covered (i : S32768x3072.Idx) :
    ∃ t : Fin cfg0.N, (cfg0.win 3).flush t = true ∧ i ∈ ((cfg0.win 3).blk t).view.set := by
  have hi : (i 0).val < 32768 := (i 0).isLt
  obtain ⟨t, ht⟩ : ∃ t : Fin cfg0.N, t.val = (i 0).val / 512 :=
    ⟨(⟨(i 0).val / 512, by omega⟩ : Fin 64), rfl⟩
  obtain ⟨r, hr⟩ : ∃ r : Fin 512, r.val = (i 0).val % 512 := ⟨⟨_, by omega⟩, rfl⟩
  exact ⟨t, flush0_3 t, mem_block i t r (by omega)⟩

/-- The result array after the whole grid. -/
theorem array_eq (c : Dev nD) : (dats m 0 c).arrAt 3 cfg0.N = result m c := by
  refine (dats m 0 c).arrAt_eq_of_cover 3 (result m c) (fun t _ => ?_) covered
  refine funext fun (y : S512x3072.Idx) => ?_
  obtain ⟨r, d, rfl⟩ : ∃ r d, y = ix2 r d := ⟨_, _, ValueIdx.eq_ix2 y⟩
  have ht : t.val < 64 := t.isLt
  let q : Fin 32768 := ⟨t.val * 512 + r.val, by omega⟩
  show (dats m 0 c).after 3 t (ix2 r d) = result m c (((cfg0.win 3).blk t).view.emb (ix2 r d))
  rw [out_emb t r d q rfl, after0_3]
  exact point_apply m c t r d q rfl

end Cert.InProjIdeal.Project

end
-- ==== Proof.InProj.Algebraic.lean ====
/-
  The projection and its reference leave equal results over the extended reals from equal arguments; and the frames of
  both.
-/
module

public import proofs.«01_k».proof.Defs
public import proofs.«01_k».proof.Proof.Gen.InProj.Frame
public import proofs.«01_k».proof.Proof.Gen.InProj
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Pre_tables
public import proofs.«01_k».proof.Proof.Gen.Ffn
public import proofs.«01_k».proof.Proof.Gen.FfnIdeal
public import proofs.«01_k».proof.Proof.Gen.FfnRefIdeal
public import proofs.«01_k».proof.Proof.InProj.Array

@[expose] public section

set_option maxRecDepth 16384

noncomputable section

namespace Cert.InProjIdeal.Project

open Cert.InProjRefIdeal Cert.InProjRefIdeal.Read Cert.Layer
open Idealize.ShloMosaic hiding ix1 ix2 ix3 ix4 ix5
open Idealize.ShloMosaic.ValueIdx Idealize.ShloMosaic.TcCoe Idealize.SL.Sem

section Reference

variable (x : FVec Ideal S32768x1024 .f32) (g : FVec Ideal S1024 .f32) (w : FVec Ideal S1024x3072 .f32)

/-- The reference's normalised rows. -/
theorem ref_norm (n : Fin 32768) (j : Fin 1024) :
    val_main_v12 (F := Ideal) x g (ix2 n j) = normRow (fun j => x (ix2 n j)) (fun j => g (ix1 j)) j := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply]
  have e0 : val_main_cst (F := Ideal) (Shape.Idx.first Cert.InProjRefIdeal.Gen.h_S_) = 0 := Ideal.ofBits_zero_f32
  rw [e0, zero_add]
  have eg : idx_main_v10 (idx_main_v11 (ix2 n j)) = ix1 j := funext fun a => by
    match a with
    | ⟨0, _⟩ => rfl
  have ex : ∀ k, idx_main_v1 (idx_main_v2 (idx_main_v8 (ix2 n j))) k = ix2 n k := fun k => funext fun a => by
    match a with
    | ⟨0, _⟩ => rfl
    | ⟨1, _⟩ => rfl
  simp only [ex, eg, val_main_v0_apply]
  rfl

/-- The reference's result. -/
theorem ref_eq : val_main_v13 (F := Ideal) x g w = whole x g w := by
  refine funext fun (i : S32768x3072.Idx) => ?_
  obtain ⟨n, d, rfl⟩ : ∃ n d, i = ix2 n d := ⟨_, _, ValueIdx.eq_ix2 i⟩
  rw [val_main_v13_apply]
  unfold whole projected
  refine Finset.sum_congr rfl fun k _ => ?_
  have el : lidx_main_v13 (ix2 n d) k = ix2 n k := funext fun a => by
    match a with
    | ⟨0, _⟩ => rfl
    | ⟨1, _⟩ => rfl
  have er : ridx_main_v13 (ix2 n d) k = ix2 k d := funext fun a => by
    match a with
    | ⟨0, _⟩ => rfl
    | ⟨1, _⟩ => rfl
  rw [el, er, ref_norm]

end Reference

/-- The kernel ends with its arguments unchanged and its semaphores at zero, on words. -/
theorem quiescent_words : Cert.quiescent_InProj := fun m ρ _ => Cert.InProj.Gen.frame m ρ

/-- So does it over the extended reals. -/
theorem quiescent_ideal : Cert.quiescent_InProjIdeal := fun m ρ _ => Cert.InProjIdeal.Gen.frame m ρ

/-- The reference ends with its arguments unchanged; it has no semaphore. -/
theorem quiescent_reference : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- Both leave the projected rows. -/
theorem algebraic : Cert.algebraic_InProjIdeal_InProjRefIdeal := fun m g m' g' _ hagree => by
  refine ⟨fun c => result m c, ?_, ?_⟩
  · exact (θ_run Cert.InProjIdeal.defs _ _).mono (fun r h c => ⟨(h c).1.trans (array_eq m c), (h c).2⟩)
      (Cert.InProjIdeal.Value.run_blocks m g)
  · refine (θ_run Cert.InProjRefIdeal.defs _ _).mono (fun r h c => ⟨(h c).1.trans ?_, (h c).2⟩)
      (Cert.InProjRefIdeal.Value.run (F := Ideal) m' g')
    obtain ⟨e0, e1, e2⟩ := hagree c
    refine (val_main_v13_eq _ _ _).trans ?_
    rw [e0, e1, e2]
    exact ref_eq _ _ _

end Cert.InProjIdeal.Project

end
-- ==== Proof.Experts.Setup.lean ====
/-
  The expert call (`moe_experts`), its launch set up for EVERY contents of its two prefetched tables: which memory
  the region finds, the tables read off it, the windows' blocks, the staging buffers a grid point is handed.
-/
module

public import proofs.«01_k».proof.Proof.Gen.FfnIdeal.Launch
public import proofs.«01_k».proof.Proof.Gen.FfnIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.FfnIdeal.Experts

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-- What core `c`'s buffers hold when the region is entered: the launch memory, the program being the region alone. -/
abbrev V (c : Dev nD) (b : Ref sig .tc) : Buf (Elt F) ((c : Thread nD τ).loc b) := m ((c : Thread nD τ).loc b)

/-- The program is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-! ## The tables -/

/-- The two tables' contents: the tiles' experts, and the number of tiles in use. -/
def tbl : pre0.Contents (Elt F) := fun j => V m (0 : Dev nD) (pre0.ref j)

/-- Every device (there is one) holds those contents. -/
theorem V_pre (c : Dev nD) (j : Fin 2) : V m c (pre0.ref j) = tbl m j := by
  obtain rfl : c = 0 := Subsingleton.elim _ _; rfl

/-- The tables send every window's block inside its array. -/
abbrev Ok : Prop := ok0 (F := F) (tbl m)

/-- The tables as contents the pipeline admits, and the pipeline at them. -/
abbrev adm (hO : Ok m) : (pcfg0 (F := F)).Adm := ⟨tbl m, hO⟩
abbrev cfgM (hO : Ok m) : Cfg sig Λ₀ := cfg0 (adm m hO)

/-- The tables as the body is handed them. -/
abbrev experts : Memref sig .tc .smem S272 .i32 := Memref.whole main_arg0
abbrev inUse : Memref sig .tc .smem S1 .i32 := Memref.whole main_arg1
abbrev hexperts : experts.IsWhole := Memref.isWhole_whole _
abbrev hinUse : inUse.IsWhole := Memref.isWhole_whole _

/-- The contents of a table's buffer on core `c`, and the half share of it the body may read through. -/
abbrev TblBuf (c : Dev nD) {S : Shape} {e : EltTy} (M : Memref sig .tc .smem S e) : Type := Buf (Elt F) (M.view.loc (c : Thread nD τ))
abbrev tblPt (c : Dev nD) {S : Shape} {e : EltTy} (M : Memref sig .tc .smem S e) (f : TblBuf (F := F) c M) : sProp 𝕄 :=
  M.view.loc (c : Thread nD τ) ↦{fullShare.right} f

/-- The halves of the tables the region hands the body, one by one. -/
theorem tables_eq (c : Dev nD) :
    (Pipeline.ΦT pre0 (tbl m) c : sProp 𝕄) = iprop(tblPt c experts (tbl m 0) ∗ tblPt c inUse (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## Blocks and staging buffers -/

/-- Window `w`'s block at point `t`, read off its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- Proof data over the region's arrays whose body leaves the input windows' buffers at their blocks finds those
    blocks there at every point. -/
theorem before0 (hO : Ok m) {c : Dev nD} (dat : Dat τ (Elt F) Unit ℕ (UR sig nD τ) ℕ (cfgM m hO) c)
    (hA : dat.A 0 = V m c (Pipeline.arrRef spec0 0)) (hafter : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before1 (hO : Ok m) {c : Dev nD} (dat : Dat τ (Elt F) Unit ℕ (UR sig nD τ) ℕ (cfgM m hO) c)
    (hA : dat.A 1 = V m c (Pipeline.arrRef spec0 1)) (hafter : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before2 (hO : Ok m) {c : Dev nD} (dat : Dat τ (Elt F) Unit ℕ (UR sig nD τ) ℕ (cfgM m hO) c)
    (hA : dat.A 2 = V m c (Pipeline.arrRef spec0 2)) (hafter : ∀ t, dat.after 2 t = iblk m hO c 2 t)
    (t : Fin (cfgM m hO).N) (d) : dat.before 2 t d = iblk m hO c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem before3 (hO : Ok m) {c : Dev nD} (dat : Dat τ (Elt F) Unit ℕ (UR sig nD τ) ℕ (cfgM m hO) c)
    (hA : dat.A 3 = V m c (Pipeline.arrRef spec0 3)) (hafter : ∀ t, dat.after 3 t = iblk m hO c 3 t)
    (t : Fin (cfgM m hO).N) (d) : dat.before 3 t d = iblk m hO c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)

/-- The staging buffer each window is on at point `t`. -/
abbrev stg0 (hO : Ok m) (t : Fin (cfgM m hO).N) : Memref sig .tc .vmem S256x1024 .f32 := spec0_0.stage ((cfgM m hO).slots t 0)
abbrev stg1 (hO : Ok m) (t : Fin (cfgM m hO).N) : Memref sig .tc .vmem S1x1024 .f32 := spec0_1.stage ((cfgM m hO).slots t 1)
abbrev stg2 (hO : Ok m) (t : Fin (cfgM m hO).N) : Memref sig .tc .vmem S1x1024x1024 .bf16 := spec0_2.stage ((cfgM m hO).slots t 2)
abbrev stg3 (hO : Ok m) (t : Fin (cfgM m hO).N) : Memref sig .tc .vmem S1x512x1024 .bf16 := spec0_3.stage ((cfgM m hO).slots t 3)
abbrev stg4 (hO : Ok m) (t : Fin (cfgM m hO).N) : Memref sig .tc .vmem S256x1024 .f32 := spec0_4.stage ((cfgM m hO).slots t 4)

/-- The body at point `t`, on the buffers the pipeline calls it with. -/
abbrev bodyAt (hO : Ok m) (t : Fin (cfgM m hO).N) : Prog (TpuEff nD τ sig (Elt F) Λ₀ .tc) PUnit :=
  cc0_moe_experts (grid0.coords t) experts hexperts inUse hinUse
    (stg0 m hO t) (Facts₀.hstage0_0 (((cfgM m hO).slots t 0).cast Facts₀.nbuf0_0))
    (stg1 m hO t) (Facts₀.hstage0_1 (((cfgM m hO).slots t 1).cast Facts₀.nbuf0_1))
    (stg2 m hO t) (Facts₀.hstage0_2 (((cfgM m hO).slots t 2).cast Facts₀.nbuf0_2))
    (stg3 m hO t) (Facts₀.hstage0_3 (((cfgM m hO).slots t 3).cast Facts₀.nbuf0_3))
    (stg4 m hO t) (Facts₀.hstage0_4 (((cfgM m hO).slots t 4).cast Facts₀.nbuf0_4))

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

end Cert.FfnIdeal.Experts

end
-- ==== Proof.Experts.Body.lean ====
/-
  One grid point of the expert call. In a tile in use the body stores the expert's feed-forward of the tile's rows
  (`k0_pay1` of the four input blocks), in any other tile zeros (`k0_pay2`); it stores in exactly one of the two ways.
-/
module

public import proofs.«01_k».proof.Proof.Experts.Setup
public import Idealize.ShloMosaic.Lib.Pointwise.Index
public import Idealize.ShloMosaic.Lib.VecWindow
public import Idealize.ShloMosaic.Lib.Pipeline.Value

@[expose] public section

set_option maxRecDepth 16384

noncomputable section

namespace Cert.FfnIdeal.Experts

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The second condition is the first one's negation. -/
theorem cond2_iff (i : grid0.Coords) (v : BitVec 32) : k0_cond2 i v = 1#1 ↔ ¬ k0_cond1 i v = 1#1 := by
  unfold k0_cond1 k0_cond2
  have key (b : BitVec 1) : (Scalar.cmpi .ne (Scalar.extui (Scalar.xori b 1#1)) 0#32 == 1#1)
      = !(Scalar.cmpi .ne (Scalar.extui b) 0#32 == 1#1) := by revert b; decide
  simpa using congrArg (· = true) (key (Scalar.cmpi .slt (BitVec.ofNat 32 (i 0).val) v))

/-- What a point leaves in the output's staging buffer, `v` the number of tiles in use. -/
def tileOut (i : grid0.Coords) (v : BitVec 32) (x0 : Vec F S256x1024 .f32) (x1 : Vec F S1x1024 .f32)
    (x2 : Vec F S1x1024x1024 .bf16) (x3 : Vec F S1x512x1024 .bf16) : Vec F S256x1024 .f32 :=
  if k0_cond1 i v = 1#1 then k0_pay1 x0 x1 x2 x3 else k0_pay2

/-- The number of tiles in use, as the body reads it from its table. -/
abbrev useWord (f : (⟨S1, .i32⟩ : BufTy).Contents (Elt F)) : BitVec 32 := f (ix1 0)

/-- The body on whole staging buffers, the inputs' at `x0 … x3`, the output's at anything, the tables' halves held:
    it leaves the inputs and the tables as they were and the output's buffer at `tileOut`. -/
theorem sound_kernel (c : Dev nD) (E : Set ℕ) (i : grid0.Coords)
    (a3 : Memref sig .tc .vmem S256x1024 .f32) (h3 : a3.IsWhole) (a4 : Memref sig .tc .vmem S1x1024 .f32) (h4 : a4.IsWhole)
    (a5 : Memref sig .tc .vmem S1x1024x1024 .bf16) (h5 : a5.IsWhole) (a6 : Memref sig .tc .vmem S1x512x1024 .bf16) (h6 : a6.IsWhole)
    (a7 : Memref sig .tc .vmem S256x1024 .f32) (h7 : a7.IsWhole)
    (x0 : Vec F S256x1024 .f32) (x1 : Vec F S1x1024 .f32) (x2 : Vec F S1x1024x1024 .bf16) (x3 : Vec F S1x512x1024 .bf16)
    (t0 : TblBuf (F := F) c experts) (t1 : TblBuf (F := F) c inUse) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ (∃ d, owns (c : Thread nD τ) a7 fullShare d)
        ∗ tblPt c experts t0 ∗ tblPt c inUse t1
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare (tileOut i (useWord t1) x0 x1 x2 x3)
            ∗ tblPt c experts t0 ∗ tblPt c inUse t1) -∗ K ⟨⟩))
      ⊢ wp frame (wpE (defs₀ (F := F)) Variants.none c none) E
          (cc0_moe_experts i experts hexperts inUse hinUse a3 h3 a4 h4 a5 h5 a6 h6 a7 h7) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  subst hf0 hf1 hf2 hf3
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    have hr : sound_kernel.sl.r c t1 = useWord t1 := by
      unfold sound_kernel.sl.r
      exact congrArg t1 (funext fun a => by fin_cases a; exact Subsingleton.elim (α := Fin 1) _ _)
    rw [hr]
    unfold tileOut
    by_cases hc : k0_cond1 i (useWord t1) = 1#1
    · have hd : ¬ k0_cond2 i (useWord t1) = 1#1 := fun h => (cond2_iff i _).mp h hc
      rw [dif_neg hd, dif_pos hc, if_pos hc, View.read_writes_full, View.readAt_full, View.readAt_full, View.readAt_full, View.readAt_full]
    · have hd : k0_cond2 i (useWord t1) = 1#1 := (cond2_iff i _).mpr hc
      rw [dif_pos hd, if_neg hc, View.read_writes_full]
  isplitl [HT0]; · iexact HT0
  iexact HT1

end Cert.FfnIdeal.Experts

end
-- ==== Proof.Experts.Frame.lean ====
/-
  The expert call's run, for every contents of its tables that sends the windows inside their arrays: the proof data,
  the body's obligation, the launch, and the claim that the arguments end as they began with every semaphore at zero.
-/
module

public import proofs.«01_k».proof.Proof.Experts.Body

@[expose] public section

set_option maxRecDepth 16384

noncomputable section

namespace Cert.FfnIdeal.Experts

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output's block at point `t`: the body's, on that point's input blocks. -/
def outAt (hO : Ok m) (c : Dev nD) (t : Fin (cfgM m hO).N) : Vec F S256x1024 .f32 :=
  tileOut (grid0.coords t) (useWord (F := F) (tbl m 1)) (iblk m hO c 0 t) (iblk m hO c 1 t) (iblk m hO c 2 t) (iblk m hO c 3 t)

/-- The pipeline's proof data on core `c`: the arrays as the region finds them; after a point each input's buffer at
    its block, the output's at `outAt`; the tables' halves held throughout; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = outAt m hO c t := by dsimp only [dats]; try rfl

/-- The output is written back at every point. -/
theorem flush4 (hO : Ok m) (t : Fin (cfgM m hO).N) : ((cfgM m hO).win 4).flush t = true :=
  (fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _) :
    ∀ t : Fin grid0.N, Pipeline.Window.flushOf grid0 true cc0_transform_4 t = true) t

/-- What the body is called with at point `t`, window by window, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (stg0 m hO t) fullShare ((dats m hO 0 c).after 0 t)
    ∗ owns (c : Thread nD τ) (stg1 m hO t) fullShare ((dats m hO 0 c).after 1 t)
    ∗ owns (c : Thread nD τ) (stg2 m hO t) fullShare ((dats m hO 0 c).after 2 t)
    ∗ owns (c : Thread nD τ) (stg3 m hO t) fullShare ((dats m hO 0 c).after 3 t)
    ∗ owns (c : Thread nD τ) (stg4 m hO t) fullShare ((dats m hO 0 c).after 4 t))

/-- The body at any point: `sound_kernel` on that point's buffers, the invariant passing through. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0 m hO (dats m hO 0 c) (A_eq m hO c 0) (after0 m hO c), before1 m hO (dats m hO 0 c) (A_eq m hO c 1) (after1 m hO c),
    before2 m hO (dats m hO 0 c) (A_eq m hO c 2) (after2 m hO c), before3 m hO (dats m hO 0 c) (A_eq m hO c 3) (after3 m hO c)]
  rw [show (dats m hO 0 c).Φ t.succ = (dats m hO 0 c).Φ t.castSucc from rfl,
    show (dats m hO 0 c).owesAt () t.succ = (dats m hO 0 c).owesAt () t.castSucc from rfl,
    after0, after1, after2, after3, after4]
  rw [show (dats m hO 0 c).Φ t.castSucc = iprop(Pipeline.ΦA spec0 c ∗ Pipeline.ΦT pre0 (tbl m) c) from rfl, tables_eq]
  unfold outAt
  iintro ⟨⟨HΦ, ⟨HT0, HT1⟩⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m hO c 0 t) (iblk m hO c 1 t) (iblk m hO c 2 t) (iblk m hO c 3 t) (tbl m 0) (tbl m 1))
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  unfold bodyPost
  refine sep_mono .rfl (sep_mono .rfl (sep_mono .rfl (sep_mono .rfl (sep_mono .rfl (sep_mono .rfl ?_)))))
  dsimp only
  split
  · split
    · rename_i h
      exact absurd (h.symm.trans (flush4 m hO t)) Bool.false_ne_true
    · exact .rfl
  · exact .rfl

-- `θ_run_frameP`'s implicit arguments are found by unifying its conclusion with this one, which takes unfolding plain
-- definitions in a metavariable's type
set_option backward.isDefEq.respectTransparency.types false in
/-- Every run ends with the pipeline's arrays at what the proof data computes and every semaphore at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The arguments end as they began, the result holds the write-backs of every point, all semaphores are at zero. -/
theorem run_all (hO : Ok m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v0) = (dats m hO 0 c).arrAt 4 (cfgM m hO).N)
      ∧ r.2.sem = fun _ => 0) :=
  (θ_run defs _ _).mono (fun _ h => ⟨fun c => ⟨⟨(h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩,
      (h.1 c).1 4⟩, h.2⟩) (run_main_quiescent m ρ hO)

/-- The arguments end as they began and every semaphore is at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).1, h.2⟩) (run_all m ρ hO)

end Cert.FfnIdeal.Experts

end
-- ==== Proof.Experts.Tables.lean ====
/-
  What the precondition says of the two tables, and the index maps of the expert call read off such tables: point `i`
  stages row block `min i (used - 1)` and the matrices of expert `tile_expert[i]`, all inside their arrays.
-/
module

public import proofs.«01_k».proof.Proof.Experts.Setup
public import proofs.«01_k».proof.Proof.Gen.Pre_tables
public import Idealize.ShloMosaic.Lib.ReduceAll
public import Idealize.ShloMosaic.Lib.Pointwise.Index

@[expose] public section

set_option maxRecDepth 16384

noncomputable section

namespace Cert.FfnIdeal.Experts

open Cert.FfnIdeal Cert.FfnIdeal.Gen
open Idealize.ShloMosaic Idealize.ShloMosaic.TcCoe

variable {F : FTy → Type} [FloatOps F]

/-- Tables a launch may have: every tile's expert is one of the 16, between 1 and 272 tiles are in use. -/
def InRange (e : S272.Idx → BitVec 32) (u : S1.Idx → BitVec 32) : Prop :=
  (∀ j, (e j).toNat < 16) ∧ 1 ≤ (u (ix1 0)).toNat ∧ (u (ix1 0)).toNat ≤ 272

theorem and_one : ∀ p q : BitVec 1, IntOp.andi p q = 1#1 → p = 1#1 ∧ q = 1#1 := by decide

/-- A word at least `lo` and at most `hi`, both read signed, is so read unsigned. -/
theorem between_of_signed (x lo hi : BitVec 32) (hlo : lo.toNat < 2147483648) (hhi : hi.toNat < 2147483648)
    (h : lo.toInt ≤ x.toInt) (h' : x.toInt ≤ hi.toInt) : lo.toNat ≤ x.toNat ∧ x.toNat ≤ hi.toNat := by
  have := x.isLt
  simp only [BitVec.toInt_eq_toNat_cond] at h h'
  split at h <;> split at h <;> split at h' <;> omega

/-- The precondition says so. -/
theorem inRange_of_pre (e : IVec S272 32) (u : IVec S1 32) (x : FVec F S69632x1024 .f32) (g : FVec F S1x1024 .f32)
    (wgu : FVec F S16x1024x1024 .bf16) (wd : FVec F S16x512x1024 .bf16)
    (h : Cert.Pre_tables.fn (F := F) e u x g wgu wd = fun _ => 1#1) : InRange e u := by
  haveI : Subsingleton Cert.Pre_tables.S_.Idx := ⟨fun a b => funext fun i => i.elim0⟩
  have h0 := congrFun h (fun a => a.elim0)
  unfold Cert.Pre_tables.fn at h0
  dsimp only at h0
  obtain ⟨ha, hb⟩ := and_one _ _ h0
  refine ⟨fun j => ?_, ?_⟩
  · obtain ⟨h1, h2⟩ := and_one _ _ (Host.reduce_andi_all _ _ _ _ _ ha j)
    have h1 := (WordCmp.ofBool_decide_eq_one_iff _).mp h1
    have h2 := (WordCmp.ofBool_decide_eq_one_iff _).mp h2
    have := (between_of_signed (e j) 0#32 15#32 (by decide) (by decide) h1 (Int.le_of_lt_add_one h2)).2
    exact Nat.lt_succ_of_le this
  · obtain ⟨h1, h2⟩ := and_one _ _ (Host.reduce_andi_all _ _ _ _ _ hb (ix1 0))
    have h1 := (WordCmp.ofBool_decide_eq_one_iff _).mp h1
    have h2 := (WordCmp.ofBool_decide_eq_one_iff _).mp h2
    exact between_of_signed (u (ix1 0)) 1#32 272#32 (by decide) (by decide) h1 h2

/-! ## The index maps -/

/-- The tiles' experts and the number of tiles in use, as numbers. -/
def expertOf (pf : pre0.Contents (Elt F)) (i : grid0.Coords) : Nat := BitVec.toNat (w := 32) (pf 0 (ix1 (i 0)))
def usedOf (pf : pre0.Contents (Elt F)) : Nat := BitVec.toNat (w := 32) (pf 1 (ix1 0))

theorem used_at (pf : pre0.Contents (Elt F)) :
    pf.at 1 (Rect.unit (s := S1) ![0] S1.size Facts₀.inb_S1_S1_0) Facts₀.numel1_S1 = pf 1 (ix1 0) :=
  congrArg (pf 1) (funext fun a => by fin_cases a; exact Subsingleton.elim (α := Fin 1) _ _)

theorem expert_at (pf : pre0.Contents (Elt F)) (i : grid0.Coords) :
    pf.at 0 (Rect.unit (s := S272) (k0_off1 i) S1.size (Facts₀.k0_off1_inb i)) Facts₀.numel1_S1 = pf 0 (ix1 (i 0)) := by
  refine congrArg (pf 0) (funext fun a => ?_)
  fin_cases a
  refine Fin.ext ?_
  have hi : (i 0).val < 272 := (i 0).isLt
  show (BitVec.ofNat 32 (i 0).val).toNat + 1 * _ = (i 0).val
  rw [BitVec.toNat_ofNat, Nat.mod_eq_of_lt (by omega)]
  exact congrArg ((i 0).val + ·) ((Nat.one_mul _).trans (Nat.lt_one_iff.mp (Fin.isLt (n := 1) _)))

/-- The row block's word: the smaller of the point's number and the last tile in use. -/
theorem minsi_toNat (n : Nat) (w : BitVec 32) (hn : n < 272) (h1 : 1 ≤ w.toNat) (h2 : w.toNat ≤ 272) :
    (Scalar.minsi (BitVec.ofNat 32 n) (Scalar.subi w 1#32)).toNat = min n (w.toNat - 1) := by
  have e1 : (BitVec.ofNat 32 n).toNat = n := by rw [BitVec.toNat_ofNat, Nat.mod_eq_of_lt (by omega)]
  have e2 : (w - 1#32).toNat = w.toNat - 1 := by
    rw [BitVec.toNat_sub]
    have := w.isLt
    show (4294967296 - 1 + w.toNat) % 4294967296 = _
    omega
  have i1 : (BitVec.ofNat 32 n).toInt = n := by rw [BitVec.toInt_eq_toNat_cond, e1]; split <;> omega
  have i2 : (w - 1#32).toInt = (w.toNat - 1 : Nat) := by rw [BitVec.toInt_eq_toNat_cond, e2]; split <;> omega
  show (if (BitVec.ofNat 32 n).slt (w - 1#32) then BitVec.ofNat 32 n else w - 1#32).toNat = _
  by_cases h : n < w.toNat - 1
  · rw [if_pos (by rw [BitVec.slt_iff_toInt_lt, i1, i2]; omega), e1]; omega
  · rw [if_neg (by rw [BitVec.slt_iff_toInt_lt, i1, i2]; omega), e2]; omega

/-- The body's condition: the point's number is below the number of tiles in use. -/
theorem live_iff (i : grid0.Coords) (w : BitVec 32) (h2 : w.toNat ≤ 272) : k0_cond1 i w = 1#1 ↔ (i 0).val < w.toNat := by
  have hi : (i 0).val < 272 := (i 0).isLt
  have key : ∀ b : Bool, Scalar.cmpi .ne (Scalar.extui (BitVec.ofBool b)) 0#32 = 1#1 ↔ b = true := by decide
  have e1 : (BitVec.ofNat 32 (i 0).val).toNat = (i 0).val := by rw [BitVec.toNat_ofNat, Nat.mod_eq_of_lt (by omega)]
  have i1 : (BitVec.ofNat 32 (i 0).val).toInt = (i 0).val := by rw [BitVec.toInt_eq_toNat_cond, e1]; split <;> omega
  have i2 : w.toInt = w.toNat := by rw [BitVec.toInt_eq_toNat_cond]; split <;> omega
  refine (key (decide ((BitVec.ofNat 32 (i 0).val).toInt < w.toInt))).trans ?_
  rw [decide_eq_true_eq, i1, i2]; omega

/-- A tile in use stages its own row block. -/
theorem map0_live (pf : pre0.Contents (Elt F)) (hr : InRange (pf 0) (pf 1)) (i : grid0.Coords) :
    cc0_transform_0 Facts₀.inb_S1_S1_0 Facts₀.numel1_S1 pf i = ![min (i 0).val (usedOf pf - 1), 0] := by
  have hi : (i 0).val < 272 := (i 0).isLt
  obtain ⟨-, h1, h2⟩ := hr
  unfold cc0_transform_0 usedOf
  dsimp only
  rw [used_at]
  generalize (pf 1 (ix1 0)) = w at h1 h2 ⊢
  refine congrArg (fun n : Nat => (![n, 0] : Fin 2 → Nat)) ?_
  exact minsi_toNat (i 0).val w hi h1 h2

theorem map2 (pf : pre0.Contents (Elt F)) (i : grid0.Coords) :
    cc0_transform_2 Facts₀.k0_off1_inb Facts₀.numel1_S1 pf i = ![expertOf pf i, 0, 0] := by
  unfold cc0_transform_2 expertOf
  exact congrArg (fun w : BitVec 32 => ![w.toNat, 0, 0]) (expert_at pf i)

theorem map3 (pf : pre0.Contents (Elt F)) (i : grid0.Coords) :
    cc0_transform_3 Facts₀.k0_off1_inb Facts₀.numel1_S1 pf i = ![expertOf pf i, 0, 0] := by
  unfold cc0_transform_3 expertOf
  exact congrArg (fun w : BitVec 32 => ![w.toNat, 0, 0]) (expert_at pf i)

/-- Such tables send every window inside its array, its transfers whole words. -/
theorem ok_of_inRange (pf : pre0.Contents (Elt F)) (hr : InRange (pf 0) (pf 1)) : ok0 pf := by
  have he : ∀ i, expertOf pf i < 16 := fun i => hr.1 _
  refine ⟨fun i => ⟨fun a => ?_, .inl rfl⟩, fun i => ⟨fun a => ?_, .inr (.inr ⟨by decide, rfl, ?_, rfl⟩)⟩,
    fun i => ⟨fun a => ?_, .inr (.inr ⟨by decide, rfl, ?_, rfl⟩)⟩⟩
  · rw [map0_live pf hr i]
    have hi : (i 0).val < 272 := (i 0).isLt
    fin_cases a
    · show (min (i 0).val (usedOf pf - 1) + 1) * 256 ≤ 69632; omega
    · show (0 + 1) * 1024 ≤ 1024; omega
  · rw [map2 pf i]
    have := he i
    fin_cases a
    · show (expertOf pf i + 1) * 1 ≤ 16; omega
    · show (0 + 1) * 1024 ≤ 1024; omega
    · show (0 + 1) * 1024 ≤ 1024; omega
  · show cc0_transform_2 _ _ pf i 1 * 1024 = 0
    rw [map2 pf i]; rfl
  · rw [map3 pf i]
    have := he i
    fin_cases a
    · show (expertOf pf i + 1) * 1 ≤ 16; omega
    · show (0 + 1) * 512 ≤ 512; omega
    · show (0 + 1) * 1024 ≤ 1024; omega
  · show cc0_transform_3 _ _ pf i 1 * 512 = 0
    rw [map3 pf i]; rfl

end Cert.FfnIdeal.Experts

end
-- ==== Proof.Experts.Claims.lean ====
/-
  The expert call's frame claims, from the precondition: at the extended reals, and at the words of the machine formats.
  The two printed programs are one program read at two instances, so the second claim is the run of the first at words.
-/
module

public import proofs.«01_k».proof.Proof.Experts.Frame
public import proofs.«01_k».proof.Proof.Experts.Tables
public import proofs.«01_k».proof.Proof.Gen.Ffn
public import proofs.«01_k».proof.Defs

@[expose] public section

set_option maxRecDepth 16384

noncomputable section

namespace Cert.FfnIdeal.Experts

open Idealize.ShloMosaic Idealize.ShloMosaic.TcCoe Idealize.SL.Sem

variable {F : FTy → Type} [FloatOps F]

/-- The two programs' kernel tables are equal, -/
theorem kernels_eq : Cert.Ffn.defs₀ (F := F) = Cert.FfnIdeal.defs₀ (F := F) := by
  unfold Cert.Ffn.defs₀ Cert.FfnIdeal.defs₀
  refine congrArg (Defs.onTc (nD := Cert.Ffn.nD) (τ := Cert.Ffn.τ) (sig := Cert.Ffn.sig) (Val := Elt F) (Λ := Cert.Ffn.Λ₀))
    (funext fun l => funext fun a => ?_)
  match l, a with
  | 0, (t, s) => rfl

/-- their tables with the pipeline added, -/
theorem defs_eq : Cert.Ffn.defs (F := F) = Cert.FfnIdeal.defs (F := F) := by
  show Pipeline.defs Cert.Ffn.pcfgs Cert.Ffn.defs₀ = _
  rw [kernels_eq]; rfl

/-- and their main functions. -/
theorem main_eq : Cert.Ffn.main (F := F) = Cert.FfnIdeal.main (F := F) := rfl

/-- The tables of a launch that meets the precondition. -/
theorem inRange_of_launch (m : (ℓ : Loc FfnIdeal.nD FfnIdeal.τ FfnIdeal.sig) → Buf (Elt Ideal) ℓ) (h : Cert.Pre_FfnIdeal m) :
    InRange (tbl m 0) (tbl m 1) := inRange_of_pre (F := Ideal) _ _ _ _ _ _ (h 0)

theorem ok_of_launch (m : (ℓ : Loc FfnIdeal.nD FfnIdeal.τ FfnIdeal.sig) → Buf (Elt Ideal) ℓ) (h : Cert.Pre_FfnIdeal m) : Ok m :=
  ok_of_inRange _ (inRange_of_launch m h)

/-- At the extended reals every run ends, its arguments unchanged and its semaphores at zero. -/
theorem quiescent_ideal : Cert.quiescent_FfnIdeal := fun m ρ h => frame m ρ (ok_of_launch m h)

/-- At words too. -/
theorem quiescent_words : Cert.quiescent_Ffn := fun m ρ h => by
  rw [defs_eq, main_eq]
  exact frame (F := Bits) m ρ (ok_of_inRange _ (inRange_of_pre (F := Bits) _ _ _ _ _ _ (h 0)))

end Cert.FfnIdeal.Experts

end
-- ==== Proof.Experts.Tile.lean ====
/-
  What one tile of the expert call computes over the extended reals, as a function of a row: the row is normalised, sent
  through the expert's gate and up columns, gated, and sent through the expert's down matrix.
-/
module

public import proofs.«01_k».proof.Proof.Gen.FfnIdeal.Skeleton
public import proofs.«01_k».proof.Proof.Layer.Norm

@[expose] public section

set_option maxRecDepth 16384

noncomputable section

namespace Cert.FfnIdeal.Experts

open Cert.FfnIdeal Cert.FfnIdeal.Gen Cert.Layer
open Idealize.ShloMosaic hiding ix1 ix2 ix3 ix4 ix5
open Idealize.ShloMosaic.ValueIdx

/-- A row's gate entry `k`: the normalised row times column `k` of the expert's first matrix, -/
def gate (x g : Fin 1024 → EReal) (wgu : Fin 1024 → Fin 1024 → EReal) (k : Fin 512) : EReal :=
  ∑ j, normRow x g j * wgu j ⟨k.val, by omega⟩

/-- its up entry `k`: the normalised row times column `512 + k`, -/
def up (x g : Fin 1024 → EReal) (wgu : Fin 1024 → Fin 1024 → EReal) (k : Fin 512) : EReal :=
  ∑ j, normRow x g j * wgu j ⟨512 + k.val, by omega⟩

/-- and its result: the gated entries times the expert's second matrix. -/
def expertRow (x g : Fin 1024 → EReal) (wgu : Fin 1024 → Fin 1024 → EReal) (wd : Fin 512 → Fin 1024 → EReal)
    (d : Fin 1024) : EReal :=
  ∑ k, silu (gate x g wgu k) * up x g wgu k * wd k d

/-- It depends on its arguments' entries alone. -/
theorem expertRow_congr {x x' g g' : Fin 1024 → EReal} {wgu wgu' : Fin 1024 → Fin 1024 → EReal} {wd wd' : Fin 512 → Fin 1024 → EReal}
    (hx : ∀ j, x j = x' j) (hg : ∀ j, g j = g' j) (hw : ∀ j k, wgu j k = wgu' j k) (hd : ∀ k d, wd k d = wd' k d) (d : Fin 1024) :
    expertRow x g wgu wd d = expertRow x' g' wgu' wd' d := by
  obtain rfl : x = x' := funext hx
  obtain rfl : g = g' := funext hg
  obtain rfl : wgu = wgu' := funext fun j => funext (hw j)
  obtain rfl : wd = wd' := funext fun k => funext (hd k)
  rfl

/-- A constant block of zero words is zero. -/
theorem zeros_apply (i : S256x1024.Idx) : constant (F := Ideal) S256x1024 .f32 0x00000000#32 i = 0 :=
  Ideal.ofBits_zero_f32

/-- The block of zeros the body stores for a tile not in use. -/
theorem pay2_apply (i : S256x1024.Idx) : k0_pay2 (F := Ideal) i = 0 := Ideal.ofBits_zero_f32

/-- The block the body stores for a tile in use, read at row `r` and column `d`. -/
theorem pay1_apply (x : Vec Ideal S256x1024 .f32) (g : Vec Ideal S1x1024 .f32) (wgu : Vec Ideal S1x1024x1024 .bf16)
    (wd : Vec Ideal S1x512x1024 .bf16) (r : Fin 256) (d : Fin 1024) :
    k0_pay1 x g wgu wd (ix2 r d)
      = expertRow (fun j => x (ix2 r j)) (fun j => g (ix2 0 j)) (fun j k => wgu (ix3 0 j k)) (fun k d => wd (ix3 0 k d)) d := by
  unfold k0_pay1
  dsimp only
  refine (Ideal.matmul_plain_apply none _ _ _ r d).trans ?_
  rw [zeros_apply, zero_add]
  refine Finset.sum_congr rfl fun k _ => ?_
  rw [shapeCast_1ab_ab_apply]
  refine congrArg (· * wd (ix3 0 k d)) ?_
  have hid : ∀ c : Fin 1024, matmul (F := Ideal) dot_S256x1024_S1024x1024_S256x1024_1_0_0_1_n_n none
      (truncf .bf16 (mulf (mulf x (broadcastTo S256x1024 (rsqrt (addf (divf
        (shapeCast S256x1 (multiReduction .add [1] S256 (mulf x x) 0x00000000#32 reduces_S256x1024_S256 (.inl rfl) rfl) shapeCasts_S256_S256x1)
        (broadcast S256x1 (Scalar.ofBits (F := Ideal) .f32 0x44800000#32)))
        (broadcast S256x1 (Scalar.ofBits (F := Ideal) .f32 0x358637BD#32)))) broadcasts_S256x1_S256x1024))
        (broadcastTo S256x1024 g broadcasts_S1x1024_S256x1024)) bitsLt_bf16_f32)
      (shapeCast S1024x1024 wgu shapeCasts_S1x1024x1024_S1024x1024) (constant S256x1024 .f32 0x00000000#32) (ix2 r c)
        = ∑ j, normRow (fun j => x (ix2 r j)) (fun j => g (ix2 0 j)) j * wgu (ix3 0 j c) := fun c => by
    refine (Ideal.matmul_plain_apply none _ _ _ r c).trans ?_
    rw [zeros_apply, zero_add]
    refine Finset.sum_congr rfl fun j _ => ?_
    rw [shapeCast_1ab_ab_apply]
    exact congrArg (· * wgu (ix3 0 j c)) (norm_apply x g _ _ _ _ _ _ r j)
  have hgate := (extractStridedSlice_apply (t := S256x512) ![0, 0] _ slices_S256x1024_o0_0_S256x512 (ix2 r k)
    (ix2 r (⟨k.val, by omega⟩ : Fin 1024)) (fun a => by
      match a with
      | ⟨0, _⟩ => exact (Nat.zero_add _).symm
      | ⟨1, _⟩ => exact (Nat.zero_add _).symm)).trans (hid ⟨k.val, by omega⟩)
  have hup := (extractStridedSlice_apply (t := S256x512) ![0, 512] _ slices_S256x1024_o0_512_S256x512 (ix2 r k)
    (ix2 r (⟨512 + k.val, by omega⟩ : Fin 1024)) (fun a => by
      match a with
      | ⟨0, _⟩ => exact (Nat.zero_add _).symm
      | ⟨1, _⟩ => rfl)).trans (hid ⟨512 + k.val, by omega⟩)
  exact congrArg₂ (fun a b => a * Ideal.logistic a * b) hgate hup

end Cert.FfnIdeal.Experts

end
-- ==== Proof.Experts.Array.lean ====
/-
  The expert call's result array over the extended reals: row `r` lies in tile `r / 256`; a tile in use has its rows sent
  through the tile's expert, and every other tile is zero.
-/
module

public import proofs.«01_k».proof.Proof.Experts.Tables
public import proofs.«01_k».proof.Proof.Experts.Frame
public import proofs.«01_k».proof.Proof.Experts.Tile

@[expose] public section

set_option maxRecDepth 16384

noncomputable section

namespace Cert.FfnIdeal.Experts

open Cert.FfnIdeal Cert.FfnIdeal.Gen Cert.Layer
open Idealize.ShloMosaic hiding ix1 ix2 ix3 ix4 ix5
open Idealize.ShloMosaic.ValueIdx Idealize.ShloMosaic.TcCoe
open Idealize.ShloMosaic.Pipeline (Dat Cfg Window)

/-- The tile a row lies in. -/
def tileOf (i : S69632x1024.Idx) : Fin 272 := ⟨(i 0).val / 256, by have : (i 0).val < 69632 := (i 0).isLt; omega⟩

/-- The expert a tile is sent to. -/
def expertAt (e : IVec S272 32) (t : Fin 272) : Fin 16 := Fin.ofNat 16 (e (ix1 t)).toNat

/-- The result as a function of the tables, the rows, the gains and the experts' matrices. -/
def grouped (e : IVec S272 32) (u : IVec S1 32) (x : FVec Ideal S69632x1024 .f32) (g : FVec Ideal S1x1024 .f32)
    (wgu : FVec Ideal S16x1024x1024 .bf16) (wd : FVec Ideal S16x512x1024 .bf16) (i : S69632x1024.Idx) : EReal :=
  if (tileOf i).val < (u (ix1 0)).toNat then
    expertRow (fun j => x (ix2 (i 0) j)) (fun j => g (ix2 0 j)) (fun j k => wgu (ix3 (expertAt e (tileOf i)) j k))
      (fun k d => wd (ix3 (expertAt e (tileOf i)) k d)) (i 1)
  else 0

variable (m : (ℓ : Loc nD τ sig) → Buf (Elt Ideal) ℓ)

/-- The one grid coordinate of a point is the point itself. -/
theorem coords_val : ∀ t : Fin grid0.N, (grid0.coords t 0).val = t.val := by decide +kernel

/-- The rows' block at a point in use: 256 rows from the point's own tile. -/
theorem rows_apply (hO : Ok m) (hr : InRange (tbl m 0) (tbl m 1)) (c : Dev nD) (t : Fin (cfgM m hO).N)
    (hl : t.val < (tbl m 1 (ix1 0)).toNat) (r : Fin 256) (q : Fin 69632) (hq : q.val = t.val * 256 + r.val) (j : Fin 1024) :
    (iblk m hO c 0 t : S256x1024.Idx → EReal) (ix2 r j) = (V m c main_arg2 : S69632x1024.Idx → EReal) (ix2 q j) := by
  refine congrArg (V m c main_arg2 : S69632x1024.Idx → EReal) (funext fun a => Fin.ext ?_)
  refine (((cfgM m hO).win 0).rect_emb_val t (ix2 r j) a rfl).trans ?_
  have hi : ((cfgM m hO).win 0).index t = ![t.val, 0] := by
    refine (map0_live (tbl m) hr (grid0.coords t)).trans ?_
    refine congrArg (fun n : Nat => (![n, 0] : Fin 2 → Nat)) ?_
    rw [coords_val]
    have hu : usedOf (tbl m) = (tbl m 1 (ix1 0)).toNat := rfl
    omega
  rw [hi]
  match a with
  | ⟨0, _⟩ => exact hq.symm
  | ⟨1, _⟩ => exact (Nat.zero_mul _).symm ▸ Nat.zero_add j.val

/-- The gains' block is the gains at every point. -/
theorem gains_apply (hO : Ok m) (c : Dev nD) (t : Fin (cfgM m hO).N) (j : Fin 1024) :
    (iblk m hO c 1 t : S1x1024.Idx → EReal) (ix2 0 j) = (V m c main_arg3 : S1x1024.Idx → EReal) (ix2 0 j) := by
  refine congrArg (V m c main_arg3 : S1x1024.Idx → EReal) (funext fun a => Fin.ext ?_)
  refine (((cfgM m hO).win 1).rect_emb_val t (ix2 0 j) a rfl).trans ?_
  match a with
  | ⟨0, _⟩ => rfl
  | ⟨1, _⟩ => exact (Nat.zero_mul _).symm ▸ Nat.zero_add j.val

/-- The expert a point's tile is sent to, as a block index. -/
theorem expert_val (hr : InRange (tbl m 0) (tbl m 1)) (t : Fin grid0.N) :
    expertOf (tbl m) (grid0.coords t) = (expertAt (tbl m 0) t).val := by
  have h : grid0.coords t 0 = (t : Fin 272) := Fin.ext (coords_val t)
  show (tbl m 0 (ix1 (grid0.coords t 0))).toNat = (tbl m 0 (ix1 (t : Fin 272))).toNat % 16
  rw [h]
  exact (Nat.mod_eq_of_lt (hr.1 _)).symm

/-- The first matrix's block at a point: the tile's expert's. -/
theorem gateUp_apply (hO : Ok m) (hr : InRange (tbl m 0) (tbl m 1)) (c : Dev nD) (t : Fin (cfgM m hO).N) (j k : Fin 1024) :
    (iblk m hO c 2 t : S1x1024x1024.Idx → EReal) (ix3 0 j k)
      = (V m c main_arg4 : S16x1024x1024.Idx → EReal) (ix3 (expertAt (tbl m 0) t) j k) := by
  refine congrArg (V m c main_arg4 : S16x1024x1024.Idx → EReal) (funext fun a => Fin.ext ?_)
  refine (((cfgM m hO).win 2).rect_emb_val t (ix3 0 j k) a rfl).trans ?_
  have hi : ((cfgM m hO).win 2).index t = ![(expertAt (tbl m 0) t).val, 0, 0] :=
    (map2 (tbl m) (grid0.coords t)).trans (by rw [expert_val m hr])
  rw [hi]
  match a with
  | ⟨0, _⟩ => exact Nat.mul_one _
  | ⟨1, _⟩ => exact (Nat.zero_mul _).symm ▸ Nat.zero_add j.val
  | ⟨2, _⟩ => exact (Nat.zero_mul _).symm ▸ Nat.zero_add k.val

/-- The second matrix's block at a point: the tile's expert's. -/
theorem down_apply (hO : Ok m) (hr : InRange (tbl m 0) (tbl m 1)) (c : Dev nD) (t : Fin (cfgM m hO).N) (k : Fin 512) (d : Fin 1024) :
    (iblk m hO c 3 t : S1x512x1024.Idx → EReal) (ix3 0 k d)
      = (V m c main_arg5 : S16x512x1024.Idx → EReal) (ix3 (expertAt (tbl m 0) t) k d) := by
  refine congrArg (V m c main_arg5 : S16x512x1024.Idx → EReal) (funext fun a => Fin.ext ?_)
  refine (((cfgM m hO).win 3).rect_emb_val t (ix3 0 k d) a rfl).trans ?_
  have hi : ((cfgM m hO).win 3).index t = ![(expertAt (tbl m 0) t).val, 0, 0] :=
    (map3 (tbl m) (grid0.coords t)).trans (by rw [expert_val m hr])
  rw [hi]
  match a with
  | ⟨0, _⟩ => exact Nat.mul_one _
  | ⟨1, _⟩ => exact (Nat.zero_mul _).symm ▸ Nat.zero_add k.val
  | ⟨2, _⟩ => exact (Nat.zero_mul _).symm ▸ Nat.zero_add d.val

/-- Where the result's block at a point lies: 256 rows from the point's tile. -/
theorem out_emb (hO : Ok m) (t : Fin (cfgM m hO).N) (r : Fin 256) (d : Fin 1024) (q : Fin 69632)
    (hq : q.val = t.val * 256 + r.val) : (((cfgM m hO).win 4).blk t).view.emb (ix2 r d) = (ix2 q d : S69632x1024.Idx) := by
  refine funext fun a => Fin.ext ?_
  refine (((cfgM m hO).win 4).rect_emb_val t (ix2 r d) a rfl).trans ?_
  have hi : ((cfgM m hO).win 4).index t = ![t.val, 0] := by
    show (![(BitVec.ofNat 32 (grid0.coords t 0).val).toNat, (0#32).toNat] : Fin 2 → Nat) = _
    refine congrArg (fun n : Nat => (![n, 0] : Fin 2 → Nat)) ?_
    have ht : t.val < 272 := t.isLt
    rw [coords_val, BitVec.toNat_ofNat, Nat.mod_eq_of_lt (by omega)]
  rw [hi]
  match a with
  | ⟨0, _⟩ => exact hq.symm
  | ⟨1, _⟩ => exact (Nat.zero_mul _).symm ▸ Nat.zero_add d.val

/-- The result the launch leaves on core `c`, from its own arguments. -/
abbrev result (c : Dev nD) : S69632x1024.Idx → EReal :=
  grouped (tbl m 0) (tbl m 1) (V m c main_arg2) (V m c main_arg3) (V m c main_arg4) (V m c main_arg5)

/-- Point `t` leaves its block of the result. -/
theorem outAt_apply (hO : Ok m) (hr : InRange (tbl m 0) (tbl m 1)) (c : Dev nD) (t : Fin (cfgM m hO).N) (r : Fin 256) (d : Fin 1024) (q : Fin 69632)
    (hq : q.val = t.val * 256 + r.val) : outAt m hO c t (ix2 r d) = result m c (ix2 q d) := by
  have htile : tileOf (ix2 q d) = (t : Fin 272) := Fin.ext (show q.val / 256 = t.val by omega)
  unfold outAt tileOut result grouped
  rw [htile]
  by_cases hl : t.val < (tbl m 1 (ix1 0)).toNat
  · rw [if_pos hl, if_pos ((live_iff (grid0.coords t) _ hr.2.2).mpr (by rw [coords_val]; exact hl))]
    exact (pay1_apply _ _ _ _ r d).trans (expertRow_congr (rows_apply m hO hr c t hl r q hq) (gains_apply m hO c t)
      (gateUp_apply m hO hr c t) (down_apply m hO hr c t) d)
  · rw [if_neg hl, if_neg (fun h => hl (by have := (live_iff (grid0.coords t) _ hr.2.2).mp h; rwa [coords_val] at this))]
    exact pay2_apply _

/-- A place of the result in row `256 t + r` lies in the block of point `t`. -/
theorem mem_block (hO : Ok m) (i : S69632x1024.Idx) (t : Fin (cfgM m hO).N) (r : Fin 256) (hq : (i 0).val = t.val * 256 + r.val) :
    i ∈ (((cfgM m hO).win 4).blk t).view.set := by
  have h : (((cfgM m hO).win 4).blk t).view.emb (ix2 r (i 1)) = i :=
    (out_emb m hO t r (i 1) (i 0) hq).trans (ValueIdx.eq_ix2 i).symm
  exact h ▸ View.emb_mem_set (((cfgM m hO).win 4).blk t).view (ix2 r (i 1))

/-- Every place of the result lies in the block of its row's tile. -/
theorem covered (hO : Ok m) (i : S69632x1024.Idx) :
    ∃ t : Fin (cfgM m hO).N, ((cfgM m hO).win 4).flush t = true ∧ i ∈ (((cfgM m hO).win 4).blk t).view.set := by
  have hi : (i 0).val < 69632 := (i 0).isLt
  obtain ⟨t, ht⟩ : ∃ t : Fin (cfgM m hO).N, t.val = (i 0).val / 256 :=
    ⟨(⟨(i 0).val / 256, by omega⟩ : Fin 272), rfl⟩
  obtain ⟨r, hr⟩ : ∃ r : Fin 256, r.val = (i 0).val % 256 := ⟨⟨_, by omega⟩, rfl⟩
  exact ⟨t, flush4 m hO t, mem_block m hO i t r (by omega)⟩

/-- The result array after the whole grid. -/
theorem array_eq (hO : Ok m) (hr : InRange (tbl m 0) (tbl m 1)) (c : Dev nD) :
    (dats m hO 0 c).arrAt 4 (cfgM m hO).N = result m c := by
  refine (dats m hO 0 c).arrAt_eq_of_cover 4 (result m c) (fun t _ => ?_) (covered m hO)
  refine funext fun (y : S256x1024.Idx) => ?_
  obtain ⟨r, d, rfl⟩ : ∃ r d, y = ix2 r d := ⟨_, _, ValueIdx.eq_ix2 y⟩
  have ht : t.val < 272 := t.isLt
  let q : Fin 69632 := ⟨t.val * 256 + r.val, by omega⟩
  show (dats m hO 0 c).after 4 t (ix2 r d) = result m c ((((cfgM m hO).win 4).blk t).view.emb (ix2 r d))
  rw [out_emb m hO t r d q rfl, after4]
  exact outAt_apply m hO hr c t r d q rfl

end Cert.FfnIdeal.Experts

end
-- ==== Proof.Experts.Reference.lean ====
/-
  The expert call's reference over the extended reals, read at a row and a column: every expert's result of the row,
  each weighed by whether it is the expert the row's tile is sent to, summed. All weights but one are zero.
-/
module

public import proofs.«01_k».proof.Proof.Gen.FfnRefIdeal.Read
public import proofs.«01_k».proof.Proof.Experts.Array

@[expose] public section

set_option maxRecDepth 16384

noncomputable section

namespace Cert.FfnIdeal.Experts

open Cert.FfnRefIdeal Cert.FfnRefIdeal.Read Cert.Layer
open Idealize.ShloMosaic hiding ix1 ix2 ix3 ix4 ix5
open Idealize.ShloMosaic.ValueIdx

section Rows

variable (x : FVec Ideal S69632x1024 .f32) (g : FVec Ideal S1x1024 .f32)
  (wgu : FVec Ideal S16x1024x1024 .bf16) (wd : FVec Ideal S16x512x1024 .bf16)

/-- The normalised rows. -/
theorem ref_norm (n : Fin 69632) (j : Fin 1024) :
    val_main_v11 (F := Ideal) x g (ix2 n j) = normRow (fun j => x (ix2 n j)) (fun j => g (ix2 0 j)) j := by
  rw [val_main_v11_apply, val_main_v9_apply, val_main_v8_apply, val_main_v7_apply, val_main_v6_apply, val_main_v4_apply,
    val_main_v2_apply, val_main_v1_apply, val_main_v3_apply, val_main_v5_apply, val_main_v10_apply]
  have e0 : val_main_cst (F := Ideal) (Shape.Idx.first Cert.FfnRefIdeal.Gen.h_S_) = 0 := Ideal.ofBits_zero_f32
  rw [e0, zero_add]
  have eg : idx_main_v10 (ix2 n j) = ix2 0 j := funext fun a => by
    match a with
    | ⟨0, _⟩ => rfl
    | ⟨1, _⟩ => rfl
  have ex : ∀ k, idx_main_v1 (idx_main_v2 (idx_main_v8 (ix2 n j))) k = ix2 n k := fun k => funext fun a => by
    match a with
    | ⟨0, _⟩ => rfl
    | ⟨1, _⟩ => rfl
  simp only [ex, eg, val_main_v0_apply]
  rfl

/-- The gate's columns of an expert's first matrix, -/
theorem ref_gateColumns (e : Fin 16) (j : Fin 1024) (k : Fin 512) :
    val_main_v13 (F := Ideal) wgu (ix3 e j k) = wgu (ix3 e j ⟨k.val, by omega⟩) := by
  rw [val_main_v13_apply, val_main_v12_apply]
  exact congrArg wgu (funext fun a => by
    match a with
    | ⟨0, _⟩ => rfl
    | ⟨1, _⟩ => rfl
    | ⟨2, _⟩ => rfl)

/-- and the up columns. -/
theorem ref_upColumns (e : Fin 16) (j : Fin 1024) (k : Fin 512) :
    val_main_v15 (F := Ideal) wgu (ix3 e j k) = wgu (ix3 e j ⟨512 + k.val, by omega⟩) := by
  rw [val_main_v15_apply, val_main_v14_apply]
  exact congrArg wgu (funext fun a => by
    match a with
    | ⟨0, _⟩ => rfl
    | ⟨1, _⟩ => rfl
    | ⟨2, _⟩ => rfl)

/-- Every row's gate entries under every expert, -/
theorem ref_gate (n : Fin 69632) (e : Fin 16) (k : Fin 512) :
    val_main_v16 (F := Ideal) x g wgu (ix3 n e k)
      = gate (fun j => x (ix2 n j)) (fun j => g (ix2 0 j)) (fun j k => wgu (ix3 e j k)) k := by
  rw [val_main_v16_apply]
  refine Finset.sum_congr rfl fun j _ => ?_
  have el : lidx_main_v16 (ix3 n e k) j = ix2 n j := funext fun a => by
    match a with
    | ⟨0, _⟩ => rfl
    | ⟨1, _⟩ => rfl
  have er : ridx_main_v16 (ix3 n e k) j = ix3 e j k := funext fun a => by
    match a with
    | ⟨0, _⟩ => rfl
    | ⟨1, _⟩ => rfl
    | ⟨2, _⟩ => rfl
  rw [el, er, ref_norm, ref_gateColumns]

/-- and up entries. -/
theorem ref_up (n : Fin 69632) (e : Fin 16) (k : Fin 512) :
    val_main_v18 (F := Ideal) x g wgu (ix3 n e k)
      = up (fun j => x (ix2 n j)) (fun j => g (ix2 0 j)) (fun j k => wgu (ix3 e j k)) k := by
  rw [val_main_v18_apply]
  refine Finset.sum_congr rfl fun j _ => ?_
  have el : lidx_main_v18 (ix3 n e k) j = ix2 n j := funext fun a => by
    match a with
    | ⟨0, _⟩ => rfl
    | ⟨1, _⟩ => rfl
  have er : ridx_main_v18 (ix3 n e k) j = ix3 e j k := funext fun a => by
    match a with
    | ⟨0, _⟩ => rfl
    | ⟨1, _⟩ => rfl
    | ⟨2, _⟩ => rfl
  rw [el, er, ref_norm, ref_upColumns]

/-- The gated entries. -/
theorem ref_gated (i : S69632x16x512.Idx) :
    val_main_v19 (F := Ideal) x g wgu i
      = silu (val_main_v16 (F := Ideal) x g wgu i) * val_main_v18 (F := Ideal) x g wgu i := by
  rw [val_main_v19_apply, val_main_v17_apply, val_main_call0_v5_apply, val_main_call0_v4_apply, val_main_call0_v3_apply,
    val_main_call0_v2_apply, val_main_call0_v1_apply, val_main_call0_v0_apply]
  have e1 : ∀ j, val_main_call0_cst (F := Ideal) j = 1 := fun _ => Ideal.ofBits_one_f32
  have e2 : ∀ j, val_main_call0_cst_0 (F := Ideal) j = 1 := fun _ => Ideal.ofBits_one_f32
  rw [e1, e2]
  rfl

/-- Every expert's result of every row. -/
theorem ref_expert (n : Fin 69632) (e : Fin 16) (d : Fin 1024) :
    val_main_v22 (F := Ideal) x g wgu wd (ix3 n e d)
      = expertRow (fun j => x (ix2 n j)) (fun j => g (ix2 0 j)) (fun j k => wgu (ix3 e j k)) (fun k d => wd (ix3 e k d)) d := by
  rw [val_main_v22_apply, val_main_v21_apply]
  refine Finset.sum_congr rfl fun k _ => ?_
  have el : lidx_main_v21 (idx_main_v22 (ix3 n e d)) k = ix3 e k d := funext fun a => by
    match a with
    | ⟨0, _⟩ => rfl
    | ⟨1, _⟩ => rfl
    | ⟨2, _⟩ => rfl
  have er : ridx_main_v21 (idx_main_v22 (ix3 n e d)) k = ix3 n e k := funext fun a => by
    match a with
    | ⟨0, _⟩ => rfl
    | ⟨1, _⟩ => rfl
    | ⟨2, _⟩ => rfl
  rw [el, er, val_main_v20_apply, ref_gated, ref_gate, ref_up, mul_comm]
  rfl

end Rows

section Weights

variable (et : IVec S272 32) (u : IVec S1 32)

/-- A truth value as an extended real: one or zero. -/
theorem truth_val (b : Bool) : FloatOps.uitofp (F := Ideal) .f32 (BitVec.ofBool b) = if b then 1 else 0 := by
  show (((BitVec.ofBool b).toNat : ℝ) : EReal) = _
  cases b
  · simp
  · simp

/-- The weight of expert `e` for row `n`: one when the row's tile is in use and sent to `e`, else zero. -/
theorem ref_weight (hr : InRange et u) (n : Fin 69632) (e : Fin 16) (d : Fin 1024) :
    val_main_v36 (F := Ideal) et u (ix3 n e d)
      = if e = expertAt et (tileOf (ix2 n d)) ∧ (tileOf (ix2 n d)).val < (u (ix1 0)).toNat then 1 else 0 := by
  rw [val_main_v36_apply, val_main_v35_apply, val_main_v34_apply, val_main_v30_apply, val_main_v33_apply, val_main_v32_apply,
    val_main_v31_apply, val_main_v29_apply, val_main_v28_apply, val_main_v27_apply, val_main_v25_apply, val_main_v26_apply,
    val_main_call1_v4_apply, val_main_call1_v2_apply, val_main_call1_v0_apply, val_main_v24_apply, val_main_v23_apply,
    val_main_call1_v3_apply, val_main_call1_v1_apply]
  obtain ⟨he, -, hu⟩ := hr
  have hn : n.val < 69632 := n.isLt
  obtain ⟨t, ht⟩ : ∃ t : Fin 272, t = tileOf (ix2 n d) := ⟨_, rfl⟩
  have htv : t.val = n.val / 256 := by rw [ht]; rfl
  rw [← ht]
  have e1 : idx_main_v23 (idx_main_v24 (idx_main_call1_v0 (idx_main_call1_v2 (idx_main_v35 (idx_main_v36 (ix3 n e d)))))) = ix1 t :=
    funext fun a => by
      match a with
      | ⟨0, _⟩ => exact Fin.ext htv.symm
  have e2 : ∀ j, idx_main_v26 j = ix1 0 := fun j => funext fun a => by
    match a with
    | ⟨0, _⟩ => rfl
  have e3 : (idx_main_v28 (idx_main_v29 (idx_main_v31 (idx_main_v33 (idx_main_v35 (idx_main_v36 (ix3 n e d)))))) 0).val = t.val := htv.symm
  have e4 : (idx_main_call1_v3 (idx_main_v35 (idx_main_v36 (ix3 n e d))) 1).val = e.val := rfl
  rw [e1, e2, e3, e4]
  have hw : (et (ix1 t)).toNat < 16 := he _
  have hx : expertAt et t = Fin.ofNat 16 (et (ix1 t)).toNat := rfl
  rw [hx]
  have hu' : (u (ix1 0)).toNat ≤ 272 := hu
  generalize et (ix1 t) = w at hw ⊢
  generalize u (ix1 0) = v at hu' ⊢
  have i1 : (BitVec.ofNat 32 t.val).toInt = t.val := by
    have h : (BitVec.ofNat 32 t.val).toNat = t.val := by rw [BitVec.toNat_ofNat, Nat.mod_eq_of_lt (by omega)]
    rw [BitVec.toInt_eq_toNat_cond, h]; split <;> omega
  have i2 : v.toInt = v.toNat := by rw [BitVec.toInt_eq_toNat_cond]; split <;> omega
  have b1 : IntOp.cmpi .eq w (BitVec.ofNat 32 e.val) = BitVec.ofBool (decide (e = Fin.ofNat 16 w.toNat)) := by
    refine congrArg BitVec.ofBool (Bool.eq_iff_iff.mpr ?_)
    rw [decide_eq_true_iff]
    refine beq_iff_eq.trans ⟨fun h => Fin.ext ?_, fun h => BitVec.eq_of_toNat_eq ?_⟩
    · show e.val = w.toNat % 16
      rw [h, BitVec.toNat_ofNat]; omega
    · have h' : e.val = w.toNat % 16 := congrArg Fin.val h
      rw [BitVec.toNat_ofNat]; omega
  have b2 : IntOp.cmpi .slt (BitVec.ofNat 32 t.val) v = BitVec.ofBool (decide (t.val < v.toNat)) := by
    refine congrArg BitVec.ofBool (Bool.eq_iff_iff.mpr ?_)
    rw [decide_eq_true_iff]
    refine decide_eq_true_iff.trans ?_
    rw [i1, i2]; omega
  rw [b1, b2, truth_val, truth_val]
  show (if _ then (1 : EReal) else 0) * (if _ then (1 : EReal) else 0) = _
  by_cases h1 : e = Fin.ofNat 16 w.toNat <;> by_cases h2 : t.val < v.toNat <;> simp [h1, h2]

end Weights

/-- The reference's result is the grouped one. -/
theorem ref_eq (e : IVec S272 32) (u : IVec S1 32) (x : FVec Ideal S69632x1024 .f32) (g : FVec Ideal S1x1024 .f32)
    (wgu : FVec Ideal S16x1024x1024 .bf16) (wd : FVec Ideal S16x512x1024 .bf16) (hr : InRange e u) :
    val_main_v38 (F := Ideal) e u x g wgu wd = grouped e u x g wgu wd := by
  funext i
  obtain ⟨n, d, rfl⟩ : ∃ n d, i = ix2 n d := ⟨_, _, ValueIdx.eq_ix2 i⟩
  rw [val_main_v38_apply]
  have e0 : val_main_cst_2 (F := Ideal) (Shape.Idx.first Cert.FfnRefIdeal.Gen.h_S_) = 0 := Ideal.ofBits_zero_f32
  rw [e0, zero_add]
  have ei : ∀ k, idx_main_v38 (ix2 n d) k = ix3 n k d := fun k => funext fun a => by
    match a with
    | ⟨0, _⟩ => rfl
    | ⟨1, _⟩ => rfl
    | ⟨2, _⟩ => rfl
  simp only [ei, val_main_v37_apply, ref_weight e u hr, ref_expert]
  unfold grouped
  by_cases hl : (tileOf (ix2 n d)).val < (u (ix1 0)).toNat
  · rw [if_pos hl]
    refine (Finset.sum_eq_single (expertAt e (tileOf (ix2 n d))) (fun k _ hk => ?_) (fun h => absurd (Finset.mem_univ _) h)).trans ?_
    · rw [if_neg (fun h => hk h.1)]; exact zero_mul _
    · rw [if_pos ⟨rfl, hl⟩]; exact one_mul _
  · rw [if_neg hl]
    refine Finset.sum_eq_zero fun k _ => ?_
    rw [if_neg (fun h => hl h.2)]; exact zero_mul _

end Cert.FfnIdeal.Experts

end
-- ==== Proof.Experts.Algebraic.lean ====
/-
  The expert call and its reference leave equal results over the extended reals, from equal arguments whose tables meet
  the precondition; and the reference's own frame.
-/
module

public import proofs.«01_k».proof.Proof.Experts.Claims
public import proofs.«01_k».proof.Proof.Experts.Reference
public import proofs.«01_k».proof.Proof.Gen.FfnRefIdeal.Run

@[expose] public section

set_option maxRecDepth 16384

noncomputable section

namespace Cert.FfnIdeal.Experts

open Idealize.ShloMosaic Idealize.ShloMosaic.TcCoe Idealize.SL.Sem

/-- The reference ends with its arguments unchanged; it has no semaphore. -/
theorem quiescent_reference : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem quiescent_reference_pre : Cert.quiescent_FfnRefIdeal_pre_tables := fun m ρ _ => quiescent_reference m ρ trivial

/-- Both leave the grouped result. -/
theorem algebraic : Cert.algebraic_FfnIdeal_FfnRefIdeal := fun m g m' g' hpre hagree => by
  have hr := inRange_of_launch m hpre
  have hO := ok_of_launch m hpre
  refine ⟨fun c => result m c, ?_, ?_⟩
  · exact (θ_run Cert.FfnIdeal.defs _ _).mono (fun r h c => ⟨((h.1 c).2).trans (array_eq m hO hr c), (h.1 c).1⟩) (run_all m g hO)
  · refine (θ_run Cert.FfnRefIdeal.defs _ _).mono (fun r h c => ⟨(h c).1.trans ?_, (h c).2⟩) (Cert.FfnRefIdeal.Value.run (F := Ideal) m' g')
    obtain rfl : c = 0 := Subsingleton.elim _ _
    obtain ⟨e0, e1, e2, e3, e4, e5⟩ := hagree 0
    refine (Cert.FfnRefIdeal.Read.val_main_v38_eq m' 0).trans ?_
    rw [e0, e1, e2, e3, e4, e5]
    exact ref_eq _ _ _ _ _ _ hr

end Cert.FfnIdeal.Experts

end
-- ==== Proof.Sgu.Tile.lean ====
/-
  What one point of the spatial gating computes over the extended reals: 512 tokens, four chunks of 128 of them. Each
  chunk's gate mixes the chunk's normalised rows with the matrix of the column's channel group.
-/
module

public import proofs.«01_k».proof.Proof.Gen.SguIdeal.Frame
public import proofs.«01_k».proof.Proof.Layer.Norm

@[expose] public section

set_option maxRecDepth 16384

noncomputable section

namespace Cert.SguIdeal.Gating

open Cert.SguIdeal Cert.SguIdeal.Gen Cert.Layer
open Idealize.ShloMosaic hiding ix1 ix2 ix3 ix4 ix5
open Idealize.ShloMosaic.ValueIdx

/-- The activation: half of `x` times one more than a hyperbolic tangent. -/
def gelu (x : EReal) : EReal :=
  Ideal.ofBits .f32 0x3F000000#32 * x * (Ideal.ofBits .f32 0x3F800000#32
    + Ideal.tanh (Ideal.ofBits .f32 0x3F4C422A#32 * (x + Ideal.ofBits .f32 0x3D372713#32 * (x * x * x))))

/-- The mean of 256 entries. -/
def mean (v : Fin 256 → EReal) : EReal := Ideal.div (∑ k, v k) (Ideal.ofBits .f32 0x43800000#32)

/-- A row of 256 entries less its mean, over the root of its variance, scaled with `g` and moved by `b`. -/
def normed (v g b : Fin 256 → EReal) (d : Fin 256) : EReal :=
  (v d - mean v) * Ideal.rsqrt (mean (fun k => (v k - mean v) * (v k - mean v)) + Ideal.ofBits .f32 0x358637BD#32) * g d + b d

/-- The 256 activations that are normalised: the second half of a row's 512. -/
def gateRow (z : Fin 512 → EReal) (k : Fin 256) : EReal := gelu (z ⟨256 + k.val, by omega⟩)

/-- The channel group of a column. -/
def group (d : Fin 256) : Fin 4 := ⟨d.val / 64, by omega⟩

/-- The gated entry of a row `t` of a chunk at column `d`: the row's own activation times the mixed rows. `w` is the row's
    line of the group's matrix, `c` the chunk's rows, `b` the group's offset for the row. -/
def gated (z : Fin 512 → EReal) (c : Fin 128 → Fin 512 → EReal) (g s : Fin 256 → EReal) (w : Fin 128 → EReal) (b : EReal)
    (d : Fin 256) : EReal :=
  gelu (z ⟨d.val, by omega⟩) * ((∑ k, w k * normed (gateRow (c k)) g s d) + b)

/-! ## The printed vector operations at an index -/

/-- The activation of a block. -/
theorem pay1_apply (x : Vec Ideal S512x512 .f32) (y : S512x512.Idx) : k0_pay1 x y = gelu (x y) := rfl

/-- The block's own activations: the first half. -/
theorem pay2_apply (x : Vec Ideal S512x512 .f32) (r : Fin 512) (d : Fin 256) :
    k0_pay2 x (ix2 r d) = gelu (x (ix2 r ⟨d.val, by omega⟩)) := by
  unfold k0_pay2
  refine (extractStridedSlice_apply _ _ _ _ (ix2 r ⟨d.val, by omega⟩) fun a => ?_).trans (pay1_apply x _)
  match a with
  | ⟨0, _⟩ => exact (Nat.zero_add r.val).symm
  | ⟨1, _⟩ => exact (Nat.zero_add d.val).symm

/-- The normalised second half. -/
theorem pay3_apply (x : Vec Ideal S512x512 .f32) (g s : Vec Ideal S1x256 .f32) (r : Fin 512) (d : Fin 256) :
    k0_pay3 x g s (ix2 r d) = normed (gateRow fun k => x (ix2 r k)) (fun k => g (ix2 0 k)) (fun k => s (ix2 0 k)) d := by
  have hv : ∀ k : Fin 256, extractStridedSlice S512x256 ![0, 256] (k0_pay1 x) slices_S512x512_o0_256_S512x256 (ix2 r k)
      = gateRow (fun k => x (ix2 r k)) k := fun k => by
    refine (extractStridedSlice_apply _ _ _ _ (ix2 r ⟨256 + k.val, by omega⟩) fun a => ?_).trans (pay1_apply x _)
    match a with
    | ⟨0, _⟩ => exact (Nat.zero_add r.val).symm
    | ⟨1, _⟩ => rfl
  unfold k0_pay3
  generalize extractStridedSlice S512x256 ![0, 256] (k0_pay1 x) slices_S512x512_o0_256_S512x256 = v at hv ⊢
  have hm : ∀ k : Fin 256, broadcastTo S512x256 (divf (shapeCast S512x1 (multiReduction .add [1] S512 v 0x00000000#32 reduces_S512x256_S512 (.inl rfl) rfl)
      shapeCasts_S512_S512x1) (broadcast S512x1 (Scalar.ofBits (F := Ideal) .f32 0x43800000#32))) broadcasts_S512x1_S512x256 (ix2 r k)
      = mean (gateRow fun k => x (ix2 r k)) := fun k => by
    rw [column_apply]
    show Ideal.div (shapeCast S512x1 _ _ (ix2 r 0)) _ = _
    rw [shapeCast_a_a1_apply]
    exact congrArg (fun z => Ideal.div z (Ideal.ofBits .f32 0x43800000#32))
      ((rowSum_apply _ _ _ _ r).trans (Finset.sum_congr rfl fun k _ => hv k))
  show (v (ix2 r d) - broadcastTo S512x256 _ _ (ix2 r d)) * broadcastTo S512x256 _ _ (ix2 r d) * broadcastTo S512x256 _ _ (ix2 r d)
    + broadcastTo S512x256 _ _ (ix2 r d) = _
  rw [hm, hv, row_apply, row_apply, shapeCast_self, shapeCast_self, column_apply]
  unfold normed
  refine congrArg (fun z => (gateRow (fun k => x (ix2 r k)) d - mean (gateRow fun k => x (ix2 r k))) * z * g (ix2 0 d) + s (ix2 0 d)) ?_
  refine congrArg (fun z => Ideal.rsqrt (z + Ideal.ofBits .f32 0x358637BD#32)) ?_
  show Ideal.div (shapeCast S512x1 _ _ (ix2 r 0)) _ = _
  rw [shapeCast_a_a1_apply]
  refine congrArg (fun z => Ideal.div z (Ideal.ofBits .f32 0x43800000#32)) ((rowSum_apply _ _ _ _ r).trans (Finset.sum_congr rfl fun k _ => ?_))
  show (v (ix2 r k) - broadcastTo S512x256 _ _ (ix2 r k)) * (v (ix2 r k) - broadcastTo S512x256 _ _ (ix2 r k)) = _
  rw [hm, hv]

/-- A block of chunk rows with the columns outside one group set to zero. -/
def masked (v : FVec Ideal S128x256 .f32) (grp : IVec S1x256 32) (n : Fin 4) : FVec Ideal S128x256 .f32 :=
  select (broadcastTo S128x256 (shapeCast S1x256 (cmpi .eq grp (broadcast S1x256 (BitVec.ofNat 32 n.val))) shapeCasts_S1x256_S1x256)
    broadcasts_S1x256_S128x256) v (broadcast S128x256 (Scalar.ofBits (F := Ideal) .f32 0x00000000#32))

theorem masked_apply (v : FVec Ideal S128x256 .f32) (grp : IVec S1x256 32)
    (hg : ∀ d : Fin 256, grp (ix2 0 d) = BitVec.ofNat 32 (group d).val) (n : Fin 4) (s : Fin 128) (d : Fin 256) :
    masked v grp n (ix2 s d) = if n = group d then v (ix2 s d) else 0 := by
  show Scalar.select (broadcastTo S128x256 _ _ (ix2 s d)) (v (ix2 s d)) (Ideal.ofBits .f32 0x00000000#32) = _
  rw [row_apply, shapeCast_self, Ideal.ofBits_zero_f32]
  show Scalar.select (BitVec.ofBool (grp (ix2 0 d) == BitVec.ofNat 32 n.val)) _ _ = _
  rw [hg]
  generalize group d = m
  revert m n
  intro n m
  by_cases h : n = m
  · subst h
    rw [if_pos rfl, beq_self_eq_true]
    rfl
  · have : (BitVec.ofNat 32 m.val == BitVec.ofNat 32 n.val) = false := by
      revert m n; decide
    rw [if_neg h, this]
    rfl

/-- One chunk's gate as the program spells it, from row `off` on. -/
def chunk (off : Fin 2 → ℕ) (hs : S512x256.Slices off S128x256) (u v : FVec Ideal S512x256 .f32) (grp : IVec S1x256 32)
    (w : Vec Ideal S128x512 .bf16) (b : Vec Ideal S128x256 .f32) : FVec Ideal S128x256 .f32 :=
  mulf (extractStridedSlice S128x256 off u hs)
    (addf (matmul (φ₁ := .bf16) (φ₂ := .bf16) dot_S128x512_S512x256_S128x256_1_0_0_1_n_n none (shapeCast S128x512 w shapeCasts_S128x512_S128x512)
      (truncf .bf16 (concatenate S512x256 0 (List.ofFn fun n : Fin 4 => ⟨S128x256, masked (extractStridedSlice S128x256 off v hs) grp n⟩)
        concatenates_S128x256_S128x256_S128x256_S128x256_S512x256_d0) bitsLt_bf16_f32) (constant S128x256 .f32 0x00000000#32))
      (shapeCast S128x256 b shapeCasts_S128x256_S128x256))

/-- A column of the four stacked blocks: the group's own, and zeros. -/
theorem stack_apply (v : FVec Ideal S128x256 .f32) (grp : IVec S1x256 32)
    (hg : ∀ d : Fin 256, grp (ix2 0 d) = BitVec.ofNat 32 (group d).val) (n : Fin 4) (s : Fin 128) (d : Fin 256) :
    concatenate S512x256 0 (List.ofFn fun n : Fin 4 => (⟨S128x256, masked v grp n⟩ : (s : Shape) × (s.Idx → EReal)))
        concatenates_S128x256_S128x256_S128x256_S128x256_S512x256_d0 (ix2 (finProdFinEquiv (n, s)) d)
      = if n = group d then v (ix2 s d) else 0 := by
  have hv : (finProdFinEquiv (n, s) : Fin (4 * 128)).val = s.val + 128 * n.val := rfl
  refine (concatenate_ofFn_apply (t := S512x256) (s₁ := S128x256) 0 (fun n => masked v grp n) _ rfl 128 rfl _ n ?_ (ix2 s d) ?_ ?_).trans
    (masked_apply v grp hg n s d)
  · show (finProdFinEquiv (n, s) : Fin (4 * 128)).val / 128 = n.val
    omega
  · show s.val = (finProdFinEquiv (n, s) : Fin (4 * 128)).val % 128
    omega
  · intro b hb
    match b with
    | ⟨0, _⟩ => exact absurd rfl hb
    | ⟨1, _⟩ => rfl

/-- The chunk's gate at row `t` and column `d`. -/
theorem chunk_apply (off : ℕ) (hs : S512x256.Slices ![off, 0] S128x256) (u v : FVec Ideal S512x256 .f32) (grp : IVec S1x256 32)
    (hg : ∀ d : Fin 256, grp (ix2 0 d) = BitVec.ofNat 32 (group d).val)
    (w : Vec Ideal S128x512 .bf16) (b : Vec Ideal S128x256 .f32) (row : Fin 128 → Fin 512) (hr : ∀ s, (row s).val = off + s.val)
    (t : Fin 128) (d : Fin 256) :
    chunk ![off, 0] hs u v grp w b (ix2 t d)
      = u (ix2 (row t) d) * ((∑ s : Fin 128, w (ix2 t (finProdFinEquiv (group d, s))) * v (ix2 (row s) d)) + b (ix2 t d)) := by
  have hsl : ∀ (x : FVec Ideal S512x256 .f32) (s : Fin 128), extractStridedSlice S128x256 ![off, 0] x hs (ix2 s d) = x (ix2 (row s) d) := fun x s => by
    refine extractStridedSlice_apply _ _ _ _ _ fun a => ?_
    match a with
    | ⟨0, _⟩ => exact hr s
    | ⟨1, _⟩ => exact (Nat.zero_add d.val).symm
  unfold chunk
  show extractStridedSlice S128x256 ![off, 0] u hs (ix2 t d) * (matmul dot_S128x512_S512x256_S128x256_1_0_0_1_n_n none _ _ _ (ix2 t d)
    + shapeCast S128x256 b _ (ix2 t d)) = _
  rw [hsl, shapeCast_self, shapeCast_self]
  refine congrArg (fun z : EReal => u (ix2 (row t) d) * (z + b (ix2 t d))) ?_
  refine (Ideal.matmul_plain_apply none _ _ _ t d).trans ?_
  have hz : constant (F := Ideal) S128x256 .f32 0x00000000#32 (ix2 t d) = 0 := Ideal.ofBits_zero_f32
  rw [hz, zero_add]
  show (∑ k : Fin (4 * 128), w (ix2 t k) * concatenate S512x256 0 (List.ofFn fun n : Fin 4 =>
    (⟨S128x256, masked (extractStridedSlice S128x256 ![off, 0] v hs) grp n⟩ : (s : Shape) × (s.Idx → EReal)))
    concatenates_S128x256_S128x256_S128x256_S128x256_S512x256_d0 (ix2 k d)) = _
  rw [← Equiv.sum_comp finProdFinEquiv, Fintype.sum_prod_type]
  refine (Finset.sum_eq_single (group d) (fun n _ hn => Finset.sum_eq_zero fun s _ => ?_) (fun h => absurd (Finset.mem_univ _) h)).trans
    (Finset.sum_congr rfl fun s _ => ?_)
  · exact (congrArg (w _ * ·) ((stack_apply _ grp hg n s d).trans (if_neg hn))).trans (mul_zero _)
  · exact congrArg (w _ * ·) ((stack_apply _ grp hg _ s d).trans ((if_pos rfl).trans (hsl v s)))

/-- The group of a column, as the program computes it from the column's number. -/
theorem group_apply (d : Fin 256) :
    k0_pay5 (iota .tc S1x256 32 [1] iota_S1x256_d1_w32) 64#32 k0_pay4 (ix2 0 d) = BitVec.ofNat 32 (group d).val := by
  revert d
  decide +kernel

/-! ## The block a point leaves -/

/-- Row `r`, lane `d` of the block a point leaves, as a function of the blocks it reads. -/
def tileAt (x : Vec Ideal S512x512 .f32) (g s : Vec Ideal S1x256 .f32) (w : Vec Ideal S128x512 .bf16) (b : Vec Ideal S128x256 .f32)
    (r : Fin 512) (d : Fin 256) : EReal :=
  gated (fun j => x (ix2 r j)) (fun k j => x (ix2 ⟨r.val / 128 * 128 + k.val, by omega⟩ j))
    (fun k => g (ix2 0 k)) (fun k => s (ix2 0 k))
    (fun k => w (ix2 ⟨r.val % 128, by omega⟩ (finProdFinEquiv (group d, k))))
    (b (ix2 ⟨r.val % 128, by omega⟩ d)) d

/-- The block a point leaves. -/
def tile (x : Vec Ideal S512x512 .f32) (g s : Vec Ideal S1x256 .f32) (w : Vec Ideal S128x512 .bf16) (b : Vec Ideal S128x256 .f32)
    (y : S512x256.Idx) : EReal := tileAt x g s w b (y 0) (y 1)

/-- The chunk that starts at row `128 i` is the block's. -/
theorem chunk_eq (x : Vec Ideal S512x512 .f32) (g s : Vec Ideal S1x256 .f32) (w : Vec Ideal S128x512 .bf16) (b : Vec Ideal S128x256 .f32)
    (i : ℕ) (hi : i < 4) (hs : S512x256.Slices ![128 * i, 0] S128x256)
    (ho : ∀ a, (![128 * i, 0] : Fin 2 → ℕ) a + S128x256.size a ≤ S512x256.size a) (y : S128x256.Idx) :
    chunk ![128 * i, 0] hs (k0_pay2 (View.ld x r0_0)) (k0_pay3 (View.ld x r0_0) (View.ld g r0_1) (View.ld s r0_1))
      (k0_pay5 (iota .tc S1x256 32 [1] iota_S1x256_d1_w32) 64#32 k0_pay4) (View.ld w r0_2) (View.ld b r0_3) y
      = tile x g s w b ((Rect.unit (s := S512x256) ![128 * i, 0] S128x256.size ho).emb y) := by
  obtain ⟨t, d, rfl⟩ : ∃ t d, y = ix2 t d := ⟨_, _, ValueIdx.eq_ix2 y⟩
  have hz : (![0, 0] : Fin 2 → ℕ) = fun _ => 0 := funext fun a => by
    match a with
    | ⟨0, _⟩ => rfl
    | ⟨1, _⟩ => rfl
  rw [View.ld_unit_zero hz, View.ld_unit_zero hz, View.ld_unit_zero hz, View.ld_unit_zero hz, View.ld_unit_zero hz]
  let row : Fin 128 → Fin 512 := fun k => ⟨128 * i + k.val, by omega⟩
  rw [chunk_apply (128 * i) hs _ _ _ group_apply w b row (fun _ => rfl) t d]
  have h0 : (Rect.unit (s := S512x256) ![128 * i, 0] S128x256.size ho).emb (ix2 t d) 0 = row t :=
    Fin.ext (show 128 * i + 1 * t.val = 128 * i + t.val by omega)
  have h1 : (Rect.unit (s := S512x256) ![128 * i, 0] S128x256.size ho).emb (ix2 t d) 1 = d :=
    Fin.ext (show 0 + 1 * d.val = d.val by omega)
  refine Eq.trans ?_ (congrArg₂ (tileAt x g s w b) h0.symm h1.symm)
  have ht : (⟨(row t).val % 128, by omega⟩ : Fin 128) = t := Fin.ext (show (128 * i + t.val) % 128 = t.val by omega)
  have hk : ∀ k : Fin 128, (⟨(row t).val / 128 * 128 + k.val, by have := (row t).isLt; omega⟩ : Fin 512) = row k := fun k =>
    Fin.ext (show (128 * i + t.val) / 128 * 128 + k.val = 128 * i + k.val by omega)
  unfold tileAt gated
  rw [ht, pay2_apply]
  refine congrArg (fun z => gelu (x (ix2 (row t) ⟨d.val, by omega⟩)) * (z + b (ix2 t d))) (Finset.sum_congr rfl fun k _ => ?_)
  rw [pay3_apply]
  exact congrArg (fun q : Fin 512 => w (ix2 t (finProdFinEquiv (group d, k))) *
    normed (gateRow fun j => x (ix2 q j)) (fun k => g (ix2 0 k)) (fun k => s (ix2 0 k)) d) (hk k).symm

/-- The four chunks together are the block. -/
theorem out_apply (x : Vec Ideal S512x512 .f32) (g s : Vec Ideal S1x256 .f32) (w : Vec Ideal S128x512 .bf16) (b : Vec Ideal S128x256 .f32)
    (y : S512x256.Idx) : out0_5 x g s w b y = tile x g s w b y := by
  unfold out0_5
  refine View.canon_apply_of_pieces (Val := Elt Ideal) (tile x g s w b) _ ?_ y (cover0_5 _ _ _ _ y)
  intro p hp
  simp only [List.mem_cons, List.not_mem_nil, or_false] at hp
  rcases hp with rfl | rfl | rfl | rfl
  · exact chunk_eq x g s w b 3 (by omega) slices_S512x256_o384_0_S128x256 inb_S512x256_S128x256_384_0
  · exact chunk_eq x g s w b 2 (by omega) slices_S512x256_o256_0_S128x256 inb_S512x256_S128x256_256_0
  · exact chunk_eq x g s w b 1 (by omega) slices_S512x256_o128_0_S128x256 inb_S512x256_S128x256_128_0
  · exact chunk_eq x g s w b 0 (by omega) slices_S512x256_o0_0_S128x256 inb_S512x256_S128x256_0_0

end Cert.SguIdeal.Gating

end
-- ==== Proof.Sgu.Array.lean ====
/-
  The spatial gating's result array over the extended reals: every token gated by the mixed rows of its chunk.
-/
module

public import proofs.«01_k».proof.Proof.Gen.SguIdeal.Value
public import proofs.«01_k».proof.Proof.Sgu.Tile

@[expose] public section

set_option maxRecDepth 16384

noncomputable section

namespace Cert.SguIdeal.Gating

open Cert.SguIdeal Cert.SguIdeal.Gen Cert.Layer
open Idealize.ShloMosaic hiding ix1 ix2 ix3 ix4 ix5
open Idealize.ShloMosaic.ValueIdx Idealize.ShloMosaic.TcCoe
open Idealize.ShloMosaic.StableHlo
open Idealize.ShloMosaic.Pipeline (Dat Cfg Window)

/-- The mixing matrix of group `g` at row `t` and column `s`: only the rows up to `t` itself are mixed. -/
def causal (w : FVec Ideal S4x128x128 .f32) (g : Fin 4) (t s : Fin 128) : EReal :=
  if s.val ≤ t.val then w (ix3 g t s) else 0

/-- The result as a function of the arguments: the columns, the gains and offsets of the normalisation, the mixing
    matrices and their offsets. -/
def whole (x : FVec Ideal S32768x3072 .f32) (g b : FVec Ideal S256 .f32) (w : FVec Ideal S4x128x128 .f32) (o : FVec Ideal S4x128 .f32)
    (n : Fin 32768) (d : Fin 256) : EReal :=
  gated (fun j => x (ix2 n ⟨j.val, by omega⟩)) (fun k j => x (ix2 ⟨n.val / 128 * 128 + k.val, by omega⟩ ⟨j.val, by omega⟩))
    (fun k => g (ix1 k)) (fun k => b (ix1 k)) (causal w (group d) ⟨n.val % 128, by omega⟩) (o (ix2 (group d) ⟨n.val % 128, by omega⟩)) d

/-- Equal inputs are gated to equal entries. -/
theorem gated_congr {z z' : Fin 512 → EReal} {c c' : Fin 128 → Fin 512 → EReal} {g g' s s' : Fin 256 → EReal} {w w' : Fin 128 → EReal}
    {b b' : EReal} {d : Fin 256} (hz : ∀ j, z j = z' j) (hc : ∀ k j, c k j = c' k j) (hg : ∀ k, g k = g' k) (hs : ∀ k, s k = s' k)
    (hw : ∀ k, w k = w' k) (hb : b = b') : gated z c g s w b d = gated z' c' g' s' w' b' d := by
  obtain rfl := funext hz
  obtain rfl := funext fun k => funext (hc k)
  obtain rfl := funext hg
  obtain rfl := funext hs
  obtain rfl := funext hw
  rw [hb]

/-- The comparison of a row with a column, as printed: both are small, so it is the comparison of their numbers. -/
theorem keep_eq : ∀ t s : Fin 128, IntOp.cmpi .sge (IntOp.addi (BitVec.ofNat 32 t.val) 0#32) (BitVec.ofNat 32 s.val)
    = if s.val ≤ t.val then 1#1 else 0#1 := by
  decide +kernel

/-- A selection on the printed comparison is the causal entry. -/
theorem select_eq (w : FVec Ideal S4x128x128 .f32) (g : Fin 4) (t s : Fin 128) :
    Scalar.select (Scalar.select (IntOp.cmpi .sge (IntOp.addi (BitVec.ofNat 32 t.val) 0#32) (BitVec.ofNat 32 s.val)) 1#1 0#1) (w (ix3 g t s))
      (Ideal.ofBits .f32 0x00000000#32) = causal w g t s := by
  rw [keep_eq, Ideal.ofBits_zero_f32]
  unfold causal
  split <;> rfl

variable (m : (ℓ : Loc nD τ sig) → Buf (Elt Ideal) ℓ)

/-- The kept places of a mixing matrix. -/
def keep : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

/-- The masked mixing matrices. -/
def lower (w : FVec Ideal S4x128x128 .f32) : FVec Ideal S4x128x128 .f32 :=
  select (broadcastInDim S4x128x128 ![0, 1, 2] bcast_S1x128x128_S4x128x128_0_1_2 (broadcastInDim S1x128x128 ![1, 2] bcast_S128x128_S1x128x128_1_2 keep))
    w (broadcastInDim S4x128x128 ![] bcast_S_S4x128x128 (constant S_ .f32 0x00000000#32))

/-- The launch's mixing weights: the masked matrices side by side. -/
def wide (w : FVec Ideal S4x128x128 .f32) : FVec Ideal S128x512 .f32 :=
  shapeCast S128x512 (transpose S128x4x128 [1, 0, 2] (lower w) transposes_S4x128x128_S128x4x128_1_0_2) shapeCasts_S128x4x128_S128x512

/-- The launch's mixing offsets: every group's column repeated over the group's channels. -/
def offsets (o : FVec Ideal S4x128 .f32) : FVec Ideal S128x256 .f32 :=
  shapeCast S128x256 (broadcastInDim S128x4x64 ![0, 1] bcast_S128x4_S128x4x64_0_1 (transpose S128x4 [1, 0] o transposes_S4x128_S128x4_1_0))
    shapeCasts_S128x4x64_S128x256

theorem lower_apply (w : FVec Ideal S4x128x128 .f32) (g : Fin 4) (t s : Fin 128) : lower w (ix3 g t s) = causal w g t s :=
  select_eq w g t s

theorem wide_apply (w : FVec Ideal S4x128x128 .f32) (g : Fin 4) (t s : Fin 128) :
    wide w (ix2 t (finProdFinEquiv (g, s))) = causal w g t s := by
  have hv : (finProdFinEquiv (g, s) : Fin (4 * 128)).val = s.val + 128 * g.val := rfl
  unfold wide
  refine (shapeCast_apply _ _ _ (ix3 t g s) ?_).trans ((transpose_apply [1, 0, 2] _ _ _ (ix3 g t s) fun b => ?_).trans (lower_apply w g t s))
  · rewrite [Shape.rowMajor_val_three, Shape.rowMajor_val_two]
    show (t.val * 4 + g.val) * 128 + s.val = t.val * 512 + (finProdFinEquiv (g, s) : Fin (4 * 128)).val
    omega
  · match b with
    | ⟨0, _⟩ => rfl
    | ⟨1, _⟩ => rfl
    | ⟨2, _⟩ => rfl

theorem offsets_apply (o : FVec Ideal S4x128 .f32) (t : Fin 128) (d : Fin 256) : offsets o (ix2 t d) = o (ix2 (group d) t) := by
  unfold offsets
  refine (shapeCast_apply _ _ _ (ix3 t (group d) (⟨d.val % 64, by omega⟩ : Fin 64)) ?_).trans
    ((broadcastInDim_apply _ _ _ _ (ix2 t (group d)) fun a => ?_).trans (transpose_apply [1, 0] _ _ _ (ix2 (group d) t) fun b => ?_))
  · rewrite [Shape.rowMajor_val_three, Shape.rowMajor_val_two]
    show (t.val * 4 + d.val / 64) * 64 + d.val % 64 = t.val * 256 + d.val
    omega
  · match a with
    | ⟨0, _⟩ => rfl
    | ⟨1, _⟩ => rfl
  · match b with
    | ⟨0, _⟩ => rfl
    | ⟨1, _⟩ => rfl

/-- The launch's mixing weights are made from the argument: the conversion to bfloat16 is the identity on extended reals. -/
theorem weights_eq (c : Dev nD) : (V m c main_v11 : S128x512.Idx → EReal) = wide (m ((c : Thread nD τ).loc main_arg3)) := by
  unfold_abbrev_sides
  simp only [hostOps0, hostOps0_1, hostOps0_2, hostOps0_3, hostOps0_4, List.flatten_cons, List.flatten_nil, List.append_nil, List.cons_append,
    List.nil_append]
  after_results
  rfl

/-- The launch's mixing offsets are made from the argument. -/
theorem offsets_eq (c : Dev nD) : (V m c main_v8 : S128x256.Idx → EReal) = offsets (m ((c : Thread nD τ).loc main_arg4)) := by
  unfold_abbrev_sides
  simp only [hostOps0, hostOps0_1, hostOps0_2, hostOps0_3, hostOps0_4, List.flatten_cons, List.flatten_nil, List.append_nil, List.cons_append,
    List.nil_append]
  after_results
  rfl

/-- The launch's gains and offsets of the normalisation are the arguments as rows. -/
theorem gainsRow_eq (c : Dev nD) : (V m c main_v9 : S1x256.Idx → EReal)
    = shapeCast S1x256 (m ((c : Thread nD τ).loc main_arg1) : S256.Idx → EReal) Cert.SguIdeal.Gen.shapeCasts_S256_S1x256 := by
  unfold_abbrev_sides
  simp only [hostOps0, hostOps0_1, hostOps0_2, hostOps0_3, hostOps0_4, List.flatten_cons, List.flatten_nil, List.append_nil, List.cons_append,
    List.nil_append]
  after_results
  rfl

theorem shiftsRow_eq (c : Dev nD) : (V m c main_v10 : S1x256.Idx → EReal)
    = shapeCast S1x256 (m ((c : Thread nD τ).loc main_arg2) : S256.Idx → EReal) Cert.SguIdeal.Gen.shapeCasts_S256_S1x256 := by
  unfold_abbrev_sides
  simp only [hostOps0, hostOps0_1, hostOps0_2, hostOps0_3, hostOps0_4, List.flatten_cons, List.flatten_nil, List.append_nil, List.cons_append,
    List.nil_append]
  after_results
  rfl

/-- The index the rows' window and the result's take at a point. -/
theorem index_rows : ∀ t : Fin cfg0.N, (cfg0.win 0).index t = ![t.val, 0] :=
  (by decide +kernel : ∀ t : Fin grid0.N, win0_0.index t = ![t.val, 0])

theorem index_out : ∀ t : Fin cfg0.N, (cfg0.win 5).index t = ![t.val, 0] :=
  (by decide +kernel : ∀ t : Fin grid0.N, win0_5.index t = ![t.val, 0])

/-- The rows' block at a point: 512 rows from the point's own place, and of each the first 512 columns. -/
theorem rows_apply (c : Dev nD) (t : Fin cfg0.N) (r : Fin 512) (q : Fin 32768) (hq : q.val = t.val * 512 + r.val) (j : Fin 512) :
    (iblk m c 0 t : S512x512.Idx → EReal) (ix2 r j)
      = (m ((c : Thread nD τ).loc main_arg0) : S32768x3072.Idx → EReal) (ix2 q ⟨j.val, by omega⟩) := by
  refine Eq.trans ?_ (congrFun (V_main_arg0 m c) (ix2 q ⟨j.val, by omega⟩))
  refine congrArg (V m c main_arg0 : S32768x3072.Idx → EReal) (funext fun a => Fin.ext ?_)
  refine ((cfg0.win 0).rect_emb_val t (ix2 r j) a rfl).trans ?_
  rw [index_rows]
  match a with
  | ⟨0, _⟩ => exact hq.symm
  | ⟨1, _⟩ => exact (Nat.zero_mul _).symm ▸ Nat.zero_add j.val

/-- The blocks of the other operands are the whole arrays at every point. -/
theorem gains_apply (c : Dev nD) (t : Fin cfg0.N) (j : Fin 256) :
    (iblk m c 1 t : S1x256.Idx → EReal) (ix2 0 j) = (m ((c : Thread nD τ).loc main_arg1) : S256.Idx → EReal) (ix1 j) := by
  refine Eq.trans ?_ ((congrFun (gainsRow_eq m c) (ix2 0 j)).trans (shapeCast_a_1a_apply _ _ 0 j))
  refine congrArg (V m c main_v9 : S1x256.Idx → EReal) (funext fun a => Fin.ext ?_)
  refine ((cfg0.win 1).rect_emb_val t (ix2 0 j) a rfl).trans ?_
  match a with
  | ⟨0, _⟩ => rfl
  | ⟨1, _⟩ => exact (Nat.zero_mul _).symm ▸ Nat.zero_add j.val

theorem shifts_apply (c : Dev nD) (t : Fin cfg0.N) (j : Fin 256) :
    (iblk m c 2 t : S1x256.Idx → EReal) (ix2 0 j) = (m ((c : Thread nD τ).loc main_arg2) : S256.Idx → EReal) (ix1 j) := by
  refine Eq.trans ?_ ((congrFun (shiftsRow_eq m c) (ix2 0 j)).trans (shapeCast_a_1a_apply _ _ 0 j))
  refine congrArg (V m c main_v10 : S1x256.Idx → EReal) (funext fun a => Fin.ext ?_)
  refine ((cfg0.win 2).rect_emb_val t (ix2 0 j) a rfl).trans ?_
  match a with
  | ⟨0, _⟩ => rfl
  | ⟨1, _⟩ => exact (Nat.zero_mul _).symm ▸ Nat.zero_add j.val

theorem weights_block (c : Dev nD) (t : Fin cfg0.N) (r : Fin 128) (j : Fin 512) :
    (iblk m c 3 t : S128x512.Idx → EReal) (ix2 r j) = wide (m ((c : Thread nD τ).loc main_arg3)) (ix2 r j) := by
  refine Eq.trans ?_ (congrFun (weights_eq m c) (ix2 r j))
  refine congrArg (V m c main_v11 : S128x512.Idx → EReal) (funext fun a => Fin.ext ?_)
  refine ((cfg0.win 3).rect_emb_val t (ix2 r j) a rfl).trans ?_
  match a with
  | ⟨0, _⟩ => exact (Nat.zero_mul _).symm ▸ Nat.zero_add r.val
  | ⟨1, _⟩ => exact (Nat.zero_mul _).symm ▸ Nat.zero_add j.val

theorem weights_apply (c : Dev nD) (t : Fin cfg0.N) (r : Fin 128) (g : Fin 4) (s : Fin 128) :
    (iblk m c 3 t : S128x512.Idx → EReal) (ix2 r (finProdFinEquiv (g, s))) = causal (m ((c : Thread nD τ).loc main_arg3)) g r s :=
  (weights_block m c t r _).trans (wide_apply _ g r s)

theorem offsets_block (c : Dev nD) (t : Fin cfg0.N) (r : Fin 128) (d : Fin 256) :
    (iblk m c 4 t : S128x256.Idx → EReal) (ix2 r d) = (m ((c : Thread nD τ).loc main_arg4) : S4x128.Idx → EReal) (ix2 (group d) r) := by
  refine Eq.trans ?_ ((congrFun (offsets_eq m c) (ix2 r d)).trans (offsets_apply _ r d))
  refine congrArg (V m c main_v8 : S128x256.Idx → EReal) (funext fun a => Fin.ext ?_)
  refine ((cfg0.win 4).rect_emb_val t (ix2 r d) a rfl).trans ?_
  match a with
  | ⟨0, _⟩ => exact (Nat.zero_mul _).symm ▸ Nat.zero_add r.val
  | ⟨1, _⟩ => exact (Nat.zero_mul _).symm ▸ Nat.zero_add d.val

/-- Where the result's block at a point lies. -/
theorem out_emb (t : Fin cfg0.N) (r : Fin 512) (d : Fin 256) (q : Fin 32768) (hq : q.val = t.val * 512 + r.val) :
    ((cfg0.win 5).blk t).view.emb (ix2 r d) = (ix2 q d : S32768x256.Idx) := by
  refine funext fun a => Fin.ext ?_
  refine ((cfg0.win 5).rect_emb_val t (ix2 r d) a rfl).trans ?_
  rw [index_out]
  match a with
  | ⟨0, _⟩ => exact hq.symm
  | ⟨1, _⟩ => exact (Nat.zero_mul _).symm ▸ Nat.zero_add d.val

/-- The result the launch leaves on core `c`, from its own arguments. -/
abbrev result (c : Dev nD) : S32768x256.Idx → EReal := fun i =>
  whole (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- Point `t` leaves its block of the result. -/
theorem point_apply (c : Dev nD) (t : Fin cfg0.N) (r : Fin 512) (d : Fin 256) (q : Fin 32768) (hq : q.val = t.val * 512 + r.val) :
    out0_5 (iblk m c 0 t) (iblk m c 1 t) (iblk m c 2 t) (iblk m c 3 t) (iblk m c 4 t) (ix2 r d) = result m c (ix2 q d) := by
  have hr : (⟨r.val % 128, by omega⟩ : Fin 128) = ⟨q.val % 128, by omega⟩ := Fin.ext (show r.val % 128 = q.val % 128 by omega)
  have hc : ∀ (k : Fin 128) (j : Fin 512), (iblk m c 0 t : S512x512.Idx → EReal) (ix2 ⟨r.val / 128 * 128 + k.val, by omega⟩ j)
      = (m ((c : Thread nD τ).loc main_arg0) : S32768x3072.Idx → EReal) (ix2 ⟨q.val / 128 * 128 + k.val, by omega⟩ ⟨j.val, by omega⟩) := fun k j =>
    rows_apply m c t _ _ (show q.val / 128 * 128 + k.val = t.val * 512 + (r.val / 128 * 128 + k.val) by omega) j
  have hw : ∀ k : Fin 128, (iblk m c 3 t : S128x512.Idx → EReal) (ix2 ⟨r.val % 128, by omega⟩ (finProdFinEquiv (group d, k)))
      = causal (m ((c : Thread nD τ).loc main_arg3)) (group d) ⟨q.val % 128, by omega⟩ k := fun k =>
    (weights_apply m c t ⟨r.val % 128, by omega⟩ (group d) k).trans (congrArg (causal (m ((c : Thread nD τ).loc main_arg3)) (group d) · k) hr)
  have ho : (iblk m c 4 t : S128x256.Idx → EReal) (ix2 ⟨r.val % 128, by omega⟩ d)
      = (m ((c : Thread nD τ).loc main_arg4) : S4x128.Idx → EReal) (ix2 (group d) ⟨q.val % 128, by omega⟩) :=
    (offsets_block m c t ⟨r.val % 128, by omega⟩ d).trans
      (congrArg (fun z : Fin 128 => (m ((c : Thread nD τ).loc main_arg4) : S4x128.Idx → EReal) (ix2 (group d) z)) hr)
  refine (out_apply _ _ _ _ _ _).trans ?_
  show tileAt (iblk m c 0 t) (iblk m c 1 t) (iblk m c 2 t) (iblk m c 3 t) (iblk m c 4 t) r d = whole _ _ _ _ _ q d
  unfold tileAt whole
  exact gated_congr (rows_apply m c t r q hq) hc (gains_apply m c t) (shifts_apply m c t) hw ho

/-- A place of the result in row `512 t + r` lies in the block of point `t`. -/
theorem mem_block (i : S32768x256.Idx) (t : Fin cfg0.N) (r : Fin 512) (hq : (i 0).val = t.val * 512 + r.val) :
    i ∈ ((cfg0.win 5).blk t).view.set := by
  have h : ((cfg0.win 5).blk t).view.emb (ix2 r (i 1)) = i :=
    (out_emb t r (i 1) (i 0) hq).trans (ValueIdx.eq_ix2 i).symm
  exact h ▸ View.emb_mem_set ((cfg0.win 5).blk t).view (ix2 r (i 1))

/-- Every place of the result lies in some point's block. -/
theorem covered (i : S32768x256.Idx) :
    ∃ t : Fin cfg0.N, (cfg0.win 5).flush t = true ∧ i ∈ ((cfg0.win 5).blk t).view.set := by
  have hi : (i 0).val < 32768 := (i 0).isLt
  obtain ⟨t, ht⟩ : ∃ t : Fin cfg0.N, t.val = (i 0).val / 512 :=
    ⟨(⟨(i 0).val / 512, by omega⟩ : Fin 64), rfl⟩
  obtain ⟨r, hr⟩ : ∃ r : Fin 512, r.val = (i 0).val % 512 := ⟨⟨_, by omega⟩, rfl⟩
  exact ⟨t, flush0_5 t, mem_block i t r (by omega)⟩

/-- The result array after the whole grid. -/
theorem array_eq (c : Dev nD) : (dats m 0 c).arrAt 5 cfg0.N = result m c := by
  refine (dats m 0 c).arrAt_eq_of_cover 5 (result m c) (fun t _ => ?_) covered
  refine funext fun (y : S512x256.Idx) => ?_
  obtain ⟨r, d, rfl⟩ : ∃ r d, y = ix2 r d := ⟨_, _, ValueIdx.eq_ix2 y⟩
  have ht : t.val < 64 := t.isLt
  let q : Fin 32768 := ⟨t.val * 512 + r.val, by omega⟩
  show (dats m 0 c).after 5 t (ix2 r d) = result m c (((cfg0.win 5).blk t).view.emb (ix2 r d))
  rw [out_emb t r d q rfl, after0_5]
  exact point_apply m c t r d q rfl

end Cert.SguIdeal.Gating

end
-- ==== Proof.Sgu.Algebraic.lean ====
/-
  The spatial gating and its reference leave equal results over the extended reals from equal arguments; and the frames of
  both.
-/
module

public import proofs.«01_k».proof.Defs
public import proofs.«01_k».proof.Proof.Gen.Sgu.Frame
public import proofs.«01_k».proof.Proof.Gen.SguRefIdeal.Run
public import proofs.«01_k».proof.Proof.Gen.SguRefIdeal.Read
public import proofs.«01_k».proof.Proof.Sgu.Array

@[expose] public section

set_option maxRecDepth 16384

noncomputable section

namespace Cert.SguIdeal.Gating

open Cert.SguRefIdeal Cert.SguRefIdeal.Read Cert.Layer
open Idealize.ShloMosaic hiding ix1 ix2 ix3 ix4 ix5
open Idealize.ShloMosaic.ValueIdx Idealize.ShloMosaic.TcCoe Idealize.SL.Sem

section Reference

variable (x : FVec Ideal S32768x3072 .f32) (g b : FVec Ideal S256 .f32) (w : FVec Ideal S4x128x128 .f32) (o : FVec Ideal S4x128 .f32)

/-- The activation as the reference multiplies it. -/
theorem gelu_eq (z : EReal) : z * (Ideal.ofBits .f32 0x3F000000#32 * (Ideal.ofBits .f32 0x3F800000#32
    + Ideal.tanh (Ideal.ofBits .f32 0x3F4C422A#32 * (z + Ideal.ofBits .f32 0x3D372713#32 * (z * z * z))))) = gelu z := by
  unfold gelu
  exact (mul_left_comm _ _ _).trans (mul_assoc _ _ _).symm

/-- The reference's activations. -/
theorem ref_gelu (n : Fin 32768) (j : Fin 512) : val_main_v13 (F := Ideal) x (ix2 n j) = gelu (x (ix2 n ⟨j.val, by omega⟩)) := by
  have e : idx_main_v0 (ix2 n j) = ix2 n ⟨j.val, by omega⟩ := funext fun a => by
    match a with
    | ⟨0, _⟩ => rfl
    | ⟨1, _⟩ => rfl
  refine Eq.trans ?_ (gelu_eq (x (ix2 n ⟨j.val, by omega⟩)))
  rw [val_main_v13_apply, val_main_v12_apply, val_main_v11_apply, val_main_v10_apply, val_main_v9_apply, val_main_v8_apply, val_main_v7_apply,
    val_main_v6_apply, val_main_v5_apply, val_main_v4_apply, val_main_v3_apply, val_main_v2_apply, val_main_v1_apply, val_main_v0_apply, e]
  rfl

/-- The reference's second half of the activations. -/
theorem ref_gate (n : Fin 32768) (k : Fin 256) :
    val_main_v15 (F := Ideal) x (ix2 n k) = gateRow (fun j => x (ix2 n ⟨j.val, by omega⟩)) k := by
  rw [val_main_v15_apply]
  have e : idx_main_v15 (ix2 n k) = ix2 n ⟨256 + k.val, by omega⟩ := funext fun a => by
    match a with
    | ⟨0, _⟩ => rfl
    | ⟨1, _⟩ => rfl
  rw [e, ref_gelu]
  rfl

/-- The reference's row mean. -/
theorem ref_mean (n : Fin 32768) (k : Fin 1) :
    val_main_v19 (F := Ideal) x (ix2 n k) = mean (gateRow fun j => x (ix2 n ⟨j.val, by omega⟩)) := by
  rw [val_main_v19_apply, val_main_v17_apply, val_main_v16_apply, val_main_v18_apply]
  have e0 : val_main_cst_3 (F := Ideal) (Shape.Idx.first Cert.SguRefIdeal.Gen.h_S_) = 0 := Ideal.ofBits_zero_f32
  have e : ∀ j, idx_main_v16 (idx_main_v17 (ix2 n k)) j = ix2 n j := fun j => funext fun a => by
    match a with
    | ⟨0, _⟩ => rfl
    | ⟨1, _⟩ => rfl
  rw [e0, zero_add]
  simp only [e, ref_gate]
  rfl

/-- The reference's row variance. -/
theorem ref_var (n : Fin 32768) (k : Fin 1) :
    val_main_v26 (F := Ideal) x (ix2 n k) = mean (fun k => (gateRow (fun j => x (ix2 n ⟨j.val, by omega⟩)) k
      - mean (gateRow fun j => x (ix2 n ⟨j.val, by omega⟩))) * (gateRow (fun j => x (ix2 n ⟨j.val, by omega⟩)) k
      - mean (gateRow fun j => x (ix2 n ⟨j.val, by omega⟩)))) := by
  rw [val_main_v26_apply, val_main_v24_apply, val_main_v23_apply, val_main_v25_apply]
  have e0 : val_main_cst_5 (F := Ideal) (Shape.Idx.first Cert.SguRefIdeal.Gen.h_S_) = 0 := Ideal.ofBits_zero_f32
  have e : ∀ j, idx_main_v23 (idx_main_v24 (ix2 n k)) j = ix2 n j := fun j => funext fun a => by
    match a with
    | ⟨0, _⟩ => rfl
    | ⟨1, _⟩ => rfl
  have e' : ∀ j, idx_main_v20 (ix2 n j) = ix2 n 0 := fun j => funext fun a => by
    match a with
    | ⟨0, _⟩ => rfl
    | ⟨1, _⟩ => rfl
  rw [e0, zero_add]
  simp only [e, val_main_v22_apply, val_main_v21_apply, val_main_v20_apply, e', ref_gate, ref_mean]
  rfl

/-- The reference's normalised second half. -/
theorem ref_normed (n : Fin 32768) (d : Fin 256) :
    val_main_v39 (F := Ideal) x g b (ix2 n d)
      = normed (gateRow fun j => x (ix2 n ⟨j.val, by omega⟩)) (fun k => g (ix1 k)) (fun k => b (ix1 k)) d := by
  have e1 : idx_main_v27 (ix2 n d) = ix2 n 0 := funext fun a => by
    match a with
    | ⟨0, _⟩ => rfl
    | ⟨1, _⟩ => rfl
  have e2 : idx_main_v32 (ix2 n d) = ix2 n 0 := funext fun a => by
    match a with
    | ⟨0, _⟩ => rfl
    | ⟨1, _⟩ => rfl
  have e3 : idx_main_v34 (idx_main_v35 (ix2 n d)) = ix1 d := funext fun a => by
    match a with
    | ⟨0, _⟩ => rfl
  have e4 : idx_main_v37 (idx_main_v38 (ix2 n d)) = ix1 d := funext fun a => by
    match a with
    | ⟨0, _⟩ => rfl
  rw [val_main_v39_apply, val_main_v36_apply, val_main_v33_apply, val_main_v28_apply, val_main_v27_apply, val_main_v32_apply, val_main_v31_apply,
    val_main_v30_apply, val_main_v35_apply, val_main_v34_apply, val_main_v38_apply, val_main_v37_apply, e1, e2, e3, e4, ref_gate, ref_mean, ref_var]
  rfl

/-- The reference's masked mixing matrices. -/
theorem ref_causal (k : Fin 4) (t s : Fin 128) : val_main_v43 (F := Ideal) w (ix3 k t s) = causal w k t s := by
  refine Eq.trans ?_ (select_eq w k t s)
  rw [val_main_v43_apply, val_main_call1_v1_apply, val_main_v42_apply, val_main_call0_v4_apply, val_main_call0_v2_apply, val_main_call0_v0_apply,
    val_main_call0_v1_apply, val_main_call0_v3_apply, val_main_v41_apply, val_main_call0_v5_apply, val_main_call1_v2_apply]
  rfl

/-- The reference's mixed rows, at a token and a column. -/
theorem ref_mixed (n : Fin 32768) (d : Fin 256) :
    val_main_v51 (F := Ideal) x g b w o (ix2 n d)
      = (∑ k, causal w (group d) ⟨n.val % 128, by omega⟩ k
          * normed (gateRow fun j => x (ix2 ⟨n.val / 128 * 128 + k.val, by omega⟩ ⟨j.val, by omega⟩)) (fun k => g (ix1 k)) (fun k => b (ix1 k)) d)
        + o (ix2 (group d) ⟨n.val % 128, by omega⟩) := by
  have ec : idx_main_v51 (ix2 n d)
      = ix4 (⟨n.val / 128, by omega⟩ : Fin 256) (⟨n.val % 128, by omega⟩ : Fin 128) (group d) (⟨d.val % 64, by omega⟩ : Fin 64) := funext fun a => by
    match a with
    | ⟨0, _⟩ => exact Fin.ext (show (n.val * 256 + d.val) / 32768 = n.val / 128 by omega)
    | ⟨1, _⟩ => exact Fin.ext (show (n.val * 256 + d.val) / 256 % 128 = n.val % 128 by omega)
    | ⟨2, _⟩ => exact Fin.ext (show (n.val * 256 + d.val) / 64 % 4 = d.val / 64 by omega)
    | ⟨3, _⟩ => exact Fin.ext (show (n.val * 256 + d.val) % 64 = d.val % 64 by omega)
  rw [val_main_v51_apply, ec, val_main_v50_apply, val_main_v45_apply, val_main_v44_apply, val_main_v49_apply, val_main_v48_apply, val_main_v47_apply,
    val_main_v46_apply]
  refine congrArg₂ (fun u v : EReal => u + v) (Finset.sum_congr rfl fun k _ => ?_) (congrArg o (funext fun a => ?_))
  · refine (mul_comm _ _).trans (congrArg₂ (fun u v : EReal => u * v) ((congrArg (val_main_v43 (F := Ideal) w) (funext fun a => ?_)).trans
      (ref_causal w (group d) ⟨n.val % 128, by omega⟩ k)) ?_)
    · match a with
      | ⟨0, _⟩ => rfl
      | ⟨1, _⟩ => rfl
      | ⟨2, _⟩ => rfl
    · rw [val_main_v40_apply]
      refine (congrArg (val_main_v39 (F := Ideal) x g b) (funext fun a => ?_)).trans (ref_normed x g b ⟨n.val / 128 * 128 + k.val, by omega⟩ d)
      match a with
      | ⟨0, _⟩ => exact Fin.ext (show (((n.val / 128 * 128 + k.val) * 4 + d.val / 64) * 64 + d.val % 64) / 256 = n.val / 128 * 128 + k.val by omega)
      | ⟨1, _⟩ => exact Fin.ext (show (((n.val / 128 * 128 + k.val) * 4 + d.val / 64) * 64 + d.val % 64) % 256 = d.val by omega)
  · match a with
    | ⟨0, _⟩ => rfl
    | ⟨1, _⟩ => rfl

/-- The reference's result. -/
theorem ref_eq : val_main_v52 (F := Ideal) x g b w o = fun i => whole x g b w o (i 0) (i 1) := by
  refine funext fun (i : S32768x256.Idx) => ?_
  obtain ⟨n, d, rfl⟩ : ∃ n d, i = ix2 n d := ⟨_, _, ValueIdx.eq_ix2 i⟩
  have e : idx_main_v14 (ix2 n d) = ix2 n ⟨d.val, by omega⟩ := funext fun a => by
    match a with
    | ⟨0, _⟩ => rfl
    | ⟨1, _⟩ => rfl
  rw [val_main_v52_apply, val_main_v14_apply, e, ref_gelu, ref_mixed]
  rfl

end Reference

/-- The kernel ends with its arguments unchanged and its semaphores at zero, on words. -/
theorem quiescent_words : Cert.quiescent_Sgu := fun m ρ _ => Cert.Sgu.Gen.frame m ρ

/-- So does it over the extended reals. -/
theorem quiescent_ideal : Cert.quiescent_SguIdeal := fun m ρ _ => Cert.SguIdeal.Gen.frame m ρ

/-- The reference ends with its arguments unchanged; it has no semaphore. -/
theorem quiescent_reference : Cert.quiescent_SguRefIdeal := fun m ρ _ =>
  (θ_run Cert.SguRefIdeal.defs _ _).mono (fun r h => ⟨fun c => (h c).2, sem_eq_zero_of_no_sems (by decide) r.2⟩)
    (Cert.SguRefIdeal.Value.run (F := Ideal) m ρ)

/-- Both leave the gated tokens. -/
theorem algebraic : Cert.algebraic_SguIdeal_SguRefIdeal := fun m g m' g' _ hagree => by
  refine ⟨fun c => result m c, ?_, ?_⟩
  · exact (θ_run Cert.SguIdeal.defs _ _).mono (fun r h c => ⟨(h c).1.trans (array_eq m c), (h c).2⟩)
      (Cert.SguIdeal.Value.run_blocks m g)
  · refine (θ_run Cert.SguRefIdeal.defs _ _).mono (fun r h c => ⟨(h c).1.trans ?_, (h c).2⟩)
      (Cert.SguRefIdeal.Value.run (F := Ideal) m' g')
    obtain ⟨e0, e1, e2, e3, e4⟩ := hagree c
    refine (val_main_v52_eq m' c).trans ?_
    rw [e0, e1, e2, e3, e4]
    exact ref_eq _ _ _ _ _

end Cert.SguIdeal.Gating

end
-- ==== Proof.Layer.Finite.lean ====
/-
  Entries that are real numbers, over the extended reals: which operations keep them so, and that a normalised row is
  real whatever the row, as long as its gains are.
-/
module

public import proofs.«01_k».proof.Proof.Layer.Norm

@[expose] public section

noncomputable section

namespace Cert.Layer

open Idealize.ShloMosaic

/-- An extended real that is a real number. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sum {ι : Type} (s : Finset ι) (f : ι → EReal) (h : ∀ k, IsReal (f k)) : IsReal (∑ k ∈ s, f k) := by
  classical
  induction s using Finset.induction_on with
  | empty => exact ⟨0, by simp⟩
  | insert a s ha ih => rw [Finset.sum_insert ha]; exact (h a).add ih

/-- A sum of real numbers, read as extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem IsReal.ne_bot {x : EReal} : IsReal x → x ≠ ⊥
  | ⟨_, h⟩ => h ▸ EReal.coe_ne_bot _

theorem IsReal.ne_top {x : EReal} : IsReal x → x ≠ ⊤
  | ⟨_, h⟩ => h ▸ EReal.coe_ne_top _

/-- The difference of a real number and itself is zero. -/
theorem IsReal.sub_self {x : EReal} (h : IsReal x) : x - x = 0 := EReal.sub_self h.ne_top h.ne_bot

/-- An entry whose absolute value is below infinity is real. -/
theorem isReal_of_ne {x : EReal} (h : x ≠ ⊤) (h' : x ≠ ⊥) : IsReal x := ⟨x.toReal, (EReal.coe_toReal h h').symm⟩

/-- The word that is 1024. -/
theorem ofBits_1024 : Ideal.ofBits .f32 0x44800000#32 = ((1024 : ℝ) : EReal) := by
  simp [Ideal.ofBits, Ideal.ieee]
  rw [← EReal.coe_mul]
  exact congrArg Real.toEReal (by norm_num)

/-- The constant under the root is real and positive. -/
theorem ofBits_eps : ∃ e : ℝ, 0 < e ∧ Ideal.ofBits .f32 0x358637BD#32 = (e : EReal) := by
  refine ⟨8796093 / 8796093022208, by norm_num, ?_⟩
  simp [Ideal.ofBits, Ideal.ieee]
  rw [← EReal.coe_mul]
  exact congrArg Real.toEReal (by norm_num)

/-- A normalised row with real gains is real. If an entry is infinite, so is the mean square, and all entries become
    zero. -/
theorem isReal_normRow (x g : Fin 1024 → EReal) (hg : ∀ k, IsReal (g k)) (k : Fin 1024) : IsReal (normRow x g k) := by
  obtain ⟨e, he, hb⟩ := ofBits_eps
  unfold normRow invRms
  rw [ofBits_1024, hb, Ideal.div_coe (by norm_num)]
  by_cases hx : ∀ j, IsReal (x j)
  · refine ((hx k).mul ?_).mul (hg k)
    choose r hr using hx
    have hs : (∑ j, x j * x j) = ((∑ j, r j * r j : ℝ) : EReal) := by
      rw [coe_sum]
      exact Finset.sum_congr rfl fun j _ => by rw [hr, EReal.coe_mul]
    have hp : 0 < (∑ j, r j * r j) * (1 / 1024) + e :=
      add_pos_of_nonneg_of_pos (mul_nonneg (Finset.sum_nonneg fun j _ => mul_self_nonneg _) (by norm_num)) he
    rw [hs, ← EReal.coe_mul, ← EReal.coe_add, Ideal.rsqrt_coe, if_neg (not_lt.mpr hp.le), if_neg hp.ne']
    exact ⟨_, rfl⟩
  · obtain ⟨j, hj⟩ := not_forall.mp hx
    have hj' : x j * x j = ⊤ := by
      induction hxj : x j with
      | bot => rfl
      | top => rfl
      | coe r => exact absurd ⟨r, hxj⟩ hj
    have hnn : ∀ i, 0 ≤ x i * x i := fun i => by
      induction x i with
      | bot => exact le_top
      | top => exact le_top
      | coe r => rw [← EReal.coe_mul]; exact_mod_cast mul_self_nonneg r
    have hs : (∑ j, x j * x j) = ⊤ :=
      top_le_iff.mp (hj' ▸ Finset.single_le_sum (f := fun i => x i * x i) (fun i _ => hnn i) (Finset.mem_univ j))
    rw [hs, EReal.top_mul_coe_of_pos (by norm_num), EReal.top_add_coe, Ideal.rsqrt_top, mul_zero, zero_mul]
    exact ⟨0, rfl⟩

/-- A logit: a row times a column of a router, and its bias. -/
def logit (t w : Fin 1024 → EReal) (b : EReal) : EReal := (∑ k, t k * w k) + b

/-- A logit of real entries is real. -/
theorem isReal_logit {t w : Fin 1024 → EReal} {b : EReal} (ht : ∀ k, IsReal (t k)) (hw : ∀ k, IsReal (w k)) (hb : IsReal b) :
    IsReal (logit t w b) :=
  (IsReal.sum _ _ fun k => (ht k).mul (hw k)).add hb

/-- A logit with row and router each split in an upper part and a remainder. Over the extended reals the upper part is
    everything, and the remainders of real entries are zero. -/
theorem split_logit {t w : Fin 1024 → EReal} (b : EReal) (ht : ∀ k, IsReal (t k)) (hw : ∀ k, IsReal (w k)) :
    (∑ k, t k * w k) + (∑ k, (t k - t k) * w k) + (∑ k, t k * (w k - w k)) + b = logit t w b := by
  have h1 : (∑ k, (t k - t k) * w k) = 0 := Finset.sum_eq_zero fun k _ => by rw [(ht k).sub_self, zero_mul]
  have h2 : (∑ k, t k * (w k - w k)) = 0 := Finset.sum_eq_zero fun k _ => by rw [(hw k).sub_self, mul_zero]
  rw [h1, h2, add_zero, add_zero]
  rfl

end Cert.Layer

end
-- ==== Proof.Ret.Retain.lean ====
/-
  Retention on real numbers: the state a sequence of chunks of 128 tokens leaves, and that a token's output from its own
  chunk and from the state of the chunks before it is the weighted sum over every token up to its own.
-/
module

public import Mathlib.Analysis.SpecialFunctions.Exp
public import Mathlib.Algebra.BigOperators.Ring.Finset
public import Mathlib.Tactic.Ring
public import Mathlib.Tactic.Push

@[expose] public section

noncomputable section

namespace Cert.Retain

open Finset

/-- A sum over `w * m` places of which only block `h` counts is the sum over that block. -/
theorem sum_block {M : Type} [AddCommMonoid M] (w m h : ℕ) (hh : h < m) (f : ℕ → M) :
    (∑ x ∈ range (w * m), if x / w = h then f x else 0) = ∑ c ∈ range w, f (w * h + c) := by
  rcases Nat.eq_zero_or_pos w with rfl | hw
  · simp
  rw [← sum_filter]
  refine sum_nbij' (fun x => x - w * h) (fun c => w * h + c) ?_ ?_ ?_ ?_ ?_
  · intro x hx
    simp only [mem_filter, mem_range] at hx ⊢
    have := Nat.div_add_mod x w
    have := Nat.mod_lt x hw
    rw [hx.2] at *
    omega
  · intro c hc
    simp only [mem_filter, mem_range] at hc ⊢
    refine ⟨?_, ?_⟩
    · calc w * h + c < w * h + w := by omega
        _ = w * (h + 1) := by ring
        _ ≤ w * m := Nat.mul_le_mul_left _ hh
    · rw [Nat.mul_add_div hw, Nat.div_eq_of_lt hc, Nat.add_zero]
  · intro x hx
    simp only [mem_filter, mem_range] at hx
    have := Nat.div_add_mod x w
    rw [hx.2] at this
    show w * h + (x - w * h) = x
    omega
  · intro c _
    show w * h + c - w * h = c
    omega
  · intro x hx
    simp only [mem_filter, mem_range] at hx
    have := Nat.div_add_mod x w
    rw [hx.2] at this
    congr 1
    omega

variable (q k v : ℕ → ℕ → ℝ) (L : ℕ → ℝ)

/-- The weight of a token `n` places back, in head `h`. -/
def fade (h n : ℕ) : ℝ := Real.exp (L h * n)

theorem fade_add (h a b : ℕ) : fade L h a * fade L h b = fade L h (a + b) := by
  unfold fade
  rw [← Real.exp_add]
  congr 1
  push_cast
  ring

/-- The weight of token `t` for token `n`: none for a later one. -/
def weight (h n t : ℕ) : ℝ := if t ≤ n then fade L h (n - t) else 0

/-- The state after `N` chunks. -/
def state (N i j : ℕ) : ℝ :=
  if i / 64 = j / 64 then ∑ t ∈ range (128 * N), fade L (i / 64) (128 * N - 1 - t) * k t i * v t j else 0

theorem state_zero (i j : ℕ) : state k v L 0 i j = 0 := by
  unfold state
  simp

/-- One more chunk: the state fades by a whole chunk and takes the chunk's own products. -/
theorem state_succ (N i j : ℕ) : state k v L (N + 1) i j
    = state k v L N i j * (if i / 64 = j / 64 then fade L (i / 64) 128 else 0)
      + if i / 64 = j / 64 then ∑ r ∈ range 128, k (128 * N + r) i * fade L (i / 64) (127 - r) * v (128 * N + r) j else 0 := by
  unfold state
  split
  · rw [show 128 * (N + 1) = 128 * N + 128 by ring, sum_range_add, sum_mul]
    refine congrArg₂ (fun a b : ℝ => a + b) (sum_congr rfl fun t ht => ?_) (sum_congr rfl fun r hr => ?_)
    · rw [mem_range] at ht
      rw [show 128 * N + 128 - 1 - t = (128 * N - 1 - t) + 128 by omega, ← fade_add]
      ring
    · rw [mem_range] at hr
      rw [show 128 * N + 128 - 1 - (128 * N + r) = 127 - r by omega]
      ring
  · simp

/-- The score of token `t` for token `n` in head `h`. -/
def score (h n t : ℕ) : ℝ := ∑ d ∈ range 64, q n (64 * h + d) * k t (64 * h + d)

/-- What a token reads of its own chunk. -/
def within (N r l : ℕ) : ℝ :=
  ∑ x ∈ range 512, (∑ i ∈ range 256, (if i / 64 = x / 128 then q (128 * N + r) i else 0) * k (128 * N + x % 128) i)
    * weight L (x / 128) r (x % 128) * (if l / 64 = x / 128 then v (128 * N + x % 128) l else 0)

/-- What a token reads of the state. -/
def before (N r l : ℕ) : ℝ := ∑ i ∈ range 256, q (128 * N + r) i * fade L (i / 64) (r + 1) * state k v L N i l

theorem within_eq (N r l : ℕ) (hl : l < 256) : within q k v L N r l
    = ∑ c ∈ range 128, v (128 * N + c) l * (score q k (l / 64) (128 * N + r) (128 * N + c) * weight L (l / 64) r c) := by
  unfold within
  refine Eq.trans (sum_congr rfl fun x _ => ?_)
    ((sum_block 128 4 (l / 64) (by omega) fun x => v (128 * N + x % 128) l
      * (score q k (l / 64) (128 * N + r) (128 * N + x % 128) * weight L (l / 64) r (x % 128))).trans (sum_congr rfl fun c hc => ?_))
  · by_cases hx : x / 128 = l / 64
    · rw [if_pos hx, if_pos hx.symm, hx]
      have hs : (∑ i ∈ range 256, (if i / 64 = l / 64 then q (128 * N + r) i else 0) * k (128 * N + x % 128) i)
          = score q k (l / 64) (128 * N + r) (128 * N + x % 128) := by
        refine Eq.trans (sum_congr rfl fun i _ => ?_)
          (sum_block 64 4 (l / 64) (by omega) fun i => q (128 * N + r) i * k (128 * N + x % 128) i)
        split
        · rfl
        · rw [zero_mul]
      rw [hs]
      ring
    · rw [if_neg hx, if_neg (fun h => hx h.symm), mul_zero]
  · rw [mem_range] at hc
    have : (128 * (l / 64) + c) % 128 = c := by omega
    rw [this]

theorem before_eq (N r l : ℕ) (hl : l < 256) : before q k v L N r l
    = ∑ t ∈ range (128 * N), v t l * (score q k (l / 64) (128 * N + r) t * fade L (l / 64) (128 * N + r - t)) := by
  unfold before
  refine Eq.trans (sum_congr rfl fun i _ => ?_)
    ((sum_block 64 4 (l / 64) (by omega) fun i => ∑ t ∈ range (128 * N),
      v t l * (q (128 * N + r) i * k t i * fade L (l / 64) (128 * N + r - t))).trans ?_)
  · unfold state
    by_cases hi : i / 64 = l / 64
    · rw [if_pos hi, if_pos hi, hi, mul_sum]
      refine sum_congr rfl fun t ht => ?_
      rw [mem_range] at ht
      rw [show 128 * N + r - t = (r + 1) + (128 * N - 1 - t) by omega, ← fade_add L (l / 64) (r + 1)]
      ring
    · rw [if_neg hi, if_neg hi, mul_zero]
  · rw [sum_comm]
    refine sum_congr rfl fun t _ => ?_
    unfold score
    rw [sum_mul, mul_sum]

/-- A token's output: what it reads of its own chunk and of the state is the weighted sum over all tokens. -/
theorem output_eq (N r l : ℕ) (hN : N < 32) (hr : r < 128) (hl : l < 256) : within q k v L N r l + before q k v L N r l
    = ∑ t ∈ range 4096, v t l * (score q k (l / 64) (128 * N + r) t * weight L (l / 64) (128 * N + r) t) := by
  rw [within_eq q k v L N r l hl, before_eq q k v L N r l hl, show 4096 = 128 * N + 128 + (4096 - 128 * N - 128) by omega, sum_range_add,
    sum_range_add, add_comm]
  have hz : (∑ x ∈ range (4096 - 128 * N - 128), v (128 * N + 128 + x) l * (score q k (l / 64) (128 * N + r) (128 * N + 128 + x)
      * weight L (l / 64) (128 * N + r) (128 * N + 128 + x))) = 0 := by
    refine sum_eq_zero fun x _ => ?_
    unfold weight
    rw [if_neg (by omega), mul_zero, mul_zero]
  rw [hz, add_zero]
  refine congrArg₂ (fun a b : ℝ => a + b) (sum_congr rfl fun t ht => ?_) (sum_congr rfl fun c _ => ?_)
  · rw [mem_range] at ht
    unfold weight
    rw [if_pos (by omega)]
  · unfold weight
    congr 2
    by_cases hc : c ≤ r
    · rw [if_pos hc, if_pos (by omega), show 128 * N + r - (128 * N + c) = r - c by omega]
    · rw [if_neg hc, if_neg (by omega)]

end Cert.Retain

end
-- ==== Proof.Ret.Tables.lean ====
/-
  The retention kernel's eight tables at an index, over the extended reals: the cosine and sine of a token's angles, laid
  out for the rotation of four heads side by side, and the fading weights of the heads.
-/
module

public import proofs.«01_k».proof.Proof.Gen.RetIdeal.Value
public import proofs.«01_k».proof.Proof.Layer.Finite
public import proofs.«01_k».proof.Proof.Ret.Retain
public import Idealize.ShloMosaic.Lib.KernelVsHost

@[expose] public section

set_option maxRecDepth 16384

noncomputable section

namespace Cert.RetIdeal.Heads

open Cert.RetIdeal Cert.RetIdeal.Gen Cert.Layer
open Idealize.ShloMosaic hiding ix1 ix2 ix3 ix4 ix5
open Idealize.ShloMosaic.ValueIdx Idealize.ShloMosaic.TcCoe
open Idealize.ShloMosaic.StableHlo

/-- The angle of place `d` of a head's first half at token `n`. -/
def angle (n d : ℕ) : EReal :=
  FloatOps.sitofp (F := Ideal) .f32 (BitVec.ofNat 32 n) * Ideal.pow (Ideal.ofBits .f32 0x461C4000#32)
    (Ideal.div (-(FloatOps.sitofp (F := Ideal) .f32 (BitVec.ofNat 32 d) : EReal)) (Ideal.ofBits .f32 0x42000000#32))

/-- The logarithm of head `h`'s rate. -/
def rate (h : ℕ) : EReal :=
  Ideal.log (Ideal.ofBits .f32 0x3F800000#32 - Ideal.pow (Ideal.ofBits .f32 0x40000000#32)
    (Ideal.ofBits .f32 0xC0A00000#32 - (FloatOps.sitofp (F := Ideal) .f32 (BitVec.ofNat 32 h) : EReal)))

/-- Two halves of a head, side by side, repeated for four heads. -/
def heads (a b : FVec Ideal S4096x32 .f32) : FVec Ideal S4096x256 .f32 :=
  shapeCast S4096x256 (broadcastInDim S1x4096x4x64 ![0, 1, 2, 3] bcast_S1x4096x1x64_S1x4096x4x64_0_1_2_3
    (shapeCast S1x4096x1x64 (concatenate S4096x64 1 [⟨S4096x32, a⟩, ⟨S4096x32, b⟩] concatenates_S4096x32_S4096x32_S4096x64_d1)
      shapeCasts_S4096x64_S1x4096x1x64)) shapeCasts_S1x4096x4x64_S4096x256

/-- The two halves side by side at a token and a place. -/
theorem halves_apply (a b : FVec Ideal S4096x32 .f32) (n : Fin 4096) (d : Fin 64) :
    concatenate S4096x64 1 [⟨S4096x32, a⟩, ⟨S4096x32, b⟩] concatenates_S4096x32_S4096x32_S4096x64_d1 (ix2 n d)
      = if d.val < 32 then a (ix2 n ⟨d.val % 32, by omega⟩) else b (ix2 n ⟨d.val % 32, by omega⟩) := by
  by_cases h : d.val < 32
  · rw [if_pos h]
    refine concatenate_pair_apply_left (t := S4096x64) (s₁ := S4096x32) (s₂ := S4096x32) 1 a b _ (ix2 n d) rfl _ fun x => ?_
    match x with
    | ⟨0, _⟩ => rfl
    | ⟨1, _⟩ => exact Nat.mod_eq_of_lt h
  · rw [if_neg h]
    refine concatenate_pair_apply_right (t := S4096x64) (s₁ := S4096x32) (s₂ := S4096x32) 1 a b _ (ix2 n d) rfl rfl _ (fun x hx => ?_) ?_
    · match x with
      | ⟨0, _⟩ => rfl
      | ⟨1, _⟩ => exact absurd rfl hx
    · show d.val % 32 + 32 = d.val
      omega

theorem heads_apply (a b : FVec Ideal S4096x32 .f32) (n : Fin 4096) (l : Fin 256) :
    heads a b (ix2 n l) = if l.val % 64 < 32 then a (ix2 n ⟨l.val % 32, by omega⟩) else b (ix2 n ⟨l.val % 32, by omega⟩) := by
  have e : (⟨l.val % 64 % 32, by omega⟩ : Fin 32) = ⟨l.val % 32, by omega⟩ := Fin.ext (show l.val % 64 % 32 = l.val % 32 by omega)
  unfold heads
  refine (shapeCast_apply _ _ _ (ix4 0 n (⟨l.val / 64, by omega⟩ : Fin 4) (⟨l.val % 64, by omega⟩ : Fin 64)) ?_).trans
    ((broadcastInDim_apply _ _ _ _ (ix4 0 n 0 (⟨l.val % 64, by omega⟩ : Fin 64)) fun x => ?_).trans
      ((shapeCast_apply _ _ _ (ix2 n (⟨l.val % 64, by omega⟩ : Fin 64)) ?_).trans ((halves_apply a b n _).trans ?_)))
  · rewrite [Shape.rowMajor_val_four, Shape.rowMajor_val_two]
    show ((0 * 4096 + n.val) * 4 + l.val / 64) * 64 + l.val % 64 = n.val * 256 + l.val
    omega
  · match x with
    | ⟨0, _⟩ => rfl
    | ⟨1, _⟩ => rfl
    | ⟨2, _⟩ => rfl
    | ⟨3, _⟩ => rfl
  · rewrite [Shape.rowMajor_val_four, Shape.rowMajor_val_two]
    show n.val * 64 + l.val % 64 = ((0 * 4096 + n.val) * 1 + 0) * 64 + l.val % 64
    omega
  · show (if l.val % 64 < 32 then _ else _) = _
    rw [e]

/-- The angles of every token. -/
def angles : FVec Ideal S4096x32 .f32 :=
  mulf (broadcastInDim S4096x32 ![0, 1] bcast_S4096x1_S4096x32_0_1 (broadcastInDim S4096x1 ![0] bcast_S4096_S4096x1_0
      (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

theorem angles_apply (n : Fin 4096) (d : Fin 32) : angles (ix2 n d) = angle n.val d.val := by
  unfold angles
  refine congrArg₂ (fun a b : EReal => a * b) ((broadcastInDim_apply _ _ _ _ (ix2 n 0) fun x => ?_).trans
      (broadcastInDim_apply _ _ _ _ (ix1 n) fun x => ?_))
    ((broadcastInDim_apply _ _ _ _ (ix2 0 d) fun x => ?_).trans (broadcastInDim_apply _ _ _ _ (ix1 d) fun x => ?_))
  · match x with
    | ⟨0, _⟩ => rfl
    | ⟨1, _⟩ => rfl
  · match x with
    | ⟨0, _⟩ => rfl
  · match x with
    | ⟨0, _⟩ => rfl
    | ⟨1, _⟩ => rfl
  · match x with
    | ⟨0, _⟩ => rfl

/-- The logarithms of the four rates. -/
def rates : FVec Ideal S4 .f32 :=
  Host.log (subf (broadcastInDim S4 ![] bcast_S_S4 (constant S_ .f32 0x3F800000#32))
    (Host.powf (broadcastInDim S4 ![] bcast_S_S4 (constant S_ .f32 0x40000000#32))
      (subf (broadcastInDim S4 ![] bcast_S_S4 (constant S_ .f32 0xC0A00000#32)) (sitofp .f32 (iotaInDim S4 32 0)))))

theorem rates_apply (h : Fin 4) : rates (ix1 h) = rate h.val := rfl

/-- The head of every lane. -/
def lanes : IVec S256 32 := shapeCast S256 (broadcastInDim S4x64 ![0] bcast_S4_S4x64_0 (iotaInDim S4 32 0)) shapeCasts_S4x64_S256

theorem lanes_apply (l : Fin 256) : lanes (ix1 l) = BitVec.ofNat 32 (l.val / 64) := by
  unfold lanes
  refine (shapeCast_apply _ _ _ (ix2 (⟨l.val / 64, by omega⟩ : Fin 4) (⟨l.val % 64, by omega⟩ : Fin 64)) ?_).trans
    (broadcastInDim_apply _ _ _ _ (ix1 (⟨l.val / 64, by omega⟩ : Fin 4)) fun x => ?_)
  · rewrite [Shape.rowMajor_val_two, Shape.rowMajor_val_one]
    show l.val / 64 * 64 + l.val % 64 = l.val
    omega
  · match x with
    | ⟨0, _⟩ => rfl

/-- The lanes' heads as a column of places to read, a negative one counted from the end. -/
def places : IVec S256x1 32 :=
  broadcastInDim S256x1 ![0] bcast_S256_S256x1_0 (select (cmpi .slt lanes (broadcastInDim S256 ![] bcast_S_S256 (constantI S_ 32 0#32)))
    (addi lanes (broadcastInDim S256 ![] bcast_S_S256 (constantI S_ 32 4#32))) lanes)

/-- A small number is not negative. -/
theorem place_eq : ∀ h : Fin 4, Scalar.select (IntOp.cmpi .slt (BitVec.ofNat 32 h.val) 0#32) (IntOp.addi (BitVec.ofNat 32 h.val) 4#32)
    (BitVec.ofNat 32 h.val) = BitVec.ofNat 32 h.val := by decide

theorem places_apply (l : Fin 256) : places (ix2 l 0) = BitVec.ofNat 32 (l.val / 64) := by
  unfold places
  refine (broadcastInDim_apply _ _ _ _ (ix1 l) fun x => ?_).trans ?_
  · match x with
    | ⟨0, _⟩ => rfl
  · show Scalar.select (IntOp.cmpi .slt (lanes (ix1 l)) 0#32) (IntOp.addi (lanes (ix1 l)) 4#32) (lanes (ix1 l)) = _
    rw [lanes_apply]
    exact place_eq ⟨l.val / 64, by omega⟩

/-- A row of four numbers, read at the place of every lane. -/
theorem gather_apply (x : FVec Ideal S4 .f32) (l : Fin 256) :
    Host.gather gather_S4_S256x1_S256_n_0_n_n_0_1_1 x places (ix1 l) = x (ix1 ⟨l.val / 64, by omega⟩) := by
  let G := gather_S4_S256x1_S256_n_0_n_n_0_1_1
  have hm : (0 : Fin 1) ∈ G.startIndexMap := List.mem_singleton.mpr rfl
  have hs : G.siIdx (ix1 l) ⟨List.idxOf (0 : Fin 1) G.startIndexMap, List.idxOf_lt_length_iff.2 hm⟩ = ix2 l 0 := funext fun b => Fin.ext (by
    match b with
    | ⟨0, _⟩ => rfl
    | ⟨1, _⟩ => rfl)
  have hp : ∀ h : Fin 4, min (BitVec.ofNat 32 h.val).toInt.toNat 3 = h.val := by decide
  refine congrArg x (funext fun a => Fin.ext ?_)
  obtain rfl : a = 0 := Subsingleton.elim _ _
  show G.start (ix1 l) places 0 + G.batchCoord (ix1 l) 0 + G.offCoord (ix1 l) 0 = l.val / 64
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos hm, hs, places_apply]
  exact hp ⟨l.val / 64, by omega⟩

/-- The weights of a row of numbers of places back, in every lane. -/
def fades (k : IVec S128 32) : FVec Ideal S128x256 .f32 :=
  Host.exp (mulf (broadcastInDim S128x256 ![0, 1] bcast_S1x256_S128x256_0_1 (broadcastInDim S1x256 ![1] bcast_S256_S1x256_1
      (Host.gather gather_S4_S256x1_S256_n_0_n_n_0_1_1 rates places)))
    (broadcastInDim S128x256 ![0, 1] bcast_S128x1_S128x256_0_1 (sitofp .f32 (broadcastInDim S128x1 ![0] bcast_S128_S128x1_0 k))))

theorem fades_apply (k : IVec S128 32) (r : Fin 128) (l : Fin 256) :
    fades k (ix2 r l) = Ideal.exp (rate (l.val / 64) * (FloatOps.sitofp (F := Ideal) .f32 (k (ix1 r)) : EReal)) := by
  unfold fades
  refine congrArg₂ (fun a b : EReal => Ideal.exp (a * b)) (((broadcastInDim_apply _ _ _ _ (ix2 0 l) fun x => ?_).trans
      (broadcastInDim_apply _ _ _ _ (ix1 l) fun x => ?_)).trans ((gather_apply rates l).trans (rates_apply _)))
    ((broadcastInDim_apply _ _ _ _ (ix2 r 0) fun x => ?_).trans
      (congrArg (FloatOps.sitofp (F := Ideal) .f32) (broadcastInDim_apply _ _ _ _ (ix1 r) fun x => ?_)))
  · match x with
    | ⟨0, _⟩ => rfl
    | ⟨1, _⟩ => rfl
  · match x with
    | ⟨0, _⟩ => rfl
  · match x with
    | ⟨0, _⟩ => rfl
    | ⟨1, _⟩ => rfl
  · match x with
    | ⟨0, _⟩ => rfl

/-- Whether two lanes are of one head. -/
def same : IVec S256x256 1 :=
  cmpi .eq (broadcastInDim S256x256 ![0, 1] bcast_S256x1_S256x256_0_1 (broadcastInDim S256x1 ![0] bcast_S256_S256x1_0 lanes))
    (broadcastInDim S256x256 ![0, 1] bcast_S1x256_S256x256_0_1 (broadcastInDim S1x256 ![1] bcast_S256_S1x256_1 lanes))

theorem eq_place : ∀ a b : Fin 4, IntOp.cmpi .eq (BitVec.ofNat 32 a.val) (BitVec.ofNat 32 b.val) = if a.val = b.val then 1#1 else 0#1 := by decide

theorem same_apply (i j : Fin 256) : same (ix2 i j) = if i.val / 64 = j.val / 64 then 1#1 else 0#1 := by
  refine Eq.trans ?_ (eq_place ⟨i.val / 64, by omega⟩ ⟨j.val / 64, by omega⟩)
  rw [← lanes_apply, ← lanes_apply]
  unfold same
  refine congrArg₂ (IntOp.cmpi .eq) ((broadcastInDim_apply _ _ _ _ (ix2 i 0) fun x => ?_).trans
      (broadcastInDim_apply _ _ _ _ (ix1 i) fun x => ?_))
    ((broadcastInDim_apply _ _ _ _ (ix2 0 j) fun x => ?_).trans (broadcastInDim_apply _ _ _ _ (ix1 j) fun x => ?_))
  · match x with
    | ⟨0, _⟩ => rfl
    | ⟨1, _⟩ => rfl
  · match x with
    | ⟨0, _⟩ => rfl
  · match x with
    | ⟨0, _⟩ => rfl
    | ⟨1, _⟩ => rfl
  · match x with
    | ⟨0, _⟩ => rfl

/-- The weight of a whole chunk, between lanes of one head. -/
def chunkFade : FVec Ideal S256x256 .f32 :=
  select same (broadcastInDim S256x256 ![0, 1] bcast_S256x1_S256x256_0_1 (broadcastInDim S256x1 ![0] bcast_S256_S256x1_0
      (Host.gather gather_S4_S256x1_S256_n_0_n_n_0_1_1 (Host.exp (mulf rates (broadcastInDim S4 ![] bcast_S_S4 (constant S_ .f32 0x43000000#32)))) places)))
    (broadcastInDim S256x256 ![] bcast_S_S256x256 (constant S_ .f32 0x00000000#32))

theorem select_if {α : Type} (p : Prop) [Decidable p] (a b : α) : Scalar.select (if p then 1#1 else 0#1) a b = if p then a else b := by
  split <;> rfl

theorem chunkFade_apply (i j : Fin 256) :
    chunkFade (ix2 i j) = if i.val / 64 = j.val / 64 then Ideal.exp (rate (i.val / 64) * Ideal.ofBits .f32 0x43000000#32) else 0 := by
  refine Eq.trans ?_ (select_if _ _ _)
  rw [← same_apply, ← Ideal.ofBits_zero_f32]
  unfold chunkFade
  refine congrArg (Scalar.select (same (ix2 i j)) · (Ideal.ofBits .f32 0x00000000#32)) ?_
  refine (broadcastInDim_apply _ _ _ _ (ix2 i 0) fun x => ?_).trans ((broadcastInDim_apply _ _ _ _ (ix1 i) fun x => ?_).trans
    (gather_apply _ i))
  · match x with
    | ⟨0, _⟩ => rfl
    | ⟨1, _⟩ => rfl
  · match x with
    | ⟨0, _⟩ => rfl

/-- The share of a lane in its head's mean. -/
def share : FVec Ideal S256x256 .f32 :=
  select same (broadcastInDim S256x256 ![] bcast_S_S256x256 (constant S_ .f32 0x3C800000#32))
    (broadcastInDim S256x256 ![] bcast_S_S256x256 (constant S_ .f32 0x00000000#32))

theorem share_apply (i j : Fin 256) : share (ix2 i j) = if i.val / 64 = j.val / 64 then Ideal.ofBits .f32 0x3C800000#32 else 0 := by
  refine Eq.trans ?_ (select_if _ _ _)
  rw [← same_apply, ← Ideal.ofBits_zero_f32]
  rfl

/-- The places back of a chunk's tokens from one another. -/
def back : IVec S128x128 32 :=
  subi (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))

/-- The weights inside a chunk, head by head. -/
def inside : FVec Ideal S4x128x128 .f32 :=
  select (broadcastInDim S4x128x128 ![1, 2] bcast_S128x128_S4x128x128_1_2
      (cmpi .sge back (broadcastInDim S128x128 ![] bcast_S_S128x128 (constantI S_ 32 0#32))))
    (Host.exp (mulf (broadcastInDim S4x128x128 ![0, 1, 2] bcast_S4x1x1_S4x128x128_0_1_2 (broadcastInDim S4x1x1 ![0] bcast_S4_S4x1x1_0 rates))
      (broadcastInDim S4x128x128 ![0, 1, 2] bcast_S1x128x128_S4x128x128_0_1_2 (sitofp .f32 (broadcastInDim S1x128x128 ![1, 2] bcast_S128x128_S1x128x128_1_2
        (maxsi back (broadcastInDim S128x128 ![] bcast_S_S128x128 (constantI S_ 32 0#32))))))))
    (broadcastInDim S4x128x128 ![] bcast_S_S4x128x128 (constant S_ .f32 0x00000000#32))

/-- The same, the heads side by side. -/
def insideWide : FVec Ideal S128x512 .f32 :=
  shapeCast S128x512 (transpose S128x4x128 [1, 0, 2] inside transposes_S4x128x128_S128x4x128_1_0_2) shapeCasts_S128x4x128_S128x512

/-- The printed comparison of a token's place with another's. -/
def laterBit (r k : ℕ) : BitVec 1 := IntOp.cmpi .sge (IntOp.subi (BitVec.ofNat 32 r) (BitVec.ofNat 32 k)) 0#32

/-- The printed number of places back, none being below zero. -/
def gap (r k : ℕ) : BitVec 32 := IntOp.maxsi (IntOp.subi (BitVec.ofNat 32 r) (BitVec.ofNat 32 k)) 0#32

theorem inside_apply (h : Fin 4) (r k : Fin 128) : inside (ix3 h r k)
    = Scalar.select (laterBit r.val k.val) (Ideal.exp (rate h.val * (FloatOps.sitofp (F := Ideal) .f32 (gap r.val k.val) : EReal))) 0 := by
  have hb : back (ix2 r k) = IntOp.subi (BitVec.ofNat 32 r.val) (BitVec.ofNat 32 k.val) := by
    unfold back
    refine congrArg₂ IntOp.subi ((broadcastInDim_apply _ _ _ _ (ix2 r 0) fun x => ?_).trans (broadcastInDim_apply _ _ _ _ (ix1 r) fun x => ?_))
      ((broadcastInDim_apply _ _ _ _ (ix2 0 k) fun x => ?_).trans (broadcastInDim_apply _ _ _ _ (ix1 k) fun x => ?_))
    · match x with
      | ⟨0, _⟩ => rfl
      | ⟨1, _⟩ => rfl
    · match x with
      | ⟨0, _⟩ => rfl
    · match x with
      | ⟨0, _⟩ => rfl
      | ⟨1, _⟩ => rfl
    · match x with
      | ⟨0, _⟩ => rfl
  rw [← Ideal.ofBits_zero_f32]
  unfold laterBit gap
  rw [← hb]
  unfold inside
  refine congrArg₂ (fun (p : BitVec 1) (a : EReal) => Scalar.select p a (Ideal.ofBits .f32 0x00000000#32))
    (broadcastInDim_apply _ _ _ _ (ix2 r k) fun x => ?_)
    (congrArg₂ (fun a b : EReal => Ideal.exp (a * b)) ((broadcastInDim_apply _ _ _ _ (ix3 h 0 0) fun x => ?_).trans
        (broadcastInDim_apply _ _ _ _ (ix1 h) fun x => ?_))
      ((broadcastInDim_apply _ _ _ _ (ix3 0 r k) fun x => ?_).trans
        (congrArg (FloatOps.sitofp (F := Ideal) .f32) (broadcastInDim_apply _ _ _ _ (ix2 r k) fun x => ?_))))
  · match x with
    | ⟨0, _⟩ => rfl
    | ⟨1, _⟩ => rfl
  · match x with
    | ⟨0, _⟩ => rfl
    | ⟨1, _⟩ => rfl
    | ⟨2, _⟩ => rfl
  · match x with
    | ⟨0, _⟩ => rfl
  · match x with
    | ⟨0, _⟩ => rfl
    | ⟨1, _⟩ => rfl
    | ⟨2, _⟩ => rfl
  · match x with
    | ⟨0, _⟩ => rfl
    | ⟨1, _⟩ => rfl

theorem insideWide_apply (r : Fin 128) (x : Fin 512) : insideWide (ix2 r x) = inside (ix3 ⟨x.val / 128, by omega⟩ r ⟨x.val % 128, by omega⟩) := by
  unfold insideWide
  refine (shapeCast_apply _ _ _ (ix3 r (⟨x.val / 128, by omega⟩ : Fin 4) (⟨x.val % 128, by omega⟩ : Fin 128)) ?_).trans
    (transpose_apply [1, 0, 2] _ _ _ (ix3 (⟨x.val / 128, by omega⟩ : Fin 4) r (⟨x.val % 128, by omega⟩ : Fin 128)) fun b => ?_)
  · rewrite [Shape.rowMajor_val_three, Shape.rowMajor_val_two]
    show (r.val * 4 + x.val / 128) * 128 + x.val % 128 = r.val * 512 + x.val
    omega
  · match b with
    | ⟨0, _⟩ => rfl
    | ⟨1, _⟩ => rfl
    | ⟨2, _⟩ => rfl

end Cert.RetIdeal.Heads

end
-- ==== Proof.Ret.Numbers.lean ====
/-
  The entries of the tables are real numbers, and the printed integers are the counts they stand for.
-/
module

public import proofs.«01_k».proof.Proof.Ret.Tables

@[expose] public section

set_option maxRecDepth 16384

noncomputable section

namespace Cert.RetIdeal.Heads

open Cert.Layer
open Idealize.ShloMosaic hiding ix1 ix2 ix3 ix4 ix5

/-- A small number's word, read with its sign, is the number. -/
theorem toInt_ofNat (n : ℕ) (h : n < 4096) : (BitVec.ofNat 32 n).toInt = (n : ℤ) := by
  have e : (BitVec.ofNat 32 n).toNat = n := by rw [BitVec.toNat_ofNat]; omega
  rw [BitVec.toInt_eq_toNat_of_lt (by rw [e]; omega), e]

/-- A small number as a float is the number. -/
theorem ofNat_eq (n : ℕ) (h : n < 4096) : (FloatOps.sitofp (F := Ideal) .f32 (BitVec.ofNat 32 n) : EReal) = ((n : ℝ) : EReal) := by
  show (((BitVec.ofNat 32 n).toInt : ℝ) : EReal) = _
  rw [toInt_ofNat n h, Int.cast_natCast]

/-- The difference of two small numbers' words. -/
theorem toInt_sub (r k : ℕ) (hr : r < 4096) (hk : k < 4096) :
    (IntOp.subi (BitVec.ofNat 32 r) (BitVec.ofNat 32 k)).toInt = (r : ℤ) - k := by
  show (BitVec.ofNat 32 r - BitVec.ofNat 32 k).toInt = _
  rw [BitVec.toInt_sub, toInt_ofNat r hr, toInt_ofNat k hk, Int.bmod_eq_of_le] <;> omega

theorem laterBit_eq (r k : ℕ) (hr : r < 4096) (hk : k < 4096) : laterBit r k = if k ≤ r then 1#1 else 0#1 := by
  have h := toInt_sub r k hr hk
  show BitVec.ofBool (BitVec.sle 0#32 (IntOp.subi (BitVec.ofNat 32 r) (BitVec.ofNat 32 k))) = _
  rw [BitVec.sle, h]
  by_cases hc : k ≤ r
  · rw [if_pos hc, decide_eq_true (show (0#32 : BitVec 32).toInt ≤ (r : ℤ) - k by show (0 : ℤ) ≤ _; omega)]
    rfl
  · rw [if_neg hc, decide_eq_false (show ¬ (0#32 : BitVec 32).toInt ≤ (r : ℤ) - k by show ¬ (0 : ℤ) ≤ _; omega)]
    rfl

theorem gap_eq (r k : ℕ) (hr : r < 4096) (hk : k < 4096) (h : k ≤ r) :
    (FloatOps.sitofp (F := Ideal) .f32 (gap r k) : EReal) = (((r - k : ℕ) : ℝ) : EReal) := by
  have e := toInt_sub r k hr hk
  have g : (gap r k).toInt = ((r - k : ℕ) : ℤ) := by
    unfold gap IntOp.maxsi
    split
    · rw [e]; omega
    · rename_i hn
      rw [BitVec.slt, e] at hn
      have h0 : (0#32 : BitVec 32).toInt = 0 := rfl
      rw [h0] at hn
      have := of_decide_eq_true (p := _) (by simpa using hn)
      rw [h0]
      omega
  show (((gap r k).toInt : ℝ) : EReal) = _
  rw [g, Int.cast_natCast]

/-- The named powers. -/
theorem ofBits_one : Ideal.ofBits .f32 0x3F800000#32 = ((1 : ℝ) : EReal) := by
  simp [Ideal.ofBits, Ideal.ieee]
  rw [← EReal.coe_mul]
  exact (congrArg Real.toEReal (by norm_num)).trans EReal.coe_one

theorem ofBits_two : Ideal.ofBits .f32 0x40000000#32 = ((2 : ℝ) : EReal) := by
  simp [Ideal.ofBits, Ideal.ieee]
  rw [← EReal.coe_mul]
  exact congrArg Real.toEReal (by norm_num)

theorem ofBits_neg_five : Ideal.ofBits .f32 0xC0A00000#32 = ((-5 : ℝ) : EReal) := by
  simp [Ideal.ofBits, Ideal.ieee]
  rw [← EReal.coe_mul]
  exact congrArg Real.toEReal (by norm_num)

theorem ofBits_128 : Ideal.ofBits .f32 0x43000000#32 = ((128 : ℝ) : EReal) := by
  simp [Ideal.ofBits, Ideal.ieee]
  rw [← EReal.coe_mul]
  exact congrArg Real.toEReal (by norm_num)

theorem ofBits_32 : Ideal.ofBits .f32 0x42000000#32 = ((32 : ℝ) : EReal) := by
  simp [Ideal.ofBits, Ideal.ieee]
  rw [← EReal.coe_mul]
  exact congrArg Real.toEReal (by norm_num)

theorem ofBits_64 : Ideal.ofBits .f32 0x42800000#32 = ((64 : ℝ) : EReal) := by
  simp [Ideal.ofBits, Ideal.ieee]
  rw [← EReal.coe_mul]
  exact congrArg Real.toEReal (by norm_num)

theorem ofBits_64th : Ideal.ofBits .f32 0x3C800000#32 = ((1 / 64 : ℝ) : EReal) := by
  simp [Ideal.ofBits, Ideal.ieee]
  rw [← EReal.coe_mul]
  exact congrArg Real.toEReal (by norm_num)

theorem ofBits_8th : Ideal.ofBits .f32 0x3E000000#32 = ((1 / 8 : ℝ) : EReal) := by
  simp [Ideal.ofBits, Ideal.ieee]
  rw [← EReal.coe_mul]
  exact congrArg Real.toEReal (by norm_num)

theorem ofBits_10000 : Ideal.ofBits .f32 0x461C4000#32 = ((10000 : ℝ) : EReal) := by
  simp [Ideal.ofBits, Ideal.ieee]
  rw [← EReal.coe_mul]
  exact congrArg Real.toEReal (by norm_num)

theorem isReal_angle (n d : ℕ) (hn : n < 4096) (hd : d < 4096) : IsReal (angle n d) := by
  unfold angle
  rw [ofNat_eq n hn, ofNat_eq d hd, ofBits_10000, ofBits_32, ← EReal.coe_neg, Ideal.div_coe (by norm_num)]
  exact ⟨n * (10000 : ℝ) ^ (-(d : ℝ) * (1 / 32)), by rw [← EReal.coe_mul]; rfl⟩

/-- The cosine and the sine of an angle, and the logarithm of a rate, as real numbers. -/
def cosine (n d : ℕ) : ℝ := (Ideal.cos (angle n d)).toReal

def sine (n d : ℕ) : ℝ := (Ideal.sin (angle n d)).toReal

def logRate (h : ℕ) : ℝ := (rate h).toReal

theorem cosine_eq (n d : ℕ) (hn : n < 4096) (hd : d < 4096) : Ideal.cos (angle n d) = (cosine n d : EReal) := by
  unfold cosine
  obtain ⟨a, ha⟩ := isReal_angle n d hn hd
  rw [ha]
  rfl

theorem sine_eq (n d : ℕ) (hn : n < 4096) (hd : d < 4096) : Ideal.sin (angle n d) = (sine n d : EReal) := by
  unfold sine
  obtain ⟨a, ha⟩ := isReal_angle n d hn hd
  rw [ha]
  rfl

theorem rate_eq (h : ℕ) (hh : h < 4) : rate h = (logRate h : EReal) := by
  have hr : IsReal (rate h) := by
    unfold rate
    rw [ofNat_eq h (by omega), ofBits_one, ofBits_two, ofBits_neg_five, ← EReal.coe_sub]
    have hp : (2 : ℝ) ^ (-5 - (h : ℝ)) < 1 := Real.rpow_lt_one_of_one_lt_of_neg (by norm_num) (by
      have : (0 : ℝ) ≤ h := Nat.cast_nonneg h
      linarith)
    refine ⟨Real.log (1 - (2 : ℝ) ^ (-5 - (h : ℝ))), ?_⟩
    show Ideal.log (((1 : ℝ) : EReal) - (((2 : ℝ) ^ (-5 - (h : ℝ)) : ℝ) : EReal)) = _
    rw [← EReal.coe_sub]
    exact if_neg (by linarith)
  obtain ⟨a, ha⟩ := hr
  unfold logRate
  rw [ha]
  rfl

/-- The weight of a token `n` places back. -/
theorem fade_eq (h n : ℕ) (hh : h < 4) : Ideal.exp (rate h * ((n : ℝ) : EReal)) = (Retain.fade logRate h n : EReal) := by
  rw [rate_eq h hh, ← EReal.coe_mul]
  rfl

/-- The printed weight of one token for another, of the same head. -/
theorem weight_eq (h r k : ℕ) (hh : h < 4) (hr : r < 4096) (hk : k < 4096) :
    Scalar.select (laterBit r k) (Ideal.exp (rate h * (FloatOps.sitofp (F := Ideal) .f32 (gap r k) : EReal))) 0
      = (Retain.weight logRate h r k : EReal) := by
  rw [laterBit_eq r k hr hk, select_if]
  unfold Retain.weight
  by_cases hc : k ≤ r
  · rw [if_pos hc, if_pos hc, gap_eq r k hr hk hc, fade_eq h _ hh]
  · rw [if_neg hc, if_neg hc, EReal.coe_zero]

end Cert.RetIdeal.Heads

end
-- ==== Proof.Ret.Chunk.lean ====
/-
  One chunk of 128 tokens as the retention kernel computes it, and each of its steps at an index, over the extended reals.
-/
module

public import proofs.«01_k».proof.Proof.Ret.Numbers
public import Idealize.ShloMosaic.Lib.MatmulPlain
public import Idealize.ShloMosaic.Lib.Pointwise

@[expose] public section

set_option maxRecDepth 16384

noncomputable section

namespace Cert.RetIdeal.Heads

open Cert.RetIdeal Cert.RetIdeal.Gen Cert.Layer
open Idealize.ShloMosaic hiding ix1 ix2 ix3 ix4 ix5
open Idealize.ShloMosaic.ValueIdx Idealize.ShloMosaic.TcCoe

/-! ## The steps -/

/-- The lanes of head `n` of a block, the others zero. -/
def pick (n : Fin 4) (x : FVec Ideal S128x256 .f32) : FVec Ideal S128x256 .f32 :=
  select (broadcastTo S128x256 (shapeCast S1x256 (cmpi .eq k0_pay2 (broadcast S1x256 (BitVec.ofNat 32 n.val))) shapeCasts_S1x256_S1x256)
    broadcasts_S1x256_S128x256) x (broadcast S128x256 (Scalar.ofBits (F := Ideal) .f32 0x00000000#32))

/-- A block's rows turned by the tables. -/
def turn (cs sa sb x : FVec Ideal S128x256 .f32) : FVec Ideal S128x256 .f32 :=
  addf (addf (mulf x cs) (mulf (dynamicRotate 1 32#32 none x rotates_S128x256_d1) sa)) (mulf (dynamicRotate 1 224#32 none x rotates_S128x256_d1) sb)

/-- The keys: turned and scaled. -/
def keys (cs sa sb x : FVec Ideal S128x256 .f32) : FVec Ideal S128x256 .f32 :=
  mulf (turn cs sa sb x) (broadcast S128x256 (Scalar.ofBits (F := Ideal) .f32 0x3E000000#32))

/-- The faded scores inside a chunk, the heads side by side. -/
def faded (q k : FVec Ideal S128x256 .f32) (dec : FVec Ideal S128x512 .f32) : FVec Ideal S128x512 .f32 :=
  mulf (concatenate S128x512 1 (List.ofFn fun n : Fin 4 => ⟨S128x128, matmul (φ₁ := .bf16) (φ₂ := .bf16) dot_S128x256_S128x256_S128x128_1_1_0_0_n_n none
    (truncf .bf16 (pick n q) bitsLt_bf16_f32) (truncf .bf16 k bitsLt_bf16_f32) (constant S128x128 .f32 0x00000000#32)⟩)
    concatenates_S128x128_S128x128_S128x128_S128x128_S128x512_d1) (shapeCast S128x512 dec shapeCasts_S128x512_S128x512)

/-- The values, one copy per head, each with its head's lanes alone. -/
def stacked (v : FVec Ideal S128x256 .f32) : FVec Ideal S512x256 .f32 :=
  concatenate S512x256 0 (List.ofFn fun n : Fin 4 => ⟨S128x256, pick n v⟩) concatenates_S128x256_S128x256_S128x256_S128x256_S512x256_d0

/-- What the chunk's tokens take from one another and from the state `st` before the chunk. -/
def taken (q k v : FVec Ideal S128x256 .f32) (dec : FVec Ideal S128x512 .f32) (qd : FVec Ideal S128x256 .f32) (st : FVec Ideal S256x256 .f32) :
    FVec Ideal S128x256 .f32 :=
  addf (matmul (φ₁ := .bf16) (φ₂ := .bf16) dot_S128x512_S512x256_S128x256_1_0_0_1_n_n none (truncf .bf16 (faded q k dec) bitsLt_bf16_f32)
      (truncf .bf16 (stacked v) bitsLt_bf16_f32) (constant S128x256 .f32 0x00000000#32))
    (matmul (φ₁ := .bf16) (φ₂ := .bf16) dot_S128x256_S256x256_S128x256_1_0_0_1_n_n none
      (truncf .bf16 (mulf q (shapeCast S128x256 qd shapeCasts_S128x256_S128x256)) bitsLt_bf16_f32) (truncf .bf16 st bitsLt_bf16_f32)
      (constant S128x256 .f32 0x00000000#32))

/-- A block's means over the heads, the block cut into its rounding and the rest. -/
def means (o : FVec Ideal S128x256 .f32) (avg : FVec Ideal S256x256 .bf16) : FVec Ideal S128x256 .f32 :=
  addf (matmul (φ₁ := .bf16) (φ₂ := .bf16) dot_S128x256_S256x256_S128x256_1_0_0_1_n_n none (truncf .bf16 o bitsLt_bf16_f32)
      (shapeCast S256x256 avg shapeCasts_S256x256_S256x256) (constant S128x256 .f32 0x00000000#32))
    (matmul (φ₁ := .bf16) (φ₂ := .bf16) dot_S128x256_S256x256_S128x256_1_0_0_1_n_n none
      (truncf .bf16 (subf o (extf .f32 (truncf .bf16 o bitsLt_bf16_f32) bitsLt_bf16_f32)) bitsLt_bf16_f32)
      (shapeCast S256x256 avg shapeCasts_S256x256_S256x256) (constant S128x256 .f32 0x00000000#32))

/-- A block less its heads' means, over the heads' standard deviations. -/
def evened (o : FVec Ideal S128x256 .f32) (avg : FVec Ideal S256x256 .bf16) : FVec Ideal S128x256 .f32 :=
  mulf (subf o (means o avg)) (rsqrt (addf (means (mulf (subf o (means o avg)) (subf o (means o avg))) avg)
    (broadcast S128x256 (Scalar.ofBits (F := Ideal) .f32 0x358637BD#32))))

/-- The chunk's result. -/
def gatedChunk (g o : FVec Ideal S128x256 .f32) (avg : FVec Ideal S256x256 .bf16) (gn : FVec Ideal S1x256 .f32) : FVec Ideal S1x128x256 .f32 :=
  shapeCast S1x128x256 (mulf (mulf g (logistic g)) (mulf (evened o avg) (broadcastTo S128x256 (shapeCast S1x256 gn shapeCasts_S1x256_S1x256)
    broadcasts_S1x256_S128x256))) shapeCasts_S128x256_S1x128x256

/-- The state after a chunk. -/
def next (k v kd : FVec Ideal S128x256 .f32) (st cd : FVec Ideal S256x256 .f32) : FVec Ideal S256x256 .f32 :=
  shapeCast S256x256 (addf (mulf st (shapeCast S256x256 cd shapeCasts_S256x256_S256x256))
    (select (k0_pay7 k0_pay3 k0_pay4 k0_pay5 k0_pay6) (matmul (φ₁ := .bf16) (φ₂ := .bf16) dot_S128x256_S128x256_S256x256_0_0_1_1_n_n none
      (truncf .bf16 (mulf k (shapeCast S128x256 kd shapeCasts_S128x256_S128x256)) bitsLt_bf16_f32) (truncf .bf16 v bitsLt_bf16_f32)
      (constant S256x256 .f32 0x00000000#32)) (broadcast S256x256 (Scalar.ofBits (F := Ideal) .f32 0x00000000#32)))) shapeCasts_S256x256_S256x256

/-! ## The steps at an index -/

/-- The head of a lane, as the kernel computes it. -/
theorem head_apply (l : Fin 256) : k0_pay2 (ix2 0 l) = BitVec.ofNat 32 (l.val / 64) := by
  revert l
  decide +kernel

theorem pick_apply (n : Fin 4) (x : FVec Ideal S128x256 .f32) (r : Fin 128) (l : Fin 256) :
    pick n x (ix2 r l) = if l.val / 64 = n.val then x (ix2 r l) else 0 := by
  have e : ∀ h n : Fin 4, IntOp.cmpi .eq (BitVec.ofNat 32 h.val) (BitVec.ofNat 32 n.val) = if h.val = n.val then 1#1 else 0#1 := eq_place
  show Scalar.select (broadcastTo S128x256 _ _ (ix2 r l)) (x (ix2 r l)) (Ideal.ofBits .f32 0x00000000#32) = _
  rw [row_apply, shapeCast_self, Ideal.ofBits_zero_f32]
  show Scalar.select (IntOp.cmpi .eq (k0_pay2 (ix2 0 l)) (BitVec.ofNat 32 n.val)) _ _ = _
  rw [head_apply, show IntOp.cmpi .eq (BitVec.ofNat 32 (l.val / 64)) (BitVec.ofNat 32 n.val) = _ from e ⟨l.val / 64, by omega⟩ n, select_if]

theorem turn_apply (cs sa sb x : FVec Ideal S128x256 .f32) (r : Fin 128) (l : Fin 256) :
    turn cs sa sb x (ix2 r l) = x (ix2 r l) * cs (ix2 r l) + x (ix2 r ⟨(l.val + 224) % 256, by omega⟩) * sa (ix2 r l)
      + x (ix2 r ⟨(l.val + 32) % 256, by omega⟩) * sb (ix2 r l) := by
  unfold turn
  refine congrArg₂ (fun a b : EReal => x (ix2 r l) * cs (ix2 r l) + a * sa (ix2 r l) + b * sb (ix2 r l))
    (dynamicRotate_apply 1 _ _ _ _ _ fun b => ?_) (dynamicRotate_apply 1 _ _ _ _ _ fun b => ?_)
  · match b with
    | ⟨0, _⟩ => rfl
    | ⟨1, _⟩ => rfl
  · match b with
    | ⟨0, _⟩ => rfl
    | ⟨1, _⟩ => rfl

theorem keys_apply (cs sa sb x : FVec Ideal S128x256 .f32) (r : Fin 128) (l : Fin 256) :
    keys cs sa sb x (ix2 r l) = turn cs sa sb x (ix2 r l) * ((1 / 8 : ℝ) : EReal) := by
  rw [← ofBits_8th]
  rfl

theorem faded_apply (q k : FVec Ideal S128x256 .f32) (dec : FVec Ideal S128x512 .f32) (r : Fin 128) (x : Fin 512) :
    faded q k dec (ix2 r x) = (∑ i : Fin 256, (if i.val / 64 = x.val / 128 then q (ix2 r i) else 0) * k (ix2 ⟨x.val % 128, by omega⟩ i)) * dec (ix2 r x) := by
  have hz : constant (F := Ideal) S128x128 .f32 0x00000000#32 (ix2 r ⟨x.val % 128, by omega⟩) = 0 := Ideal.ofBits_zero_f32
  unfold faded
  rw [shapeCast_self]
  refine congrArg (· * dec (ix2 r x)) ?_
  refine (concatenate_ofFn_apply (t := S128x512) (s₁ := S128x128) 1 (fun n : Fin 4 => matmul (F := Ideal) (φ₁ := .bf16) (φ₂ := .bf16) dot_S128x256_S128x256_S128x128_1_1_0_0_n_n none
    (truncf .bf16 (pick n q) bitsLt_bf16_f32) (truncf .bf16 k bitsLt_bf16_f32) (constant S128x128 .f32 0x00000000#32)) _ rfl 128 rfl _
    ⟨x.val / 128, by omega⟩ rfl (ix2 r ⟨x.val % 128, by omega⟩) rfl ?_).trans ?_
  · intro b hb
    match b with
    | ⟨0, _⟩ => rfl
    | ⟨1, _⟩ => exact absurd rfl hb
  · refine (Ideal.matmul_transposedRhs_apply none _ _ _ r _).trans ?_
    rw [hz, zero_add]
    exact Finset.sum_congr rfl fun i _ => congrArg (· * k (ix2 ⟨x.val % 128, by omega⟩ i)) (pick_apply _ q r i)

theorem stacked_apply (v : FVec Ideal S128x256 .f32) (x : Fin 512) (l : Fin 256) :
    stacked v (ix2 x l) = if l.val / 64 = x.val / 128 then v (ix2 ⟨x.val % 128, by omega⟩ l) else 0 := by
  unfold stacked
  refine (concatenate_ofFn_apply (t := S512x256) (s₁ := S128x256) 0 (fun n : Fin 4 => pick n v) _ rfl 128 rfl _
    ⟨x.val / 128, by omega⟩ rfl (ix2 ⟨x.val % 128, by omega⟩ l) rfl ?_).trans (pick_apply _ v _ l)
  intro b hb
  match b with
  | ⟨0, _⟩ => exact absurd rfl hb
  | ⟨1, _⟩ => rfl

theorem taken_apply (q k v : FVec Ideal S128x256 .f32) (dec : FVec Ideal S128x512 .f32) (qd : FVec Ideal S128x256 .f32) (st : FVec Ideal S256x256 .f32)
    (r : Fin 128) (l : Fin 256) : taken q k v dec qd st (ix2 r l)
      = (∑ x : Fin 512, faded q k dec (ix2 r x) * stacked v (ix2 x l)) + ∑ i : Fin 256, q (ix2 r i) * qd (ix2 r i) * st (ix2 i l) := by
  have hz : constant (F := Ideal) S128x256 .f32 0x00000000#32 (ix2 r l) = 0 := Ideal.ofBits_zero_f32
  unfold taken
  rw [shapeCast_self]
  refine congrArg₂ (fun a b : EReal => a + b) ((Ideal.matmul_plain_apply none _ _ _ r l).trans ?_) ((Ideal.matmul_plain_apply none _ _ _ r l).trans ?_)
  · rw [hz, zero_add]
    rfl
  · rw [hz, zero_add]
    rfl

theorem means_apply (o : FVec Ideal S128x256 .f32) (avg : FVec Ideal S256x256 .bf16) (r : Fin 128) (l : Fin 256)
    (ho : ∀ i, IsReal (o (ix2 r i))) : means o avg (ix2 r l) = ∑ i : Fin 256, o (ix2 r i) * avg (ix2 i l) := by
  have hz : constant (F := Ideal) S128x256 .f32 0x00000000#32 (ix2 r l) = 0 := Ideal.ofBits_zero_f32
  unfold means
  rw [shapeCast_self]
  refine (congrArg₂ (fun a b : EReal => a + b) (Ideal.matmul_plain_apply none _ _ _ r l) ((Ideal.matmul_plain_apply none _ _ _ r l).trans
    (congrArg (_ + ·) (Finset.sum_eq_zero fun i _ => ?_)))).trans ?_
  · show (o (ix2 r i) - o (ix2 r i)) * avg (ix2 i l) = 0
    rw [(ho i).sub_self, zero_mul]
  · rw [hz, zero_add, zero_add, add_zero]
    rfl

theorem same_mask (i j : Fin 256) : k0_pay7 k0_pay3 k0_pay4 k0_pay5 k0_pay6 (ix2 i j) = if i.val / 64 = j.val / 64 then 1#1 else 0#1 := by
  show IntOp.cmpi .eq (k0_pay2 (ix2 0 i)) (k0_pay2 (ix2 0 j)) = _
  rw [head_apply, head_apply]
  exact eq_place ⟨i.val / 64, by omega⟩ ⟨j.val / 64, by omega⟩

theorem next_apply (k v kd : FVec Ideal S128x256 .f32) (st cd : FVec Ideal S256x256 .f32) (i j : Fin 256) :
    next k v kd st cd (ix2 i j) = st (ix2 i j) * cd (ix2 i j)
      + if i.val / 64 = j.val / 64 then ∑ r : Fin 128, k (ix2 r i) * kd (ix2 r i) * v (ix2 r j) else 0 := by
  have hz : constant (F := Ideal) S256x256 .f32 0x00000000#32 (ix2 i j) = 0 := Ideal.ofBits_zero_f32
  unfold next
  rw [shapeCast_self, shapeCast_self, shapeCast_self]
  refine congrArg (st (ix2 i j) * cd (ix2 i j) + ·) ?_
  show Scalar.select (k0_pay7 k0_pay3 k0_pay4 k0_pay5 k0_pay6 (ix2 i j)) (matmul _ none _ _ _ (ix2 i j)) (Ideal.ofBits .f32 0x00000000#32) = _
  rw [same_mask, select_if, Ideal.ofBits_zero_f32]
  refine congrArg (fun a : EReal => if i.val / 64 = j.val / 64 then a else 0) ?_
  refine (Ideal.matmul_apply₁_of dot_S128x256_S128x256_S256x256_0_0_1_1_n_n (a := 0) rfl (K := 128) rfl _ _ _ (ix2 i j) (fun r => ix2 r i) (fun r => ix2 r j)
    (fun r => ?_) (fun r => ?_)).trans ?_
  · funext a
    match a with
    | ⟨0, _⟩ => rfl
    | ⟨1, _⟩ => rfl
  · funext a
    match a with
    | ⟨0, _⟩ => rfl
    | ⟨1, _⟩ => rfl
  · rw [hz, zero_add]
    rfl

end Cert.RetIdeal.Heads

end
-- ==== Proof.Ret.Operands.lean ====
/-
  The arrays the retention launch reads are the tables of its own arguments.
-/
module

public import proofs.«01_k».proof.Proof.Ret.Tables

@[expose] public section

set_option maxRecDepth 16384

noncomputable section

namespace Cert.RetIdeal.Heads

open Cert.RetIdeal Cert.RetIdeal.Gen Cert.Layer
open Idealize.ShloMosaic hiding ix1 ix2 ix3 ix4 ix5
open Idealize.ShloMosaic.ValueIdx Idealize.ShloMosaic.TcCoe
open Idealize.ShloMosaic.StableHlo

variable (m : (ℓ : Loc nD τ sig) → Buf (Elt Ideal) ℓ)

/-- Zeros, one per token and place. -/
def zeros : FVec Ideal S4096x32 .f32 := broadcastInDim S4096x32 ![] bcast_S_S4096x32 (constant S_ .f32 0x00000000#32)

theorem cos_eq (c : Dev nD) : (V m c main_v18 : S4096x256.Idx → EReal) = heads (Host.cos angles) (Host.cos angles) := by
  unfold_abbrev_sides
  simp only [hostOps0, hostOps0_1, hostOps0_2, hostOps0_3, hostOps0_4, hostOps0_5, hostOps0_6, List.flatten_cons, List.flatten_nil,
    List.append_nil, List.cons_append, List.nil_append]
  after_results
  rfl

theorem sinHigh_eq (c : Dev nD) : (V m c main_v22 : S4096x256.Idx → EReal) = heads zeros (Host.sin angles) := by
  unfold_abbrev_sides
  simp only [hostOps0, hostOps0_1, hostOps0_2, hostOps0_3, hostOps0_4, hostOps0_5, hostOps0_6, List.flatten_cons, List.flatten_nil,
    List.append_nil, List.cons_append, List.nil_append]
  after_results
  rfl

theorem sinLow_eq (c : Dev nD) : (V m c main_v27 : S4096x256.Idx → EReal) = heads (Host.negf (Host.sin angles)) zeros := by
  unfold_abbrev_sides
  simp only [hostOps0, hostOps0_1, hostOps0_2, hostOps0_3, hostOps0_4, hostOps0_5, hostOps0_6, List.flatten_cons, List.flatten_nil,
    List.append_nil, List.cons_append, List.nil_append]
  after_results
  rfl

theorem inside_eq (c : Dev nD) : (V m c main_v55 : S128x512.Idx → EReal) = insideWide := by
  unfold_abbrev_sides
  simp only [hostOps0, hostOps0_1, hostOps0_2, hostOps0_3, hostOps0_4, hostOps0_5, hostOps0_6, List.flatten_cons, List.flatten_nil,
    List.append_nil, List.cons_append, List.nil_append]
  after_results
  rfl

theorem fromStart_eq (c : Dev nD) : (V m c main_v74 : S128x256.Idx → EReal) = fades (addi (iotaInDim S128 32 0) (broadcastInDim S128 ![] bcast_S_S128 (constantI S_ 32 1#32))) := by
  unfold_abbrev_sides
  simp only [hostOps0, hostOps0_1, hostOps0_2, hostOps0_3, hostOps0_4, hostOps0_5, hostOps0_6, List.flatten_cons, List.flatten_nil,
    List.append_nil, List.cons_append, List.nil_append]
  after_results
  rfl

theorem toEnd_eq (c : Dev nD) : (V m c main_v90 : S128x256.Idx → EReal) = fades (subi (broadcastInDim S128 ![] bcast_S_S128 (constantI S_ 32 127#32)) (iotaInDim S128 32 0)) := by
  unfold_abbrev_sides
  simp only [hostOps0, hostOps0_1, hostOps0_2, hostOps0_3, hostOps0_4, hostOps0_5, hostOps0_6, List.flatten_cons, List.flatten_nil,
    List.append_nil, List.cons_append, List.nil_append]
  after_results
  rfl

theorem chunkFade_eq (c : Dev nD) : (V m c main_v107 : S256x256.Idx → EReal) = chunkFade := by
  unfold_abbrev_sides
  simp only [hostOps0, hostOps0_1, hostOps0_2, hostOps0_3, hostOps0_4, hostOps0_5, hostOps0_6, List.flatten_cons, List.flatten_nil,
    List.append_nil, List.cons_append, List.nil_append]
  after_results
  rfl

theorem share_eq (c : Dev nD) : (V m c main_v109 : S256x256.Idx → EReal) = truncf .bf16 share bitsLt_bf16_f32 := by
  unfold_abbrev_sides
  simp only [hostOps0, hostOps0_1, hostOps0_2, hostOps0_3, hostOps0_4, hostOps0_5, hostOps0_6, List.flatten_cons, List.flatten_nil,
    List.append_nil, List.cons_append, List.nil_append]
  after_results
  rfl

theorem gain_eq (c : Dev nD) : (V m c main_v110 : S1x256.Idx → EReal) = shapeCast S1x256 (m ((c : Thread nD τ).loc main_arg1) : S256.Idx → EReal) shapeCasts_S256_S1x256 := by
  unfold_abbrev_sides
  simp only [hostOps0, hostOps0_1, hostOps0_2, hostOps0_3, hostOps0_4, hostOps0_5, hostOps0_6, List.flatten_cons, List.flatten_nil,
    List.append_nil, List.cons_append, List.nil_append]
  after_results
  rfl

end Cert.RetIdeal.Heads

end
-- ==== Proof.Ret.Point.lean ====
/-
  What a point of the retention launch leaves: four chunks, one after another.
-/
module

public import proofs.«01_k».proof.Proof.Ret.Chunk
public import proofs.«01_k».proof.Proof.Ret.Operands
public import Idealize.ShloMosaic.Lib.Pipeline.ValueKit.Acc
public import Idealize.ShloMosaic.Lib.Pipeline.ReadBack
public import Idealize.ShloMosaic.Lib.Claim

@[expose] public section

set_option maxRecDepth 16384

noncomputable section

namespace Cert.RetIdeal.Heads

open Cert.RetIdeal Cert.RetIdeal.Gen Cert.RetIdeal.Value Cert.Layer
open Idealize.ShloMosaic hiding ix1 ix2 ix3 ix4 ix5
open Idealize.ShloMosaic.ValueIdx Idealize.ShloMosaic.TcCoe
open Idealize.ShloMosaic.StableHlo

variable (m : (ℓ : Loc nD τ sig) → Buf (Elt Ideal) ℓ)

theorem table_fits (n : Fin 4) : ∀ a, (![128 * n.val, 0] : Fin 2 → ℕ) a + S128x256.size a ≤ S512x256.size a := by
  revert n; decide

theorem block_fits (n : Fin 4) : ∀ a, (![0, 128 * n.val, 0] : Fin 3 → ℕ) a + S1x128x256.size a ≤ S1x512x256.size a := by
  revert n; decide

/-- Chunk `n`'s rows of a table. -/
def tableRows (n : Fin 4) (x : Vec Ideal S512x256 .f32) : FVec Ideal S128x256 .f32 :=
  shapeCast S128x256 (View.ld x (Rect.unit (s := S512x256) ![128 * n.val, 0] S128x256.size (table_fits n))) shapeCasts_S128x256_S128x256

/-- Chunk `n`'s rows of a block. -/
def blockRows (n : Fin 4) (x : Vec Ideal S1x512x256 .f32) : FVec Ideal S128x256 .f32 :=
  shapeCast S128x256 (View.ld x (Rect.unit (s := S1x512x256) ![0, 128 * n.val, 0] S1x128x256.size (block_fits n))) shapeCasts_S1x128x256_S128x256

theorem tableRows_apply (n : Fin 4) (x : Vec Ideal S512x256 .f32) (r : Fin 128) (l : Fin 256) :
    tableRows n x (ix2 r l) = x (ix2 ⟨128 * n.val + r.val, by omega⟩ l) := by
  unfold tableRows
  refine (shapeCast_apply _ _ _ (ix2 r l) rfl).trans (congrArg x (funext fun a => Fin.ext ?_))
  match a with
  | ⟨0, _⟩ => exact (show 128 * n.val + 1 * r.val = 128 * n.val + r.val by omega)
  | ⟨1, _⟩ => exact (show 0 + 1 * l.val = l.val by omega)

theorem blockRows_apply (n : Fin 4) (x : Vec Ideal S1x512x256 .f32) (r : Fin 128) (l : Fin 256) :
    blockRows n x (ix2 r l) = x (ix3 0 ⟨128 * n.val + r.val, by omega⟩ l) := by
  unfold blockRows
  refine (shapeCast_apply _ _ _ (ix3 (0 : Fin 1) r l) ?_).trans ?_
  · rewrite [Shape.rowMajor_val_three, Shape.rowMajor_val_two]
    show (0 * 128 + r.val) * 256 + l.val = r.val * 256 + l.val
    omega
  · refine congrArg x (funext fun a => Fin.ext ?_)
    match a with
    | ⟨0, _⟩ => rfl
    | ⟨1, _⟩ => exact (show 128 * n.val + 1 * r.val = 128 * n.val + r.val by omega)
    | ⟨2, _⟩ => exact (show 0 + 1 * l.val = l.val by omega)

/-- The queries, keys, values and gates of chunk `n` of a point. -/
def qAt (c : Dev nD) (t : Fin cfg0.N) (n : Fin 4) : FVec Ideal S128x256 .f32 :=
  turn (tableRows n (iblk m c 4 t)) (tableRows n (iblk m c 5 t)) (tableRows n (iblk m c 6 t)) (blockRows n (iblk m c 0 t))

def kAt (c : Dev nD) (t : Fin cfg0.N) (n : Fin 4) : FVec Ideal S128x256 .f32 :=
  keys (tableRows n (iblk m c 4 t)) (tableRows n (iblk m c 5 t)) (tableRows n (iblk m c 6 t)) (blockRows n (iblk m c 1 t))

def vAt (c : Dev nD) (t : Fin cfg0.N) (n : Fin 4) : FVec Ideal S128x256 .f32 := blockRows n (iblk m c 2 t)

def gAt (c : Dev nD) (t : Fin cfg0.N) (n : Fin 4) : FVec Ideal S128x256 .f32 := blockRows n (iblk m c 3 t)

/-- The state after chunk `n` of a point, from the state before it. -/
def step (c : Dev nD) (t : Fin cfg0.N) (n : Fin 4) (st : FVec Ideal S256x256 .f32) : FVec Ideal S256x256 .f32 :=
  next (kAt m c t n) (vAt m c t n) (iblk m c 9 t) st (iblk m c 10 t)

/-- The states before the four chunks of a point, and after the last. -/
def states (c : Dev nD) (t : Fin cfg0.N) (st : FVec Ideal S256x256 .f32) : ℕ → FVec Ideal S256x256 .f32
  | 0 => st
  | 1 => step m c t 0 st
  | 2 => step m c t 1 (step m c t 0 st)
  | 3 => step m c t 2 (step m c t 1 (step m c t 0 st))
  | _ => step m c t 3 (step m c t 2 (step m c t 1 (step m c t 0 st)))

/-- What chunk `n` of a point leaves, from the state before it. -/
def chunkOut (c : Dev nD) (t : Fin cfg0.N) (n : Fin 4) (st : FVec Ideal S256x256 .f32) : FVec Ideal S1x128x256 .f32 :=
  gatedChunk (gAt m c t n) (taken (qAt m c t n) (kAt m c t n) (vAt m c t n) (iblk m c 7 t) (iblk m c 8 t) st) (iblk m c 11 t) (iblk m c 12 t)

/-- The state a point leaves, the first of a sequence and the others. -/
theorem state_first (c : Dev nD) (t : Fin cfg0.N) (acc : Vec Ideal S1x512x256 .f32 × Vec Ideal S256x256 .f32) (h0 : t.val % 8 = 0) :
    (stAt0 m c t.val t.isLt acc).2 = states m c t k0_pay8 4 := by
  rw [stAt0_A m c t acc h0]
  dsimp only
  frame_out
  rfl

theorem state_later (c : Dev nD) (t : Fin cfg0.N) (acc : Vec Ideal S1x512x256 .f32 × Vec Ideal S256x256 .f32) (h0 : ¬ t.val % 8 = 0) :
    (stAt0 m c t.val t.isLt acc).2 = states m c t acc.2 4 := by
  rw [stAt0_B m c t acc h0]
  dsimp only
  frame_out
  simp only [read_unread_whole]
  rfl

/-- Chunk `n`'s piece of the block a point leaves. -/
def piece (c : Dev nD) (t : Fin cfg0.N) (st : FVec Ideal S256x256 .f32) (n : Fin 4) : View.Piece (Elt Ideal) S1x512x256 .f32 :=
  ⟨Rect.unit (s := S1x512x256) ![0, 128 * n.val, 0] S1x128x256.size (block_fits n), chunkOut m c t n (states m c t st n.val)⟩

/-- The block a point leaves: its four chunks' pieces. -/
def leaves (c : Dev nD) (t : Fin cfg0.N) (st : FVec Ideal S256x256 .f32) : Vec Ideal S1x512x256 .f32 :=
  View.canon (Val := Elt Ideal) (List.map (piece m c t st) [3, 2, 1, 0])

theorem block_first (c : Dev nD) (t : Fin cfg0.N) (acc : Vec Ideal S1x512x256 .f32 × Vec Ideal S256x256 .f32) (h0 : t.val % 8 = 0) :
    (stAt0 m c t.val t.isLt acc).1 = leaves m c t k0_pay8 := by
  rw [stAt0_A m c t acc h0]
  dsimp only
  frame_out
  rfl

theorem block_later (c : Dev nD) (t : Fin cfg0.N) (acc : Vec Ideal S1x512x256 .f32 × Vec Ideal S256x256 .f32) (h0 : ¬ t.val % 8 = 0) :
    (stAt0 m c t.val t.isLt acc).1 = leaves m c t acc.2 := by
  rw [stAt0_B m c t acc h0]
  dsimp only
  frame_out
  simp only [read_unread_whole]
  rfl

/-- Where row `r` of chunk `n` lies in the block. -/
theorem piece_emb (n : Fin 4) (r : Fin 128) (l : Fin 256) :
    (Rect.unit (s := S1x512x256) ![0, 128 * n.val, 0] S1x128x256.size (block_fits n)).emb (ix3 0 r l)
      = (ix3 0 ⟨128 * n.val + r.val, by omega⟩ l : S1x512x256.Idx) := by
  refine funext fun a => Fin.ext ?_
  match a with
  | ⟨0, _⟩ => rfl
  | ⟨1, _⟩ => exact (show 128 * n.val + 1 * r.val = 128 * n.val + r.val by omega)
  | ⟨2, _⟩ => exact (show 0 + 1 * l.val = l.val by omega)

/-- A row of the block: its chunk's. -/
theorem leaves_apply (c : Dev nD) (t : Fin cfg0.N) (st : FVec Ideal S256x256 .f32) (n : Fin 4) (r : Fin 128) (l : Fin 256) :
    leaves m c t st (ix3 0 ⟨128 * n.val + r.val, by omega⟩ l) = chunkOut m c t n (states m c t st n.val) (ix3 0 r l) := by
  let G : S1x512x256.Idx → EReal := fun y => chunkOut m c t ⟨(y 1).val / 128, by have h : (y 1).val < 512 := (y 1).isLt; omega⟩
      (states m c t st ((y 1).val / 128)) (ix3 0 ⟨(y 1).val % 128, by omega⟩ (y 2))
  have hG : ∀ (n : Fin 4) (r : Fin 128) (l : Fin 256), G (ix3 0 ⟨128 * n.val + r.val, by omega⟩ l)
      = chunkOut m c t n (states m c t st n.val) (ix3 0 r l) := fun n r l => by
    have h1 : (128 * n.val + r.val) / 128 = n.val := by omega
    have h2 : (128 * n.val + r.val) % 128 = r.val := by omega
    show chunkOut m c t ⟨(128 * n.val + r.val) / 128, _⟩ (states m c t st ((128 * n.val + r.val) / 128)) (ix3 0 ⟨(128 * n.val + r.val) % 128, _⟩ l) = _
    simp only [h1, h2]
  refine Eq.trans ?_ (hG n r l)
  refine View.canon_apply_of_pieces (Val := Elt Ideal) G _ (fun p hp => ?_) _ ⟨piece m c t st n, ?_, ?_⟩
  · obtain ⟨n, -, rfl⟩ := List.mem_map.mp hp
    intro y
    obtain ⟨z, r, l, rfl⟩ : ∃ z r l, y = (ix3 z r l : S1x128x256.Idx) := ⟨_, _, _, ValueIdx.eq_ix3 y⟩
    obtain rfl : z = 0 := Subsingleton.elim _ _
    exact (hG n r l).symm.trans (congrArg G (piece_emb n r l).symm)
  · refine List.mem_map_of_mem ?_
    revert n; decide
  · refine (LoadRect.mem_set _).mpr fun a => ⟨((ix3 0 r l : S1x128x256.Idx) a).val, ((ix3 0 r l : S1x128x256.Idx) a).isLt,
      (congrArg (fun i : S1x512x256.Idx => (i a).val) (piece_emb n r l)).symm⟩

end Cert.RetIdeal.Heads

end
-- ==== Proof.Ret.Spec.lean ====
/-
  The retention's result written out over the real numbers: the turned queries and keys, what a token takes from the
  tokens up to it, and the heads' means and variances.
-/
module

public import proofs.«01_k».proof.Proof.Ret.Chunk

@[expose] public section

set_option maxRecDepth 16384

noncomputable section

namespace Cert.RetIdeal.Heads

open Cert.RetIdeal Cert.RetIdeal.Gen Cert.Layer
open Idealize.ShloMosaic hiding ix1 ix2 ix3 ix4 ix5
open Idealize.ShloMosaic.ValueIdx Idealize.ShloMosaic.TcCoe
open Finset (range)

/-- A token's lanes turned by its angles: each head's two halves against one another. -/
def turned (x : ℕ → ℕ → ℝ) (n l : ℕ) : ℝ :=
  if l % 64 < 32 then x n l * cosine n (l % 32) - x n (l + 32) * sine n (l % 32)
  else x n (l - 32) * sine n (l % 32) + x n l * cosine n (l % 32)

/-- The mean over head `h` of a token's lanes. -/
def meanOf (o : ℕ → ℝ) (h : ℕ) : ℝ := (∑ d ∈ range 64, o (64 * h + d)) * (1 / 64)

/-- The variance over head `h`. -/
def varianceOf (o : ℕ → ℝ) (h : ℕ) : ℝ := meanOf (fun i => (o i - meanOf o (i / 64)) * (o i - meanOf o (i / 64))) h

/-- A lane less its head's mean, over the head's standard deviation. -/
def evenOf (o : ℕ → ℝ) (l : ℕ) : EReal :=
  ((o l - meanOf o (l / 64) : ℝ) : EReal) * Ideal.rsqrt ((varianceOf o (l / 64) : EReal) + Ideal.ofBits .f32 0x358637BD#32)

variable (z : FVec Ideal S8x4096x3072 .f32)

/-- Lane `l` of token `n` in the columns from `off`, as a real number. -/
def raw (b : Fin 8) (off n l : ℕ) : ℝ := if h : n < 4096 ∧ off + l < 3072 then (z (ix3 b ⟨n, h.1⟩ ⟨off + l, h.2⟩)).toReal else 0

def queries (b : Fin 8) (n l : ℕ) : ℝ := turned (raw z b 2048) n l

def scaledKeys (b : Fin 8) (n l : ℕ) : ℝ := turned (raw z b 2304) n l * (1 / 8)

def values (b : Fin 8) (n l : ℕ) : ℝ := raw z b 2560 n l

/-- What token `n` takes from the tokens up to it, in lane `l`. -/
def total (b : Fin 8) (n l : ℕ) : ℝ :=
  ∑ t ∈ range 4096, values z b t l * (Retain.score (queries z b) (scaledKeys z b) (l / 64) n t * Retain.weight logRate (l / 64) n t)

/-- The result: what a token takes, evened over its head, times the gain, gated. -/
def retained (gn : FVec Ideal S256 .f32) (b : Fin 8) (n : Fin 4096) (l : Fin 256) : EReal :=
  silu (z (ix3 b n ⟨2816 + l.val, by omega⟩)) * (evenOf (total z b n.val) l.val * gn (ix1 l))

/-- A real entry is its real number. -/
theorem raw_eq (b : Fin 8) (off : ℕ) (n : Fin 4096) (l : Fin 256) (p : Fin 3072) (hp : p.val = off + l.val)
    (hr : IsReal (z (ix3 b n p))) : z (ix3 b n p) = (raw z b off n.val l.val : EReal) := by
  obtain ⟨a, ha⟩ := hr
  have e : (⟨off + l.val, by omega⟩ : Fin 3072) = p := Fin.ext hp.symm
  unfold raw
  rw [dif_pos ⟨n.isLt, (show off + l.val < 3072 by omega)⟩]
  show z (ix3 b n p) = ((z (ix3 b n ⟨off + l.val, by omega⟩)).toReal : EReal)
  rw [e, ha, EReal.toReal_coe]

/-- The kernel's means are the heads' means. -/
theorem means_eq (o : FVec Ideal S128x256 .f32) (avg : FVec Ideal S256x256 .bf16) (o' : ℕ → ℝ) (r : Fin 128) (l : Fin 256)
    (ho : ∀ i : Fin 256, o (ix2 r i) = (o' i.val : EReal))
    (ha : ∀ i : Fin 256, avg (ix2 i l) = ((if i.val / 64 = l.val / 64 then 1 / 64 else 0 : ℝ) : EReal)) :
    means o avg (ix2 r l) = (meanOf o' (l.val / 64) : EReal) := by
  rw [means_apply _ _ _ _ fun i => ⟨_, ho i⟩]
  have e : ∀ i : Fin 256, o (ix2 r i) * avg (ix2 i l) = ((if i.val / 64 = l.val / 64 then o' i.val * (1 / 64) else 0 : ℝ) : EReal) := fun i => by
    rw [ho, ha, ← EReal.coe_mul, mul_ite, mul_zero]
  rw [Finset.sum_congr rfl fun i _ => e i, ← coe_sum]
  refine congrArg Real.toEReal ?_
  rw [← Finset.sum_range fun x : ℕ => if x / 64 = l.val / 64 then o' x * (1 / 64) else 0]
  refine (Retain.sum_block 64 4 (l.val / 64) (by omega) _).trans ?_
  unfold meanOf
  rw [Finset.sum_mul]

/-- The kernel's evening. -/
theorem evened_eq (o : FVec Ideal S128x256 .f32) (avg : FVec Ideal S256x256 .bf16) (o' : ℕ → ℝ) (r : Fin 128) (l : Fin 256)
    (ho : ∀ i : Fin 256, o (ix2 r i) = (o' i.val : EReal))
    (ha : ∀ i j : Fin 256, avg (ix2 i j) = ((if i.val / 64 = j.val / 64 then 1 / 64 else 0 : ℝ) : EReal)) :
    evened o avg (ix2 r l) = evenOf o' l.val := by
  have hd : ∀ i : Fin 256, (subf o (means o avg)) (ix2 r i) = ((o' i.val - meanOf o' (i.val / 64) : ℝ) : EReal) := fun i => by
    show o (ix2 r i) - means o avg (ix2 r i) = _
    rw [ho, means_eq o avg o' r i ho (fun j => ha j i), ← EReal.coe_sub]
  have hs : ∀ i : Fin 256, (mulf (subf o (means o avg)) (subf o (means o avg))) (ix2 r i)
      = (((o' i.val - meanOf o' (i.val / 64)) * (o' i.val - meanOf o' (i.val / 64)) : ℝ) : EReal) := fun i => by
    show (subf o (means o avg)) (ix2 r i) * (subf o (means o avg)) (ix2 r i) = _
    rw [hd, ← EReal.coe_mul]
  show (subf o (means o avg)) (ix2 r l) * Ideal.rsqrt (means (mulf (subf o (means o avg)) (subf o (means o avg))) avg (ix2 r l)
    + Ideal.ofBits .f32 0x358637BD#32) = _
  rw [hd, means_eq _ avg (fun i => (o' i - meanOf o' (i / 64)) * (o' i - meanOf o' (i / 64))) r l hs (fun j => ha j l)]
  rfl

/-- A chunk's result. -/
theorem gatedChunk_eq (g o : FVec Ideal S128x256 .f32) (avg : FVec Ideal S256x256 .bf16) (gn : FVec Ideal S1x256 .f32) (o' : ℕ → ℝ)
    (r : Fin 128) (l : Fin 256) (ho : ∀ i : Fin 256, o (ix2 r i) = (o' i.val : EReal))
    (ha : ∀ i j : Fin 256, avg (ix2 i j) = ((if i.val / 64 = j.val / 64 then 1 / 64 else 0 : ℝ) : EReal)) :
    gatedChunk g o avg gn (ix3 0 r l) = silu (g (ix2 r l)) * (evenOf o' l.val * gn (ix2 0 l)) := by
  unfold gatedChunk
  refine (shapeCast_apply _ _ _ (ix2 r l) ?_).trans ?_
  · rewrite [Shape.rowMajor_val_three, Shape.rowMajor_val_two]
    show r.val * 256 + l.val = (0 * 128 + r.val) * 256 + l.val
    omega
  · show g (ix2 r l) * Ideal.logistic (g (ix2 r l)) * (evened o avg (ix2 r l) * broadcastTo S128x256 _ _ (ix2 r l)) = _
    rw [evened_eq o avg o' r l ho ha, row_apply, shapeCast_self]
    rfl

end Cert.RetIdeal.Heads

end
-- ==== Proof.Ret.Blocks.lean ====
/-
  The blocks the retention launch reads at a point.
-/
module

public import proofs.«01_k».proof.Proof.Ret.Point
public import proofs.«01_k».proof.Proof.Ret.Spec

@[expose] public section

set_option maxRecDepth 16384

noncomputable section

namespace Cert.RetIdeal.Heads

open Cert.RetIdeal Cert.RetIdeal.Gen Cert.RetIdeal.Value Cert.Layer
open Idealize.ShloMosaic hiding ix1 ix2 ix3 ix4 ix5
open Idealize.ShloMosaic.ValueIdx Idealize.ShloMosaic.TcCoe
open Idealize.ShloMosaic.StableHlo

/-! ## Where the blocks lie -/

theorem index_q : ∀ t : Fin cfg0.N, (cfg0.win 0).index t = ![t.val / 8, t.val % 8, 8] :=
  (by decide +kernel : ∀ t : Fin grid0.N, win0_0.index t = ![t.val / 8, t.val % 8, 8])

theorem index_k : ∀ t : Fin cfg0.N, (cfg0.win 1).index t = ![t.val / 8, t.val % 8, 9] :=
  (by decide +kernel : ∀ t : Fin grid0.N, win0_1.index t = ![t.val / 8, t.val % 8, 9])

theorem index_v : ∀ t : Fin cfg0.N, (cfg0.win 2).index t = ![t.val / 8, t.val % 8, 10] :=
  (by decide +kernel : ∀ t : Fin grid0.N, win0_2.index t = ![t.val / 8, t.val % 8, 10])

theorem index_g : ∀ t : Fin cfg0.N, (cfg0.win 3).index t = ![t.val / 8, t.val % 8, 11] :=
  (by decide +kernel : ∀ t : Fin grid0.N, win0_3.index t = ![t.val / 8, t.val % 8, 11])

theorem index_cos : ∀ t : Fin cfg0.N, (cfg0.win 4).index t = ![t.val % 8, 0] :=
  (by decide +kernel : ∀ t : Fin grid0.N, win0_4.index t = ![t.val % 8, 0])

theorem index_high : ∀ t : Fin cfg0.N, (cfg0.win 5).index t = ![t.val % 8, 0] :=
  (by decide +kernel : ∀ t : Fin grid0.N, win0_5.index t = ![t.val % 8, 0])

theorem index_low : ∀ t : Fin cfg0.N, (cfg0.win 6).index t = ![t.val % 8, 0] :=
  (by decide +kernel : ∀ t : Fin grid0.N, win0_6.index t = ![t.val % 8, 0])

variable (m : (ℓ : Loc nD τ sig) → Buf (Elt Ideal) ℓ) (c : Dev nD) (t : Fin cfg0.N)

/-- The columns, as the launch finds them. -/
abbrev columns : FVec Ideal S8x4096x3072 .f32 := m ((c : Thread nD τ).loc main_arg0)

/-! ## The column blocks: 512 tokens of one sequence, 256 columns -/

theorem q_block (r : Fin 512) (l : Fin 256) (b : Fin 8) (n : Fin 4096) (p : Fin 3072) (hb : b.val = t.val / 8) (hn : n.val = t.val % 8 * 512 + r.val)
    (hp : p.val = 8 * 256 + l.val) : (iblk m c 0 t : S1x512x256.Idx → EReal) (ix3 0 r l) = columns m c (ix3 b n p) := by
  refine Eq.trans ?_ (congrFun (V_main_arg0 m c) (ix3 b n p))
  refine congrArg (V m c main_arg0 : S8x4096x3072.Idx → EReal) (funext fun a => Fin.ext ?_)
  refine ((cfg0.win 0).rect_emb_val t (ix3 0 r l) a rfl).trans ?_
  rw [index_q]
  match a with
  | ⟨0, _⟩ => exact (show t.val / 8 * 1 + 0 = b.val by omega)
  | ⟨1, _⟩ => exact hn.symm
  | ⟨2, _⟩ => exact hp.symm

theorem k_block (r : Fin 512) (l : Fin 256) (b : Fin 8) (n : Fin 4096) (p : Fin 3072) (hb : b.val = t.val / 8) (hn : n.val = t.val % 8 * 512 + r.val)
    (hp : p.val = 9 * 256 + l.val) : (iblk m c 1 t : S1x512x256.Idx → EReal) (ix3 0 r l) = columns m c (ix3 b n p) := by
  refine Eq.trans ?_ (congrFun (V_main_arg0 m c) (ix3 b n p))
  refine congrArg (V m c main_arg0 : S8x4096x3072.Idx → EReal) (funext fun a => Fin.ext ?_)
  refine ((cfg0.win 1).rect_emb_val t (ix3 0 r l) a rfl).trans ?_
  rw [index_k]
  match a with
  | ⟨0, _⟩ => exact (show t.val / 8 * 1 + 0 = b.val by omega)
  | ⟨1, _⟩ => exact hn.symm
  | ⟨2, _⟩ => exact hp.symm

theorem v_block (r : Fin 512) (l : Fin 256) (b : Fin 8) (n : Fin 4096) (p : Fin 3072) (hb : b.val = t.val / 8) (hn : n.val = t.val % 8 * 512 + r.val)
    (hp : p.val = 10 * 256 + l.val) : (iblk m c 2 t : S1x512x256.Idx → EReal) (ix3 0 r l) = columns m c (ix3 b n p) := by
  refine Eq.trans ?_ (congrFun (V_main_arg0 m c) (ix3 b n p))
  refine congrArg (V m c main_arg0 : S8x4096x3072.Idx → EReal) (funext fun a => Fin.ext ?_)
  refine ((cfg0.win 2).rect_emb_val t (ix3 0 r l) a rfl).trans ?_
  rw [index_v]
  match a with
  | ⟨0, _⟩ => exact (show t.val / 8 * 1 + 0 = b.val by omega)
  | ⟨1, _⟩ => exact hn.symm
  | ⟨2, _⟩ => exact hp.symm

theorem g_block (r : Fin 512) (l : Fin 256) (b : Fin 8) (n : Fin 4096) (p : Fin 3072) (hb : b.val = t.val / 8) (hn : n.val = t.val % 8 * 512 + r.val)
    (hp : p.val = 11 * 256 + l.val) : (iblk m c 3 t : S1x512x256.Idx → EReal) (ix3 0 r l) = columns m c (ix3 b n p) := by
  refine Eq.trans ?_ (congrFun (V_main_arg0 m c) (ix3 b n p))
  refine congrArg (V m c main_arg0 : S8x4096x3072.Idx → EReal) (funext fun a => Fin.ext ?_)
  refine ((cfg0.win 3).rect_emb_val t (ix3 0 r l) a rfl).trans ?_
  rw [index_g]
  match a with
  | ⟨0, _⟩ => exact (show t.val / 8 * 1 + 0 = b.val by omega)
  | ⟨1, _⟩ => exact hn.symm
  | ⟨2, _⟩ => exact hp.symm

/-! ## The angles' blocks -/

theorem cos_block (r : Fin 512) (l : Fin 256) (n : Fin 4096) (hn : n.val = t.val % 8 * 512 + r.val) :
    (iblk m c 4 t : S512x256.Idx → EReal) (ix2 r l) = (cosine n.val (l.val % 32) : EReal) := by
  refine Eq.trans ?_ ((congrFun (cos_eq m c) (ix2 n l)).trans ?_)
  · refine congrArg (V m c main_v18 : S4096x256.Idx → EReal) (funext fun a => Fin.ext ?_)
    refine ((cfg0.win 4).rect_emb_val t (ix2 r l) a rfl).trans ?_
    rw [index_cos]
    match a with
    | ⟨0, _⟩ => exact hn.symm
    | ⟨1, _⟩ => exact (Nat.zero_mul _).symm ▸ Nat.zero_add l.val
  · rw [heads_apply, ite_self]
    show Ideal.cos (angles (ix2 n ⟨l.val % 32, by omega⟩)) = _
    rw [angles_apply]
    exact cosine_eq _ _ n.isLt (show l.val % 32 < 4096 by omega)

theorem high_block (r : Fin 512) (l : Fin 256) (n : Fin 4096) (hn : n.val = t.val % 8 * 512 + r.val) :
    (iblk m c 5 t : S512x256.Idx → EReal) (ix2 r l) = ((if l.val % 64 < 32 then 0 else sine n.val (l.val % 32) : ℝ) : EReal) := by
  refine Eq.trans ?_ ((congrFun (sinHigh_eq m c) (ix2 n l)).trans ?_)
  · refine congrArg (V m c main_v22 : S4096x256.Idx → EReal) (funext fun a => Fin.ext ?_)
    refine ((cfg0.win 5).rect_emb_val t (ix2 r l) a rfl).trans ?_
    rw [index_high]
    match a with
    | ⟨0, _⟩ => exact hn.symm
    | ⟨1, _⟩ => exact (Nat.zero_mul _).symm ▸ Nat.zero_add l.val
  · rw [heads_apply]
    split
    · exact Ideal.ofBits_zero_f32
    · show Ideal.sin (angles (ix2 n ⟨l.val % 32, by omega⟩)) = _
      rw [angles_apply]
      exact sine_eq _ _ n.isLt (show l.val % 32 < 4096 by omega)

theorem low_block (r : Fin 512) (l : Fin 256) (n : Fin 4096) (hn : n.val = t.val % 8 * 512 + r.val) :
    (iblk m c 6 t : S512x256.Idx → EReal) (ix2 r l) = ((if l.val % 64 < 32 then -sine n.val (l.val % 32) else 0 : ℝ) : EReal) := by
  refine Eq.trans ?_ ((congrFun (sinLow_eq m c) (ix2 n l)).trans ?_)
  · refine congrArg (V m c main_v27 : S4096x256.Idx → EReal) (funext fun a => Fin.ext ?_)
    refine ((cfg0.win 6).rect_emb_val t (ix2 r l) a rfl).trans ?_
    rw [index_low]
    match a with
    | ⟨0, _⟩ => exact hn.symm
    | ⟨1, _⟩ => exact (Nat.zero_mul _).symm ▸ Nat.zero_add l.val
  · rw [heads_apply]
    split
    · show -Ideal.sin (angles (ix2 n ⟨l.val % 32, by omega⟩)) = _
      rw [angles_apply, EReal.coe_neg]
      exact congrArg Neg.neg (sine_eq _ _ n.isLt (show l.val % 32 < 4096 by omega))
    · exact Ideal.ofBits_zero_f32

/-! ## The tables the launch reads whole -/

theorem inside_block (r : Fin 128) (x : Fin 512) :
    (iblk m c 7 t : S128x512.Idx → EReal) (ix2 r x) = (Retain.weight logRate (x.val / 128) r.val (x.val % 128) : EReal) := by
  refine Eq.trans ?_ ((congrFun (inside_eq m c) (ix2 r x)).trans ?_)
  · refine congrArg (V m c main_v55 : S128x512.Idx → EReal) (funext fun a => Fin.ext ?_)
    refine ((cfg0.win 7).rect_emb_val t (ix2 r x) a rfl).trans ?_
    match a with
    | ⟨0, _⟩ => exact (Nat.zero_mul _).symm ▸ Nat.zero_add r.val
    | ⟨1, _⟩ => exact (Nat.zero_mul _).symm ▸ Nat.zero_add x.val
  · rw [insideWide_apply, inside_apply]
    exact weight_eq _ _ _ (show x.val / 128 < 4 by omega) (show r.val < 4096 by omega) (show x.val % 128 < 4096 by omega)

theorem start_word : ∀ r : Fin 128, IntOp.addi (BitVec.ofNat 32 r.val) 1#32 = BitVec.ofNat 32 (r.val + 1) := by decide

theorem end_word : ∀ r : Fin 128, IntOp.subi 127#32 (BitVec.ofNat 32 r.val) = BitVec.ofNat 32 (127 - r.val) := by decide

theorem start_block (r : Fin 128) (l : Fin 256) :
    (iblk m c 8 t : S128x256.Idx → EReal) (ix2 r l) = (Retain.fade logRate (l.val / 64) (r.val + 1) : EReal) := by
  refine Eq.trans ?_ ((congrFun (fromStart_eq m c) (ix2 r l)).trans ?_)
  · refine congrArg (V m c main_v74 : S128x256.Idx → EReal) (funext fun a => Fin.ext ?_)
    refine ((cfg0.win 8).rect_emb_val t (ix2 r l) a rfl).trans ?_
    match a with
    | ⟨0, _⟩ => exact (Nat.zero_mul _).symm ▸ Nat.zero_add r.val
    | ⟨1, _⟩ => exact (Nat.zero_mul _).symm ▸ Nat.zero_add l.val
  · rw [fades_apply]
    show Ideal.exp (rate (l.val / 64) * (FloatOps.sitofp (F := Ideal) .f32 (IntOp.addi (BitVec.ofNat 32 r.val) 1#32) : EReal)) = _
    rw [start_word, ofNat_eq _ (show r.val + 1 < 4096 by omega)]
    exact fade_eq _ _ (show l.val / 64 < 4 by omega)

theorem end_block (r : Fin 128) (l : Fin 256) :
    (iblk m c 9 t : S128x256.Idx → EReal) (ix2 r l) = (Retain.fade logRate (l.val / 64) (127 - r.val) : EReal) := by
  refine Eq.trans ?_ ((congrFun (toEnd_eq m c) (ix2 r l)).trans ?_)
  · refine congrArg (V m c main_v90 : S128x256.Idx → EReal) (funext fun a => Fin.ext ?_)
    refine ((cfg0.win 9).rect_emb_val t (ix2 r l) a rfl).trans ?_
    match a with
    | ⟨0, _⟩ => exact (Nat.zero_mul _).symm ▸ Nat.zero_add r.val
    | ⟨1, _⟩ => exact (Nat.zero_mul _).symm ▸ Nat.zero_add l.val
  · rw [fades_apply]
    show Ideal.exp (rate (l.val / 64) * (FloatOps.sitofp (F := Ideal) .f32 (IntOp.subi 127#32 (BitVec.ofNat 32 r.val)) : EReal)) = _
    rw [end_word, ofNat_eq _ (show 127 - r.val < 4096 by omega)]
    exact fade_eq _ _ (show l.val / 64 < 4 by omega)

theorem chunk_block (i j : Fin 256) : (iblk m c 10 t : S256x256.Idx → EReal) (ix2 i j)
    = ((if i.val / 64 = j.val / 64 then Retain.fade logRate (i.val / 64) 128 else 0 : ℝ) : EReal) := by
  refine Eq.trans ?_ ((congrFun (chunkFade_eq m c) (ix2 i j)).trans ?_)
  · refine congrArg (V m c main_v107 : S256x256.Idx → EReal) (funext fun a => Fin.ext ?_)
    refine ((cfg0.win 10).rect_emb_val t (ix2 i j) a rfl).trans ?_
    match a with
    | ⟨0, _⟩ => exact (Nat.zero_mul _).symm ▸ Nat.zero_add i.val
    | ⟨1, _⟩ => exact (Nat.zero_mul _).symm ▸ Nat.zero_add j.val
  · rw [chunkFade_apply]
    split
    · rw [ofBits_128]
      exact fade_eq _ 128 (show i.val / 64 < 4 by omega)
    · rfl

theorem share_block (i j : Fin 256) : (iblk m c 11 t : S256x256.Idx → EReal) (ix2 i j)
    = ((if i.val / 64 = j.val / 64 then 1 / 64 else 0 : ℝ) : EReal) := by
  refine Eq.trans ?_ ((congrFun (share_eq m c) (ix2 i j)).trans ((share_apply i j).trans ?_))
  · refine congrArg (V m c main_v109 : S256x256.Idx → EReal) (funext fun a => Fin.ext ?_)
    refine ((cfg0.win 11).rect_emb_val t (ix2 i j) a rfl).trans ?_
    match a with
    | ⟨0, _⟩ => exact (Nat.zero_mul _).symm ▸ Nat.zero_add i.val
    | ⟨1, _⟩ => exact (Nat.zero_mul _).symm ▸ Nat.zero_add j.val
  · split
    · exact ofBits_64th
    · rfl

theorem gain_block (l : Fin 256) : (iblk m c 12 t : S1x256.Idx → EReal) (ix2 0 l)
    = (m ((c : Thread nD τ).loc main_arg1) : S256.Idx → EReal) (ix1 l) := by
  refine Eq.trans ?_ ((congrFun (gain_eq m c) (ix2 0 l)).trans (shapeCast_a_1a_apply _ _ 0 l))
  refine congrArg (V m c main_v110 : S1x256.Idx → EReal) (funext fun a => Fin.ext ?_)
  refine ((cfg0.win 12).rect_emb_val t (ix2 0 l) a rfl).trans ?_
  match a with
  | ⟨0, _⟩ => rfl
  | ⟨1, _⟩ => exact (Nat.zero_mul _).symm ▸ Nat.zero_add l.val

end Cert.RetIdeal.Heads

end
-- ==== Proof.Ret.Fold.lean ====
/-
  What the retention launch leaves: the state before every chunk, and the result.
-/
module

public import proofs.«01_k».proof.Proof.Ret.Blocks

@[expose] public section

set_option maxRecDepth 16384

noncomputable section

namespace Cert.RetIdeal.Heads

open Cert.RetIdeal Cert.RetIdeal.Gen Cert.RetIdeal.Value Cert.Layer
open Idealize.ShloMosaic hiding ix1 ix2 ix3 ix4 ix5
open Idealize.ShloMosaic.ValueIdx Idealize.ShloMosaic.TcCoe
open Finset (range)

/-- The kernel's turn of a row of real numbers. -/
theorem turn_real (cs sa sb x : FVec Ideal S128x256 .f32) (x' : ℕ → ℕ → ℝ) (N : ℕ) (r : Fin 128)
    (hx : ∀ l : Fin 256, x (ix2 r l) = (x' N l.val : EReal)) (hc : ∀ l : Fin 256, cs (ix2 r l) = (cosine N (l.val % 32) : EReal))
    (ha : ∀ l : Fin 256, sa (ix2 r l) = ((if l.val % 64 < 32 then 0 else sine N (l.val % 32) : ℝ) : EReal))
    (hb : ∀ l : Fin 256, sb (ix2 r l) = ((if l.val % 64 < 32 then -sine N (l.val % 32) else 0 : ℝ) : EReal)) (l : Fin 256) :
    turn cs sa sb x (ix2 r l) = (turned x' N l.val : EReal) := by
  rw [turn_apply, hx, hx, hx, hc, ha, hb, ← EReal.coe_mul, ← EReal.coe_mul, ← EReal.coe_mul, ← EReal.coe_add, ← EReal.coe_add]
  refine congrArg Real.toEReal ?_
  unfold turned
  by_cases h : l.val % 64 < 32
  · rw [if_pos h, if_pos h, if_pos h]
    have e : (l.val + 32) % 256 = l.val + 32 := by omega
    show _ + _ + x' N ((l.val + 32) % 256) * _ = _
    rw [e]
    ring
  · rw [if_neg h, if_neg h, if_neg h]
    have e : (l.val + 224) % 256 = l.val - 32 := by omega
    show _ + x' N ((l.val + 224) % 256) * _ + _ = _
    rw [e]
    ring

variable (m : (ℓ : Loc nD τ sig) → Buf (Elt Ideal) ℓ) (c : Dev nD) (t : Fin cfg0.N)

/-- The columns the heads read are real numbers. -/
def RealColumns : Prop := ∀ (b : Fin 8) (n : Fin 4096) (p : Fin 3072), 2048 ≤ p.val → p.val < 2816 → IsReal (columns m c (ix3 b n p))

section Point

variable (hz : RealColumns m c) (b : Fin 8) (hb : b.val = t.val / 8) (n : Fin 4) (N : ℕ) (hN : N = 4 * (t.val % 8) + n.val)

include hz hb hN

theorem q_real (r : Fin 128) (l : Fin 256) : qAt m c t n (ix2 r l) = (queries (columns m c) b (128 * N + r.val) l.val : EReal) := by
  have hn : 128 * N + r.val = t.val % 8 * 512 + (128 * n.val + r.val) := by omega
  have hl : 128 * N + r.val < 4096 := by omega
  refine turn_real _ _ _ _ (raw (columns m c) b 2048) (128 * N + r.val) r (fun l => ?_) (fun l => ?_) (fun l => ?_) (fun l => ?_) l
  · refine (blockRows_apply n _ r l).trans ((q_block m c t _ l b ⟨128 * N + r.val, hl⟩ ⟨8 * 256 + l.val, by omega⟩ hb hn rfl).trans ?_)
    exact raw_eq _ b 2048 ⟨128 * N + r.val, hl⟩ l _ rfl (hz _ _ _ (show 2048 ≤ 8 * 256 + l.val by omega) (show 8 * 256 + l.val < 2816 by omega))
  · exact (tableRows_apply n _ r l).trans (cos_block m c t _ l ⟨128 * N + r.val, hl⟩ hn)
  · exact (tableRows_apply n _ r l).trans (high_block m c t _ l ⟨128 * N + r.val, hl⟩ hn)
  · exact (tableRows_apply n _ r l).trans (low_block m c t _ l ⟨128 * N + r.val, hl⟩ hn)

theorem k_real (r : Fin 128) (l : Fin 256) : kAt m c t n (ix2 r l) = (scaledKeys (columns m c) b (128 * N + r.val) l.val : EReal) := by
  have hn : 128 * N + r.val = t.val % 8 * 512 + (128 * n.val + r.val) := by omega
  have hl : 128 * N + r.val < 4096 := by omega
  unfold kAt scaledKeys
  rw [keys_apply, EReal.coe_mul]
  refine congrArg (fun a : EReal => a * ((1 / 8 : ℝ) : EReal)) ?_
  refine turn_real _ _ _ _ (raw (columns m c) b 2304) (128 * N + r.val) r (fun l => ?_) (fun l => ?_) (fun l => ?_) (fun l => ?_) l
  · refine (blockRows_apply n _ r l).trans ((k_block m c t _ l b ⟨128 * N + r.val, hl⟩ ⟨9 * 256 + l.val, by omega⟩ hb hn rfl).trans ?_)
    exact raw_eq _ b 2304 ⟨128 * N + r.val, hl⟩ l _ rfl (hz _ _ _ (show 2048 ≤ 9 * 256 + l.val by omega) (show 9 * 256 + l.val < 2816 by omega))
  · exact (tableRows_apply n _ r l).trans (cos_block m c t _ l ⟨128 * N + r.val, hl⟩ hn)
  · exact (tableRows_apply n _ r l).trans (high_block m c t _ l ⟨128 * N + r.val, hl⟩ hn)
  · exact (tableRows_apply n _ r l).trans (low_block m c t _ l ⟨128 * N + r.val, hl⟩ hn)

theorem v_real (r : Fin 128) (l : Fin 256) : vAt m c t n (ix2 r l) = (values (columns m c) b (128 * N + r.val) l.val : EReal) := by
  have hn : 128 * N + r.val = t.val % 8 * 512 + (128 * n.val + r.val) := by omega
  have hl : 128 * N + r.val < 4096 := by omega
  refine (blockRows_apply n _ r l).trans ((v_block m c t _ l b ⟨128 * N + r.val, hl⟩ ⟨10 * 256 + l.val, by omega⟩ hb hn rfl).trans ?_)
  exact raw_eq _ b 2560 ⟨128 * N + r.val, hl⟩ l _ rfl (hz _ _ _ (show 2048 ≤ 10 * 256 + l.val by omega) (show 10 * 256 + l.val < 2816 by omega))

/-- One chunk carries the state on. -/
theorem step_real (st : FVec Ideal S256x256 .f32)
    (hs : ∀ i j : Fin 256, st (ix2 i j) = (Retain.state (scaledKeys (columns m c) b) (values (columns m c) b) logRate N i.val j.val : EReal))
    (i j : Fin 256) : step m c t n st (ix2 i j)
      = (Retain.state (scaledKeys (columns m c) b) (values (columns m c) b) logRate (N + 1) i.val j.val : EReal) := by
  unfold step
  rw [next_apply, hs, chunk_block, Retain.state_succ, EReal.coe_add, EReal.coe_mul]
  refine congrArg₂ (fun a b : EReal => a + b) rfl ?_
  split
  · rw [Finset.sum_range, coe_sum]
    refine Finset.sum_congr rfl fun r _ => ?_
    rw [k_real m c t hz b hb n N hN, end_block, v_real m c t hz b hb n N hN, EReal.coe_mul, EReal.coe_mul]
  · rfl

/-- What a token of the chunk takes. -/
theorem taken_real (st : FVec Ideal S256x256 .f32)
    (hs : ∀ i j : Fin 256, st (ix2 i j) = (Retain.state (scaledKeys (columns m c) b) (values (columns m c) b) logRate N i.val j.val : EReal))
    (r : Fin 128) (l : Fin 256) :
    taken (qAt m c t n) (kAt m c t n) (vAt m c t n) (iblk m c 7 t) (iblk m c 8 t) st (ix2 r l)
      = (total (columns m c) b (128 * N + r.val) l.val : EReal) := by
  have ht : t.val < 64 := t.isLt
  unfold total
  rw [taken_apply, ← Retain.output_eq _ _ _ _ N r.val l.val (by omega) r.isLt l.isLt, EReal.coe_add]
  refine congrArg₂ (fun a b : EReal => a + b) ?_ ?_
  · unfold Retain.within
    rw [Finset.sum_range, coe_sum]
    refine Finset.sum_congr rfl fun x _ => ?_
    rw [EReal.coe_mul, EReal.coe_mul]
    refine congrArg₂ (fun a b : EReal => a * b) ?_ ?_
    · rw [faded_apply, inside_block]
      refine congrArg (fun a : EReal => a * _) ?_
      rw [Finset.sum_range, coe_sum]
      refine Finset.sum_congr rfl fun i _ => ?_
      rw [k_real m c t hz b hb n N hN, q_real m c t hz b hb n N hN, EReal.coe_mul]
      refine congrArg (fun a : EReal => a * _) ?_
      split
      · rfl
      · rfl
    · rw [stacked_apply, v_real m c t hz b hb n N hN]
      split
      · rfl
      · rfl
  · unfold Retain.before
    rw [Finset.sum_range, coe_sum]
    refine Finset.sum_congr rfl fun i _ => ?_
    rw [q_real m c t hz b hb n N hN, start_block, hs, EReal.coe_mul, EReal.coe_mul]

/-- What the chunk leaves of a token. -/
theorem chunk_real (st : FVec Ideal S256x256 .f32)
    (hs : ∀ i j : Fin 256, st (ix2 i j) = (Retain.state (scaledKeys (columns m c) b) (values (columns m c) b) logRate N i.val j.val : EReal))
    (r : Fin 128) (l : Fin 256) (q : Fin 4096) (hq : q.val = 128 * N + r.val) :
    chunkOut m c t n st (ix3 0 r l) = retained (columns m c) (m ((c : Thread nD τ).loc main_arg1)) b q l := by
  have hn : q.val = t.val % 8 * 512 + (128 * n.val + r.val) := by omega
  unfold chunkOut retained
  rw [gatedChunk_eq _ _ _ _ (total (columns m c) b (128 * N + r.val)) r l (fun i => taken_real m c t hz b hb n N hN st hs r i) (share_block m c t), gain_block, hq]
  refine congrArg (fun a : EReal => silu a * _) ?_
  exact (blockRows_apply n _ r l).trans (g_block m c t _ l b q ⟨2816 + l.val, by omega⟩ hb hn rfl)

end Point

section Sweep

variable (hz : RealColumns m c)

include hz

/-- The state at every chunk of a point, from the state at its first. -/
theorem states_real (b : Fin 8) (hb : b.val = t.val / 8) (st : FVec Ideal S256x256 .f32)
    (hs : ∀ i j : Fin 256, st (ix2 i j)
      = (Retain.state (scaledKeys (columns m c) b) (values (columns m c) b) logRate (4 * (t.val % 8)) i.val j.val : EReal)) :
    ∀ n, n ≤ 4 → ∀ i j : Fin 256, states m c t st n (ix2 i j)
      = (Retain.state (scaledKeys (columns m c) b) (values (columns m c) b) logRate (4 * (t.val % 8) + n) i.val j.val : EReal) := by
  have h1 := step_real m c t hz b hb 0 _ rfl st hs
  have h2 := step_real m c t hz b hb 1 _ rfl _ h1
  have h3 := step_real m c t hz b hb 2 _ rfl _ h2
  have h4 := step_real m c t hz b hb 3 _ rfl _ h3
  intro n hn
  match n, hn with
  | 0, _ => exact hs
  | 1, _ => exact h1
  | 2, _ => exact h2
  | 3, _ => exact h3
  | 4, _ => exact h4

/-- Before a sequence's first chunk the state is zero. -/
theorem start_real (b : Fin 8) (h0 : t.val % 8 = 0) (i j : Fin 256) : (k0_pay8 : FVec Ideal S256x256 .f32) (ix2 i j)
    = (Retain.state (scaledKeys (columns m c) b) (values (columns m c) b) logRate (4 * (t.val % 8)) i.val j.val : EReal) := by
  rw [h0, Retain.state_zero]
  exact Ideal.ofBits_zero_f32

/-- The state a point finds, as the recursion over the points gives it: zero at a sequence's first point. -/
theorem found_real (n : ℕ) : ∀ (hn : n < cfg0.N) (b : Fin 8), b.val = n / 8 → ∀ i j : Fin 256, (outsAt0 m c n hn).2 (ix2 i j)
    = (Retain.state (scaledKeys (columns m c) b) (values (columns m c) b) logRate (4 * (n % 8) + 4) i.val j.val : EReal) := by
  induction n with
  | zero =>
    intro hn b hb i j
    rw [outsAt0_zero, state_first m c ⟨0, hn⟩ _ rfl]
    exact states_real m c ⟨0, hn⟩ hz b hb _ (start_real m c ⟨0, hn⟩ hz b rfl) 4 le_rfl i j
  | succ n ih =>
    intro hn b hb i j
    rw [outsAt0_succ]
    by_cases h0 : (n + 1) % 8 = 0
    · rw [state_first m c ⟨n + 1, hn⟩ _ h0]
      exact states_real m c ⟨n + 1, hn⟩ hz b hb _ (start_real m c ⟨n + 1, hn⟩ hz b h0) 4 le_rfl i j
    · rw [state_later m c ⟨n + 1, hn⟩ _ h0]
      refine states_real m c ⟨n + 1, hn⟩ hz b hb _ (fun i j => ?_) 4 le_rfl i j
      refine (ih (Nat.lt_of_succ_lt hn) b (by omega) i j).trans ?_
      rw [show 4 * (n % 8) + 4 = 4 * ((n + 1) % 8) by omega]

/-- The block a point leaves. -/
theorem left_real (b : Fin 8) (hb : b.val = t.val / 8) (r : Fin 512) (l : Fin 256) (q : Fin 4096) (hq : q.val = t.val % 8 * 512 + r.val) :
    (outsAt0 m c t.val t.isLt).1 (ix3 0 r l) = retained (columns m c) (m ((c : Thread nD τ).loc main_arg1)) b q l := by
  obtain ⟨n, s, hr⟩ : ∃ (n : Fin 4) (s : Fin 128), r = ⟨128 * n.val + s.val, by omega⟩ :=
    ⟨⟨r.val / 128, by omega⟩, ⟨r.val % 128, by omega⟩, Fin.ext (show r.val = 128 * (r.val / 128) + r.val % 128 by omega)⟩
  have hv : r.val = 128 * n.val + s.val := congrArg Fin.val hr
  have key : ∀ st : FVec Ideal S256x256 .f32, (∀ i j : Fin 256, st (ix2 i j)
      = (Retain.state (scaledKeys (columns m c) b) (values (columns m c) b) logRate (4 * (t.val % 8)) i.val j.val : EReal)) →
      leaves m c t st (ix3 0 r l) = retained (columns m c) (m ((c : Thread nD τ).loc main_arg1)) b q l := fun st hs => by
    rw [hr, leaves_apply]
    exact chunk_real m c t hz b hb n _ rfl _ (states_real m c t hz b hb st hs n.val (by omega)) s l q (by omega)
  by_cases h0 : t.val % 8 = 0
  · have e : (outsAt0 m c t.val t.isLt).1 = leaves m c t k0_pay8 := by
      obtain ⟨v, hv⟩ := t
      cases v with
      | zero => rw [outsAt0_zero]; exact block_first m c ⟨0, hv⟩ _ h0
      | succ v => rw [outsAt0_succ]; exact block_first m c ⟨v + 1, hv⟩ _ h0
    rw [e]
    exact key _ (start_real m c t hz b h0)
  · obtain ⟨v, hv⟩ := t
    cases v with
    | zero => exact absurd rfl h0
    | succ v =>
      rw [outsAt0_succ, block_later m c ⟨v + 1, hv⟩ _ h0]
      refine key _ fun i j => (found_real m c hz v (Nat.lt_of_succ_lt hv) b ?_ i j).trans ?_
      · have e : b.val = (v + 1) / 8 := hb
        have e0 : ¬ (v + 1) % 8 = 0 := h0
        omega
      · have e0 : ¬ (v + 1) % 8 = 0 := h0
        show ((Retain.state _ _ _ (4 * (v % 8) + 4) _ _ : ℝ) : EReal) = ((Retain.state _ _ _ (4 * ((v + 1) % 8)) _ _ : ℝ) : EReal)
        rw [show 4 * (v % 8) + 4 = 4 * ((v + 1) % 8) by omega]

/-- The result array after the whole grid. -/
theorem array_eq : G13 m c = fun i : S8x4096x256.Idx => retained (columns m c) (m ((c : Thread nD τ).loc main_arg1)) (i 0) (i 1) (i 2) := by
  refine funext fun (i : S8x4096x256.Idx) => ?_
  obtain ⟨b, n, l, rfl⟩ : ∃ b n l, i = ix3 b n l := ⟨_, _, _, ValueIdx.eq_ix3 i⟩
  have hp : pt13Of (ix3 b n l) = 8 * b.val + n.val / 512 := by
    show 8 * (b.val / 1 - 0) + 1 * (n.val / 512 - 0) + 1 * (l.val / 256 - 0) = _
    omega
  have hlt : pt13Of (ix3 b n l) < cfg0.N := lt_of_lt_of_eq (show pt13Of (ix3 b n l) < 64 by omega) N_0.symm
  have hloc : loc13Of (ix3 b n l) = (ix3 0 ⟨n.val % 512, by omega⟩ l : S1x512x256.Idx) := funext fun a => Fin.ext (by
    match a with
    | ⟨0, _⟩ => exact (show b.val % 1 = 0 by omega)
    | ⟨1, _⟩ => rfl
    | ⟨2, _⟩ => exact (show l.val % 256 = l.val by omega))
  unfold G13
  rw [dif_pos hlt, ← outsAt0_sweep m c _ hlt, hloc]
  exact left_real m c ⟨pt13Of (ix3 b n l), hlt⟩ hz b (show b.val = pt13Of (ix3 b n l) / 8 by omega) _ l n
    (show n.val = pt13Of (ix3 b n l) % 8 * 512 + n.val % 512 by omega)

end Sweep

end Cert.RetIdeal.Heads

end
-- ==== Proof.Ret.Reference.lean ====
/-
  The retention's reference at an index: the same result.
-/
module

public import proofs.«01_k».proof.Proof.Ret.Spec
public import proofs.«01_k».proof.Proof.Gen.RetRefIdeal.Read

@[expose] public section

set_option maxRecDepth 16384

noncomputable section

namespace Cert.RetIdeal.Heads

open Cert.RetRefIdeal.Read Cert.Layer
open Idealize.ShloMosaic hiding ix1 ix2 ix3 ix4 ix5
open Idealize.ShloMosaic.ValueIdx Idealize.ShloMosaic.TcCoe
open Finset (range)

/-! ## Angles -/

theorem ref_angle (n : Fin 4096) (d : Fin 32) : val_main_v18 (F := Ideal) (ix2 n d) = angle n.val d.val := by
  rw [val_main_v18_apply, val_main_v16_apply, val_main_v14_apply, val_main_v13_apply, val_main_v17_apply, val_main_v15_apply, val_main_v12_apply,
    val_main_v11_apply, val_main_v10_apply, val_main_v9_apply, val_main_v8_apply]
  rfl

theorem ref_cos (b : Fin 8) (n : Fin 4096) (h : Fin 4) (d : Fin 32) :
    val_main_v25 (F := Ideal) (ix4 b n h d) = (cosine n.val d.val : EReal) := by
  have e : idx_main_v20 (idx_main_v25 (ix4 b n h d)) = ix2 n d := funext fun a => by
    match a with
    | ⟨0, _⟩ => rfl
    | ⟨1, _⟩ => rfl
  rw [val_main_v25_apply, val_main_v20_apply, e, val_main_v19_apply, ref_angle]
  exact cosine_eq _ _ n.isLt (by omega)

theorem ref_sin (b : Fin 8) (n : Fin 4096) (h : Fin 4) (d : Fin 32) :
    val_main_v27 (F := Ideal) (ix4 b n h d) = (sine n.val d.val : EReal) := by
  have e : idx_main_v22 (idx_main_v27 (ix4 b n h d)) = ix2 n d := funext fun a => by
    match a with
    | ⟨0, _⟩ => rfl
    | ⟨1, _⟩ => rfl
  rw [val_main_v27_apply, val_main_v22_apply, e, val_main_v21_apply, ref_angle]
  exact sine_eq _ _ n.isLt (by omega)

/-! ## The turn -/

/-- The first half of every head, and the second. -/
def firstHalf (y : FVec Ideal Cert.RetRefIdeal.S8x4096x4x64 .f32) : FVec Ideal Cert.RetRefIdeal.S8x4096x4x32 .f32 :=
  extractStridedSlice Cert.RetRefIdeal.S8x4096x4x32 ![0, 0, 0, 0] y Cert.RetRefIdeal.Gen.slices_S8x4096x4x64_S8x4096x4x32_0_0_0_0

def secondHalf (y : FVec Ideal Cert.RetRefIdeal.S8x4096x4x64 .f32) : FVec Ideal Cert.RetRefIdeal.S8x4096x4x32 .f32 :=
  extractStridedSlice Cert.RetRefIdeal.S8x4096x4x32 ![0, 0, 0, 32] y Cert.RetRefIdeal.Gen.slices_S8x4096x4x64_S8x4096x4x32_0_0_0_32

/-- The reference's turn: the halves against one another. -/
def halvesTurned (y : FVec Ideal Cert.RetRefIdeal.S8x4096x4x64 .f32) : FVec Ideal Cert.RetRefIdeal.S8x4096x4x64 .f32 :=
  concatenate Cert.RetRefIdeal.S8x4096x4x64 3
    [⟨Cert.RetRefIdeal.S8x4096x4x32, subf (mulf (firstHalf y) (val_main_v25 (F := Ideal))) (mulf (secondHalf y) (val_main_v27 (F := Ideal)))⟩,
      ⟨Cert.RetRefIdeal.S8x4096x4x32, addf (mulf (firstHalf y) (val_main_v27 (F := Ideal))) (mulf (secondHalf y) (val_main_v25 (F := Ideal)))⟩]
    Cert.RetRefIdeal.Gen.concatenates_S8x4096x4x32_S8x4096x4x32_S8x4096x4x64_d3

theorem firstHalf_apply (y : FVec Ideal Cert.RetRefIdeal.S8x4096x4x64 .f32) (b : Fin 8) (n : Fin 4096) (h : Fin 4) (d : Fin 32) :
    firstHalf y (ix4 b n h d) = y (ix4 b n h ⟨d.val, by omega⟩) := by
  unfold firstHalf
  exact extractStridedSlice_apply ![0, 0, 0, 0] y Cert.RetRefIdeal.Gen.slices_S8x4096x4x64_S8x4096x4x32_0_0_0_0 (ix4 b n h d) (ix4 b n h ⟨d.val, by omega⟩) fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm

theorem secondHalf_apply (y : FVec Ideal Cert.RetRefIdeal.S8x4096x4x64 .f32) (b : Fin 8) (n : Fin 4096) (h : Fin 4) (d : Fin 32) :
    secondHalf y (ix4 b n h d) = y (ix4 b n h ⟨32 + d.val, by omega⟩) := by
  unfold secondHalf
  exact extractStridedSlice_apply ![0, 0, 0, 32] y Cert.RetRefIdeal.Gen.slices_S8x4096x4x64_S8x4096x4x32_0_0_0_32 (ix4 b n h d) (ix4 b n h ⟨32 + d.val, by omega⟩) fun a => by
    match a with
    | ⟨0, _⟩ => exact (Nat.zero_add _).symm
    | ⟨1, _⟩ => exact (Nat.zero_add _).symm
    | ⟨2, _⟩ => exact (Nat.zero_add _).symm
    | ⟨3, _⟩ => rfl

/-- The reference's turn of real numbers. -/
theorem halvesTurned_real (y : FVec Ideal Cert.RetRefIdeal.S8x4096x4x64 .f32) (y' : ℕ → ℕ → ℝ) (b : Fin 8)
    (hy : ∀ (n : Fin 4096) (h : Fin 4) (d : Fin 64), y (ix4 b n h d) = (y' n.val (64 * h.val + d.val) : EReal))
    (n : Fin 4096) (h : Fin 4) (d : Fin 64) : halvesTurned y (ix4 b n h d) = (turned y' n.val (64 * h.val + d.val) : EReal) := by
  have hc := ref_cos b n h ⟨d.val % 32, by omega⟩
  have hs := ref_sin b n h ⟨d.val % 32, by omega⟩
  have h1 := (firstHalf_apply y b n h ⟨d.val % 32, by omega⟩).trans (hy n h _)
  have h2 := (secondHalf_apply y b n h ⟨d.val % 32, by omega⟩).trans (hy n h _)
  unfold halvesTurned turned
  by_cases hd : d.val < 32
  · rw [if_pos (show (64 * h.val + d.val) % 64 < 32 by omega)]
    refine (concatenate_pair_apply_left (t := Cert.RetRefIdeal.S8x4096x4x64) (s₁ := Cert.RetRefIdeal.S8x4096x4x32) (s₂ := Cert.RetRefIdeal.S8x4096x4x32)
      3 _ _ _ (ix4 b n h d) rfl (ix4 b n h ⟨d.val % 32, by omega⟩) fun x => ?_).trans ?_
    · match x with
      | ⟨0, _⟩ => rfl
      | ⟨1, _⟩ => rfl
      | ⟨2, _⟩ => rfl
      | ⟨3, _⟩ => exact Nat.mod_eq_of_lt hd
    · show firstHalf y _ * val_main_v25 (F := Ideal) _ - secondHalf y _ * val_main_v27 (F := Ideal) _ = _
      rw [h1, h2, hc, hs, ← EReal.coe_mul, ← EReal.coe_mul, ← EReal.coe_sub]
      show (((y' n.val (64 * h.val + d.val % 32)) * cosine n.val (d.val % 32) - y' n.val (64 * h.val + (32 + d.val % 32)) * sine n.val (d.val % 32) : ℝ) : EReal) = _
      rw [show 64 * h.val + (32 + d.val % 32) = 64 * h.val + d.val + 32 by omega, show (64 * h.val + d.val) % 32 = d.val % 32 by omega,
        show 64 * h.val + d.val % 32 = 64 * h.val + d.val by omega]
  · rw [if_neg (show ¬ (64 * h.val + d.val) % 64 < 32 by omega)]
    refine (concatenate_pair_apply_right (t := Cert.RetRefIdeal.S8x4096x4x64) (s₁ := Cert.RetRefIdeal.S8x4096x4x32) (s₂ := Cert.RetRefIdeal.S8x4096x4x32)
      3 _ _ _ (ix4 b n h d) rfl rfl (ix4 b n h ⟨d.val % 32, by omega⟩) (fun x hx => ?_) ?_).trans ?_
    · match x with
      | ⟨0, _⟩ => rfl
      | ⟨1, _⟩ => rfl
      | ⟨2, _⟩ => rfl
      | ⟨3, _⟩ => exact absurd rfl hx
    · show d.val % 32 + 32 = d.val
      omega
    · show firstHalf y _ * val_main_v27 (F := Ideal) _ + secondHalf y _ * val_main_v25 (F := Ideal) _ = _
      rw [h1, h2, hc, hs, ← EReal.coe_mul, ← EReal.coe_mul, ← EReal.coe_add]
      show (((y' n.val (64 * h.val + d.val % 32)) * sine n.val (d.val % 32) + y' n.val (64 * h.val + (32 + d.val % 32)) * cosine n.val (d.val % 32) : ℝ) : EReal) = _
      rw [show 64 * h.val + (32 + d.val % 32) = 64 * h.val + d.val by omega, show (64 * h.val + d.val) % 32 = d.val % 32 by omega,
        show 64 * h.val + d.val % 32 = 64 * h.val + d.val - 32 by omega]

/-! ## The weights -/

theorem ref_rate (h : Fin 4) : val_main_v56 (F := Ideal) (ix1 h) = rate h.val := by
  rw [val_main_v56_apply, val_main_v55_apply, val_main_v54_apply, val_main_v53_apply, val_main_v52_apply, val_main_v51_apply, val_main_v50_apply]
  rfl

theorem ref_back (n t : Fin 4096) : val_main_v62 (F := Ideal) (ix2 n t) = IntOp.subi (BitVec.ofNat 32 n.val) (BitVec.ofNat 32 t.val) := by
  rw [val_main_v62_apply, val_main_v60_apply, val_main_v58_apply, val_main_v61_apply, val_main_v59_apply]
  rfl

theorem ref_later (n t : Fin 4096) : val_main_v64 (F := Ideal) (ix2 n t) = laterBit n.val t.val := by
  rw [val_main_v64_apply, ref_back, val_main_v63_apply]
  rfl

theorem ref_gap (n t : Fin 4096) : val_main_v67 (F := Ideal) (ix2 n t) = gap n.val t.val := by
  rw [val_main_v67_apply, ref_back, val_main_v66_apply]
  rfl

theorem ref_weight (h : Fin 4) (n t : Fin 4096) : val_main_v74 (F := Ideal) (ix3 h n t) = (Retain.weight logRate h.val n.val t.val : EReal) := by
  have e1 : idx_main_call0_v1 (ix3 h n t) = ix2 n t := funext fun a => by
    match a with
    | ⟨0, _⟩ => rfl
    | ⟨1, _⟩ => rfl
  have e2 : idx_main_v65 (idx_main_v70 (ix3 h n t)) = ix1 h := funext fun a => by
    match a with
    | ⟨0, _⟩ => rfl
  have e3 : idx_main_v68 (idx_main_v71 (ix3 h n t)) = ix2 n t := funext fun a => by
    match a with
    | ⟨0, _⟩ => rfl
    | ⟨1, _⟩ => rfl
  rw [val_main_v74_apply, val_main_call0_v1_apply, e1, ref_later, val_main_v73_apply, val_main_v72_apply, val_main_v70_apply, val_main_v65_apply, e2,
    ref_rate, val_main_v71_apply, val_main_v69_apply, val_main_v68_apply, e3, ref_gap, val_main_call0_v2_apply]
  refine Eq.trans ?_ (weight_eq h.val n.val t.val h.isLt n.isLt t.isLt)
  refine congrArg (Scalar.select (laterBit n.val t.val) (Ideal.exp (rate h.val * (FloatOps.sitofp (F := Ideal) .f32 (gap n.val t.val) : EReal)))) ?_
  exact Ideal.ofBits_zero_f32

/-! ## The heads -/

section Heads

variable (z : FVec Ideal S8x4096x3072 .f32)

/-- Heads read from the columns: the lanes from the column's offset. -/
theorem ref_q (b : Fin 8) (n : Fin 4096) (h : Fin 4) (d : Fin 64) :
    val_main_v1 (F := Ideal) z (ix4 b n h d) = z (ix3 b n ⟨2048 + (64 * h.val + d.val), by omega⟩) := by
  rw [val_main_v1_apply, val_main_v0_apply]
  refine congrArg z (funext fun a => Fin.ext ?_)
  match a with
  | ⟨0, _⟩ => exact (show (((b.val * 4096 + n.val) * 4 + h.val) * 64 + d.val) / 1048576 = b.val by omega)
  | ⟨1, _⟩ => exact (show (((b.val * 4096 + n.val) * 4 + h.val) * 64 + d.val) / 256 % 4096 = n.val by omega)
  | ⟨2, _⟩ => exact (show 2048 + (((b.val * 4096 + n.val) * 4 + h.val) * 64 + d.val) % 256 = 2048 + (64 * h.val + d.val) by omega)

theorem ref_k (b : Fin 8) (n : Fin 4096) (h : Fin 4) (d : Fin 64) :
    val_main_v3 (F := Ideal) z (ix4 b n h d) = z (ix3 b n ⟨2304 + (64 * h.val + d.val), by omega⟩) := by
  rw [val_main_v3_apply, val_main_v2_apply]
  refine congrArg z (funext fun a => Fin.ext ?_)
  match a with
  | ⟨0, _⟩ => exact (show (((b.val * 4096 + n.val) * 4 + h.val) * 64 + d.val) / 1048576 = b.val by omega)
  | ⟨1, _⟩ => exact (show (((b.val * 4096 + n.val) * 4 + h.val) * 64 + d.val) / 256 % 4096 = n.val by omega)
  | ⟨2, _⟩ => exact (show 2304 + (((b.val * 4096 + n.val) * 4 + h.val) * 64 + d.val) % 256 = 2304 + (64 * h.val + d.val) by omega)

theorem ref_v (b : Fin 8) (n : Fin 4096) (h : Fin 4) (d : Fin 64) :
    val_main_v5 (F := Ideal) z (ix4 b n h d) = z (ix3 b n ⟨2560 + (64 * h.val + d.val), by omega⟩) := by
  rw [val_main_v5_apply, val_main_v4_apply]
  refine congrArg z (funext fun a => Fin.ext ?_)
  match a with
  | ⟨0, _⟩ => exact (show (((b.val * 4096 + n.val) * 4 + h.val) * 64 + d.val) / 1048576 = b.val by omega)
  | ⟨1, _⟩ => exact (show (((b.val * 4096 + n.val) * 4 + h.val) * 64 + d.val) / 256 % 4096 = n.val by omega)
  | ⟨2, _⟩ => exact (show 2560 + (((b.val * 4096 + n.val) * 4 + h.val) * 64 + d.val) % 256 = 2560 + (64 * h.val + d.val) by omega)

variable (hz : ∀ (b : Fin 8) (n : Fin 4096) (p : Fin 3072), 2048 ≤ p.val → p.val < 2816 → IsReal (z (ix3 b n p)))

include hz

theorem ref_queries (b : Fin 8) (n : Fin 4096) (h : Fin 4) (d : Fin 64) :
    val_main_v35 (F := Ideal) z (ix4 b n h d) = (queries z b n.val (64 * h.val + d.val) : EReal) := by
  refine (show val_main_v35 (F := Ideal) z (ix4 b n h d) = halvesTurned (val_main_v1 (F := Ideal) z) (ix4 b n h d) from rfl).trans
    (halvesTurned_real _ (raw z b 2048) b (fun n h d => ?_) n h d)
  exact (ref_q z b n h d).trans (raw_eq z b 2048 n ⟨64 * h.val + d.val, by omega⟩ _ rfl
    (hz _ _ _ (show 2048 ≤ 2048 + (64 * h.val + d.val) by omega) (show 2048 + (64 * h.val + d.val) < 2816 by omega)))

theorem ref_keys (b : Fin 8) (n : Fin 4096) (h : Fin 4) (d : Fin 64) :
    val_main_v76 (F := Ideal) z (ix4 b n h d) = (scaledKeys z b n.val (64 * h.val + d.val) : EReal) := by
  have ht : val_main_v48 (F := Ideal) z (ix4 b n h d) = (turned (raw z b 2304) n.val (64 * h.val + d.val) : EReal) := by
    refine (show val_main_v48 (F := Ideal) z (ix4 b n h d) = halvesTurned (val_main_v3 (F := Ideal) z) (ix4 b n h d) from rfl).trans
      (halvesTurned_real _ (raw z b 2304) b (fun n h d => ?_) n h d)
    exact (ref_k z b n h d).trans (raw_eq z b 2304 n ⟨64 * h.val + d.val, by omega⟩ _ rfl
      (hz _ _ _ (show 2048 ≤ 2304 + (64 * h.val + d.val) by omega) (show 2304 + (64 * h.val + d.val) < 2816 by omega)))
  have h8 : val_main_v75 (F := Ideal) (ix4 b n h d) = ((1 / 8 : ℝ) : EReal) := by
    rw [val_main_v75_apply]
    exact ofBits_8th
  rw [val_main_v76_apply, ht, h8]
  exact (EReal.coe_mul _ _).symm

theorem ref_values (b : Fin 8) (n : Fin 4096) (h : Fin 4) (d : Fin 64) :
    val_main_v5 (F := Ideal) z (ix4 b n h d) = (values z b n.val (64 * h.val + d.val) : EReal) :=
  (ref_v z b n h d).trans (raw_eq z b 2560 n ⟨64 * h.val + d.val, by omega⟩ _ rfl
    (hz _ _ _ (show 2048 ≤ 2560 + (64 * h.val + d.val) by omega) (show 2560 + (64 * h.val + d.val) < 2816 by omega)))

/-- A score. -/
theorem ref_score (b : Fin 8) (h : Fin 4) (n t : Fin 4096) :
    val_main_v77 (F := Ideal) z (ix4 b h n t) = (Retain.score (queries z b) (scaledKeys z b) h.val n.val t.val : EReal) := by
  rw [val_main_v77_apply]
  unfold Retain.score
  rw [Finset.sum_range, coe_sum]
  refine Finset.sum_congr rfl fun d _ => ?_
  have el : lidx_main_v77 (ix4 b h n t) d = ix4 b n h d := funext fun a => by
    match a with
    | ⟨0, _⟩ => rfl
    | ⟨1, _⟩ => rfl
    | ⟨2, _⟩ => rfl
    | ⟨3, _⟩ => rfl
  have er : ridx_main_v77 (ix4 b h n t) d = ix4 b t h d := funext fun a => by
    match a with
    | ⟨0, _⟩ => rfl
    | ⟨1, _⟩ => rfl
    | ⟨2, _⟩ => rfl
    | ⟨3, _⟩ => rfl
  rw [el, er, ref_queries z hz, ref_keys z hz, EReal.coe_mul]

/-- What a token takes. -/
theorem ref_total (b : Fin 8) (n : Fin 4096) (h : Fin 4) (d : Fin 64) :
    val_main_v82 (F := Ideal) z (ix4 b n h d) = (total z b n.val (64 * h.val + d.val) : EReal) := by
  have e : idx_main_v82 (ix4 b n h d) = ix4 b h d n := funext fun a => by
    match a with
    | ⟨0, _⟩ => rfl
    | ⟨1, _⟩ => rfl
    | ⟨2, _⟩ => rfl
    | ⟨3, _⟩ => rfl
  rw [val_main_v82_apply, e, val_main_v81_apply]
  unfold total
  rw [show (64 * h.val + d.val) / 64 = h.val by omega, Finset.sum_range, coe_sum]
  refine Finset.sum_congr rfl fun t _ => ?_
  have el : lidx_main_v81 (ix4 b h d n) t = ix4 b t h d := funext fun a => by
    match a with
    | ⟨0, _⟩ => rfl
    | ⟨1, _⟩ => rfl
    | ⟨2, _⟩ => rfl
    | ⟨3, _⟩ => rfl
  have er : ridx_main_v81 (ix4 b h d n) t = ix4 b h n t := funext fun a => by
    match a with
    | ⟨0, _⟩ => rfl
    | ⟨1, _⟩ => rfl
    | ⟨2, _⟩ => rfl
    | ⟨3, _⟩ => rfl
  have ew : idx_main_v78 (idx_main_v79 (ix4 b h n t)) = ix3 h n t := funext fun a => by
    match a with
    | ⟨0, _⟩ => rfl
    | ⟨1, _⟩ => rfl
    | ⟨2, _⟩ => rfl
  rw [el, er, ref_values z hz, val_main_v80_apply, ref_score z hz, val_main_v79_apply, val_main_v78_apply, ew, ref_weight, EReal.coe_mul, EReal.coe_mul]
  rfl

/-- The mean over a head. -/
theorem ref_mean (b : Fin 8) (n : Fin 4096) (h : Fin 4) :
    val_main_v86 (F := Ideal) z (ix4 b n h 0) = (meanOf (total z b n.val) h.val : EReal) := by
  have e : idx_main_v84 (ix4 b n h 0) = ix3 b n h := funext fun a => by
    match a with
    | ⟨0, _⟩ => rfl
    | ⟨1, _⟩ => rfl
    | ⟨2, _⟩ => rfl
  have e6 : val_main_v85 (F := Ideal) (ix4 b n h 0) = ((64 : ℝ) : EReal) := by
    rw [val_main_v85_apply]
    exact ofBits_64
  have e0 : val_main_cst_7 (F := Ideal) (Shape.Idx.first Cert.RetRefIdeal.Gen.h_S_) = 0 := Ideal.ofBits_zero_f32
  rw [val_main_v86_apply, val_main_v84_apply, e, val_main_v83_apply, e6, e0, zero_add]
  refine (Ideal.div_coe (by norm_num) _).trans ?_
  unfold meanOf
  rw [EReal.coe_mul, Finset.sum_range, coe_sum]
  refine congrArg (fun a : EReal => a * ((1 / 64 : ℝ) : EReal)) (Finset.sum_congr rfl fun d _ => ?_)
  refine Eq.trans (congrArg (val_main_v82 (F := Ideal) z) (funext fun a => ?_)) (ref_total z hz b n h d)
  match a with
  | ⟨0, _⟩ => rfl
  | ⟨1, _⟩ => rfl
  | ⟨2, _⟩ => rfl
  | ⟨3, _⟩ => rfl

/-- A lane less its head's mean. -/
theorem ref_less (b : Fin 8) (n : Fin 4096) (h : Fin 4) (d : Fin 64) : val_main_v88 (F := Ideal) z (ix4 b n h d)
    = ((total z b n.val (64 * h.val + d.val) - meanOf (total z b n.val) h.val : ℝ) : EReal) := by
  have e : idx_main_v87 (ix4 b n h d) = ix4 b n h 0 := funext fun a => by
    match a with
    | ⟨0, _⟩ => rfl
    | ⟨1, _⟩ => rfl
    | ⟨2, _⟩ => rfl
    | ⟨3, _⟩ => rfl
  rw [val_main_v88_apply, ref_total z hz, val_main_v87_apply, e, ref_mean z hz]
  exact (EReal.coe_sub _ _).symm

/-- The variance over a head. -/
theorem ref_variance (b : Fin 8) (n : Fin 4096) (h : Fin 4) :
    val_main_v93 (F := Ideal) z (ix4 b n h 0) = (varianceOf (total z b n.val) h.val : EReal) := by
  have e : idx_main_v91 (ix4 b n h 0) = ix3 b n h := funext fun a => by
    match a with
    | ⟨0, _⟩ => rfl
    | ⟨1, _⟩ => rfl
    | ⟨2, _⟩ => rfl
  have e6 : val_main_v92 (F := Ideal) (ix4 b n h 0) = ((64 : ℝ) : EReal) := by
    rw [val_main_v92_apply]
    exact ofBits_64
  have e0 : val_main_cst_9 (F := Ideal) (Shape.Idx.first Cert.RetRefIdeal.Gen.h_S_) = 0 := Ideal.ofBits_zero_f32
  rw [val_main_v93_apply, val_main_v91_apply, e, val_main_v90_apply, e6, e0, zero_add]
  refine (Ideal.div_coe (by norm_num) _).trans ?_
  unfold varianceOf
  rw [meanOf, EReal.coe_mul, Finset.sum_range, coe_sum]
  refine congrArg (fun a : EReal => a * ((1 / 64 : ℝ) : EReal)) (Finset.sum_congr rfl fun d _ => ?_)
  have ed : idx_main_v90 (ix3 b n h) d = ix4 b n h d := funext fun a => by
    match a with
    | ⟨0, _⟩ => rfl
    | ⟨1, _⟩ => rfl
    | ⟨2, _⟩ => rfl
    | ⟨3, _⟩ => rfl
  rw [ed, val_main_v89_apply, ref_less z hz, show (64 * h.val + d.val) / 64 = h.val by omega]
  exact (EReal.coe_mul _ _).symm

/-- A lane evened over its head. -/
theorem ref_even (b : Fin 8) (n : Fin 4096) (h : Fin 4) (d : Fin 64) :
    val_main_v100 (F := Ideal) z (ix4 b n h d) = evenOf (total z b n.val) (64 * h.val + d.val) := by
  have e : idx_main_v99 (ix4 b n h d) = ix4 b n h 0 := funext fun a => by
    match a with
    | ⟨0, _⟩ => rfl
    | ⟨1, _⟩ => rfl
    | ⟨2, _⟩ => rfl
    | ⟨3, _⟩ => rfl
  have hl : val_main_v95 (F := Ideal) z (ix4 b n h d) = _ := ref_less z hz b n h d
  have he : val_main_v96 (F := Ideal) (ix4 b n h 0) = Ideal.ofBits .f32 0x358637BD#32 := val_main_v96_apply _
  rw [val_main_v100_apply, hl, val_main_v99_apply, e, val_main_v98_apply, val_main_v97_apply, ref_variance z hz, he]
  unfold evenOf
  rw [show (64 * h.val + d.val) / 64 = h.val by omega]
  rfl

omit hz in
/-- The gate. -/
theorem ref_gate (b : Fin 8) (n : Fin 4096) (l : Fin 256) :
    val_main_v106 (F := Ideal) z (ix3 b n l) = silu (z (ix3 b n ⟨2816 + l.val, by omega⟩)) := by
  have e : idx_main_v105 (ix3 b n l) = ix3 b n ⟨2816 + l.val, by omega⟩ := funext fun a => by
    match a with
    | ⟨0, _⟩ => rfl
    | ⟨1, _⟩ => rfl
    | ⟨2, _⟩ => rfl
  have h1 : Ideal.ofBits .f32 0x3F800000#32 = 1 := ofBits_one
  have h2 : val_main_call1_v2 (F := Ideal) (ix3 b n l) = 1 := (val_main_call1_v2_apply _).trans h1
  have h4 : val_main_call1_v4 (F := Ideal) (ix3 b n l) = 1 := (val_main_call1_v4_apply _).trans h1
  rw [val_main_v106_apply, val_main_call1_v5_apply, val_main_call1_v3_apply, val_main_call1_v1_apply, val_main_call1_v0_apply, h2, h4,
    val_main_v105_apply, e]
  rfl

/-- The reference's result. -/
theorem ref_retained (gn : FVec Ideal S256 .f32) (b : Fin 8) (n : Fin 4096) (l : Fin 256) :
    val_main_v107 (F := Ideal) z gn (ix3 b n l) = retained z gn b n l := by
  have e : idx_main_v101 (ix3 b n l) = ix4 b n ⟨l.val / 64, by omega⟩ ⟨l.val % 64, by omega⟩ := funext fun a => Fin.ext (by
    match a with
    | ⟨0, _⟩ => exact (show ((b.val * 4096 + n.val) * 256 + l.val) / 1048576 = b.val by omega)
    | ⟨1, _⟩ => exact (show ((b.val * 4096 + n.val) * 256 + l.val) / 256 % 4096 = n.val by omega)
    | ⟨2, _⟩ => exact (show ((b.val * 4096 + n.val) * 256 + l.val) / 64 % 4 = l.val / 64 by omega)
    | ⟨3, _⟩ => exact (show ((b.val * 4096 + n.val) * 256 + l.val) % 64 = l.val % 64 by omega))
  have eg : idx_main_v102 (idx_main_v103 (ix3 b n l)) = ix1 l := funext fun a => by
    match a with
    | ⟨0, _⟩ => rfl
  have el : 64 * (l.val / 64) + l.val % 64 = l.val := Nat.div_add_mod _ _
  have ee := ref_even z hz b n ⟨l.val / 64, by omega⟩ ⟨l.val % 64, by omega⟩
  rw [val_main_v107_apply, ref_gate, val_main_v104_apply, val_main_v101_apply, e, ee, val_main_v103_apply, val_main_v102_apply, eg]
  unfold retained
  exact congrArg (fun a : ℕ => silu (z (ix3 b n ⟨2816 + l.val, by omega⟩)) * (evenOf (total z b n.val) a * gn (ix1 l))) el

end Heads

end Cert.RetIdeal.Heads

end
-- ==== Proof.Ret.Algebraic.lean ====
/-
  The retention kernel and its reference leave equal results over the extended reals from equal arguments, when the
  queries', keys' and values' columns are finite; and the frames of both.
-/
module

public import proofs.«01_k».proof.Defs
public import proofs.«01_k».proof.Proof.Gen.Ret.Frame
public import proofs.«01_k».proof.Proof.Gen.RetIdeal.Frame
public import proofs.«01_k».proof.Proof.Gen.RetRefIdeal.Run
public import proofs.«01_k».proof.Proof.Gen.Pre_finite_heads
public import proofs.«01_k».proof.Proof.Ret.Fold
public import proofs.«01_k».proof.Proof.Ret.Reference
public import Idealize.ShloMosaic.Lib.ReduceAll
public import Idealize.ShloMosaic.Lib.Pointwise.Index

@[expose] public section

set_option maxRecDepth 16384

noncomputable section

namespace Cert.RetIdeal.Heads

open Cert.RetRefIdeal.Read Cert.Layer
open Idealize.ShloMosaic hiding ix1 ix2 ix3 ix4 ix5
open Idealize.ShloMosaic.ValueIdx Idealize.ShloMosaic.TcCoe Idealize.SL.Sem

/-! ## The precondition -/

/-- The word that is infinity. -/
theorem infinity : Ideal.ofBits .f32 0x7F800000#32 = ⊤ := by simp [Ideal.ofBits, Ideal.ieee]

/-- An entry whose absolute value is below infinity is a real number. -/
theorem isReal_of_abs (z : EReal)
    (h : FloatOps.cmpf (F := Ideal) (φ := .f32) .olt (FloatOps.hostAbsf (F := Ideal) (φ := .f32) z) (Ideal.ofBits .f32 0x7F800000#32) = 1#1) :
    IsReal z := by
  rw [infinity] at h
  have h' : (max z (-z) : EReal) < ⊤ := (WordCmp.ofBool_decide_eq_one_iff _).mp h
  refine isReal_of_ne (fun hz => ?_) (fun hz => ?_) <;> rw [hz] at h' <;> simp at h'

/-- What the precondition says: the entries of the 768 columns from 2048 are real numbers. -/
theorem real_of_pre (z : FVec Ideal S8x4096x3072 .f32) (gn : FVec Ideal S256 .f32)
    (h : Cert.Pre_finite_heads.fn (F := Ideal) z gn = fun _ => 1#1) (b : Fin 8) (n : Fin 4096) (p : Fin 3072) (h1 : 2048 ≤ p.val) (h2 : p.val < 2816) :
    IsReal (z (ix3 b n p)) := by
  haveI : Subsingleton Cert.Pre_finite_heads.S_.Idx := ⟨fun a b => funext fun i => i.elim0⟩
  have h0 := congrFun h (fun a => a.elim0)
  unfold Cert.Pre_finite_heads.fn at h0
  dsimp only at h0
  have hj := Host.reduce_andi_all _ _ _ _ _ h0 (ix3 b n ⟨p.val - 2048, by omega⟩)
  have he : extractStridedSlice Cert.Pre_finite_heads.S8x4096x768 ![0, 0, 2048] z Cert.Pre_finite_heads.Gen.slices_S8x4096x3072_S8x4096x768_0_0_2048
      (ix3 b n ⟨p.val - 2048, by omega⟩) = z (ix3 b n p) :=
    extractStridedSlice_apply ![0, 0, 2048] z Cert.Pre_finite_heads.Gen.slices_S8x4096x3072_S8x4096x768_0_0_2048 (ix3 b n ⟨p.val - 2048, by omega⟩)
      (ix3 b n p) fun a => by
        match a with
        | ⟨0, _⟩ => exact (Nat.zero_add _).symm
        | ⟨1, _⟩ => exact (Nat.zero_add _).symm
        | ⟨2, _⟩ => exact (show p.val = 2048 + (p.val - 2048) by omega)
  rw [← he]
  exact isReal_of_abs _ hj

/-! ## The claims -/

/-- The kernel ends with its arguments unchanged and its semaphores at zero, on words. -/
theorem quiescent_words : Cert.quiescent_Ret := fun m ρ _ => Cert.Ret.Gen.frame m ρ

/-- So does it over the extended reals. -/
theorem quiescent_ideal : Cert.quiescent_RetIdeal := fun m ρ _ => Cert.RetIdeal.Gen.frame m ρ

theorem quiescent_ideal_finite : Cert.quiescent_RetIdeal_pre_finite_heads := fun m ρ _ => Cert.RetIdeal.Gen.frame m ρ

/-- The reference ends with its arguments unchanged; it has no semaphore. -/
theorem quiescent_reference : Cert.quiescent_RetRefIdeal := fun m ρ _ =>
  (θ_run Cert.RetRefIdeal.defs _ _).mono (fun r h => ⟨fun c => (h c).2, sem_eq_zero_of_no_sems (by decide) r.2⟩)
    (Cert.RetRefIdeal.Value.run (F := Ideal) m ρ)

theorem quiescent_reference_finite : Cert.quiescent_RetRefIdeal_pre_finite_heads := fun m ρ _ => quiescent_reference m ρ trivial

/-- Both leave what every token retains of the tokens up to it. -/
theorem algebraic : Cert.algebraic_RetIdeal_RetRefIdeal_pre_finite_heads := fun m g m' g' hpre hagree => by
  refine ⟨fun c => Value.G13 m c, ?_, ?_⟩
  · exact Cert.RetIdeal.Value.run m g
  · refine (θ_run Cert.RetRefIdeal.defs _ _).mono (fun r h c => ⟨(h c).1.trans ?_, (h c).2⟩) (Cert.RetRefIdeal.Value.run (F := Ideal) m' g')
    obtain ⟨e0, e1⟩ := hagree c
    have hz := real_of_pre _ _ (hpre c)
    refine (val_main_v107_eq m' c).trans (Eq.trans ?_ (array_eq m c hz).symm)
    rw [e0, e1]
    refine funext fun (i : S8x4096x256.Idx) => ?_
    obtain ⟨b, n, l, rfl⟩ : ∃ b n l, i = ix3 b n l := ⟨_, _, _, ValueIdx.eq_ix3 i⟩
    exact ref_retained _ hz _ b n l

end Cert.RetIdeal.Heads

end
-- ==== Proof.Out.Routing.lean ====
/-
  The routing of one token, from its four group logits and its sixteen expert logits: the group with the greatest logit,
  the two greatest of that group's experts, and their weights. Of equal logits the first counts as the greater.
-/
module

public import Idealize.ShloMosaic.PureOps.Ideal
public import Idealize.ShloMosaic.PureOps.ShapeOps
public import Idealize.ShloMosaic.Lib.IdealHost

@[expose] public section

noncomputable section

namespace Cert.Routing

open Idealize.ShloMosaic

/-- Which of four entries are greater than which: `gt f i j` says that entry `i` is greater than entry `j`. -/
def gt (f : Fin 4 → EReal) (i j : Fin 4) : Bool := decide (f j < f i)

/-- One step of a search for the greatest entry: from `i` to `j` when `j` is greater. -/
def up (B : Fin 4 → Fin 4 → Bool) (i j : Fin 4) : Fin 4 := if B j i then j else i

/-- The first of the greatest entries. -/
def first (B : Fin 4 → Fin 4 → Bool) : Fin 4 := up B (up B (up B 0 1) 2) 3

/-- One step of a search for the greatest entry other than `p`, which has found nothing or an entry so far. -/
def next (B : Fin 4 → Fin 4 → Bool) (p : Fin 4) (o : Option (Fin 4)) (j : Fin 4) : Option (Fin 4) :=
  if p ≠ j ∧ o.elim true (fun k => B j k) = true then some j else o

/-- The first of the greatest entries other than the first of the greatest. -/
def second (B : Fin 4 → Fin 4 → Bool) : Fin 4 :=
  (next B (first B) (next B (first B) (next B (first B) (next B (first B) none 0) 1) 2) 3).getD 0

/-- Four entries are ordered as four ranks are. -/
theorem exists_rank (f : Fin 4 → EReal) : ∃ r : Fin 4 → Fin 4, gt f = fun i j => decide (r j < r i) := by
  have hlt : ∀ i, (Finset.univ.filter fun k => f k < f i).card < 4 := fun i =>
    lt_of_lt_of_eq (Finset.card_lt_card (Finset.filter_ssubset.mpr ⟨i, Finset.mem_univ i, lt_irrefl _⟩)) (by simp)
  refine ⟨fun i => ⟨_, hlt i⟩, funext fun i => funext fun j => decide_eq_decide.mpr ⟨fun h => ?_, fun h => ?_⟩⟩
  · refine Fin.mk_lt_mk.mpr (Finset.card_lt_card ⟨fun k hk => ?_, fun hs => ?_⟩)
    · simp only [Finset.mem_filter, Finset.mem_univ, true_and] at hk ⊢
      exact hk.trans h
    · have := hs (show j ∈ _ by simp only [Finset.mem_filter, Finset.mem_univ, true_and]; exact h)
      simp only [Finset.mem_filter, Finset.mem_univ, true_and] at this
      exact lt_irrefl _ this
  · by_contra hn
    refine absurd (Fin.mk_lt_mk.mp h) (not_lt.mpr (Finset.card_le_card fun k hk => ?_))
    simp only [Finset.mem_filter, Finset.mem_univ, true_and] at hk ⊢
    exact hk.trans_le (not_lt.mp hn)

/-- A stable sort, greater entries first, begins with the first of the greatest entries. -/
theorem sorted_zero (f : Fin 4 → EReal) : sortedFrom (gt f) 0 = first (gt f) := by
  obtain ⟨r, hr⟩ := exists_rank f
  rw [hr]
  exact (by decide +kernel : ∀ r : Fin 4 → Fin 4,
    sortedFrom (fun i j => decide (r j < r i)) 0 = first fun i j => decide (r j < r i)) r

/-- And goes on with the second. -/
theorem sorted_one (f : Fin 4 → EReal) : sortedFrom (gt f) 1 = second (gt f) := by
  obtain ⟨r, hr⟩ := exists_rank f
  rw [hr]
  exact (by decide +kernel : ∀ r : Fin 4 → Fin 4,
    sortedFrom (fun i j => decide (r j < r i)) 1 = second fun i j => decide (r j < r i)) r

/-- No entry is greater than the first of the greatest. -/
theorem le_first (f : Fin 4 → EReal) (j : Fin 4) : f j ≤ f (first (gt f)) := by
  obtain ⟨r, hr⟩ := exists_rank f
  have h : gt f j (first (gt f)) = false := by
    rw [hr]
    exact (by decide +kernel : ∀ (r : Fin 4 → Fin 4) (j : Fin 4),
      decide (r (first fun i j => decide (r j < r i)) < r j) = false) r j
  exact not_lt.mp (of_decide_eq_false h)

/-- An entry's number as a word. -/
def word (i : Fin 4) : BitVec 32 := BitVec.ofNat 32 i.val

/-- What a step of the search selects, of values or of numbers. -/
theorem select_up {α : Type} (f : Fin 4 → EReal) (i j : Fin 4) (v : Fin 4 → α) :
    Scalar.select (Ideal.cmp .ogt (f j) (f i)) (v j) (v i) = v (up (gt f) i j) := by
  unfold up gt Scalar.select Ideal.cmp
  by_cases h : f i < f j <;> simp [h]

/-- What a step of the second search selects, from ⊥ and a default while nothing is found. -/
theorem select_next {α : Type} (f : Fin 4 → EReal) (hf : ∀ j, f j ≠ ⊥) (p : Fin 4) (o : Option (Fin 4)) (j : Fin 4)
    (v : Fin 4 → α) (v0 : α) :
    Scalar.select (IntOp.andi (IntOp.cmpi .ne (word p) (word j)) (Ideal.cmp .ogt (f j) (o.elim ⊥ f))) (v j) (o.elim v0 v)
      = (next (gt f) p o j).elim v0 v := by
  have hw : ∀ p j : Fin 4, IntOp.cmpi .ne (word p) (word j) = BitVec.ofBool (decide (p ≠ j)) := by decide +kernel
  rw [hw]
  unfold next Ideal.cmp
  have hb : decide (o.elim ⊥ f < f j) = o.elim true (fun k => gt f j k) := by
    cases o with
    | none => exact decide_eq_true (bot_lt_iff_ne_bot.mpr (hf j))
    | some k => rfl
  simp only [hb]
  generalize o.elim true (fun k => gt f j k) = b
  by_cases hp : p = j <;> cases b <;> simp [hp, Scalar.select, IntOp.andi]

/-- The number of an expert, `4 g + i`, from the words of `g` and `i`. -/
def expert (g i : Fin 4) : EReal := (((4 * g.val + i.val : ℕ) : ℝ) : EReal)

/-- It is what the words' sum reads as. -/
theorem expert_eq (g i : Fin 4) :
    (((IntOp.addi (IntOp.muli (word g) 4#32) (word i)).toInt : ℝ) : EReal) = expert g i := by
  have h : ∀ g i : Fin 4, (IntOp.addi (IntOp.muli (word g) 4#32) (word i)).toInt = ((4 * g.val + i.val : ℕ) : ℤ) := by
    decide +kernel
  rw [h]
  unfold expert
  norm_cast

/-- The chosen group's share of the groups' softmax. -/
def gate (gl : Fin 4 → EReal) : EReal := Ideal.div 1 (∑ k, Ideal.exp (gl k - gl (first (gt gl))))

/-- How far the second expert's exponential is below the first's. -/
def ratio (e : Fin 4 → EReal) : EReal := Ideal.exp (e (second (gt e)) - e (first (gt e)))

/-- The eight entries of a token's routing: the two experts, their weights, four zeros. -/
def route (gl : Fin 4 → EReal) (el : Fin 4 → Fin 4 → EReal) : Fin 8 → EReal :=
  let g := first (gt gl)
  ![expert g (first (gt (el g))), expert g (second (gt (el g))), Ideal.div (gate gl) (1 + ratio (el g)),
    Ideal.div (gate gl * ratio (el g)) (1 + ratio (el g)), 0, 0, 0, 0]

end Cert.Routing

end
-- ==== Proof.Out.Lane.lean ====
/-
  The routing that one point of the output projection computes, read token by token: the program's compares and selects
  on rows of logits are the searches of the routing of a token.
-/
module

public import proofs.«01_k».proof.Proof.Gen.OutIdeal.Frame
public import proofs.«01_k».proof.Proof.Layer.Norm
public import proofs.«01_k».proof.Proof.Out.Routing

@[expose] public section

set_option maxRecDepth 16384

noncomputable section

namespace Cert.OutIdeal.Route

open Cert.OutIdeal Cert.OutIdeal.Gen Cert.Layer Cert.Routing
open Idealize.ShloMosaic hiding ix1 ix2 ix3 ix4 ix5
open Idealize.ShloMosaic.ValueIdx

/-- The row of the logits that holds the group `g`. -/
def groupRow (g : Fin 4) : Fin 128 := ⟨g.val, by omega⟩

/-- The row of the logits that holds the expert `j` of the group `g`. -/
def expertRow (g j : Fin 4) : Fin 128 := ⟨4 + 4 * g.val + j.val, by omega⟩

/-- The group logits of a token. -/
def groups (lt : FVec Ideal S128x512 .f32) (c : Fin 512) (g : Fin 4) : EReal := lt (ix2 (groupRow g) c)

/-- The expert logits of a token. -/
def experts (lt : FVec Ideal S128x512 .f32) (c : Fin 512) (g j : Fin 4) : EReal := lt (ix2 (expertRow g j) c)

/-- A row cut out of the logits. -/
theorem rowAt (lt : FVec Ideal S128x512 .f32) (o : Fin 128) (h : S128x512.Slices ![o.val, 0] S1x512) (c : Fin 512) :
    extractStridedSlice S1x512 ![o.val, 0] lt h (ix2 0 c) = lt (ix2 o c) :=
  extractStridedSlice_apply _ _ _ _ _ fun a => by
    match a with
    | ⟨0, _⟩ => rfl
    | ⟨1, _⟩ => exact (Nat.zero_add c.val).symm

section Groups

variable (v33 : FVec Ideal S512x1024 .f32) (v38 v41 v45 : Vec Ideal S1024x128 .bf16) (v49 : Vec Ideal S1x128 .f32) (c : Fin 512)

/-- The token's group logits, of the point's logits. -/
abbrev G : Fin 4 → EReal := groups (k0_pay4 v33 v38 v41 v45 v49) c

theorem pay5_apply : k0_pay5 v33 v38 v41 v45 v49 (ix2 0 c) = G v33 v38 v41 v45 v49 c 0 :=
  rowAt (k0_pay4 v33 v38 v41 v45 v49) (groupRow 0) slices_S128x512_o0_0_S1x512 c

theorem pay6_apply : k0_pay6 v33 v38 v41 v45 v49 (ix2 0 c)
    = Ideal.cmp .ogt (G v33 v38 v41 v45 v49 c 1) (G v33 v38 v41 v45 v49 c 0) :=
  congrArg₂ (Ideal.cmp .ogt) (rowAt _ (groupRow 1) slices_S128x512_o1_0_S1x512 c) (pay5_apply v33 v38 v41 v45 v49 c)

/-- The greatest of two group logits. -/
theorem pay7_apply : k0_pay7 v33 v38 v41 v45 v49 (ix2 0 c)
    = G v33 v38 v41 v45 v49 c (up (gt (G v33 v38 v41 v45 v49 c)) 0 1) := by
  refine Eq.trans ?_ (select_up (G v33 v38 v41 v45 v49 c) 0 1 (G v33 v38 v41 v45 v49 c))
  rw [← pay6_apply, ← pay5_apply]
  exact congrArg (Scalar.select _ · _) (rowAt _ (groupRow 1) slices_S128x512_o1_0_S1x512 c)

theorem pay8_apply : k0_pay8 v33 v38 v41 v45 v49 (ix2 0 c)
    = Ideal.cmp .ogt (G v33 v38 v41 v45 v49 c 2) (G v33 v38 v41 v45 v49 c (up (gt (G v33 v38 v41 v45 v49 c)) 0 1)) :=
  congrArg₂ (Ideal.cmp .ogt) (rowAt _ (groupRow 2) slices_S128x512_o2_0_S1x512 c) (pay7_apply v33 v38 v41 v45 v49 c)

/-- The greatest of three. -/
theorem pay9_apply : k0_pay9 v33 v38 v41 v45 v49 (ix2 0 c)
    = G v33 v38 v41 v45 v49 c (up (gt (G v33 v38 v41 v45 v49 c)) (up (gt (G v33 v38 v41 v45 v49 c)) 0 1) 2) := by
  refine Eq.trans ?_ (select_up (G v33 v38 v41 v45 v49 c) _ 2 (G v33 v38 v41 v45 v49 c))
  rw [← pay8_apply, ← pay7_apply]
  exact congrArg (Scalar.select _ · _) (rowAt _ (groupRow 2) slices_S128x512_o2_0_S1x512 c)

theorem pay10_apply : k0_pay10 v33 v38 v41 v45 v49 (ix2 0 c)
    = Ideal.cmp .ogt (G v33 v38 v41 v45 v49 c 3)
        (G v33 v38 v41 v45 v49 c (up (gt (G v33 v38 v41 v45 v49 c)) (up (gt (G v33 v38 v41 v45 v49 c)) 0 1) 2)) :=
  congrArg₂ (Ideal.cmp .ogt) (rowAt _ (groupRow 3) slices_S128x512_o3_0_S1x512 c) (pay9_apply v33 v38 v41 v45 v49 c)

/-- The greatest of the group logits. -/
theorem pay11_apply : k0_pay11 v33 v38 v41 v45 v49 (ix2 0 c)
    = G v33 v38 v41 v45 v49 c (first (gt (G v33 v38 v41 v45 v49 c))) := by
  refine Eq.trans ?_ (select_up (G v33 v38 v41 v45 v49 c) _ 3 (G v33 v38 v41 v45 v49 c))
  rw [← pay10_apply, ← pay9_apply]
  exact congrArg (Scalar.select _ · _) (rowAt _ (groupRow 3) slices_S128x512_o3_0_S1x512 c)

/-- The number of its group. -/
theorem pay12_apply : k0_pay12 v33 v38 v41 v45 v49 (ix2 0 c) = word (first (gt (G v33 v38 v41 v45 v49 c))) := by
  refine Eq.trans ?_ (select_up (G v33 v38 v41 v45 v49 c) _ 3 word)
  rw [← select_up (G v33 v38 v41 v45 v49 c) _ 2 word, ← select_up (G v33 v38 v41 v45 v49 c) 0 1 word, ← pay10_apply,
    ← pay8_apply, ← pay6_apply]
  rfl

/-- The chosen group's share of the softmax of the groups. -/
theorem gate_apply : k0_pay15 (k0_pay4 v33 v38 v41 v45 v49) (k0_pay11 v33 v38 v41 v45 v49) (k0_pay13 v33 v38 v41 v45 v49)
    (k0_pay14 (F := Ideal)) (ix2 0 c) = gate (G v33 v38 v41 v45 v49 c) := by
  unfold gate
  rw [Fin.sum_univ_four, ← pay11_apply]
  have h1 := rowAt (k0_pay4 v33 v38 v41 v45 v49) (groupRow 1) slices_S128x512_o1_0_S1x512 c
  have h2 := rowAt (k0_pay4 v33 v38 v41 v45 v49) (groupRow 2) slices_S128x512_o2_0_S1x512 c
  have h3 := rowAt (k0_pay4 v33 v38 v41 v45 v49) (groupRow 3) slices_S128x512_o3_0_S1x512 c
  have h0 := rowAt (k0_pay4 v33 v38 v41 v45 v49) (groupRow 0) slices_S128x512_o0_0_S1x512 c
  unfold G groups
  rw [← h0, ← h1, ← h2, ← h3]
  show Ideal.div (Ideal.ofBits .f32 0x3F800000#32) (Ideal.ofBits .f32 0x00000000#32 + _ + _ + _ + _) = _
  rw [Ideal.ofBits_one_f32, Ideal.ofBits_zero_f32, zero_add]
  rfl

end Groups

/-- The program's choice by a group's number among four values. -/
theorem select_group {α : Type} (g : Fin 4) (a : Fin 4 → α) :
    Scalar.select (IntOp.cmpi .eq (word g) 0#32) (a 0) (Scalar.select (IntOp.cmpi .eq (word g) 1#32) (a 1)
      (Scalar.select (IntOp.cmpi .eq (word g) 2#32) (a 2) (a 3))) = a g := by
  fin_cases g <;> rfl

section Experts

variable (lt : FVec Ideal S128x512 .f32) (gi : IVec S1x512 32) (c : Fin 512) (g : Fin 4) (hg : gi (ix2 0 c) = word g)

include hg

/-- The chosen group's first expert. -/
theorem pay16_apply : k0_pay16 lt gi (ix2 0 c) = experts lt c g 0 := by
  refine Eq.trans ?_ (select_group g fun g => experts lt c g 0)
  rw [← hg]
  unfold experts
  rw [← rowAt lt (expertRow 0 0) slices_S128x512_o4_0_S1x512 c, ← rowAt lt (expertRow 1 0) slices_S128x512_o8_0_S1x512 c,
    ← rowAt lt (expertRow 2 0) slices_S128x512_o12_0_S1x512 c, ← rowAt lt (expertRow 3 0) slices_S128x512_o16_0_S1x512 c]
  rfl

/-- Its second. -/
theorem pay17_apply : k0_pay17 lt gi (ix2 0 c) = experts lt c g 1 := by
  refine Eq.trans ?_ (select_group g fun g => experts lt c g 1)
  rw [← hg]
  unfold experts
  rw [← rowAt lt (expertRow 0 1) slices_S128x512_o5_0_S1x512 c, ← rowAt lt (expertRow 1 1) slices_S128x512_o9_0_S1x512 c,
    ← rowAt lt (expertRow 2 1) slices_S128x512_o13_0_S1x512 c, ← rowAt lt (expertRow 3 1) slices_S128x512_o17_0_S1x512 c]
  rfl

/-- Its third. -/
theorem pay19_apply : k0_pay19 lt gi (k0_pay18 lt gi) 0#32 (ix2 0 c) = experts lt c g 2 := by
  refine Eq.trans ?_ (select_group g fun g => experts lt c g 2)
  rw [← hg]
  unfold experts
  rw [← rowAt lt (expertRow 0 2) slices_S128x512_o6_0_S1x512 c, ← rowAt lt (expertRow 1 2) slices_S128x512_o10_0_S1x512 c,
    ← rowAt lt (expertRow 2 2) slices_S128x512_o14_0_S1x512 c, ← rowAt lt (expertRow 3 2) slices_S128x512_o18_0_S1x512 c]
  rfl

/-- Its fourth. -/
theorem pay20_apply : k0_pay20 lt gi (ix2 0 c) = experts lt c g 3 := by
  refine Eq.trans ?_ (select_group g fun g => experts lt c g 3)
  rw [← hg]
  unfold experts
  rw [← rowAt lt (expertRow 0 3) slices_S128x512_o7_0_S1x512 c, ← rowAt lt (expertRow 1 3) slices_S128x512_o11_0_S1x512 c,
    ← rowAt lt (expertRow 2 3) slices_S128x512_o15_0_S1x512 c, ← rowAt lt (expertRow 3 3) slices_S128x512_o19_0_S1x512 c]
  rfl

end Experts

section Search

variable (lt : FVec Ideal S128x512 .f32) (gi : IVec S1x512 32) (a b d : FVec Ideal S1x512 .f32) (c : Fin 512)
  (e : Fin 4 → EReal) (ha : a (ix2 0 c) = e 0) (hb : b (ix2 0 c) = e 1)
  (h2 : k0_pay19 lt gi d 0#32 (ix2 0 c) = e 2) (h3 : k0_pay20 lt gi (ix2 0 c) = e 3)

include ha hb

theorem pay21_apply : k0_pay21 a b (ix2 0 c) = Ideal.cmp .ogt (e 1) (e 0) := congrArg₂ (Ideal.cmp .ogt) hb ha

theorem pay22_apply : k0_pay22 a b (ix2 0 c) = e (up (gt e) 0 1) := by
  refine Eq.trans ?_ (select_up e 0 1 e)
  rw [← pay21_apply a b c e ha hb, ← ha, ← hb]
  rfl

include h2

theorem pay23_apply : k0_pay23 lt gi a b d 0#32 (ix2 0 c) = Ideal.cmp .ogt (e 2) (e (up (gt e) 0 1)) :=
  congrArg₂ (Ideal.cmp .ogt) h2 (pay22_apply a b c e ha hb)

theorem pay24_apply : k0_pay24 lt gi a b d 0#32 (ix2 0 c) = e (up (gt e) (up (gt e) 0 1) 2) := by
  refine Eq.trans ?_ (select_up e _ 2 e)
  rw [← pay23_apply lt gi a b d c e ha hb h2, ← pay22_apply a b c e ha hb, ← h2]
  rfl

include h3

theorem pay25_apply : k0_pay25 lt gi a b d 0#32 (ix2 0 c) = Ideal.cmp .ogt (e 3) (e (up (gt e) (up (gt e) 0 1) 2)) :=
  congrArg₂ (Ideal.cmp .ogt) h3 (pay24_apply lt gi a b d c e ha hb h2)

/-- The greatest of the group's expert logits. -/
theorem pay26_apply : k0_pay26 lt gi a b d 0#32 (ix2 0 c) = e (first (gt e)) := by
  refine Eq.trans ?_ (select_up e _ 3 e)
  rw [← pay25_apply lt gi a b d c e ha hb h2 h3, ← pay24_apply lt gi a b d c e ha hb h2, ← h3]
  rfl

/-- Its number. -/
theorem pay27_apply : k0_pay27 lt gi a b d 0#32 (ix2 0 c) = word (first (gt e)) := by
  refine Eq.trans ?_ (select_up e _ 3 word)
  rw [← select_up e _ 2 word, ← select_up e 0 1 word, ← pay25_apply lt gi a b d c e ha hb h2 h3,
    ← pay23_apply lt gi a b d c e ha hb h2, ← pay21_apply a b c e ha hb]
  rfl

/-- What the second search has found after `0`. -/
abbrev found0 (e : Fin 4 → EReal) : Option (Fin 4) := next (gt e) (first (gt e)) none 0

/-- After `1`. -/
abbrev found1 (e : Fin 4 → EReal) : Option (Fin 4) := next (gt e) (first (gt e)) (found0 e) 1

/-- After `2`. -/
abbrev found2 (e : Fin 4 → EReal) : Option (Fin 4) := next (gt e) (first (gt e)) (found1 e) 2

/-- After `3`. -/
abbrev found3 (e : Fin 4 → EReal) : Option (Fin 4) := next (gt e) (first (gt e)) (found2 e) 3

theorem pay29_apply : k0_pay29 lt gi a b d 0#32 (ix2 0 c)
    = IntOp.andi (IntOp.cmpi .ne (word (first (gt e))) (word 0)) (Ideal.cmp .ogt (e 0) ⊥) := by
  refine congrArg₂ IntOp.andi (congrArg (IntOp.cmpi .ne · _) (pay27_apply lt gi a b d c e ha hb h2 h3)) ?_
  exact congrArg₂ (Ideal.cmp .ogt) ha Cert.Layer.neg_inf

variable (he : ∀ j, e j ≠ ⊥)

include he

theorem pay30_apply : k0_pay30 lt gi a b d 0#32 (ix2 0 c) = (found0 e).elim ⊥ e := by
  refine Eq.trans ?_ (select_next e he (first (gt e)) none 0 e ⊥)
  show _ = Scalar.select (IntOp.andi _ (Ideal.cmp .ogt (e 0) ⊥)) (e 0) ⊥
  rw [← pay29_apply lt gi a b d c e ha hb h2 h3, ← ha]
  exact congrArg (Scalar.select _ _ ·) Cert.Layer.neg_inf

theorem pay31_apply : k0_pay31 lt gi a b d 0#32 (ix2 0 c)
    = IntOp.andi (IntOp.cmpi .ne (word (first (gt e))) (word 1)) (Ideal.cmp .ogt (e 1) ((found0 e).elim ⊥ e)) :=
  congrArg₂ IntOp.andi (congrArg (IntOp.cmpi .ne · _) (pay27_apply lt gi a b d c e ha hb h2 h3))
    (congrArg₂ (Ideal.cmp .ogt) hb (pay30_apply lt gi a b d c e ha hb h2 h3 he))

theorem pay32_apply : k0_pay32 lt gi a b d 0#32 (ix2 0 c) = (found1 e).elim ⊥ e := by
  refine Eq.trans ?_ (select_next e he (first (gt e)) (found0 e) 1 e ⊥)
  rw [← pay31_apply lt gi a b d c e ha hb h2 h3 he, ← pay30_apply lt gi a b d c e ha hb h2 h3 he, ← hb]
  rfl

theorem pay33_apply : k0_pay33 lt gi a b d 0#32 (ix2 0 c) = (found1 e).elim (word 0) word := by
  refine Eq.trans ?_ (select_next e he (first (gt e)) (found0 e) 1 word (word 0))
  rw [← select_next e he (first (gt e)) none 0 word (word 0), ← pay31_apply lt gi a b d c e ha hb h2 h3 he]
  show _ = Scalar.select _ _ (Scalar.select (IntOp.andi _ (Ideal.cmp .ogt (e 0) ⊥)) (word 0) (word 0))
  rw [← pay29_apply lt gi a b d c e ha hb h2 h3]
  rfl

end Search

end Cert.OutIdeal.Route

end
-- ==== Proof.Out.Tile.lean ====
/-
  The two blocks that one point of the output projection leaves, as functions of the blocks it reads: 512 new rows of the
  layer, and the routing of these 512 tokens.
-/
module

public import proofs.«01_k».proof.Proof.Out.Lane
public import proofs.«01_k».proof.Proof.Layer.Finite

@[expose] public section

set_option maxRecDepth 16384

noncomputable section

namespace Cert.OutIdeal.Route

open Cert.OutIdeal Cert.OutIdeal.Gen Cert.Layer Cert.Routing
open Idealize.ShloMosaic hiding ix1 ix2 ix3 ix4 ix5
open Idealize.ShloMosaic.ValueIdx

/-- Three rows side by side. -/
def joined (a : Fin 256 → EReal) (b : Fin 512 → EReal) (c : Fin 256 → EReal) (k : Fin 1024) : EReal :=
  if h : k.val < 256 then a ⟨k.val, h⟩ else if h' : k.val < 768 then b ⟨k.val - 256, by omega⟩ else c ⟨k.val - 768, by omega⟩

/-- A row of the layer after the output projection: the row as it was, and the three branches' rows times the weights. -/
def newRow (x : Fin 1024 → EReal) (a : Fin 256 → EReal) (b : Fin 512 → EReal) (c : Fin 256 → EReal) (w : Fin 1024 → Fin 1024 → EReal)
    (d : Fin 1024) : EReal := x d + ∑ k, joined a b c k * w k d

/-- A sum over three rows side by side is three sums. -/
theorem sum_joined (a : Fin 256 → EReal) (b : Fin 512 → EReal) (c : Fin 256 → EReal) (w : Fin 1024 → EReal) :
    (∑ k, joined a b c k * w k) = ((∑ k : Fin 256, a k * w ⟨k.val, by omega⟩) + ∑ k : Fin 512, b k * w ⟨256 + k.val, by omega⟩)
      + ∑ k : Fin 256, c k * w ⟨768 + k.val, by omega⟩ := by
  refine (Fin.sum_univ_add (a := 768) (b := 256) fun k => joined a b c k * w k).trans (congrArg₂ (fun u v : EReal => u + v) ?_ ?_)
  · refine (Fin.sum_univ_add (a := 256) (b := 512) fun k => joined a b c (Fin.castAdd 256 k) * w (Fin.castAdd 256 k)).trans
      (congrArg₂ (fun u v : EReal => u + v) ?_ ?_)
    · exact Finset.sum_congr rfl fun k _ => congrArg (fun z : EReal => z * _) (dif_pos k.isLt)
    · refine Finset.sum_congr rfl fun k _ => congrArg (fun z : EReal => z * _) ?_
      unfold joined
      have hv : (Fin.castAdd 256 (Fin.natAdd 256 k) : Fin (768 + 256)).val = 256 + k.val := rfl
      rw [dif_neg (by omega), dif_pos (by omega)]
      exact congrArg b (Fin.ext (by show 256 + k.val - 256 = k.val; omega))
  · refine Finset.sum_congr rfl fun k _ => congrArg (fun z : EReal => z * _) ?_
    unfold joined
    have hv : (Fin.natAdd 768 k : Fin (768 + 256)).val = 768 + k.val := rfl
    rw [dif_neg (by omega), dif_neg (by omega)]
    exact congrArg c (Fin.ext (by show 768 + k.val - 768 = k.val; omega))

/-! ## The new rows -/

section Rows

variable (x0 : Vec Ideal S512x1024 .f32) (x1 : Vec Ideal S512x256 .f32) (x2 : Vec Ideal S512x512 .f32) (x3 : Vec Ideal S512x256 .f32)
  (x4 : Vec Ideal S1024x1024 .bf16)

/-- Row `r` of the block of new rows. -/
def blockRow (r : Fin 512) : Fin 1024 → EReal :=
  newRow (fun j => x0 (ix2 r j)) (fun j => x1 (ix2 r j)) (fun j => x2 (ix2 r j)) (fun j => x3 (ix2 r j)) (fun k d => x4 (ix2 k d))

theorem zero_start : (![0, 0] : Fin 2 → ℕ) = fun _ => 0 := funext fun a => by
  match a with
  | ⟨0, _⟩ => rfl
  | ⟨1, _⟩ => rfl

/-- The three products with strips of the weights, added to the rows. -/
theorem rows_strips (r : Fin 512) (d : Fin 1024) :
    k0_pay2 (View.ld x1 r0_0) (View.ld x4 r0_1) (View.ld x2 r0_2) (View.ld x4 r0_3) (View.ld x3 r0_0) (View.ld x4 r0_4) (View.ld x0 r0_5)
      (ix2 r d) = blockRow x0 x1 x2 x3 x4 r d := by
  have hz : constant (F := Ideal) S512x1024 .f32 0x00000000#32 (ix2 r d) = 0 := Ideal.ofBits_zero_f32
  rw [View.ld_unit_zero zero_start, View.ld_unit_zero zero_start, View.ld_unit_zero zero_start, View.ld_unit_zero zero_start]
  unfold k0_pay2
  rw [shapeCast_self, shapeCast_self, shapeCast_self]
  unfold blockRow newRow
  rw [sum_joined]
  refine congrArg₂ (fun u v : EReal => u + v) rfl (congrArg₂ (fun u v : EReal => u + v) (congrArg₂ (fun u v : EReal => u + v) ?_ ?_) ?_)
  · refine (Ideal.matmul_plain_apply none _ _ _ r d).trans ?_
    rw [hz, zero_add]
    refine Finset.sum_congr rfl fun k _ => congrArg (fun z => x1 (ix2 r k) * x4 z) (funext fun a => Fin.ext ?_)
    match a with
    | ⟨0, _⟩ => exact (show 0 + 1 * k.val = k.val by omega)
    | ⟨1, _⟩ => exact (show 0 + 1 * d.val = d.val by omega)
  · refine (Ideal.matmul_plain_apply none _ _ _ r d).trans ?_
    rw [hz, zero_add]
    refine Finset.sum_congr rfl fun k _ => congrArg (fun z => x2 (ix2 r k) * x4 z) (funext fun a => Fin.ext ?_)
    match a with
    | ⟨0, _⟩ => exact (show 256 + 1 * k.val = 256 + k.val by omega)
    | ⟨1, _⟩ => exact (show 0 + 1 * d.val = d.val by omega)
  · refine (Ideal.matmul_plain_apply none _ _ _ r d).trans ?_
    rw [hz, zero_add]
    refine Finset.sum_congr rfl fun k _ => congrArg (fun z => x3 (ix2 r k) * x4 z) (funext fun a => Fin.ext ?_)
    match a with
    | ⟨0, _⟩ => exact (show 768 + 1 * k.val = 768 + k.val by omega)
    | ⟨1, _⟩ => exact (show 0 + 1 * d.val = d.val by omega)

variable (x5 : Vec Ideal S1x1024 .f32) (x6 x7 : Vec Ideal S1024x128 .bf16) (x8 : Vec Ideal S1x128 .f32)

/-- The first block a point leaves. -/
theorem rows_out (r : Fin 512) (d : Fin 1024) : out0_9 x0 x1 x2 x3 x4 x5 x6 x7 x8 (ix2 r d) = blockRow x0 x1 x2 x3 x4 r d := by
  unfold out0_9
  refine View.canon_apply_of_pieces (Val := Elt Ideal) (fun y : S512x1024.Idx => blockRow x0 x1 x2 x3 x4 (y 0) (y 1)) _ ?_ (ix2 r d)
    (cover0_9 _ _)
  intro p hp
  simp only [List.mem_cons, List.not_mem_nil, or_false] at hp
  subst hp
  intro y
  obtain ⟨t, e, rfl⟩ : ∃ t e, y = ix2 t e := ⟨_, _, ValueIdx.eq_ix2 y⟩
  refine (rows_strips x0 x1 x2 x3 x4 t e).trans (congrArg₂ (blockRow x0 x1 x2 x3 x4) ?_ ?_)
  · exact Fin.ext (show t.val = 0 + 1 * t.val by omega)
  · exact Fin.ext (show e.val = 0 + 1 * e.val by omega)

/-- The normalised new rows. -/
theorem normed_apply (r : Fin 512) (k : Fin 1024) : k0_pay34 x0 x1 x2 x3 x4 x5 x6 x7 x8 (ix2 r k)
    = normRow (blockRow x0 x1 x2 x3 x4 r) (fun j => x5 (ix2 0 j)) k := by
  unfold k0_pay34 k0_pay3
  rw [shapeCast_self]
  refine (norm_apply _ _ _ _ _ _ _ _ r k).trans ?_
  rw [View.ld_unit_zero (S := S1x1024) zero_start]
  exact congrArg (fun z => normRow z (fun j => x5 (ix2 0 j)) k) (funext fun j => rows_strips x0 x1 x2 x3 x4 r j)

/-! ## The logits -/

/-- The logit of token `c` in lane `i`: its normalised row times a column of the routers, and the bias. -/
theorem lane_apply (h5 : ∀ j, IsReal (x5 (ix2 0 j))) (h6 : ∀ j i, IsReal (x6 (ix2 j i)))
    (h7 : ∀ j i, x7 (ix2 j i) = x6 (ix2 j i) - x6 (ix2 j i)) (i : Fin 128) (c : Fin 512) :
    k0_pay35 x0 x1 x2 x3 x4 x5 x6 x7 x8 (ix2 i c)
      = logit (normRow (blockRow x0 x1 x2 x3 x4 c) (fun j => x5 (ix2 0 j))) (fun j => x6 (ix2 j i)) (x8 (ix2 0 i)) := by
  have hz : constant (F := Ideal) S512x128 .f32 0x00000000#32 (ix2 c i) = 0 := Ideal.ofBits_zero_f32
  have hn := normed_apply x0 x1 x2 x3 x4 x5 x6 x7 x8 c
  unfold k0_pay35
  generalize k0_pay34 x0 x1 x2 x3 x4 x5 x6 x7 x8 = v at hn ⊢
  rw [View.ld_unit_zero zero_start, View.ld_unit_zero zero_start, View.ld_unit_zero zero_start]
  unfold k0_pay4
  rw [shapeCast_self, shapeCast_self, shapeCast_self]
  refine (transpose_apply [1, 0] _ _ _ (ix2 c i) fun b => ?_).trans ?_
  · match b with
    | ⟨0, _⟩ => rfl
    | ⟨1, _⟩ => rfl
  refine Eq.trans ?_ (split_logit (x8 (ix2 0 i)) (fun k => isReal_normRow _ _ h5 k) (fun k => h6 k i))
  refine congrArg₂ (fun u v : EReal => u + v) (congrArg₂ (fun u v : EReal => u + v) (congrArg₂ (fun u v : EReal => u + v) ?_ ?_) ?_) ?_
  · refine (Ideal.matmul_plain_apply none _ _ _ c i).trans ?_
    rw [hz, zero_add]
    exact Finset.sum_congr rfl fun k _ => congrArg (fun z : EReal => z * x6 (ix2 k i)) (hn k)
  · refine (Ideal.matmul_plain_apply none _ _ _ c i).trans ?_
    rw [hz, zero_add]
    exact Finset.sum_congr rfl fun k _ => congrArg (fun z : EReal => (z - z) * x6 (ix2 k i)) (hn k)
  · refine (Ideal.matmul_plain_apply none _ _ _ c i).trans ?_
    rw [hz, zero_add]
    exact Finset.sum_congr rfl fun k _ => congrArg₂ (fun z u : EReal => z * u) (hn k) (h7 k i)
  · exact row_apply _ _ c i

end Rows

/-! ## The routing -/

/-- Eight rows stacked, read at a row. -/
theorem eight_apply (f0 f1 f2 f3 f4 f5 f6 f7 : S1x512.Idx → EReal)
    (h : Shape.Concatenates [S1x512, S1x512, S1x512, S1x512, S1x512, S1x512, S1x512, S1x512] S8x512 0) (row : Fin 8) (c : Fin 512) :
    concatenate S8x512 0 [⟨S1x512, f0⟩, ⟨S1x512, f1⟩, ⟨S1x512, f2⟩, ⟨S1x512, f3⟩, ⟨S1x512, f4⟩, ⟨S1x512, f5⟩, ⟨S1x512, f6⟩, ⟨S1x512, f7⟩] h
      (ix2 row c) = (![f0, f1, f2, f3, f4, f5, f6, f7] : Fin 8 → S1x512.Idx → EReal) row (ix2 0 c) := by
  refine concatenate_ofFn_unit_apply (t := S8x512) (s₁ := S1x512) 0
    (![f0, f1, f2, f3, f4, f5, f6, f7] : Fin 8 → S1x512.Idx → EReal) h rfl rfl (ix2 row c) row rfl (ix2 0 c) fun b hb => ?_
  match b with
  | ⟨0, _⟩ => exact absurd rfl hb
  | ⟨1, _⟩ => rfl

/-- The second search finds something. -/
theorem found_some (e : Fin 4 → EReal) : found3 e = some (second (gt e)) := by
  unfold found3 found2 found1 found0 second
  obtain ⟨r, hr⟩ := exists_rank e
  rw [hr]
  exact (by decide +kernel : ∀ r : Fin 4 → Fin 4, (fun B : Fin 4 → Fin 4 → Bool =>
    next B (first B) (next B (first B) (next B (first B) (next B (first B) none 0) 1) 2) 3
      = some ((next B (first B) (next B (first B) (next B (first B) (next B (first B) none 0) 1) 2) 3).getD 0))
        fun i j => decide (r j < r i)) r

section Last

variable (v73 : IVec S1x512 32) (v92 v131 v144 v155 : FVec Ideal S1x512 .f32) (v157 : IVec S1x512 32) (v171 : FVec Ideal S1x512 .f32)
  (v173 : IVec S1x512 32) (c : Fin 512) (e : Fin 4 → EReal) (g : Fin 4)

/-- The last part of the program: the end of the second search, the weights, and the eight rows. -/
theorem pay1_apply (he : ∀ j, e j ≠ ⊥) (h73 : v73 (ix2 0 c) = word g) (h131 : v131 (ix2 0 c) = e 2) (h144 : v144 (ix2 0 c) = e 3)
    (h155 : v155 (ix2 0 c) = e (first (gt e))) (h157 : v157 (ix2 0 c) = word (first (gt e)))
    (h171 : v171 (ix2 0 c) = (found1 e).elim ⊥ e) (h173 : v173 (ix2 0 c) = (found1 e).elim (word 0) word) (row : Fin 8) :
    k0_pay1 v73 v92 v131 v144 v155 v157 v171 v173 2#32 (ix2 row c)
      = (![expert g (first (gt e)), expert g (second (gt e)), Ideal.div (v92 (ix2 0 c)) (1 + ratio e),
          Ideal.div (v92 (ix2 0 c) * ratio e) (1 + ratio e), 0, 0, 0, 0] : Fin 8 → EReal) row := by
  have s2 := select_next e he (first (gt e)) (found1 e) 2 e ⊥
  have s3 := select_next e he (first (gt e)) (found2 e) 3 e ⊥
  have w2 := select_next e he (first (gt e)) (found1 e) 2 word (word 0)
  have w3 := select_next e he (first (gt e)) (found2 e) 3 word (word 0)
  rw [show next (gt e) (first (gt e)) (found2 e) 3 = some (second (gt e)) from found_some e] at s3 w3
  rw [← s2] at s3
  rw [← s2, ← w2] at w3
  have hv : Scalar.select (IntOp.andi (IntOp.cmpi .ne (v157 (ix2 0 c)) 3#32) (Ideal.cmp .ogt (v144 (ix2 0 c))
      (Scalar.select (IntOp.andi (IntOp.cmpi .ne (v157 (ix2 0 c)) 2#32) (Ideal.cmp .ogt (v131 (ix2 0 c)) (v171 (ix2 0 c))))
        (v131 (ix2 0 c)) (v171 (ix2 0 c))))) (v144 (ix2 0 c))
      (Scalar.select (IntOp.andi (IntOp.cmpi .ne (v157 (ix2 0 c)) 2#32) (Ideal.cmp .ogt (v131 (ix2 0 c)) (v171 (ix2 0 c))))
        (v131 (ix2 0 c)) (v171 (ix2 0 c))) = e (second (gt e)) := by
    rw [h131, h144, h157, h171]
    exact s3
  have hw : Scalar.select (IntOp.andi (IntOp.cmpi .ne (v157 (ix2 0 c)) 3#32) (Ideal.cmp .ogt (v144 (ix2 0 c))
      (Scalar.select (IntOp.andi (IntOp.cmpi .ne (v157 (ix2 0 c)) 2#32) (Ideal.cmp .ogt (v131 (ix2 0 c)) (v171 (ix2 0 c))))
        (v131 (ix2 0 c)) (v171 (ix2 0 c))))) 3#32
      (Scalar.select (IntOp.andi (IntOp.cmpi .ne (v157 (ix2 0 c)) 2#32) (Ideal.cmp .ogt (v131 (ix2 0 c)) (v171 (ix2 0 c))))
        2#32 (v173 (ix2 0 c))) = word (second (gt e)) := by
    rw [h131, h144, h157, h171, h173]
    exact w3
  unfold k0_pay1
  refine (eight_apply _ _ _ _ _ _ _ _ _ row c).trans ?_
  have hone : Ideal.ofBits .f32 0x3F800000#32 = 1 := Ideal.ofBits_one_f32
  fin_cases row
  · refine Eq.trans ?_ (expert_eq g (first (gt e)))
    rw [← h157, ← h73]
    rfl
  · refine Eq.trans ?_ (expert_eq g (second (gt e)))
    rw [← hw, ← h73]
    rfl
  · show _ = Ideal.div (v92 (ix2 0 c)) (1 + ratio e)
    unfold ratio
    rw [← hv, ← h155, ← hone]
    rfl
  · show _ = Ideal.div (v92 (ix2 0 c) * ratio e) (1 + ratio e)
    unfold ratio
    rw [← hv, ← h155, ← hone]
    rfl
  · exact Ideal.ofBits_zero_f32
  · exact Ideal.ofBits_zero_f32
  · exact Ideal.ofBits_zero_f32
  · exact Ideal.ofBits_zero_f32

end Last

section Block

variable (x0 : Vec Ideal S512x1024 .f32) (x1 : Vec Ideal S512x256 .f32) (x2 : Vec Ideal S512x512 .f32) (x3 : Vec Ideal S512x256 .f32)
  (x4 : Vec Ideal S1024x1024 .bf16) (x5 : Vec Ideal S1x1024 .f32) (x6 x7 : Vec Ideal S1024x128 .bf16) (x8 : Vec Ideal S1x128 .f32)

/-- The routing of a token from its logits. -/
theorem routing_apply (he : ∀ i c, k0_pay35 x0 x1 x2 x3 x4 x5 x6 x7 x8 (ix2 i c) ≠ ⊥) (row : Fin 8) (c : Fin 512) :
    out0_10 x0 x1 x2 x3 x4 x5 x6 x7 x8 (ix2 row c) = route (groups (k0_pay35 x0 x1 x2 x3 x4 x5 x6 x7 x8) c)
      (experts (k0_pay35 x0 x1 x2 x3 x4 x5 x6 x7 x8) c) row := by
  unfold out0_10
  refine View.canon_apply_of_pieces (Val := Elt Ideal) (fun y : S8x512.Idx => route (groups (k0_pay35 x0 x1 x2 x3 x4 x5 x6 x7 x8) (y 1))
      (experts (k0_pay35 x0 x1 x2 x3 x4 x5 x6 x7 x8) (y 1)) (y 0)) _ ?_ (ix2 row c) (cover0_10 _ _)
  intro p hp
  simp only [List.mem_cons, List.not_mem_nil, or_false] at hp
  subst hp
  intro y
  obtain ⟨t, c, rfl⟩ : ∃ t c, y = ix2 t c := ⟨_, _, ValueIdx.eq_ix2 y⟩
  have h0 : (r0_9.emb (ix2 t c)) 0 = t := Fin.ext (show 0 + 1 * t.val = t.val by omega)
  have h1 : (r0_9.emb (ix2 t c)) 1 = c := Fin.ext (show 0 + 1 * c.val = c.val by omega)
  refine Eq.trans ?_ (congrArg₂ (fun (i : Fin 8) (j : Fin 512) => route (groups (k0_pay35 x0 x1 x2 x3 x4 x5 x6 x7 x8) j)
      (experts (k0_pay35 x0 x1 x2 x3 x4 x5 x6 x7 x8) j) i) h0.symm h1.symm)
  have hg : k0_pay36 x0 x1 x2 x3 x4 x5 x6 x7 x8 (ix2 0 c) = word (first (gt (groups (k0_pay35 x0 x1 x2 x3 x4 x5 x6 x7 x8) c))) := by
    unfold k0_pay36 k0_pay35
    exact pay12_apply _ _ _ _ _ c
  have hw := gate_apply (k0_pay34 x0 x1 x2 x3 x4 x5 x6 x7 x8) (View.ld x6 r0_7) (View.ld x6 r0_7) (View.ld x7 r0_7) (View.ld x8 r0_8) c
  show k0_pay1 _ _ _ _ _ _ _ _ _ (ix2 t c) = _
  unfold k0_pay39 k0_pay38 k0_pay37
  change k0_pay15 (k0_pay35 x0 x1 x2 x3 x4 x5 x6 x7 x8) _ _ _ _ = gate (groups (k0_pay35 x0 x1 x2 x3 x4 x5 x6 x7 x8) c) at hw
  generalize k0_pay36 x0 x1 x2 x3 x4 x5 x6 x7 x8 = gi at hg ⊢
  generalize k0_pay35 x0 x1 x2 x3 x4 x5 x6 x7 x8 = lt at he hg hw ⊢
  have he' : ∀ j, experts lt c (first (gt (groups lt c))) j ≠ ⊥ := fun j => he _ c
  have ha := pay16_apply lt gi c _ hg
  have hb := pay17_apply lt gi c _ hg
  have h2 := pay19_apply lt gi c _ hg
  have h3 := pay20_apply lt gi c _ hg
  unfold route
  rw [← hw]
  exact pay1_apply _ _ _ _ _ _ _ _ c (experts lt c (first (gt (groups lt c)))) _ he' hg h2 h3
    (pay26_apply lt gi _ _ _ c _ ha hb h2 h3) (pay27_apply lt gi _ _ _ c _ ha hb h2 h3)
    (pay32_apply lt gi _ _ _ c _ ha hb h2 h3 he') (pay33_apply lt gi _ _ _ c _ ha hb h2 h3 he') t

/-- The second block a point leaves. -/
theorem routing_out (h5 : ∀ j, IsReal (x5 (ix2 0 j))) (h6 : ∀ j i, IsReal (x6 (ix2 j i)))
    (h7 : ∀ j i, x7 (ix2 j i) = x6 (ix2 j i) - x6 (ix2 j i)) (h8 : ∀ i, IsReal (x8 (ix2 0 i))) (row : Fin 8) (c : Fin 512) :
    out0_10 x0 x1 x2 x3 x4 x5 x6 x7 x8 (ix2 row c)
      = route (fun g => logit (normRow (blockRow x0 x1 x2 x3 x4 c) (fun j => x5 (ix2 0 j))) (fun j => x6 (ix2 j (groupRow g))) (x8 (ix2 0 (groupRow g))))
          (fun g i => logit (normRow (blockRow x0 x1 x2 x3 x4 c) (fun j => x5 (ix2 0 j))) (fun j => x6 (ix2 j (expertRow g i)))
            (x8 (ix2 0 (expertRow g i)))) row := by
  have hl := lane_apply x0 x1 x2 x3 x4 x5 x6 x7 x8 h5 h6 h7
  refine (routing_apply x0 x1 x2 x3 x4 x5 x6 x7 x8 (fun i c => ?_) row c).trans ?_
  · rw [hl]
    exact (isReal_logit (isReal_normRow _ _ h5) (fun k => h6 k i) (h8 i)).ne_bot
  · refine congrArg₂ (fun u v => route u v row) (funext fun g => hl _ c) (funext fun g => funext fun i => hl _ c)

end Block

end Cert.OutIdeal.Route

end
-- ==== Proof.Out.Array.lean ====
/-
  The output projection's two result arrays over the extended reals: the new rows of the layer, and every token's routing.
-/
module

public import proofs.«01_k».proof.Proof.Gen.OutIdeal.Value
public import proofs.«01_k».proof.Proof.Out.Tile
public import Idealize.ShloMosaic.Lib.KernelVsHost

@[expose] public section

set_option maxRecDepth 16384

noncomputable section

namespace Cert.OutIdeal.Route

open Cert.OutIdeal Cert.OutIdeal.Gen Cert.Layer Cert.Routing
open Idealize.ShloMosaic hiding ix1 ix2 ix3 ix4 ix5
open Idealize.ShloMosaic.ValueIdx Idealize.ShloMosaic.TcCoe
open Idealize.ShloMosaic.StableHlo
open Idealize.ShloMosaic.Pipeline (Dat Cfg Window)

/-! ## The results as functions of the arguments -/

/-- The place of a group's expert among the sixteen experts. -/
def slot (g i : Fin 4) : Fin 16 := ⟨4 * g.val + i.val, by omega⟩

section Results

variable (x : FVec Ideal S32768x1024 .f32) (a : FVec Ideal S32768x256 .f32) (b : FVec Ideal S32768x512 .f32) (k : FVec Ideal S32768x256 .f32)
  (w : FVec Ideal S1024x1024 .f32) (g : FVec Ideal S1024 .f32) (rg : FVec Ideal S1024x4 .f32) (bg : FVec Ideal S4 .f32)
  (re : FVec Ideal S1024x16 .f32) (be : FVec Ideal S16 .f32) (n : Fin 32768)

/-- The new row of token `n`. -/
def tokenRow : Fin 1024 → EReal :=
  newRow (fun j => x (ix2 n j)) (fun j => a (ix2 n j)) (fun j => b (ix2 n j)) (fun j => k (ix2 n j)) (fun j d => w (ix2 j d))

/-- The same, normalised. -/
def tokenNormed : Fin 1024 → EReal := normRow (tokenRow x a b k w n) (fun j => g (ix1 j))

/-- The token's group logits. -/
def groupLogit (i : Fin 4) : EReal := logit (tokenNormed x a b k w g n) (fun j => rg (ix2 j i)) (bg (ix1 i))

/-- The token's expert logits, group by group. -/
def expertLogit (i j : Fin 4) : EReal := logit (tokenNormed x a b k w g n) (fun d => re (ix2 d (slot i j))) (be (ix1 (slot i j)))

/-- The token's routing. -/
def tokenRoute : Fin 8 → EReal := route (groupLogit x a b k w g rg bg n) (expertLogit x a b k w g re be n)

end Results

/-! ## The launch's operands -/

/-- The padding, zero as a float. -/
def filler : FVec Ideal S_ .f32 := sitofp .f32 (constantI S_ 32 0#32)

/-- The two routers side by side, padded to 128 lanes. -/
def routers (rg : FVec Ideal S1024x4 .f32) (re : FVec Ideal S1024x16 .f32) : FVec Ideal S1024x128 .f32 :=
  pad S1024x128 ![0, 0] ![0, 108] ![0, 0]
    (concatenate S1024x20 1 [⟨S1024x4, rg⟩, ⟨S1024x16, re⟩] concatenates_S1024x4_S1024x16_S1024x20_d1) filler
    pads_S1024x20_S1024x128_000_01080 h_S_

/-- Their two biases, likewise. -/
def biases (bg : FVec Ideal S4 .f32) (be : FVec Ideal S16 .f32) : FVec Ideal S128 .f32 :=
  pad S128 ![0] ![108] ![0] (concatenate S20 0 [⟨S4, bg⟩, ⟨S16, be⟩] concatenates_S4_S16_S20_d0) filler pads_S20_S128_01080 h_S_

section Operands

variable (rg : FVec Ideal S1024x4 .f32) (re : FVec Ideal S1024x16 .f32) (bg : FVec Ideal S4 .f32) (be : FVec Ideal S16 .f32)

/-- The first four lanes hold the groups' router. -/
theorem routers_group (j : Fin 1024) (i : Fin 128) (g : Fin 4) (h : i.val = g.val) : routers rg re (ix2 j i) = rg (ix2 j g) := by
  unfold routers
  refine (pad_apply_of_inside _ _ _ _ _ _ _ (ix2 j i) (ix2 j (⟨g.val, by omega⟩ : Fin 20)) fun a => ?_).trans
    (concatenate_pair_apply_left (t := S1024x20) (s₁ := S1024x4) (s₂ := S1024x16) 1 rg re _ _ rfl (ix2 j g) fun b => ?_)
  · match a with
    | ⟨0, _⟩ => exact (show j.val = 0 + j.val * (0 + 1) by omega)
    | ⟨1, _⟩ => exact (show i.val = 0 + g.val * (0 + 1) by omega)
  · match b with
    | ⟨0, _⟩ => rfl
    | ⟨1, _⟩ => rfl

/-- The next sixteen hold the experts'. -/
theorem routers_expert (j : Fin 1024) (i : Fin 128) (s : Fin 16) (h : i.val = 4 + s.val) : routers rg re (ix2 j i) = re (ix2 j s) := by
  unfold routers
  refine (pad_apply_of_inside _ _ _ _ _ _ _ (ix2 j i) (ix2 j (⟨4 + s.val, by omega⟩ : Fin 20)) fun a => ?_).trans
    (concatenate_pair_apply_right (t := S1024x20) (s₁ := S1024x4) (s₂ := S1024x16) 1 rg re _ _ rfl rfl (ix2 j s) (fun b hb => ?_) ?_)
  · match a with
    | ⟨0, _⟩ => exact (show j.val = 0 + j.val * (0 + 1) by omega)
    | ⟨1, _⟩ => exact (show i.val = 0 + (4 + s.val) * (0 + 1) by omega)
  · match b with
    | ⟨0, _⟩ => rfl
    | ⟨1, _⟩ => exact absurd rfl hb
  · exact Nat.add_comm _ _

/-- The rest hold the padding. -/
theorem routers_rest (j : Fin 1024) (i : Fin 128) (h : 20 ≤ i.val) : routers rg re (ix2 j i) = filler (Shape.Idx.first h_S_) := by
  unfold routers
  refine pad_apply_of_not_inside _ _ _ _ _ _ _ (ix2 j i) 1 fun hn => ?_
  have h2 : (i.val - 0) / (0 + 1) < 20 := hn.2.2
  omega

theorem biases_group (i : Fin 128) (g : Fin 4) (h : i.val = g.val) : biases bg be (ix1 i) = bg (ix1 g) := by
  unfold biases
  refine (pad_apply_of_inside _ _ _ _ _ _ _ (ix1 i) (ix1 (⟨g.val, by omega⟩ : Fin 20)) fun a => ?_).trans
    (concatenate_pair_apply_left (t := S20) (s₁ := S4) (s₂ := S16) 0 bg be _ _ rfl (ix1 g) fun b => ?_)
  · match a with
    | ⟨0, _⟩ => exact (show i.val = 0 + g.val * (0 + 1) by omega)
  · match b with
    | ⟨0, _⟩ => rfl

theorem biases_expert (i : Fin 128) (s : Fin 16) (h : i.val = 4 + s.val) : biases bg be (ix1 i) = be (ix1 s) := by
  unfold biases
  refine (pad_apply_of_inside _ _ _ _ _ _ _ (ix1 i) (ix1 (⟨4 + s.val, by omega⟩ : Fin 20)) fun a => ?_).trans
    (concatenate_pair_apply_right (t := S20) (s₁ := S4) (s₂ := S16) 0 bg be _ _ rfl rfl (ix1 s) (fun b hb => ?_) ?_)
  · match a with
    | ⟨0, _⟩ => exact (show i.val = 0 + (4 + s.val) * (0 + 1) by omega)
  · match b with
    | ⟨0, _⟩ => exact absurd rfl hb
  · exact Nat.add_comm _ _

theorem biases_rest (i : Fin 128) (h : 20 ≤ i.val) : biases bg be (ix1 i) = filler (Shape.Idx.first h_S_) := by
  unfold biases
  refine pad_apply_of_not_inside _ _ _ _ _ _ _ (ix1 i) 0 fun hn => ?_
  have h2 : (i.val - 0) / (0 + 1) < 20 := hn.2.2
  omega

/-- The padding is a real number. -/
theorem isReal_filler : IsReal (filler (Shape.Idx.first h_S_)) := ⟨_, rfl⟩

/-- Real routers are real in every lane. -/
theorem isReal_routers (hg : ∀ i, IsReal (rg i)) (he : ∀ i, IsReal (re i)) (j : Fin 1024) (i : Fin 128) : IsReal (routers rg re (ix2 j i)) := by
  by_cases h : i.val < 4
  · rw [routers_group rg re j i ⟨i.val, h⟩ rfl]
    exact hg _
  by_cases h' : i.val < 20
  · rw [routers_expert rg re j i ⟨i.val - 4, by omega⟩ (show i.val = 4 + (i.val - 4) by omega)]
    exact he _
  · rw [routers_rest rg re j i (by omega)]
    exact isReal_filler

/-- So are real biases. -/
theorem isReal_biases (hg : ∀ i, IsReal (bg i)) (he : ∀ i, IsReal (be i)) (i : Fin 128) : IsReal (biases bg be (ix1 i)) := by
  by_cases h : i.val < 4
  · rw [biases_group bg be i ⟨i.val, h⟩ rfl]
    exact hg _
  by_cases h' : i.val < 20
  · rw [biases_expert bg be i ⟨i.val - 4, by omega⟩ (show i.val = 4 + (i.val - 4) by omega)]
    exact he _
  · rw [biases_rest bg be i (by omega)]
    exact isReal_filler

end Operands

variable (m : (ℓ : Loc nD τ sig) → Buf (Elt Ideal) ℓ)

/-- The launch's projection weights are the argument: the conversion to bfloat16 is the identity on extended reals. -/
theorem weights_eq (c : Dev nD) : (V m c main_v0 : S1024x1024.Idx → EReal) = m ((c : Thread nD τ).loc main_arg4) := by
  unfold_abbrev_sides
  simp only [hostOps0, hostOps0_1, hostOps0_2, hostOps0_3, hostOps0_4, List.flatten_cons, List.flatten_nil, List.append_nil, List.cons_append,
    List.nil_append]
  after_results
  rfl

/-- The upper part of the routers is all of them. -/
theorem upper_eq (c : Dev nD) : (V m c main_v3 : S1024x128.Idx → EReal)
    = routers (m ((c : Thread nD τ).loc main_arg6)) (m ((c : Thread nD τ).loc main_arg8)) := by
  unfold_abbrev_sides
  simp only [hostOps0, hostOps0_1, hostOps0_2, hostOps0_3, hostOps0_4, List.flatten_cons, List.flatten_nil, List.append_nil, List.cons_append,
    List.nil_append]
  after_results
  rfl

/-- The remainder is the routers less themselves. -/
theorem lower_eq (c : Dev nD) : (V m c main_v6 : S1024x128.Idx → EReal)
    = fun i => routers (m ((c : Thread nD τ).loc main_arg6)) (m ((c : Thread nD τ).loc main_arg8)) i
        - routers (m ((c : Thread nD τ).loc main_arg6)) (m ((c : Thread nD τ).loc main_arg8)) i := by
  unfold_abbrev_sides
  simp only [hostOps0, hostOps0_1, hostOps0_2, hostOps0_3, hostOps0_4, List.flatten_cons, List.flatten_nil, List.append_nil, List.cons_append,
    List.nil_append]
  after_results
  rfl

/-- The launch's bias row is the padded biases. -/
theorem biasRow_eq (c : Dev nD) : (V m c main_v9 : S1x128.Idx → EReal)
    = shapeCast S1x128 (biases (m ((c : Thread nD τ).loc main_arg7)) (m ((c : Thread nD τ).loc main_arg9))) Cert.OutIdeal.Gen.shapeCasts_S128_S1x128 := by
  unfold_abbrev_sides
  simp only [hostOps0, hostOps0_1, hostOps0_2, hostOps0_3, hostOps0_4, List.flatten_cons, List.flatten_nil, List.append_nil, List.cons_append,
    List.nil_append]
  after_results
  rfl

/-- The launch's gains are the argument as a row. -/
theorem gainsRow_eq (c : Dev nD) : (V m c main_v10 : S1x1024.Idx → EReal)
    = shapeCast S1x1024 (m ((c : Thread nD τ).loc main_arg5) : S1024.Idx → EReal) Cert.OutIdeal.Gen.shapeCasts_S1024_S1x1024 := by
  unfold_abbrev_sides
  simp only [hostOps0, hostOps0_1, hostOps0_2, hostOps0_3, hostOps0_4, List.flatten_cons, List.flatten_nil, List.append_nil, List.cons_append,
    List.nil_append]
  after_results
  rfl

/-! ## The blocks -/

theorem index0 : ∀ t : Fin cfg0.N, (cfg0.win 0).index t = ![t.val, 0] :=
  (by decide +kernel : ∀ t : Fin grid0.N, win0_0.index t = ![t.val, 0])
theorem index1 : ∀ t : Fin cfg0.N, (cfg0.win 1).index t = ![t.val, 0] :=
  (by decide +kernel : ∀ t : Fin grid0.N, win0_1.index t = ![t.val, 0])
theorem index2 : ∀ t : Fin cfg0.N, (cfg0.win 2).index t = ![t.val, 0] :=
  (by decide +kernel : ∀ t : Fin grid0.N, win0_2.index t = ![t.val, 0])
theorem index3 : ∀ t : Fin cfg0.N, (cfg0.win 3).index t = ![t.val, 0] :=
  (by decide +kernel : ∀ t : Fin grid0.N, win0_3.index t = ![t.val, 0])
theorem index9 : ∀ t : Fin cfg0.N, (cfg0.win 9).index t = ![t.val, 0] :=
  (by decide +kernel : ∀ t : Fin grid0.N, win0_9.index t = ![t.val, 0])
theorem index10 : ∀ t : Fin cfg0.N, (cfg0.win 10).index t = ![0, t.val] :=
  (by decide +kernel : ∀ t : Fin grid0.N, win0_10.index t = ![0, t.val])

section Blocks

variable (c : Dev nD) (t : Fin cfg0.N) (r : Fin 512) (q : Fin 32768) (hq : q.val = t.val * 512 + r.val)

include hq

/-- The rows' block at a point: 512 rows from the point's own place. -/
theorem block0 (j : Fin 1024) : (iblk m c 0 t : S512x1024.Idx → EReal) (ix2 r j)
    = (m ((c : Thread nD τ).loc main_arg0) : S32768x1024.Idx → EReal) (ix2 q j) := by
  refine Eq.trans ?_ (congrFun (V_main_arg0 m c) (ix2 q j))
  refine congrArg (V m c main_arg0 : S32768x1024.Idx → EReal) (funext fun a => Fin.ext ?_)
  refine ((cfg0.win 0).rect_emb_val t (ix2 r j) a rfl).trans ?_
  rw [index0]
  match a with
  | ⟨0, _⟩ => exact hq.symm
  | ⟨1, _⟩ => exact (Nat.zero_mul _).symm ▸ Nat.zero_add j.val

/-- The three branches' blocks likewise. -/
theorem block1 (j : Fin 256) : (iblk m c 1 t : S512x256.Idx → EReal) (ix2 r j)
    = (m ((c : Thread nD τ).loc main_arg1) : S32768x256.Idx → EReal) (ix2 q j) := by
  refine Eq.trans ?_ (congrFun (V_main_arg1 m c) (ix2 q j))
  refine congrArg (V m c main_arg1 : S32768x256.Idx → EReal) (funext fun a => Fin.ext ?_)
  refine ((cfg0.win 1).rect_emb_val t (ix2 r j) a rfl).trans ?_
  rw [index1]
  match a with
  | ⟨0, _⟩ => exact hq.symm
  | ⟨1, _⟩ => exact (Nat.zero_mul _).symm ▸ Nat.zero_add j.val

theorem block2 (j : Fin 512) : (iblk m c 2 t : S512x512.Idx → EReal) (ix2 r j)
    = (m ((c : Thread nD τ).loc main_arg2) : S32768x512.Idx → EReal) (ix2 q j) := by
  refine Eq.trans ?_ (congrFun (V_main_arg2 m c) (ix2 q j))
  refine congrArg (V m c main_arg2 : S32768x512.Idx → EReal) (funext fun a => Fin.ext ?_)
  refine ((cfg0.win 2).rect_emb_val t (ix2 r j) a rfl).trans ?_
  rw [index2]
  match a with
  | ⟨0, _⟩ => exact hq.symm
  | ⟨1, _⟩ => exact (Nat.zero_mul _).symm ▸ Nat.zero_add j.val

theorem block3 (j : Fin 256) : (iblk m c 3 t : S512x256.Idx → EReal) (ix2 r j)
    = (m ((c : Thread nD τ).loc main_arg3) : S32768x256.Idx → EReal) (ix2 q j) := by
  refine Eq.trans ?_ (congrFun (V_main_arg3 m c) (ix2 q j))
  refine congrArg (V m c main_arg3 : S32768x256.Idx → EReal) (funext fun a => Fin.ext ?_)
  refine ((cfg0.win 3).rect_emb_val t (ix2 r j) a rfl).trans ?_
  rw [index3]
  match a with
  | ⟨0, _⟩ => exact hq.symm
  | ⟨1, _⟩ => exact (Nat.zero_mul _).symm ▸ Nat.zero_add j.val

/-- Where the new rows' block at a point lies. -/
theorem rows_emb (d : Fin 1024) : ((cfg0.win 9).blk t).view.emb (ix2 r d) = (ix2 q d : S32768x1024.Idx) := by
  refine funext fun a => Fin.ext ?_
  refine ((cfg0.win 9).rect_emb_val t (ix2 r d) a rfl).trans ?_
  rw [index9]
  match a with
  | ⟨0, _⟩ => exact hq.symm
  | ⟨1, _⟩ => exact (Nat.zero_mul _).symm ▸ Nat.zero_add d.val

/-- Where the routing's block at a point lies: all eight rows, 512 tokens from the point's own place. -/
theorem route_emb (d : Fin 8) : ((cfg0.win 10).blk t).view.emb (ix2 d r) = (ix2 d q : S8x32768.Idx) := by
  refine funext fun a => Fin.ext ?_
  refine ((cfg0.win 10).rect_emb_val t (ix2 d r) a rfl).trans ?_
  rw [index10]
  match a with
  | ⟨0, _⟩ => exact (Nat.zero_mul _).symm ▸ Nat.zero_add d.val
  | ⟨1, _⟩ => exact hq.symm

end Blocks

section Whole

variable (c : Dev nD) (t : Fin cfg0.N)

/-- The blocks of the other operands are the whole arrays at every point. -/
theorem block4 (j d : Fin 1024) : (iblk m c 4 t : S1024x1024.Idx → EReal) (ix2 j d)
    = (m ((c : Thread nD τ).loc main_arg4) : S1024x1024.Idx → EReal) (ix2 j d) := by
  refine Eq.trans ?_ (congrFun (weights_eq m c) (ix2 j d))
  refine congrArg (V m c main_v0 : S1024x1024.Idx → EReal) (funext fun a => Fin.ext ?_)
  refine ((cfg0.win 4).rect_emb_val t (ix2 j d) a rfl).trans ?_
  match a with
  | ⟨0, _⟩ => exact (Nat.zero_mul _).symm ▸ Nat.zero_add j.val
  | ⟨1, _⟩ => exact (Nat.zero_mul _).symm ▸ Nat.zero_add d.val

theorem block5 (j : Fin 1024) : (iblk m c 5 t : S1x1024.Idx → EReal) (ix2 0 j)
    = (m ((c : Thread nD τ).loc main_arg5) : S1024.Idx → EReal) (ix1 j) := by
  refine Eq.trans ?_ ((congrFun (gainsRow_eq m c) (ix2 0 j)).trans (shapeCast_a_1a_apply _ _ 0 j))
  refine congrArg (V m c main_v10 : S1x1024.Idx → EReal) (funext fun a => Fin.ext ?_)
  refine ((cfg0.win 5).rect_emb_val t (ix2 0 j) a rfl).trans ?_
  match a with
  | ⟨0, _⟩ => rfl
  | ⟨1, _⟩ => exact (Nat.zero_mul _).symm ▸ Nat.zero_add j.val

theorem block6 (j : Fin 1024) (i : Fin 128) : (iblk m c 6 t : S1024x128.Idx → EReal) (ix2 j i)
    = routers (m ((c : Thread nD τ).loc main_arg6)) (m ((c : Thread nD τ).loc main_arg8)) (ix2 j i) := by
  refine Eq.trans ?_ (congrFun (upper_eq m c) (ix2 j i))
  refine congrArg (V m c main_v3 : S1024x128.Idx → EReal) (funext fun a => Fin.ext ?_)
  refine ((cfg0.win 6).rect_emb_val t (ix2 j i) a rfl).trans ?_
  match a with
  | ⟨0, _⟩ => exact (Nat.zero_mul _).symm ▸ Nat.zero_add j.val
  | ⟨1, _⟩ => exact (Nat.zero_mul _).symm ▸ Nat.zero_add i.val

theorem block7 (j : Fin 1024) (i : Fin 128) : (iblk m c 7 t : S1024x128.Idx → EReal) (ix2 j i)
    = routers (m ((c : Thread nD τ).loc main_arg6)) (m ((c : Thread nD τ).loc main_arg8)) (ix2 j i)
      - routers (m ((c : Thread nD τ).loc main_arg6)) (m ((c : Thread nD τ).loc main_arg8)) (ix2 j i) := by
  refine Eq.trans ?_ (congrFun (lower_eq m c) (ix2 j i))
  refine congrArg (V m c main_v6 : S1024x128.Idx → EReal) (funext fun a => Fin.ext ?_)
  refine ((cfg0.win 7).rect_emb_val t (ix2 j i) a rfl).trans ?_
  match a with
  | ⟨0, _⟩ => exact (Nat.zero_mul _).symm ▸ Nat.zero_add j.val
  | ⟨1, _⟩ => exact (Nat.zero_mul _).symm ▸ Nat.zero_add i.val

theorem block8 (i : Fin 128) : (iblk m c 8 t : S1x128.Idx → EReal) (ix2 0 i)
    = biases (m ((c : Thread nD τ).loc main_arg7)) (m ((c : Thread nD τ).loc main_arg9)) (ix1 i) := by
  refine Eq.trans ?_ ((congrFun (biasRow_eq m c) (ix2 0 i)).trans (shapeCast_a_1a_apply _ _ 0 i))
  refine congrArg (V m c main_v9 : S1x128.Idx → EReal) (funext fun a => Fin.ext ?_)
  refine ((cfg0.win 8).rect_emb_val t (ix2 0 i) a rfl).trans ?_
  match a with
  | ⟨0, _⟩ => rfl
  | ⟨1, _⟩ => exact (Nat.zero_mul _).symm ▸ Nat.zero_add i.val

/-! ## The arrays -/

/-- The new rows the launch leaves on core `c`, from its own arguments. -/
abbrev rows : S32768x1024.Idx → EReal := fun i =>
  tokenRow (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- The routing it leaves. -/
abbrev routes : S8x32768.Idx → EReal := fun i =>
  tokenRoute (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (i 1) (i 0)

/-- A point's block of new rows, row by row. -/
theorem blockRow_eq (r : Fin 512) (q : Fin 32768) (hq : q.val = t.val * 512 + r.val) :
    blockRow (iblk m c 0 t) (iblk m c 1 t) (iblk m c 2 t) (iblk m c 3 t) (iblk m c 4 t) r
      = tokenRow (m ((c : Thread nD τ).loc main_arg0)) (m ((c : Thread nD τ).loc main_arg1)) (m ((c : Thread nD τ).loc main_arg2))
          (m ((c : Thread nD τ).loc main_arg3)) (m ((c : Thread nD τ).loc main_arg4)) q := by
  unfold blockRow tokenRow
  rw [funext (block0 m c t r q hq), funext (block1 m c t r q hq), funext (block2 m c t r q hq), funext (block3 m c t r q hq),
    funext fun j => funext (block4 m c t j)]

/-- Every place of the new rows lies in some point's block. -/
theorem rows_covered (i : S32768x1024.Idx) : ∃ t : Fin cfg0.N, (cfg0.win 9).flush t = true ∧ i ∈ ((cfg0.win 9).blk t).view.set := by
  have hi : (i 0).val < 32768 := (i 0).isLt
  obtain ⟨t, ht⟩ : ∃ t : Fin cfg0.N, t.val = (i 0).val / 512 := ⟨(⟨(i 0).val / 512, by omega⟩ : Fin 64), rfl⟩
  obtain ⟨r, hr⟩ : ∃ r : Fin 512, r.val = (i 0).val % 512 := ⟨⟨_, by omega⟩, rfl⟩
  have h : ((cfg0.win 9).blk t).view.emb (ix2 r (i 1)) = i :=
    (rows_emb t r (i 0) (by omega) (i 1)).trans (ValueIdx.eq_ix2 i).symm
  exact ⟨t, flush0_9 t, h ▸ View.emb_mem_set ((cfg0.win 9).blk t).view (ix2 r (i 1))⟩

/-- Every place of the routing lies in some point's block. -/
theorem routes_covered (i : S8x32768.Idx) : ∃ t : Fin cfg0.N, (cfg0.win 10).flush t = true ∧ i ∈ ((cfg0.win 10).blk t).view.set := by
  have hi : (i 1).val < 32768 := (i 1).isLt
  obtain ⟨t, ht⟩ : ∃ t : Fin cfg0.N, t.val = (i 1).val / 512 := ⟨(⟨(i 1).val / 512, by omega⟩ : Fin 64), rfl⟩
  obtain ⟨r, hr⟩ : ∃ r : Fin 512, r.val = (i 1).val % 512 := ⟨⟨_, by omega⟩, rfl⟩
  have h : ((cfg0.win 10).blk t).view.emb (ix2 (i 0) r) = i :=
    (route_emb t r (i 1) (by omega) (i 0)).trans (ValueIdx.eq_ix2 i).symm
  exact ⟨t, flush0_10 t, h ▸ View.emb_mem_set ((cfg0.win 10).blk t).view (ix2 (i 0) r)⟩

end Whole

variable (c : Dev nD)

/-- The first result array after the whole grid. -/
theorem rows_eq : (dats m 0 c).arrAt 9 cfg0.N = rows m c := by
  refine (dats m 0 c).arrAt_eq_of_cover 9 (rows m c) (fun t _ => ?_) rows_covered
  refine funext fun (y : S512x1024.Idx) => ?_
  obtain ⟨r, d, rfl⟩ : ∃ r d, y = ix2 r d := ⟨_, _, ValueIdx.eq_ix2 y⟩
  have ht : t.val < 64 := t.isLt
  let q : Fin 32768 := ⟨t.val * 512 + r.val, by omega⟩
  show (dats m 0 c).after 9 t (ix2 r d) = rows m c (((cfg0.win 9).blk t).view.emb (ix2 r d))
  rw [rows_emb t r q rfl d, after0_9]
  exact (rows_out _ _ _ _ _ _ _ _ _ r d).trans (congrFun (blockRow_eq m c t r q rfl) d)

/-- The second, of arguments whose gains, routers and biases are real. -/
theorem routes_eq (h5 : ∀ i, IsReal ((m ((c : Thread nD τ).loc main_arg5) : S1024.Idx → EReal) i))
    (h6 : ∀ i, IsReal ((m ((c : Thread nD τ).loc main_arg6) : S1024x4.Idx → EReal) i))
    (h7 : ∀ i, IsReal ((m ((c : Thread nD τ).loc main_arg7) : S4.Idx → EReal) i))
    (h8 : ∀ i, IsReal ((m ((c : Thread nD τ).loc main_arg8) : S1024x16.Idx → EReal) i))
    (h9 : ∀ i, IsReal ((m ((c : Thread nD τ).loc main_arg9) : S16.Idx → EReal) i)) :
    (dats m 0 c).arrAt 10 cfg0.N = routes m c := by
  refine (dats m 0 c).arrAt_eq_of_cover 10 (routes m c) (fun t _ => ?_) routes_covered
  refine funext fun (y : S8x512.Idx) => ?_
  obtain ⟨d, r, rfl⟩ : ∃ d r, y = ix2 d r := ⟨_, _, ValueIdx.eq_ix2 y⟩
  have ht : t.val < 64 := t.isLt
  let q : Fin 32768 := ⟨t.val * 512 + r.val, by omega⟩
  show (dats m 0 c).after 10 t (ix2 d r) = routes m c (((cfg0.win 10).blk t).view.emb (ix2 d r))
  rw [route_emb t r q rfl d, after0_10]
  have e5 := funext (block5 m c t)
  have e6 := block6 m c t
  have e8 := block8 m c t
  refine (routing_out _ _ _ _ _ _ _ _ _ (fun j => ?_) (fun j i => ?_) (fun j i => ?_) (fun i => ?_) d r).trans ?_
  · rw [block5 m c t j]
    exact h5 _
  · rw [e6 j i]
    exact isReal_routers _ _ h6 h8 j i
  · rw [e6 j i, block7 m c t j i]
  · rw [e8 i]
    exact isReal_biases _ _ h7 h9 i
  · rw [blockRow_eq m c t r q rfl, e5]
    show _ = tokenRoute _ _ _ _ _ _ _ _ _ _ q d
    unfold tokenRoute
    refine congrArg₂ (fun u v => route u v d) (funext fun g => ?_) (funext fun g => funext fun i => ?_)
    · exact congrArg₂ (logit _) (funext fun j => (e6 j _).trans (routers_group _ _ j _ g rfl)) ((e8 _).trans (biases_group _ _ _ g rfl))
    · have hs : (expertRow g i).val = 4 + (slot g i).val := Nat.add_assoc 4 (4 * g.val) i.val
      exact congrArg₂ (logit _) (funext fun j => (e6 j _).trans (routers_expert _ _ j _ (slot g i) hs))
        ((e8 _).trans (biases_expert _ _ _ (slot g i) hs))

end Cert.OutIdeal.Route

end
-- ==== Proof.Out.Choice.lean ====
/-
  The reference's way of choosing, over the extended reals and row by row: a row's maximum, its greatest entries and their
  numbers, an indicator row that picks one entry, and the softmax weights they lead to.
-/
module

public import proofs.«01_k».proof.Proof.Layer.Finite
public import proofs.«01_k».proof.Proof.Out.Routing
public import Idealize.ShloMosaic.PureOps.Ideal.Laws
public import Idealize.ShloMosaic.Lib.KernelVsHost

@[expose] public section

noncomputable section

namespace Cert.Routing

open Cert.Layer
open Idealize.ShloMosaic hiding ix1 ix2 ix3 ix4 ix5
open Idealize.ShloMosaic.ValueIdx

section Rows

variable {R K : Nat}

/-- A row's maximum is any entry that no entry of the row exceeds. -/
theorem rowMax_apply (v : FVec Ideal ⟨2, ![R, K]⟩ .f32) (h' : (⟨2, ![R, K]⟩ : Shape).ReducesTo [1] (⟨1, ![R]⟩ : Shape))
    (h : (⟨2, ![R, K]⟩ : Shape).Reduces [1] (⟨1, ![R]⟩ : Shape)) (hu : 0 < (⟨0, ![]⟩ : Shape).numel) (n : Fin R) (p : Fin K)
    (hp : ∀ j, v (ix2 n j) ≤ v (ix2 n p)) :
    Host.reduce FloatOps.maximumf v (constant (F := Ideal) (⟨0, ![]⟩ : Shape) .f32 0xFF800000#32) h' hu (ix1 n) = v (ix2 n p) := by
  rw [Host.reduce_eq_fold_single FloatOps.maximumf v _ h' h hu]
  have hl : (v ∘ h.lift (ix1 n)) = fun k : Fin K => v (ix2 n k) := funext fun k => congrArg v
    (funext fun a => Fin.ext (by match a with | ⟨0, _⟩ => rfl | ⟨1, _⟩ => rfl))
  refine (congrArg (fun f => Finset.fold max (Ideal.ofBits .f32 0xFF800000#32) f (Finset.univ : Finset (Fin K))) hl).trans ?_
  refine le_antisymm ((Finset.fold_max_le _).mpr ⟨?_, fun j _ => hp j⟩) ((Finset.le_fold_max _).mpr (Or.inr ⟨p, Finset.mem_univ _, le_refl _⟩))
  rw [neg_inf]
  exact bot_le

/-- The order by which the greatest entries are found is that of `gt`. -/
theorem before_eq (f : Fin 4 → EReal) :
    (fun k k' => (FloatOps.cmpfTotal (F := Ideal) (φ := .f32) .gt (f k) (f k') == 1#1)) = gt f := by
  funext k k'
  show (BitVec.ofBool (decide (f k' < f k)) == 1#1) = decide (f k' < f k)
  cases decide (f k' < f k) <;> rfl

variable (v : FVec Ideal ⟨2, ![R, 4]⟩ .f32) (hs : (⟨2, ![R, 4]⟩ : Shape).Slices (fun _ => 0) (⟨2, ![R, K]⟩ : Shape)) (n : Fin R)
  (c : Fin K) (d : Fin 4)

private theorem along_eq (i : Fin R) (j k : Fin 4) :
    (ix2 i j : (⟨2, ![R, 4]⟩ : Shape).Idx).along (1 : Fin 2) k = ix2 i k := by
  funext a
  match a with
  | ⟨0, _⟩ => rfl
  | ⟨1, _⟩ => rfl

/-- A row's order, its entries reached along the row. -/
private theorem sorted_row :
    sortedFrom (n := 4) (fun k k' =>
      FloatOps.cmpfTotal (F := Ideal) (φ := .f32) .gt (v ((ix2 n d : (⟨2, ![R, 4]⟩ : Shape).Idx).along (1 : Fin 2) k))
        (v ((ix2 n d : (⟨2, ![R, 4]⟩ : Shape).Idx).along (1 : Fin 2) k')) == 1#1) d
      = sortedFrom (gt fun k => v (ix2 n k)) d := by
  refine congrArg (fun B => sortedFrom (n := 4) B d) (Eq.trans ?_ (before_eq fun k => v (ix2 n k)))
  funext k k'
  rw [along_eq n d k, along_eq n d k']

/-- The `c`-th greatest entry of a row. -/
theorem topK_value (hc : c.val = d.val) :
    (Host.topK ⟨2, ![R, K]⟩ 1 (FloatOps.cmpfTotal (F := Ideal) (φ := .f32) .gt) v hs).1 (ix2 n c)
      = v (ix2 n (sortedFrom (gt fun k => v (ix2 n k)) d)) := by
  unfold Host.topK
  dsimp only
  refine (extractStridedSlice_apply _ _ _ (ix2 n c) (ix2 n d) (fun a => ?_)).trans ?_
  · match a with
    | ⟨0, _⟩ => exact (Nat.zero_add _).symm
    | ⟨1, _⟩ => exact (hc.symm.trans (Nat.zero_add _).symm)
  · unfold Host.sort2
    rw [dif_pos (show 1 < 2 by decide)]
    exact (congrArg v (along_eq n d _)).trans (congrArg (fun k => v (ix2 n k)) (sorted_row v n d))

/-- And its number. -/
theorem topK_number (hc : c.val = d.val) :
    (Host.topK ⟨2, ![R, K]⟩ 1 (FloatOps.cmpfTotal (F := Ideal) (φ := .f32) .gt) v hs).2 (ix2 n c)
      = word (sortedFrom (gt fun k => v (ix2 n k)) d) := by
  unfold Host.topK
  dsimp only
  refine (extractStridedSlice_apply _ _ _ (ix2 n c) (ix2 n d) (fun a => ?_)).trans ?_
  · match a with
    | ⟨0, _⟩ => exact (Nat.zero_add _).symm
    | ⟨1, _⟩ => exact (hc.symm.trans (Nat.zero_add _).symm)
  · unfold Host.sort2
    rw [dif_pos (show 1 < 2 by decide)]
    exact congrArg word (sorted_row v n d)

end Rows

/-! ## Picking by an indicator -/

/-- An entry of an indicator row: one at `p`, zero elsewhere. -/
theorem indicator (p k : Fin 4) :
    FloatOps.uitofp (F := Ideal) .f32 (IntOp.cmpi .eq (word p) (BitVec.ofNat 32 k.val)) = if k = p then (1 : EReal) else 0 := by
  have h : ∀ p k : Fin 4, IntOp.cmpi .eq (word p) (BitVec.ofNat 32 k.val) = if k = p then 1#1 else 0#1 := by decide +kernel
  rw [h]
  show (((if k = p then 1#1 else 0#1 : BitVec 1).toNat : ℝ) : EReal) = _
  split <;> simp

/-- The indicator's row times another, summed, is the other's entry at `p`, finite or not. -/
theorem sum_indicator (p : Fin 4) (f : Fin 4 → EReal) : (∑ k, (if k = p then (1 : EReal) else 0) * f k) = f p := by
  rw [Finset.sum_eq_single p (fun k _ hk => by rw [if_neg hk, zero_mul]) (fun h => absurd (Finset.mem_univ p) h), if_pos rfl, one_mul]

/-! ## Softmax weights of real logits -/

/-- The chosen group's share is its exponential over the sum of all. -/
theorem gate_eq (gl : Fin 4 → EReal) (h : ∀ k, IsReal (gl k)) :
    Ideal.div (Ideal.exp (gl (first (gt gl)) - gl (first (gt gl)))) (∑ k, Ideal.exp (gl k - gl (first (gt gl)))) = gate gl := by
  unfold gate
  rw [(h _).sub_self]
  exact congrArg (fun e => Ideal.div e _) ((Ideal.exp_coe 0).trans (by rw [Real.exp_zero]; rfl))

/-- The ratio of two real logits' exponentials is a real number, and positive. -/
theorem ratio_coe (e : Fin 4 → EReal) (h : ∀ k, IsReal (e k)) : ∃ r : ℝ, 0 < r ∧ ratio e = r := by
  obtain ⟨a, ha⟩ := h (second (gt e))
  obtain ⟨b, hb⟩ := h (first (gt e))
  refine ⟨Real.exp (a - b), Real.exp_pos _, ?_⟩
  unfold ratio
  rw [ha, hb, ← EReal.coe_sub, Ideal.exp_coe]

/-- A share of the gate, and the gate shared out, are the same. -/
theorem share_eq (e : Fin 4 → EReal) (h : ∀ k, IsReal (e k)) (x g : EReal) :
    Ideal.div x (1 + ratio e) * g = Ideal.div (g * x) (1 + ratio e) := by
  obtain ⟨r, hr, hrat⟩ := ratio_coe e h
  have h1 : (1 + ratio e : EReal) = ((1 + r : ℝ) : EReal) := by rw [hrat, EReal.coe_add]; rfl
  rw [h1, Ideal.div_coe (by positivity), Ideal.div_coe (by positivity), mul_comm, ← mul_assoc]

end Cert.Routing

end
-- ==== Proof.Out.Reference.lean ====
/-
  What the reference of the output projection computes, over the extended reals: the layer's new rows, and the logits of
  the groups and of the experts.
-/
module

public import proofs.«01_k».proof.Proof.Gen.OutRefIdeal.Read
public import proofs.«01_k».proof.Proof.Out.Array
public import proofs.«01_k».proof.Proof.Out.Choice

@[expose] public section

set_option maxRecDepth 16384

noncomputable section

namespace Cert.OutIdeal.Route

open Cert.OutRefIdeal Cert.OutRefIdeal.Read Cert.Layer Cert.Routing
open Idealize.ShloMosaic hiding ix1 ix2 ix3 ix4 ix5
open Idealize.ShloMosaic.ValueIdx

variable (x : FVec Ideal S32768x1024 .f32) (a : FVec Ideal S32768x256 .f32) (b : FVec Ideal S32768x512 .f32) (k : FVec Ideal S32768x256 .f32)
  (w : FVec Ideal S1024x1024 .f32) (g : FVec Ideal S1024 .f32) (rg : FVec Ideal S1024x4 .f32) (bg : FVec Ideal S4 .f32)
  (re : FVec Ideal S1024x16 .f32) (be : FVec Ideal S16 .f32) (n : Fin 32768)

/-- The three branches' rows side by side. -/
theorem ref_joined (j : Fin 1024) : val_main_v0 (F := Ideal) a b k (ix2 n j)
    = joined (fun j => a (ix2 n j)) (fun j => b (ix2 n j)) (fun j => k (ix2 n j)) j := by
  unfold val_main_v0 joined
  have hb : ∀ {m : Nat} (q : Fin m) (c : Fin 2), c ≠ 1 → ((ix2 n q : (⟨2, ![32768, m]⟩ : Shape).Idx) c).val
      = ((ix2 n j : (⟨2, ![32768, 1024]⟩ : Shape).Idx) c).val := fun q c hc => by
    match c with
    | ⟨0, _⟩ => rfl
    | ⟨1, _⟩ => exact absurd rfl hc
  split
  · exact concatenate_apply_piece 1 _ _ (ix2 n j) 0 (by simp) S32768x256 a rfl rfl 0 rfl (ix2 n ⟨j.val, _⟩) (hb _)
      (Nat.zero_add _)
  · split
    · exact concatenate_apply_piece 1 _ _ (ix2 n j) 1 (by simp) S32768x512 b rfl rfl 256 rfl (ix2 n ⟨j.val - 256, _⟩) (hb _)
        (show 256 + (j.val - 256) = j.val by omega)
    · exact concatenate_apply_piece 1 _ _ (ix2 n j) 2 (by simp) S32768x256 k rfl rfl 768 rfl (ix2 n ⟨j.val - 768, _⟩) (hb _)
        (show 768 + (j.val - 768) = j.val by omega)

/-- The new rows. -/
theorem ref_row (d : Fin 1024) : val_main_v2 (F := Ideal) x a b k w (ix2 n d) = tokenRow x a b k w n d := by
  rw [val_main_v2_apply, val_main_v1_apply]
  refine congrArg (fun z : EReal => x (ix2 n d) + z) (Finset.sum_congr rfl fun q _ => ?_)
  have el : lidx_main_v1 (ix2 n d) q = ix2 n q := funext fun a => by
    match a with
    | ⟨0, _⟩ => rfl
    | ⟨1, _⟩ => rfl
  have er : ridx_main_v1 (ix2 n d) q = ix2 q d := funext fun a => by
    match a with
    | ⟨0, _⟩ => rfl
    | ⟨1, _⟩ => rfl
  rw [el, er, ref_joined]

/-- The same, normalised. -/
theorem ref_normed (j : Fin 1024) : val_main_v15 (F := Ideal) x a b k w g (ix2 n j) = tokenNormed x a b k w g n j := by
  rw [val_main_v15_apply, val_main_v12_apply, val_main_v11_apply, val_main_v10_apply, val_main_v9_apply, val_main_v7_apply,
    val_main_v5_apply, val_main_v4_apply, val_main_v6_apply, val_main_v8_apply, val_main_v14_apply, val_main_v13_apply]
  have e0 : val_main_cst (F := Ideal) (Shape.Idx.first Cert.OutRefIdeal.Gen.h_S_) = 0 := Ideal.ofBits_zero_f32
  rw [e0, zero_add]
  have eg : idx_main_v13 (idx_main_v14 (ix2 n j)) = ix1 j := funext fun a => by
    match a with
    | ⟨0, _⟩ => rfl
  have ex : ∀ q, idx_main_v4 (idx_main_v5 (idx_main_v11 (ix2 n j))) q = ix2 n q := fun q => funext fun a => by
    match a with
    | ⟨0, _⟩ => rfl
    | ⟨1, _⟩ => rfl
  simp only [ex, eg, val_main_v3_apply, ref_row]
  rfl

/-- The groups' logits. -/
theorem ref_group (i : Fin 4) : val_main_v19 (F := Ideal) x a b k w g rg bg (ix2 n i) = groupLogit x a b k w g rg bg n i := by
  rw [val_main_v19_apply, val_main_v16_apply, val_main_v18_apply, val_main_v17_apply]
  have eb : idx_main_v17 (idx_main_v18 (ix2 n i)) = ix1 i := funext fun a => by
    match a with
    | ⟨0, _⟩ => rfl
  rw [eb]
  refine congrArg (fun z : EReal => z + bg (ix1 i)) (Finset.sum_congr rfl fun q _ => ?_)
  have el : lidx_main_v16 (ix2 n i) q = ix2 n q := funext fun a => by
    match a with
    | ⟨0, _⟩ => rfl
    | ⟨1, _⟩ => rfl
  have er : ridx_main_v16 (ix2 n i) q = ix2 q i := funext fun a => by
    match a with
    | ⟨0, _⟩ => rfl
    | ⟨1, _⟩ => rfl
  rw [el, er, ref_normed]

/-- The experts' logits, by group and number in the group. -/
theorem ref_expert (i j : Fin 4) :
    val_main_v41 (F := Ideal) x a b k w g re be (ix3 n i j) = expertLogit x a b k w g re be n i j := by
  have e41 : idx_main_v41 (ix3 n i j) = ix2 n (slot i j) := funext fun a => Fin.ext (by
    have hn := n.isLt
    have hi := i.isLt
    have hj := j.isLt
    match a with
    | ⟨0, _⟩ => exact (show ((n.val * 4 + i.val) * 4 + j.val) / 16 = n.val by omega)
    | ⟨1, _⟩ => exact (show ((n.val * 4 + i.val) * 4 + j.val) % 16 = 4 * i.val + j.val by omega))
  rw [val_main_v41_apply, e41, val_main_v40_apply, val_main_v37_apply, val_main_v39_apply, val_main_v38_apply]
  have eb : idx_main_v38 (idx_main_v39 (ix2 n (slot i j))) = ix1 (slot i j) := funext fun a => by
    match a with
    | ⟨0, _⟩ => rfl
  rw [eb]
  refine congrArg (fun z : EReal => z + be (ix1 (slot i j))) (Finset.sum_congr rfl fun q _ => ?_)
  have el : lidx_main_v37 (ix2 n (slot i j)) q = ix2 n q := funext fun a => by
    match a with
    | ⟨0, _⟩ => rfl
    | ⟨1, _⟩ => rfl
  have er : ridx_main_v37 (ix2 n (slot i j)) q = ix2 q (slot i j) := funext fun a => by
    match a with
    | ⟨0, _⟩ => rfl
    | ⟨1, _⟩ => rfl
  rw [el, er, ref_normed]

end Cert.OutIdeal.Route

end
-- ==== Proof.Out.RefRoute.lean ====
/-
  The reference's routing over the extended reals, step by step: its softmax over the groups, the group it chooses, that
  group's logits, the two experts it chooses there, and their weights.
-/
module

public import proofs.«01_k».proof.Proof.Out.Reference

@[expose] public section

set_option maxRecDepth 16384

noncomputable section

namespace Cert.OutIdeal.Route

open Cert.OutRefIdeal Cert.OutRefIdeal.Read Cert.Layer Cert.Routing
open Idealize.ShloMosaic hiding ix1 ix2 ix3 ix4 ix5
open Idealize.ShloMosaic.ValueIdx

variable (x : FVec Ideal S32768x1024 .f32) (a : FVec Ideal S32768x256 .f32) (b : FVec Ideal S32768x512 .f32) (k : FVec Ideal S32768x256 .f32)
  (w : FVec Ideal S1024x1024 .f32) (g : FVec Ideal S1024 .f32) (rg : FVec Ideal S1024x4 .f32) (bg : FVec Ideal S4 .f32)
  (re : FVec Ideal S1024x16 .f32) (be : FVec Ideal S16 .f32) (n : Fin 32768)

/-- The group a token is sent to. -/
def chosen : Fin 4 := first (gt (groupLogit x a b k w g rg bg n))

/-- The logits of that group's experts. -/
def chosenLogit : Fin 4 → EReal := expertLogit x a b k w g re be n (chosen x a b k w g rg bg n)

/-- The groups' logits in the reference, as a row. -/
theorem ref_group_row : (fun i : Fin 4 => val_main_v19 (F := Ideal) x a b k w g rg bg (ix2 n i)) = groupLogit x a b k w g rg bg n :=
  funext fun i => ref_group x a b k w g rg bg n i

/-- The maximum that the softmax over the groups takes off. -/
theorem ref_groupMax (i : Fin 4) : val_main_v24 (F := Ideal) x a b k w g rg bg (ix2 n i)
    = groupLogit x a b k w g rg bg n (chosen x a b k w g rg bg n) := by
  have ei : idx_main_v23 (idx_main_v24 (ix2 n i)) = ix1 n := funext fun a => by
    match a with
    | ⟨0, _⟩ => rfl
  rw [val_main_v24_apply, val_main_v23_apply, val_main_v22_apply, ei, val_main_v21_apply, val_main_cst_3_apply]
  show max (Ideal.ofBits .f32 0xFF800000#32) _ = _
  rw [neg_inf, max_eq_right bot_le]
  unfold val_main_v20 val_main_cst_2
  refine (rowMax_apply _ _ (by decide) _ n (chosen x a b k w g rg bg n) fun j => ?_).trans (ref_group x a b k w g rg bg n _)
  rw [ref_group, ref_group]
  exact le_first _ j

/-- The groups' exponentials. -/
theorem ref_groupExp (i : Fin 4) : val_main_v26 (F := Ideal) x a b k w g rg bg (ix2 n i)
    = Ideal.exp (groupLogit x a b k w g rg bg n i - groupLogit x a b k w g rg bg n (chosen x a b k w g rg bg n)) := by
  rw [val_main_v26_apply, val_main_v25_apply, ref_groupMax, ref_group]
  rfl

/-- The softmax over the groups. -/
theorem ref_softmax (i : Fin 4) : val_main_v30 (F := Ideal) x a b k w g rg bg (ix2 n i)
    = Ideal.div (Ideal.exp (groupLogit x a b k w g rg bg n i - groupLogit x a b k w g rg bg n (chosen x a b k w g rg bg n)))
        (∑ q, Ideal.exp (groupLogit x a b k w g rg bg n q - groupLogit x a b k w g rg bg n (chosen x a b k w g rg bg n))) := by
  have ei : ∀ q, idx_main_v27 (idx_main_v28 (idx_main_v29 (ix2 n i))) q = ix2 n q := fun q => funext fun a => by
    match a with
    | ⟨0, _⟩ => rfl
    | ⟨1, _⟩ => rfl
  have e0 : val_main_cst_4 (F := Ideal) (Shape.Idx.first Cert.OutRefIdeal.Gen.h_S_) = 0 := Ideal.ofBits_zero_f32
  rw [val_main_v30_apply, val_main_v29_apply, val_main_v28_apply, val_main_v27_apply, e0, zero_add]
  simp only [ei, ref_groupExp]
  rfl

/-- The number of the chosen group. -/
theorem ref_chosen : val_main_v31 (F := Ideal) x a b k w g rg bg (ix1 n) = word (chosen x a b k w g rg bg n) := by
  have ei : idx_main_v31 (ix1 n) = ix2 n (0 : Fin 1) := funext fun a => by
    match a with
    | ⟨0, _⟩ => exact Fin.ext (Nat.div_one _)
    | ⟨1, _⟩ => rfl
  rw [val_main_v31_apply, ei]
  unfold val_main_indices
  refine (topK_number _ _ n (0 : Fin 1) 0 rfl).trans ?_
  rw [ref_group_row, sorted_zero]
  rfl

/-- The indicator row of the chosen group. -/
theorem ref_indicator (i : Fin 4) : val_main_v32 (F := Ideal) x a b k w g rg bg (ix2 n i)
    = if i = chosen x a b k w g rg bg n then (1 : EReal) else 0 := by
  have ei : idx_main_call0_v0 (idx_main_call0_v2 (ix2 n i)) = ix1 n := funext fun a => by
    match a with
    | ⟨0, _⟩ => rfl
  rw [val_main_v32_apply, val_main_call0_v4_apply, val_main_call0_v2_apply, val_main_call0_v0_apply, ei, ref_chosen,
    val_main_call0_v3_apply, val_main_call0_v1_apply]
  exact indicator _ i

/-- The chosen group's share of the softmax. -/
theorem ref_gate (hl : ∀ i, IsReal (groupLogit x a b k w g rg bg n i)) (z : Fin 1) :
    val_main_v35 (F := Ideal) x a b k w g rg bg (ix2 n z) = gate (groupLogit x a b k w g rg bg n) := by
  have ei : ∀ q, idx_main_v34 (idx_main_v35 (ix2 n z)) q = ix2 n q := fun q => funext fun a => by
    match a with
    | ⟨0, _⟩ => rfl
    | ⟨1, _⟩ => rfl
  have e0 : val_main_cst_5 (F := Ideal) (Shape.Idx.first Cert.OutRefIdeal.Gen.h_S_) = 0 := Ideal.ofBits_zero_f32
  rw [val_main_v35_apply, val_main_v34_apply, e0, zero_add]
  simp only [ei, val_main_v33_apply, ref_indicator]
  refine (sum_indicator (chosen x a b k w g rg bg n) fun q => val_main_v30 (F := Ideal) x a b k w g rg bg (ix2 n q)).trans ?_
  rw [ref_softmax]
  exact gate_eq _ hl

/-- The chosen group's expert logits. -/
theorem ref_chosenLogit (j : Fin 4) : val_main_v44 (F := Ideal) x a b k w g rg bg re be (ix2 n j)
    = chosenLogit x a b k w g rg bg re be n j := by
  have ei : ∀ q, idx_main_v44 (ix2 n j) q = ix3 n q j := fun q => funext fun a => by
    match a with
    | ⟨0, _⟩ => rfl
    | ⟨1, _⟩ => rfl
    | ⟨2, _⟩ => rfl
  have eq : ∀ q, idx_main_v36 (idx_main_v42 (ix3 n q j)) = ix2 n q := fun q => funext fun a => by
    match a with
    | ⟨0, _⟩ => rfl
    | ⟨1, _⟩ => rfl
  have e0 : val_main_cst_6 (F := Ideal) (Shape.Idx.first Cert.OutRefIdeal.Gen.h_S_) = 0 := Ideal.ofBits_zero_f32
  rw [val_main_v44_apply, e0, zero_add]
  simp only [ei, val_main_v43_apply, val_main_v42_apply, val_main_v36_apply, eq, ref_indicator, ref_expert]
  exact sum_indicator (chosen x a b k w g rg bg n) fun q => expertLogit x a b k w g re be n q j

/-- The same as a row. -/
theorem ref_chosenLogit_row : (fun j : Fin 4 => val_main_v44 (F := Ideal) x a b k w g rg bg re be (ix2 n j))
    = chosenLogit x a b k w g rg bg re be n := funext fun j => ref_chosenLogit x a b k w g rg bg re be n j

/-- The two experts chosen there. -/
def chosenExpert (c : Fin 2) : Fin 4 :=
  sortedFrom (gt (chosenLogit x a b k w g rg bg re be n)) (Fin.castLE (by omega) c)

/-- Their logits. -/
theorem ref_top (c : Fin 2) : val_main_values_7 (F := Ideal) x a b k w g rg bg re be (ix2 n c)
    = chosenLogit x a b k w g rg bg re be n (chosenExpert x a b k w g rg bg re be n c) := by
  unfold val_main_values_7
  refine (topK_value _ _ n c (Fin.castLE (by omega) c) rfl).trans ?_
  rw [ref_chosenLogit_row, ref_chosenLogit]
  rfl

/-- Their numbers in the group. -/
theorem ref_number (c : Fin 2) : val_main_indices_8 (F := Ideal) x a b k w g rg bg re be (ix2 n c)
    = word (chosenExpert x a b k w g rg bg re be n c) := by
  unfold val_main_indices_8
  refine (topK_number _ _ n c (Fin.castLE (by omega) c) rfl).trans ?_
  rw [ref_chosenLogit_row]
  rfl

theorem chosenExpert_zero : chosenExpert x a b k w g rg bg re be n 0 = first (gt (chosenLogit x a b k w g rg bg re be n)) :=
  sorted_zero _

theorem chosenExpert_one : chosenExpert x a b k w g rg bg re be n 1 = second (gt (chosenLogit x a b k w g rg bg re be n)) :=
  sorted_one _

/-- The maximum that the softmax over the two takes off. -/
theorem ref_topMax (c : Fin 2) : val_main_v49 (F := Ideal) x a b k w g rg bg re be (ix2 n c)
    = chosenLogit x a b k w g rg bg re be n (first (gt (chosenLogit x a b k w g rg bg re be n))) := by
  have ei : idx_main_v48 (idx_main_v49 (ix2 n c)) = ix1 n := funext fun a => by
    match a with
    | ⟨0, _⟩ => rfl
  rw [val_main_v49_apply, val_main_v48_apply, val_main_v47_apply, ei, val_main_v46_apply, val_main_cst_10_apply]
  show max (Ideal.ofBits .f32 0xFF800000#32) _ = _
  rw [neg_inf, max_eq_right bot_le]
  unfold val_main_v45 val_main_cst_9
  refine (rowMax_apply _ _ (by decide) _ n 0 fun j => ?_).trans ((ref_top x a b k w g rg bg re be n 0).trans (by rw [chosenExpert_zero]))
  rw [ref_top, ref_top, chosenExpert_zero]
  exact le_first _ _

/-- The two exponentials. -/
theorem ref_topExp (c : Fin 2) : val_main_v51 (F := Ideal) x a b k w g rg bg re be (ix2 n c)
    = Ideal.exp (chosenLogit x a b k w g rg bg re be n (chosenExpert x a b k w g rg bg re be n c)
        - chosenLogit x a b k w g rg bg re be n (first (gt (chosenLogit x a b k w g rg bg re be n)))) := by
  rw [val_main_v51_apply, val_main_v50_apply, ref_topMax, ref_top]
  rfl

section Real

variable (hl : ∀ i, IsReal (groupLogit x a b k w g rg bg n i)) (he : ∀ i j, IsReal (expertLogit x a b k w g re be n i j))
include he

/-- The first of them is one, -/
theorem ref_topExp_zero : val_main_v51 (F := Ideal) x a b k w g rg bg re be (ix2 n (0 : Fin 2)) = (1 : EReal) := by
  rw [ref_topExp, chosenExpert_zero, IsReal.sub_self (show IsReal (chosenLogit x a b k w g rg bg re be n _) from he _ _)]
  exact (Ideal.exp_coe 0).trans (by rw [Real.exp_zero]; rfl)

omit he in
/-- the second their ratio. -/
theorem ref_topExp_one : val_main_v51 (F := Ideal) x a b k w g rg bg re be (ix2 n (1 : Fin 2))
    = ratio (chosenLogit x a b k w g rg bg re be n) := by
  rw [ref_topExp, chosenExpert_one]
  rfl

include hl in
/-- The weights: each exponential's share of the gate. -/
theorem ref_weight (c : Fin 2) : val_main_v57 (F := Ideal) x a b k w g rg bg re be (ix2 n c)
    = Ideal.div (gate (groupLogit x a b k w g rg bg n) * val_main_v51 (F := Ideal) x a b k w g rg bg re be (ix2 n c))
        (1 + ratio (chosenLogit x a b k w g rg bg re be n)) := by
  have ei : ∀ q, idx_main_v52 (idx_main_v53 (idx_main_v54 (ix2 n c))) q = ix2 n q := fun q => funext fun a => by
    match a with
    | ⟨0, _⟩ => rfl
    | ⟨1, _⟩ => rfl
  have eg : idx_main_v56 (ix2 n c) = ix2 n (0 : Fin 1) := funext fun a => by
    match a with
    | ⟨0, _⟩ => rfl
    | ⟨1, _⟩ => rfl
  have e0 : val_main_cst_11 (F := Ideal) (Shape.Idx.first Cert.OutRefIdeal.Gen.h_S_) = 0 := Ideal.ofBits_zero_f32
  have es : (∑ q : Fin 2, val_main_v51 (F := Ideal) x a b k w g rg bg re be (ix2 n q) : EReal)
      = 1 + ratio (chosenLogit x a b k w g rg bg re be n) := by
    rw [Fin.sum_univ_two, ref_topExp_zero x a b k w g rg bg re be n he, ref_topExp_one]
  rw [val_main_v57_apply, val_main_v56_apply, eg, ref_gate x a b k w g rg bg n hl, val_main_v55_apply, val_main_v54_apply,
    val_main_v53_apply, val_main_v52_apply, e0, zero_add]
  simp only [ei]
  rw [es]
  exact share_eq _ (fun j => he _ j) _ _

omit he in
/-- The experts' numbers among all sixteen. -/
theorem ref_expertNumber (c : Fin 2) : val_main_v63 (F := Ideal) x a b k w g rg bg re be (ix2 n c)
    = expert (chosen x a b k w g rg bg n) (chosenExpert x a b k w g rg bg re be n c) := by
  have ei : idx_main_v58 (idx_main_v61 (ix2 n c)) = ix1 n := funext fun a => by
    match a with
    | ⟨0, _⟩ => rfl
  rw [val_main_v63_apply, val_main_v62_apply, val_main_v61_apply, val_main_v60_apply, val_main_v58_apply, ei, ref_chosen,
    val_main_v59_apply, ref_number]
  exact expert_eq _ _

include hl in
/-- The reference's routing of a token. -/
theorem ref_route (r : Fin 8) : val_main_v65 (F := Ideal) x a b k w g rg bg re be (ix2 n r)
    = tokenRoute x a b k w g rg bg re be n r := by
  have hb : ∀ {m : Nat} (q : Fin m) (c : Fin 2), c ≠ 1 → ((ix2 n q : (⟨2, ![32768, m]⟩ : Shape).Idx) c).val
      = ((ix2 n r : (⟨2, ![32768, 8]⟩ : Shape).Idx) c).val := fun q c hc => by
    match c with
    | ⟨0, _⟩ => rfl
    | ⟨1, _⟩ => exact absurd rfl hc
  have h0 : ∀ c : Fin 2, r.val = c.val → val_main_v65 (F := Ideal) x a b k w g rg bg re be (ix2 n r)
      = expert (chosen x a b k w g rg bg n) (chosenExpert x a b k w g rg bg re be n c) := fun c hc =>
    (concatenate_apply_piece 1 _ _ (ix2 n r) 0 (by simp) S32768x2 _ rfl rfl 0 rfl (ix2 n c) (hb _)
      (show 0 + c.val = r.val by omega)).trans (ref_expertNumber x a b k w g rg bg re be n c)
  have h1 : ∀ c : Fin 2, r.val = 2 + c.val → val_main_v65 (F := Ideal) x a b k w g rg bg re be (ix2 n r)
      = Ideal.div (gate (groupLogit x a b k w g rg bg n) * val_main_v51 (F := Ideal) x a b k w g rg bg re be (ix2 n c))
        (1 + ratio (chosenLogit x a b k w g rg bg re be n)) := fun c hc =>
    (concatenate_apply_piece 1 _ _ (ix2 n r) 1 (by simp) S32768x2 _ rfl rfl 2 rfl (ix2 n c) (hb _)
      (show 2 + c.val = r.val by omega)).trans (ref_weight x a b k w g rg bg re be n hl he c)
  have h2 : ∀ c : Fin 4, r.val = 4 + c.val → val_main_v65 (F := Ideal) x a b k w g rg bg re be (ix2 n r) = (0 : EReal) := fun c hc =>
    (concatenate_apply_piece 1 _ _ (ix2 n r) 2 (by simp) S32768x4 _ rfl rfl 4 rfl (ix2 n c) (hb _)
      (show 4 + c.val = r.val by omega)).trans ((val_main_v64_apply _).trans Ideal.ofBits_zero_f32)
  match r, h0, h1, h2 with
  | ⟨0, _⟩, h0, _, _ => exact (h0 0 rfl).trans (by rw [chosenExpert_zero]; rfl)
  | ⟨1, _⟩, h0, _, _ => exact (h0 1 rfl).trans (by rw [chosenExpert_one]; rfl)
  | ⟨2, _⟩, _, h1, _ => exact (h1 0 rfl).trans (by rw [ref_topExp_zero x a b k w g rg bg re be n he, mul_one]; rfl)
  | ⟨3, _⟩, _, h1, _ => exact (h1 1 rfl).trans (by rw [ref_topExp_one]; rfl)
  | ⟨4, _⟩, _, _, h2 => exact h2 0 rfl
  | ⟨5, _⟩, _, _, h2 => exact h2 1 rfl
  | ⟨6, _⟩, _, _, h2 => exact h2 2 rfl
  | ⟨7, _⟩, _, _, h2 => exact h2 3 rfl

end Real

end Cert.OutIdeal.Route

end
-- ==== Proof.Out.Algebraic.lean ====
/-
  The output projection and its reference leave equal results over the extended reals from equal arguments, when the
  gains, the routers and their biases are finite; and the frames of both.
-/
module

public import proofs.«01_k».proof.Defs
public import proofs.«01_k».proof.Proof.Gen.Out.Frame
public import proofs.«01_k».proof.Proof.Gen.OutIdeal.Frame
public import proofs.«01_k».proof.Proof.Gen.OutRefIdeal.Run
public import proofs.«01_k».proof.Proof.Gen.Pre_finite_router
public import proofs.«01_k».proof.Proof.Out.RefRoute
public import Idealize.ShloMosaic.Lib.ReduceAll
public import Idealize.ShloMosaic.Lib.Pointwise.Index

@[expose] public section

set_option maxRecDepth 16384

noncomputable section

namespace Cert.OutIdeal.Route

open Cert.OutRefIdeal Cert.OutRefIdeal.Read Cert.Layer Cert.Routing
open Idealize.ShloMosaic hiding ix1 ix2 ix3 ix4 ix5
open Idealize.ShloMosaic.ValueIdx Idealize.ShloMosaic.TcCoe Idealize.SL.Sem

/-! ## The precondition -/

theorem both_one : ∀ p q : BitVec 1, IntOp.andi p q = 1#1 → p = 1#1 ∧ q = 1#1 := by decide

/-- The word that is infinity. -/
theorem pos_inf : Ideal.ofBits .f32 0x7F800000#32 = ⊤ := by simp [Ideal.ofBits, Ideal.ieee]

/-- An entry whose absolute value is below infinity is a real number. -/
theorem isReal_of_abs (z : EReal)
    (h : FloatOps.cmpf (F := Ideal) (φ := .f32) .olt (FloatOps.hostAbsf (F := Ideal) (φ := .f32) z) (Ideal.ofBits .f32 0x7F800000#32) = 1#1) :
    IsReal z := by
  rw [pos_inf] at h
  have h' : (max z (-z) : EReal) < ⊤ := (WordCmp.ofBool_decide_eq_one_iff _).mp h
  refine isReal_of_ne (fun hz => ?_) (fun hz => ?_) <;> rw [hz] at h' <;> simp at h'

/-- What the precondition says: the gains, the routers and their biases are real numbers. -/
theorem real_of_pre (x : FVec Ideal S32768x1024 .f32) (a : FVec Ideal S32768x256 .f32) (b : FVec Ideal S32768x512 .f32) (k : FVec Ideal S32768x256 .f32)
    (w : FVec Ideal S1024x1024 .f32) (g : FVec Ideal S1024 .f32) (rg : FVec Ideal S1024x4 .f32) (bg : FVec Ideal S4 .f32)
    (re : FVec Ideal S1024x16 .f32) (be : FVec Ideal S16 .f32)
    (h : Cert.Pre_finite_router.fn (F := Ideal) x a b k w g rg bg re be = fun _ => 1#1) :
    (∀ i, IsReal (g i)) ∧ (∀ i, IsReal (rg i)) ∧ (∀ i, IsReal (bg i)) ∧ (∀ i, IsReal (re i)) ∧ ∀ i, IsReal (be i) := by
  haveI : Subsingleton Cert.Pre_finite_router.S_.Idx := ⟨fun a b => funext fun i => i.elim0⟩
  have h0 := congrFun h (fun a => a.elim0)
  unfold Cert.Pre_finite_router.fn Cert.Pre_finite_router.fn_part1 at h0
  dsimp only at h0
  obtain ⟨h1, hbe⟩ := both_one _ _ h0
  obtain ⟨h2, hre⟩ := both_one _ _ h1
  obtain ⟨h3, hbg⟩ := both_one _ _ h2
  obtain ⟨hg, hrg⟩ := both_one _ _ h3
  exact ⟨fun i => isReal_of_abs _ (Host.reduce_andi_all _ _ _ _ _ hg i), fun i => isReal_of_abs _ (Host.reduce_andi_all _ _ _ _ _ hrg i),
    fun i => isReal_of_abs _ (Host.reduce_andi_all _ _ _ _ _ hbg i), fun i => isReal_of_abs _ (Host.reduce_andi_all _ _ _ _ _ hre i),
    fun i => isReal_of_abs _ (Host.reduce_andi_all _ _ _ _ _ hbe i)⟩

/-! ## The reference's two results -/

section Reference

variable (x : FVec Ideal S32768x1024 .f32) (a : FVec Ideal S32768x256 .f32) (b : FVec Ideal S32768x512 .f32) (k : FVec Ideal S32768x256 .f32)
  (w : FVec Ideal S1024x1024 .f32) (g : FVec Ideal S1024 .f32) (rg : FVec Ideal S1024x4 .f32) (bg : FVec Ideal S4 .f32)
  (re : FVec Ideal S1024x16 .f32) (be : FVec Ideal S16 .f32)

/-- The new rows. -/
theorem ref_rows : val_main_v2 (F := Ideal) x a b k w = fun i => tokenRow x a b k w (i 0) (i 1) := by
  refine funext fun (i : S32768x1024.Idx) => ?_
  obtain ⟨n, d, rfl⟩ : ∃ n d, i = ix2 n d := ⟨_, _, ValueIdx.eq_ix2 i⟩
  exact ref_row x a b k w n d

/-- The routings, one token to a column. -/
theorem ref_routes (hg : ∀ i, IsReal (g i)) (hrg : ∀ i, IsReal (rg i)) (hbg : ∀ i, IsReal (bg i)) (hre : ∀ i, IsReal (re i))
    (hbe : ∀ i, IsReal (be i)) :
    val_main_v66 (F := Ideal) x a b k w g rg bg re be = fun i => tokenRoute x a b k w g rg bg re be (i 1) (i 0) := by
  refine funext fun (i : S8x32768.Idx) => ?_
  obtain ⟨r, n, rfl⟩ : ∃ r n, i = ix2 r n := ⟨_, _, ValueIdx.eq_ix2 i⟩
  have e : idx_main_v66 (ix2 r n) = ix2 n r := funext fun a => by
    match a with
    | ⟨0, _⟩ => rfl
    | ⟨1, _⟩ => rfl
  have ht : ∀ j, IsReal (tokenNormed x a b k w g n j) := fun j => isReal_normRow _ _ (fun _ => hg _) j
  rw [val_main_v66_apply, e]
  exact ref_route x a b k w g rg bg re be n (fun i => isReal_logit ht (fun _ => hrg _) (hbg _))
    (fun i j => isReal_logit ht (fun _ => hre _) (hbe _)) r

end Reference

/-! ## The claims -/

/-- The kernel ends with its arguments unchanged and its semaphores at zero, on words. -/
theorem quiescent_words : Cert.quiescent_Out := fun m ρ _ => Cert.Out.Gen.frame m ρ

/-- So does it over the extended reals. -/
theorem quiescent_ideal : Cert.quiescent_OutIdeal := fun m ρ _ => Cert.OutIdeal.Gen.frame m ρ

theorem quiescent_ideal_finite : Cert.quiescent_OutIdeal_pre_finite_router := fun m ρ _ => Cert.OutIdeal.Gen.frame m ρ

/-- The reference ends with its arguments unchanged; it has no semaphore. -/
theorem quiescent_reference : Cert.quiescent_OutRefIdeal := fun m ρ _ =>
  (θ_run Cert.OutRefIdeal.defs _ _).mono (fun r h => ⟨fun c => (h c).2.2, sem_eq_zero_of_no_sems (by decide) r.2⟩)
    (Cert.OutRefIdeal.Value.run (F := Ideal) m ρ)

theorem quiescent_reference_finite : Cert.quiescent_OutRefIdeal_pre_finite_router := fun m ρ _ => quiescent_reference m ρ trivial

/-- Both leave the new rows and the tokens' routings. -/
theorem algebraic : Cert.algebraic_OutIdeal_OutRefIdeal_pre_finite_router := fun m g m' g' hpre hagree => by
  refine ⟨fun c => rows m c, fun c => routes m c, ?_, ?_⟩
  · refine (θ_run Cert.OutIdeal.defs _ _).mono (fun r h c => ⟨(h c).1.trans (rows_eq m c), (h c).2.1.trans ?_, (h c).2.2⟩)
      (Cert.OutIdeal.Value.run_blocks m g)
    obtain ⟨h5, h6, h7, h8, h9⟩ := real_of_pre _ _ _ _ _ _ _ _ _ _ (hpre c)
    exact routes_eq m c h5 h6 h7 h8 h9
  · refine (θ_run Cert.OutRefIdeal.defs _ _).mono (fun r h c => ⟨(h c).1.trans ?_, (h c).2.1.trans ?_, (h c).2.2⟩)
      (Cert.OutRefIdeal.Value.run (F := Ideal) m' g')
    · obtain ⟨e0, e1, e2, e3, e4, -⟩ := hagree c
      refine (val_main_v2_eq _ _ _ _ _).trans ?_
      rw [e0, e1, e2, e3, e4]
      exact ref_rows _ _ _ _ _
    · obtain ⟨e0, e1, e2, e3, e4, e5, e6, e7, e8, e9⟩ := hagree c
      obtain ⟨h5, h6, h7, h8, h9⟩ := real_of_pre _ _ _ _ _ _ _ _ _ _ (hpre c)
      refine (val_main_v66_eq m' c).trans ?_
      rw [e0, e1, e2, e3, e4, e5, e6, e7, e8, e9]
      exact ref_routes _ _ _ _ _ _ _ _ _ _ h5 h6 h7 h8 h9

end Cert.OutIdeal.Route

end
-- ==== Proof.Combine.Rows.lean ====
/-
  The combine call's gather, its rows. A tile's gather makes 512 copies, two for each of the tile's 256 tokens: copy
  `t` fills row `t / 2` of half `t % 2` of the scratch buffer with the experts' row the positions name there. Here: the
  elements each copy reads and writes, what the scratch holds once all have landed, and that one copy lands as said.
-/
module

public import proofs.«01_k».proof.Proof.Gen.CombIdeal.Frame
public import proofs.«01_k».proof.Proof.Gen.CombIdeal.Skeleton
public import Idealize.ShloMosaic.Lib.Batch
public import Idealize.ShloMosaic.Lib.ValueLayout
public import Idealize.ShloMosaic.Lib.Pointwise.Index
public import Idealize.ShloMosaic.Lib.Pipeline.Value

@[expose] public section

set_option maxRecDepth 16384

noncomputable section

namespace Cert.CombIdeal.Combine

open Cert.CombIdeal Cert.CombIdeal.Gen
open Idealize.ShloMosaic hiding ix1 ix2 ix3 ix4 ix5
open Idealize.ShloMosaic.ValueIdx Idealize.ShloMosaic.TcCoe

variable {F : FTy → Type} [FloatOps F]

/-- The experts' rows, left in main memory, and the scratch buffer, each whole. -/
abbrev rowsM : Memref sig .tc .hbm S69632x1024 .f32 := Memref.whole main_arg0
abbrev scratchM : Memref sig .tc .vmem S2x256x1024 .f32 := Memref.whole cc0_scratch0

/-- The half and the row of the scratch that copy `t` fills. -/
abbrev half (t : Fin 512) : Fin 2 := ⟨t.val % 2, Nat.mod_lt _ (by decide)⟩
abbrev slot (t : Fin 512) : Fin 256 := ⟨t.val / 2, by omega⟩

/-- The experts' row that a tile's positions `x` name for half `k`, row `r`. -/
abbrev rowOf (x : Vec F S1x2x256 .i32) (k : Fin 2) (r : Fin 256) : ℕ := BitVec.toNat (x (ix3 0 k r))

/-- The elements of the scratch that copy `t` writes, and the elements of the experts' rows that it reads. -/
def dstSet (t : Fin 512) : Finset S2x256x1024.Idx :=
  Finset.univ.filter fun i => (i 0).val = t.val % 2 ∧ (i 1).val = t.val / 2
def srcSet (x : Vec F S1x2x256 .i32) (t : Fin 512) : Finset S69632x1024.Idx :=
  Finset.univ.filter fun i => (i 0).val = rowOf x (half t) (slot t)

/-- What the scratch holds once every copy has landed. -/
def gathered (x : Vec F S1x2x256 .i32) (g : Vec F S69632x1024 .f32) : Vec F S2x256x1024 .f32 :=
  fun i => g (ix2 (Fin.ofNat 69632 (rowOf x (i 0) (i 1))) (i 2))

theorem dstSet_disjoint (t t' : Fin 512) (h : t ≠ t') : Disjoint (dstSet t) (dstSet t') := by
  rw [Finset.disjoint_left]
  intro i hi hi'
  simp only [dstSet, Finset.mem_filter, Finset.mem_univ, true_and] at hi hi'
  exact h (Fin.ext (by omega))

theorem dstSet_cover : Finset.univ.biUnion dstSet = Finset.univ := by
  refine Finset.eq_univ_iff_forall.mpr fun i => Finset.mem_biUnion.mpr ?_
  have h0 : (i 0).val < 2 := (i 0).isLt
  have h1 : (i 1).val < 256 := (i 1).isLt
  refine ⟨⟨2 * (i 1).val + (i 0).val, by omega⟩, Finset.mem_univ _, ?_⟩
  simp only [dstSet, Finset.mem_filter, Finset.mem_univ, true_and]
  omega

/-- A row of the experts' rows as the body slices it, and a row of the scratch as the body slices it. -/
abbrev srcRow (off : Fin 2 → ℕ) (inb : ∀ a, off a + S1x1024.size a ≤ S69632x1024.size a) : Memref sig .tc .hbm S1x1024 .f32 :=
  rowsM.slice (Rect.unit (s := S69632x1024) off S1x1024.size inb) (fun _ => rfl)
abbrev dstRow (off : Fin 3 → ℕ) (inb : ∀ a, off a + S1x1x1024.size a ≤ S2x256x1024.size a) : Memref sig .tc .vmem S1x1024 .f32 :=
  (scratchM.slice (Rect.unit (s := S2x256x1024) off S1x1x1024.size inb) (fun _ => rfl)).squeeze S1x1024 squeezes_S1x1x1024_S1x1024

theorem srcRow_set (off : Fin 2 → ℕ) (inb) (x : Vec F S1x2x256 .i32) (t : Fin 512)
    (h : off = ![rowOf x (half t) (slot t), 0]) : (srcRow off inb).view.set = srcSet x t := by
  subst h
  refine (View.set_slice_whole _ _).trans (Finset.ext fun i => ?_)
  rw [Rect.mem_set_unit]
  simp only [srcSet, Finset.mem_filter, Finset.mem_univ, true_and]
  have h1 : (i 1).val < 1024 := (i 1).isLt
  constructor
  · intro H
    have a := H 0
    simp at a
    omega
  · intro H a
    fin_cases a
    · simp; omega
    · simp; exact h1

theorem dstRow_set (off : Fin 3 → ℕ) (inb) (t : Fin 512)
    (h : off = ![t.val % 2, t.val / 2, 0]) : (dstRow off inb).view.set = dstSet t := by
  subst h
  refine ((View.set_reshape _ _).trans (View.set_slice_whole _ _)).trans (Finset.ext fun i => ?_)
  rw [Rect.mem_set_unit]
  simp only [dstSet, Finset.mem_filter, Finset.mem_univ, true_and]
  have h2 : (i 2).val < 1024 := (i 2).isLt
  constructor
  · intro H
    have a := H 0
    have b := H 1
    simp at a b
    omega
  · intro H a
    fin_cases a
    · simp; omega
    · simp; omega
    · simp; exact h2

/-- Copy `t` leaves in its row of the scratch what `gathered` holds there. -/
theorem landed (offs : Fin 2 → ℕ) (inbs) (offd : Fin 3 → ℕ) (inbd) (x : Vec F S1x2x256 .i32) (t : Fin 512)
    (hs : offs = ![rowOf x (half t) (slot t), 0]) (hd : offd = ![t.val % 2, t.val / 2, 0])
    (g : Vec F S69632x1024 .f32) (f : Vec F S2x256x1024 .f32) (i : S2x256x1024.Idx) (hi : i ∈ dstSet t) :
    (dstRow offd inbd).view.write (Elt F) f ((srcRow offs inbs).view.read (Elt F) g) Finset.univ i = gathered x g i := by
  subst hs hd
  have hlt : rowOf x (half t) (slot t) < 69632 := by
    have := inbs 0; simp at this; omega
  simp only [dstSet, Finset.mem_filter, Finset.mem_univ, true_and] at hi
  have hemb : (dstRow ![t.val % 2, t.val / 2, 0] inbd).view.emb (ix2 0 (i 2)) = i := by
    refine Eq.trans (b := (Rect.unit (s := S2x256x1024) ![t.val % 2, t.val / 2, 0] S1x1x1024.size inbd).emb
      (ix3 (0 : Fin 1) (0 : Fin 1) (i 2)))
      (congrArg (Rect.unit (s := S2x256x1024) ![t.val % 2, t.val / 2, 0] S1x1x1024.size inbd).emb
        (reshapeEquiv_ix2_1ab (a := 1) (b := 1024) (by decide) 0 (i 2))) ?_
    funext a
    refine Fin.ext ?_
    fin_cases a
    · simp [hi.1]
    · simp [hi.2]
    · simp
  rw [← hemb, View.write_emb_of_mem _ _ (Finset.mem_univ _), hemb]
  refine congrArg g ?_
  funext a
  refine Fin.ext ?_
  have e0 : i 0 = half t := Fin.ext hi.1
  have e1 : i 1 = slot t := Fin.ext hi.2
  fin_cases a
  · refine (show _ = rowOf x (half t) (slot t) + 1 * 0 from rfl).trans ?_
    show _ = rowOf x (i 0) (i 1) % 69632
    rw [e0, e1, Nat.mod_eq_of_lt hlt]
    omega
  · show 0 + 1 * (i 2).val = (i 2).val
    omega

end Cert.CombIdeal.Combine

end
-- ==== Proof.Combine.Copy.lean ====
/-
  The combine call's gather, its two loops. The first loop starts two copies a trip, each after a check that the
  position it read is a row of the array; the second waits for as many. All copies complete on one semaphore, so
  nothing is known of any of them before the last wait, and then the scratch holds `gathered`.
-/
module

public import proofs.«01_k».proof.Proof.Combine.Rows
public import Idealize.ShloMosaic.Lib.Pipeline.Frame
public import Idealize.ShloMosaic.Lib.Tactic

@[expose] public section

set_option maxRecDepth 16384

noncomputable section

namespace Cert.CombIdeal.Combine

open Cert.CombIdeal Cert.CombIdeal.Gen
open Idealize.ShloMosaic hiding ix1 ix2 ix3 ix4 ix5
open Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- The units a copy of one row adds to the semaphore. -/
def rowUnits : ℕ := (dstRow ![0, 0, 0] inb_S2x256x1024_S1x1x1024_0_0_0).view.dmaCredit

theorem rowUnits_pos : 0 < rowUnits := View.dmaCredit_pos _ (by decide)

/-- The read share of the experts' rows that copy `t` is lent, on the row it reads; and the row of the scratch it
    writes, at contents `f`. -/
abbrev srcPt (c : Dev nD) (x : Vec F S1x2x256 .i32) (g : Vec F S69632x1024 .f32) (t : Fin 512) : sProp 𝕄 :=
  rowsM.view.loc (c : Thread nD τ) ↦[srcSet x t]{shareTok fullShare 512 t} g
abbrev dstPt (c : Dev nD) (t : Fin 512) (f : Vec F S2x256x1024 .f32) : sProp 𝕄 :=
  scratchM.view.loc (c : Thread nD τ) ↦[dstSet t]{fullShare} f

/-- What copy `t` delivers: its row of the scratch at `gathered`, and the read share back. -/
def delivery (c : Dev nD) (x : Vec F S1x2x256 .i32) (g : Vec F S69632x1024 .f32) (t : Fin 512) : sProp 𝕄 :=
  iprop(dstPt c t (gathered x g) ∗ srcPt c x g t)

instance (c : Dev nD) (x : Vec F S1x2x256 .i32) (g : Vec F S69632x1024 .f32) (t : Fin 512) :
    BI.Storable (upEmb : UEmb _ 𝕄) (delivery c x g t) := by
  unfold delivery; infer_instance

/-- The copies, `j` of them started and `u` units waited for. -/
abbrev copies (c : Dev nD) (x : Vec F S1x2x256 .i32) (g : Vec F S69632x1024 .f32) (j u : ℕ) : sProp 𝕄 :=
  Batch (countersEmb (U := Pipeline.UD sig nD τ)) (c : Thread nD τ) (.dma cc0_scratch1.sem) () rowUnits (delivery c x g) j u

/-- One copy: the position read, the check, the copy started. -/
theorem copy_row (c : Dev nD) (arg1 : Memref sig .tc .smem S1x2x256 .i32)
    (f1 : Buf (Elt F) (arg1.view.loc (c : Thread nD τ))) (x : Vec F S1x2x256 .i32) (hx : arg1.view.read (Elt F) f1 = x)
    (g : Vec F S69632x1024 .f32) (f : Vec F S2x256x1024 .f32) (t : Fin 512)
    (hlt : rowOf x (half t) (slot t) < 69632)
    (off1 : Fin 3 → ℕ) (inb1) (hoff1 : off1 = ![0, t.val % 2, t.val / 2])
    (hl : (arg1.access (Rect.unit (s := S1x2x256) off1 S1x1x1.size inb1)).Loads)
    {y : (Rect.unit (s := S1x2x256) off1 S1x1x1.size inb1).shape.Idx}
    (offd : Fin 3 → ℕ) (inbd) (hoffd : offd = ![t.val % 2, t.val / 2, 0])
    (chk : BitVec 32 → Prop) (dec : ∀ w, Decidable (chk w)) (offs : BitVec 32 → Fin 2 → ℕ)
    (hchk : ∀ w, chk w = ∀ a, offs w a + S1x1024.size a ≤ S69632x1024.size a) (hoffs : ∀ w, offs w = ![w.toNat, 0])
    {hsrc : ∀ w (h : chk w), (srcRow (offs w) (hchk w ▸ h)).view.WordExact} {hdst : (dstRow offd inbd).view.WordExact}
    {hsem : DmaTarget.Typed (nD := nD) .hbm (.dma cc0_scratch1.sem) (.here (p := .tc) (dstRow offd inbd))}
    {α : Type} {rest : Prog (TpuEff nD τ sig (Elt F) Λ₀ .tc) α} {Q : α → sProp 𝕄} :
    iprop((arg1.view.loc (c : Thread nD τ) ↦[arg1.view.set]{fullShare} f1) ∗ srcPt c x g t ∗ dstPt c t f ∗ copies c x g t.val 0)
      ⊢ iprop((iprop((arg1.view.loc (c : Thread nD τ) ↦[arg1.view.set]{fullShare} f1) ∗ copies c x g (t.val + 1) 0)
          -∗ wp frame (wpE (defs₀ (F := F)) Variants.none c none) Set.univ rest Q)
        -∗ wp frame (wpE (defs₀ (F := F)) Variants.none c none) Set.univ
          (smemLoadElt arg1 (Rect.unit (s := S1x2x256) off1 S1x1x1.size inb1) hl y fun w =>
            .op (.assume (chk w) (dec w)) fun h =>
            .op (.enqueueDma (srcRow (offs w) (hchk w ▸ h.down)) (.here (dstRow offd inbd)) (.dma cc0_scratch1.sem)
              (hsrc w h.down) hdst hsem) fun _ => rest) Q) := by
  have hw : (arg1.access (Rect.unit (s := S1x2x256) off1 S1x1x1.size inb1)).read (Elt F) f1 y = x (ix3 0 (half t) (slot t)) := by
    subst hx hoff1
    refine congrArg (arg1.view.read (Elt F) f1) (funext fun a => Fin.ext ?_)
    have hy0 : (y 0).val = 0 := Nat.lt_one_iff.mp (y 0).isLt
    have hy1 : (y 1).val = 0 := Nat.lt_one_iff.mp (y 1).isLt
    have hy2 : (y 2).val = 0 := Nat.lt_one_iff.mp (y 2).isLt
    fin_cases a
    · show 0 + 1 * (y 0).val = 0
      omega
    · show t.val % 2 + 1 * (y 1).val = t.val % 2
      omega
    · show t.val / 2 + 1 * (y 2).val = t.val / 2
      omega
  iintro ⟨H1, Hs, Hd, HB⟩ Hk
  iapply (wp_smemLoadElt Variants.none (c : Thread nD τ) none Set.univ (m := arg1)
    (r := Rect.unit (s := S1x2x256) off1 S1x1x1.size inb1) (x := y) (hw := hl) (S := (arg1.view.set : Finset arg1.view.ty.Idx)) (q := fullShare) (f := f1)
    (View.set_slice_subset arg1.view _)) $$ H1
  iintro H1
  rw [hw]
  have hc : chk (x (ix3 0 (half t) (slot t))) := by
    rw [hchk, hoffs]
    intro a
    fin_cases a
    · simp; exact Nat.le_of_lt_succ hlt
    · simp
  iapply (wp_assume Variants.none (c : Thread nD τ) none Set.univ hc)
  have hset := srcRow_set (offs (x (ix3 0 (half t) (slot t)))) (hchk _ ▸ hc) x t (hoffs _)
  iapply (wp_dmaBatch (countersEmb (U := Pipeline.UD sig nD τ)) Variants.none (c : Thread nD τ) none (n := 512)
    (D := delivery c x g) (j := t.val) (u := 0) (q := shareTok fullShare 512 t) (fs := g) (fd := f) (Sd := dstSet t)
    () rowUnits rfl (dstRow_set offd inbd t hoffd).subset t.isLt (Nat.zero_le _) ?_) $$ [Hs Hd HB]
  · unfold delivery
    rw [hset]
    refine sep_mono (Entails.of_eq (pointsTo_congr fun i hi => ?_)) .rfl
    exact landed _ _ _ _ x t (hoffs _) hoffd g f i hi
  · rw [hset]
    isplitl [Hs]; · iexact Hs
    isplitl [Hd]; · iexact Hd
    iexact HB
  · iintro HB
    iapply Hk
    isplitl [H1]; · iexact H1
    iexact HB

/-- The copies from `j` on, not yet started: the shares they read through and the scratch rows they write. -/
abbrev waiting (c : Dev nD) (x : Vec F S1x2x256 .i32) (g : Vec F S69632x1024 .f32) (f : Vec F S2x256x1024 .f32) (j : ℕ) : sProp 𝕄 :=
  bigSep (pending (n := 512) j) fun t => iprop(srcPt c x g t ∗ dstPt c t f)

/-- Before trip `k` of the first loop `2 k` copies have been started. -/
abbrev startInv (c : Dev nD) (arg1 : Memref sig .tc .smem S1x2x256 .i32) (f1 : Buf (Elt F) (arg1.view.loc (c : Thread nD τ)))
    (x : Vec F S1x2x256 .i32) (g : Vec F S69632x1024 .f32) (f : Vec F S2x256x1024 .f32) (k : ℕ) (_ : Unit) : sProp 𝕄 :=
  iprop((arg1.view.loc (c : Thread nD τ) ↦[arg1.view.set]{fullShare} f1) ∗ waiting c x g f (2 * k) ∗ copies c x g (2 * k) 0)

variable (i : grid0.Coords) (arg1 : Memref sig .tc .smem S1x2x256 .i32) (harg1 : arg1.IsWhole)
  (arg3 : Memref sig .tc .vmem S256x1024 .f32) (harg3 : arg3.IsWhole) (arg4 : Memref sig .tc .vmem S256x2 .f32) (harg4 : arg4.IsWhole)
  (arg5 : Memref sig .tc .vmem S1x1024 .f32) (harg5 : arg5.IsWhole) (arg6 : Memref sig .tc .vmem S256x1024 .f32) (harg6 : arg6.IsWhole)

/-- A trip of the first loop starts the two copies of one token. -/
theorem start_step (c : Dev nD) (f1 : Buf (Elt F) (arg1.view.loc (c : Thread nD τ))) (x : Vec F S1x2x256 .i32)
    (hx : arg1.view.read (Elt F) f1 = x) (hlt : ∀ k r, rowOf x k r < 69632)
    (g : Vec F S69632x1024 .f32) (f : Vec F S2x256x1024 .f32) (k : Fin k0_t1_loop.trips) (acc : Unit) :
    startInv c arg1 f1 x g f k.val acc
      ⊢ wp frame (wpE (defs₀ (F := F)) Variants.none c none) Set.univ
          (k0_t1_body i arg1 harg1 rowsM (Memref.isWhole_whole _) arg3 harg3 arg4 harg4 arg5 harg5 arg6 harg6
            scratchM (Memref.isWhole_whole _) cc0_scratch1 k acc) (startInv c arg1 f1 x g f (k.val + 1)) := by
  have hk : k.val < 256 := k.isLt
  unfold startInv waiting
  rw [bigSep_pending_step _ (2 * k.val) (by omega), bigSep_pending_step _ (2 * k.val + 1) (by omega)]
  iintro ⟨H1, ⟨⟨Hs0, Hd0⟩, ⟨Hs1, Hd1⟩, Hw⟩, HB⟩
  iapply (copy_row c arg1 f1 x hx g f ⟨2 * k.val, by omega⟩ (hlt _ _) (k0_off1 k) (k0_off1_inb k)
    ((k0_off1_eq k).trans (by simp)) (View.loads_smem_one rfl numel1_S1x1x1) (k0_off2 k) (k0_off2_inb k) ((k0_off2_eq k).trans (by simp))
    k0_chk1 k0_chk1.dec k0_off3 (fun _ => rfl) (fun _ => rfl)) $$ [H1 Hs0 Hd0 HB]
  · isplitl [H1]; · iexact H1
    isplitl [Hs0]; · iexact Hs0
    isplitl [Hd0]; · iexact Hd0
    iexact HB
  iintro ⟨H1, HB⟩
  iapply (copy_row c arg1 f1 x hx g f ⟨2 * k.val + 1, by omega⟩ (hlt _ _) (k0_off4 k) (k0_off4_inb k)
    ((k0_off4_eq k).trans (by simp; omega)) (View.loads_smem_one rfl numel1_S1x1x1) (k0_off5 k) (k0_off5_inb k) ((k0_off5_eq k).trans (by simp; omega))
    k0_chk2 k0_chk2.dec k0_off6 (fun _ => rfl) (fun _ => rfl)) $$ [H1 Hs1 Hd1 HB]
  · isplitl [H1]; · iexact H1
    isplitl [Hs1]; · iexact Hs1
    isplitl [Hd1]; · iexact Hd1
    iexact HB
  iintro ⟨H1, HB⟩
  sl_step
  isplitl [H1]; · iexact H1
  isplitl [Hw]; · iexact Hw
  iexact HB

/-- Before trip `k` of the second loop, `2 k` copies' units have been waited for. -/
abbrev waitInv (c : Dev nD) (x : Vec F S1x2x256 .i32) (g : Vec F S69632x1024 .f32) (k : ℕ) (_ : Unit) : sProp 𝕄 :=
  iprop((∃ W, owes (c : Thread nD τ) 0 W) ∗ copies c x g 512 (2 * k * rowUnits))

/-- A trip of the second loop waits for two copies' units. -/
theorem wait_step (c : Dev nD) (x : Vec F S1x2x256 .i32) (g : Vec F S69632x1024 .f32) (k : Fin k0_t2_loop.trips) (acc : Unit) :
    waitInv c x g k.val acc
      ⊢ wp frame (wpE (defs₀ (F := F)) Variants.none c none) Set.univ
          (k0_t2_body i arg1 harg1 rowsM (Memref.isWhole_whole _) arg3 harg3 arg4 harg4 arg5 harg5 arg6 harg6
            scratchM (Memref.isWhole_whole _) cc0_scratch1 k acc) (waitInv c x g (k.val + 1)) := by
  have hk : k.val < 256 := k.isLt
  have h0 : 2 * k.val * rowUnits + 1 * rowUnits ≤ rowUnits * 512 := by
    rw [← Nat.add_mul, Nat.mul_comm]; exact Nat.mul_le_mul_left _ (by omega)
  have h1 : 2 * k.val * rowUnits + 1 * rowUnits + 1 * rowUnits ≤ rowUnits * 512 := by
    rw [← Nat.add_mul, ← Nat.add_mul, Nat.mul_comm]; exact Nat.mul_le_mul_left _ (by omega)
  unfold waitInv
  iintro ⟨⟨%W, HO⟩, HB⟩
  iapply (wp_waitBatchMulSized (countersEmb (U := Pipeline.UD sig nD τ)) Variants.none (c : Thread nD τ) none (n := 512)
    (D := delivery c x g) () (N := rowUnits) 1 (Nat.one_mul _).symm h0) $$ [HO HB]
  · isplitl [HB]; · iexact HB
    iexact HO
  iintro ⟨HB, HO⟩
  iapply (wp_waitBatchMulSized (countersEmb (U := Pipeline.UD sig nD τ)) Variants.none (c : Thread nD τ) none (n := 512)
    (D := delivery c x g) () (N := rowUnits) 1 (Nat.one_mul _).symm h1) $$ [HO HB]
  · isplitl [HB]; · iexact HB
    iexact HO
  iintro ⟨HB, HO⟩
  sl_whnfR [Prog.bind]
  sl_step
  isplitl [HO]; · iexists _; iexact HO
  rw [show 2 * (k.val + 1) * rowUnits = 2 * k.val * rowUnits + 1 * rowUnits + 1 * rowUnits by
    rw [← Nat.add_mul, ← Nat.add_mul]; congr 1]
  iexact HB

end Cert.CombIdeal.Combine

end
-- ==== Proof.Combine.Body.lean ====
/-
  One grid point of the combine call: the experts' rows are lent out copy by copy, the scratch is cut into the rows
  the copies fill, the two loops run, the rows and the scratch are put together again, and the tile is computed and
  stored.
-/
module

public import proofs.«01_k».proof.Proof.Combine.Copy
public import Idealize.ShloMosaic.Lib.VecWindow
public import Idealize.ShloMosaic.Lib.Ring

@[expose] public section

set_option maxRecDepth 16384

noncomputable section

namespace Cert.CombIdeal.Combine

open Cert.CombIdeal Cert.CombIdeal.Gen
open Idealize.ShloMosaic hiding ix1 ix2 ix3 ix4 ix5
open Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- The experts' rows and the scratch, held whole. -/
abbrev rowsPt (c : Dev nD) (g : Vec F S69632x1024 .f32) : sProp 𝕄 := rowsM.view.loc (c : Thread nD τ) ↦{fullShare} g
abbrev scratchPt (c : Dev nD) (f : Vec F S2x256x1024 .f32) : sProp 𝕄 := scratchM.view.loc (c : Thread nD τ) ↦{fullShare} f

/-- What stays behind of the experts' rows while every copy has its share of the row it reads. -/
def kept (c : Dev nD) (x : Vec F S1x2x256 .i32) (g : Vec F S69632x1024 .f32) : sProp 𝕄 :=
  iprop((rowsM.view.loc (c : Thread nD τ) ↦{shareDrop fullShare 512} g)
    ∗ bigSep Finset.univ fun t : Fin 512 => rowsM.view.loc (c : Thread nD τ) ↦[Finset.univ \ srcSet x t]{shareTok fullShare 512 t} g)

/-- The experts' rows are what stays behind and what the copies are lent. -/
theorem rows_lent (c : Dev nD) (x : Vec F S1x2x256 .i32) (g : Vec F S69632x1024 .f32) :
    (rowsPt c g : sProp 𝕄) ⊣⊢ iprop(kept c x g ∗ bigSep Finset.univ fun t : Fin 512 => srcPt c x g t) := by
  have split (t : Fin 512) : (rowsM.view.loc (c : Thread nD τ) ↦[Finset.univ]{shareTok fullShare 512 t} g : sProp 𝕄)
      = iprop(srcPt c x g t ∗ rowsM.view.loc (c : Thread nD τ) ↦[Finset.univ \ srcSet x t]{shareTok fullShare 512 t} g) :=
    have h := pointsTo_split_subset (Ix := Unit) (Name := ℕ) (U := Pipeline.UD sig nD τ) (Lvl := ℕ) (Val := Elt F)
      (ℓ := rowsM.view.loc (c : Thread nD τ)) (q := shareTok fullShare 512 t) (f := g) (Finset.subset_univ (srcSet x t))
    equiv_iff.mp ⟨h.1, h.2⟩
  have e := pointsTo_toks (Ix := Unit) (Name := ℕ) (U := Pipeline.UD sig nD τ) (Lvl := ℕ) (Val := Elt F)
    (ℓ := rowsM.view.loc (c : Thread nD τ)) (S := Finset.univ) (f := g) fullShare 512
  rw [bigSep_congr (fun t _ => split t), bigSep_sep'] at e
  unfold kept
  constructor
  · refine e.1.trans ?_
    iintro ⟨Ha, Hb, Hc⟩
    isplitl [Ha Hc]
    · isplitl [Ha]; · iexact Ha
      iexact Hc
    iexact Hb
  · refine BIBase.Entails.trans ?_ e.2
    iintro ⟨⟨Ha, Hc⟩, Hb⟩
    isplitl [Ha]; · iexact Ha
    isplitl [Hb]; · iexact Hb
    iexact Hc

/-- The scratch is the rows the copies fill. -/
theorem scratch_rows (c : Dev nD) (f : Vec F S2x256x1024 .f32) :
    (scratchPt c f : sProp 𝕄) = bigSep Finset.univ fun t : Fin 512 => dstPt c t f :=
  have h := pointsTo_biUnion (Ix := Unit) (Name := ℕ) (U := Pipeline.UD sig nD τ) (Lvl := ℕ) (Val := Elt F)
    (ℓ := scratchM.view.loc (c : Thread nD τ)) (q := fullShare) (f := f) Finset.univ dstSet (fun t _ t' _ h => dstSet_disjoint t t' h)
  (congrArg (fun S => (scratchM.view.loc (c : Thread nD τ) ↦[S]{fullShare} f : sProp 𝕄)) dstSet_cover).symm.trans h

/-- Half `k` of the scratch, as a block of one half. -/
def halfOf (k : Fin 2) (X : Vec F S2x256x1024 .f32) : Vec F S1x256x1024 .f32 := fun i => X (ix3 k (i 1) (i 2))

/-- What a point leaves in the output's staging buffer. -/
def tileOut (x : Vec F S1x2x256 .i32) (x1 : Vec F S256x1024 .f32) (w : Vec F S256x2 .f32) (gf : Vec F S1x1024 .f32)
    (g : Vec F S69632x1024 .f32) : Vec F S256x1024 .f32 :=
  k0_pay1 w x1 (halfOf 0 (gathered x g)) (halfOf 1 (gathered x g)) gf

theorem halfOf_read (c : Dev nD) (k : Fin 2) (off : Fin 3 → ℕ) (inb) (hoff : off = ![k.val, 0, 0]) (X : Vec F S2x256x1024 .f32) :
    scratchM.view.readAt (Elt F) (Rect.unit (s := S2x256x1024) off S1x256x1024.size inb).toLoadRect X = halfOf k X := by
  subst hoff
  refine funext fun i => congrArg X (funext fun a => Fin.ext ?_)
  have h0 : (i 0).val = 0 := Nat.lt_one_iff.mp (i 0).isLt
  fin_cases a
  · show k.val + 1 * (i 0).val = k.val
    omega
  · show 0 + 1 * (i 1).val = (i 1).val
    omega
  · show 0 + 1 * (i 2).val = (i 2).val
    omega

/-- The body on whole staging buffers, the output's and the scratch at anything, the experts' rows held whole and the
    copies' semaphore at zero, every position a row of the array: it leaves the inputs as they were, the scratch at
    something, the semaphore at zero, and the output's buffer at `tileOut`. -/
theorem sound_kernel (c : Dev nD) (i : grid0.Coords)
    (a1 : Memref sig .tc .smem S1x2x256 .i32) (h1 : a1.IsWhole) (a3 : Memref sig .tc .vmem S256x1024 .f32) (h3 : a3.IsWhole)
    (a4 : Memref sig .tc .vmem S256x2 .f32) (h4 : a4.IsWhole) (a5 : Memref sig .tc .vmem S1x1024 .f32) (h5 : a5.IsWhole)
    (a6 : Memref sig .tc .vmem S256x1024 .f32) (h6 : a6.IsWhole)
    (x : Vec F S1x2x256 .i32) (x1 : Vec F S256x1024 .f32) (w : Vec F S256x2 .f32) (gf : Vec F S1x1024 .f32)
    (g : Vec F S69632x1024 .f32) (hlt : ∀ k r, rowOf x k r < 69632) (W : Waits sig Unit) (K : PUnit → sProp 𝕄) :
    iprop(owns (c : Thread nD τ) a1 fullShare x ∗ owns (c : Thread nD τ) a3 fullShare x1 ∗ owns (c : Thread nD τ) a4 fullShare w
        ∗ owns (c : Thread nD τ) a5 fullShare gf ∗ (∃ d, owns (c : Thread nD τ) a6 fullShare d)
        ∗ (∃ f, scratchPt c f) ∗ semVal ((c : Thread nD τ), .dma cc0_scratch1.sem) 0 ∗ rowsPt c g ∗ owes (c : Thread nD τ) 0 W
        ∗ (iprop(owns (c : Thread nD τ) a1 fullShare x ∗ owns (c : Thread nD τ) a3 fullShare x1 ∗ owns (c : Thread nD τ) a4 fullShare w
            ∗ owns (c : Thread nD τ) a5 fullShare gf ∗ owns (c : Thread nD τ) a6 fullShare (tileOut x x1 w gf g)
            ∗ (∃ f, scratchPt c f) ∗ semVal ((c : Thread nD τ), .dma cc0_scratch1.sem) 0 ∗ rowsPt c g
            ∗ (∃ W', owes (c : Thread nD τ) 0 W')) -∗ K ⟨⟩))
      ⊢ wp frame (wpE (defs₀ (F := F)) Variants.none c none) Set.univ
          (cc0_moe_combine i a1 h1 rowsM (Memref.isWhole_whole _) a3 h3 a4 h4 a5 h5 a6 h6
            scratchM (Memref.isWhole_whole _) cc0_scratch1) K := by
  simp only [cc0_moe_combine_eq_skeleton]; unfold cc0_moe_combine_skel
  unfold owns
  iintro ⟨⟨%f1, %hf1, H1⟩, ⟨%f3, %hf3, H3⟩, ⟨%f4, %hf4, H4⟩, ⟨%f5, %hf5, H5⟩, ⟨%d6, %f6, -, H6⟩, ⟨%f, HS⟩, Hq, Hg, HO, Hk⟩
  subst hf3 hf4 hf5
  ihave Hg' := (rows_lent c x g).1 $$ Hg
  icases Hg' with ⟨Hkept, Hlent⟩
  ihave HS' := (Entails.of_eq (scratch_rows c f)) $$ HS
  imod (batch_alloc' (countersEmb (U := Pipeline.UD sig nD τ)) (c : Thread nD τ) () rowUnits (delivery c x g)) $$ Hq with HB
  sl_for (startInv c a1 f1 x g f) $$ [H1 Hlent HS' HB]
  case region =>
    intro k acc
    exact start_step i a1 h1 a3 h3 a4 h4 a5 h5 a6 h6 c f1 x hf1 hlt g f k acc
  · unfold startInv
    isplitl [H1]; · iexact H1
    isplitr [HB]
    · unfold waiting
      rw [Nat.mul_zero, ← bigSep_pending_zero, bigSep_sep']
      isplitl [Hlent]; · iexact Hlent
      iexact HS'
    · iexact HB
  iintro %u HI
  unfold startInv
  icases HI with ⟨H1, -, HB⟩
  sl_for (waitInv c x g) $$ [HB HO]
  case region =>
    intro k acc
    exact wait_step i a1 h1 a3 h3 a4 h4 a5 h5 a6 h6 c x g k acc
  · unfold waitInv
    isplitl [HO]; · iexists _; iexact HO
    rw [Nat.mul_zero, Nat.zero_mul]
    iexact HB
  iintro %u' HI
  unfold waitInv
  icases HI with ⟨HO, HB⟩
  ihave HB' := (Entails.of_eq (congrArg (copies c x g 512) (show 2 * Scf.trips k0_t2_loop.lb k0_t2_loop.ub k0_t2_loop.st * rowUnits = rowUnits * 512 from Nat.mul_comm 512 rowUnits))) $$ HB
  imod (batch_collect' (countersEmb (U := Pipeline.UD sig nD τ)) (c : Thread nD τ) rowUnits_pos) $$ HB' with ⟨HD, Hq⟩
  ihave HD' := (Entails.of_eq (show (bigSep Finset.univ (delivery c x g) : sProp 𝕄)
    = iprop(scratchPt c (gathered x g) ∗ bigSep Finset.univ fun t : Fin 512 => srcPt c x g t) by
      rw [scratch_rows]; unfold delivery; rw [bigSep_sep'])) $$ HD
  icases HD' with ⟨HS, Hlent⟩
  ihave Hg := (rows_lent c x g).2 $$ [Hkept Hlent]
  · isplitl [Hkept]; · iexact Hkept
    iexact Hlent
  sl_exec
  sl_step
  iapply Hk
  isplitl [H1]
  · iexists _; isplitr; swap; · iexact H1
    ipureintro; exact hf1
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr
    swap; · iexact H6
    ipureintro
    rw [View.read_writes_full, View.readAt_full, View.readAt_full, View.readAt_full]
    unfold tileOut
    rw [← halfOf_read c 0 ![0, 0, 0] inb_S2x256x1024_S1x256x1024_0_0_0 rfl,
      ← halfOf_read c 1 ![1, 0, 0] inb_S2x256x1024_S1x256x1024_1_0_0 rfl]
  isplitl [HS]; · iexists _; iexact HS
  isplitl [Hq]; · iexact Hq
  isplitl [Hg]; · iexact Hg
  iexact HO

end Cert.CombIdeal.Combine

end
-- ==== Proof.Combine.Frame.lean ====
/-
  The combine call's run, for every memory whose positions are rows of the experts' array: the proof data, the body's
  obligation, the launch with the call's own semaphore and the rows it reads from main memory, and the claim that the
  arguments end as they began with every semaphore at zero.
-/
module

public import proofs.«01_k».proof.Proof.Combine.Body
public import proofs.«01_k».proof.Proof.Gen.CombIdeal.Launch
public import proofs.«01_k».proof.Proof.Gen.CombIdeal.Points

@[expose] public section

set_option maxRecDepth 16384

noncomputable section

namespace Cert.CombIdeal.Combine

open Cert.CombIdeal Cert.CombIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region holds besides the windows -/

/-- The call's one semaphore of its own. -/
abbrev osem0 : Fin 1 → SemLoc sig := fun _ => .dma cc0_scratch1.sem
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma cc0_scratch1.sem) 0) := by
  rw [Pipeline.ownSems0_eq_of_list c osem0 [0] (by decide) (by decide)]; rfl

/-- The experts' rows, which no window stages. -/
def H0 : Finset (Ref sig .tc) := {main_arg0}
theorem H0_sub : H0 ⊆ Pipeline.restRefs sig spec0 := by decide
theorem rowsPts_eq (c : Dev nD) :
    (bigSep H0 (fun b => ((c : Thread nD τ).loc b) ↦{fullShare} V m c b) : sProp 𝕄) = iprop(rowsPt c (V m c main_arg0)) := by
  rw [BI.bigSep_eq_bigSepL_of_eq [main_arg0] (by decide) (by decide)]; rfl

/-- The invariant, part by part: the scratch at something, the generator's register, the semaphore at zero, the rows. -/
theorem inv_eq (c : Dev nD) :
    (Pipeline.ΦD osem0 spec0 H0 (V m) c : sProp 𝕄)
      = iprop((∃ f, scratchPt c f) ∗ (∃ r, prngReg c r) ∗ semVal ((c : Thread nD τ), .dma cc0_scratch1.sem) 0
          ∗ rowsPt c (V m c main_arg0)) := by
  rw [Pipeline.ΦD_eq, scopedRest0_eq, ownSems_eq, rowsPts_eq]; rfl

/-! ## The body's obligation -/

/-- Every position a point finds in its block is a row of the experts' array. -/
def PosOk : Prop := ∀ (c : Dev nD) (t : Fin cfg0.N) (k : Fin 2) (r : Fin 256), rowOf (iblk m c 0 t) k r < 69632

/-- The output's block at point `t`: the body's, on that point's input blocks and the experts' rows. -/
def outAt (c : Dev nD) (t : Fin cfg0.N) : Vec F S256x1024 .f32 :=
  tileOut (iblk m c 0 t) (iblk m c 1 t) (iblk m c 2 t) (iblk m c 3 t) (V m c main_arg0)

/-- The pipeline's proof data on core `c`: the arrays as the region finds them; after a point each input's buffer at
    its block, the output's at `outAt`; nothing owed between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]; try rfl
theorem after1 (c : Dev nD) (t : Fin cfg0.N) : (dats m 0 c).after 1 t = iblk m c 1 t := by dsimp only [dats]; try rfl
theorem after2 (c : Dev nD) (t : Fin cfg0.N) : (dats m 0 c).after 2 t = iblk m c 2 t := by dsimp only [dats]; try rfl
theorem after3 (c : Dev nD) (t : Fin cfg0.N) : (dats m 0 c).after 3 t = iblk m c 3 t := by dsimp only [dats]; try rfl
theorem after4 (c : Dev nD) (t : Fin cfg0.N) : (dats m 0 c).after 4 t = outAt m c t := by dsimp only [dats]; try rfl

/-- Each input window's buffer holds its block when the body is called. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: `sound_kernel` on that point's buffers. -/
theorem sound_body (hp : PosOk m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4,
    show (dats m 0 c).Φ t.castSucc = Pipeline.ΦD osem0 spec0 H0 (V m) c from rfl, inv_eq]
  unfold Dat.owesAt Pipeline.owesWithin outAt
  rw [show (dats m 0 c).owed t.castSucc = 0 from rfl]
  iintro ⟨⟨HS, Hg, Hq, Hr⟩, ⟨%W, %hW, HO⟩, ⟨%d0, H0⟩, ⟨%d1, H1⟩, ⟨%d2, H2⟩, ⟨%d3, H3⟩, ⟨%d4, H4⟩⟩
  iapply (sound_kernel c (grid0.coords t) _ _ _ _ _ _ _ _ _ _ (iblk m c 0 t) (iblk m c 1 t) (iblk m c 2 t) (iblk m c 3 t)
    (V m c main_arg0) (hp c t) W)
  isplitl [H0]; · iexact H0
  isplitl [H1]; · iexact H1
  isplitl [H2]; · iexact H2
  isplitl [H3]; · iexact H3
  isplitl [H4]; · iexists _; iexact H4
  isplitl [HS]; · iexact HS
  isplitl [Hq]; · iexact Hq
  isplitl [Hr]; · iexact Hr
  isplitl [HO]; · iexact HO
  iintro ⟨H0, H1, H2, H3, H4, HS, Hq, Hr, ⟨%W', HO⟩⟩
  isplitl [HS Hg Hq Hr]
  · isplitl [HS]; · iexact HS
    isplitl [Hg]; · iexact Hg
    isplitl [Hq]; · iexact Hq
    iexact Hr
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  iexact H4

/-- The body table's row at a point is the body on that point's buffers. -/
theorem defs₀_row (t : Fin cfg0.N) : defs₀ (F := F) .tc cfg0.body (cfg0.bodyArgs t (cfg0.slots t)) = bodyAt0 t := by
  unfold defs₀; rw [Defs.onTc_tc]

/-- The pipeline's body obligation, at every point. -/
theorem body_obligation (hp : PosOk m) (c : Dev nD) : BodyObligation (dats (F := F) m 0 c) (defs₀ (F := F)) Variants.none () Set.univ := fun t => by
  rw [bigSep_W0, bigSep_W0, defs₀_row]
  exact triple_restated (sound_body m hp c t) rfl .rfl fun _ => .rfl

/-! ## The launch -/

set_option maxHeartbeats 800000 in
/-- The program up to the region: the host operations, then the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

-- the launch theorem's implicit arguments are found by unifying its conclusion with this one, which takes unfolding
-- plain definitions in a metavariable's type
set_option backward.isDefEq.respectTransparency.types false in
/-- Every run ends with the pipeline's arrays at what the proof data computes and every semaphore at zero. -/
theorem run_main (hp : PosOk m) : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hp c).loose) (hshare := fun c => (dats m 0 c).share_full fun _ => rfl)
    (howed := fun _ _ => rfl) (V := V m) (hmain := hmainD m Variants.none) (hA := A_eq m)
    (hin := fun _ => .rfl) (hout := fun _ => .rfl)

/-- The arguments end as they began, the result holds the write-backs of every point, all semaphores are at zero. -/
theorem run_all (hp : PosOk m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v3) = (dats m 0 c).arrAt 4 cfg0.N)
      ∧ r.2.sem = fun _ => 0) :=
  (θ_run defs _ _).mono (fun _ h => ⟨fun c =>
    ⟨⟨((h.1 c).2 main_arg0 (Pipeline.mem_restRefs_of main_arg0 (by decide) (by decide))).trans (V_main_arg0 m c),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).1 2).trans (((dats m 0 c).arrAt_in 2 rfl _).trans ((A_eq m c 2).trans (V_main_arg3 m c))),
      ((h.1 c).2 main_arg4 (Pipeline.mem_restRefs_of main_arg4 (by decide) (by decide))).trans (V_main_arg4 m c)⟩,
      (h.1 c).1 4⟩, h.2⟩) (run_main m ρ hp)

/-- The arguments end as they began and every semaphore is at zero. -/
theorem frame (hp : PosOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).1, h.2⟩) (run_all m ρ hp)

end Cert.CombIdeal.Combine

end
-- ==== Proof.Combine.Positions.lean ====
/-
  What the precondition says of the positions, the positions a point of the combine call finds in its block, and that
  they are therefore rows of the experts' array at every point.
-/
module

public import proofs.«01_k».proof.Proof.Combine.Frame
public import proofs.«01_k».proof.Proof.Gen.Pre_rows_in_range
public import Idealize.ShloMosaic.Lib.ReduceAll
public import Idealize.ShloMosaic.Lib.WordCmp
public import Idealize.ShloMosaic.Lib.Pointwise.Index
public import Idealize.ShloMosaic.Lib.ValueLayout
public import Idealize.ShloMosaic.Lib.KernelVsHost
public import Idealize.ShloMosaic.Lib.StableHlo.Run
public import Idealize.ShloMosaic.Lib.Claim

@[expose] public section

set_option maxRecDepth 16384

noncomputable section

namespace Cert.CombIdeal.Combine

open Cert.CombIdeal Cert.CombIdeal.Gen
open Idealize.ShloMosaic hiding ix1 ix2 ix3 ix4 ix5
open Idealize.ShloMosaic.ValueIdx Idealize.ShloMosaic.TcCoe
open Idealize.ShloMosaic.StableHlo

variable {F : FTy → Type} [FloatOps F]

/-- Every position is a row of the experts' array. -/
def RowsOk (p : S2x32768.Idx → BitVec 32) : Prop := ∀ k n, (p (ix2 k n)).toNat < 69632

/-- A word at least zero and below `b`, both read signed, is below `b` unsigned. -/
theorem below_of_signed (x b : BitVec 32) (hb : b.toNat < 2147483648) (h : (0#32).toInt ≤ x.toInt) (h' : x.toInt < b.toInt) :
    x.toNat < b.toNat := by
  have := x.isLt
  have h0 : (0#32).toInt = 0 := by decide
  rw [h0] at h
  simp only [BitVec.toInt_eq_toNat_cond] at h h'
  split at h <;> split at h' <;> omega

/-- Two bits whose conjunction is one are both one. -/
theorem both_one : ∀ p q : BitVec 1, IntOp.andi p q = 1#1 → p = 1#1 ∧ q = 1#1 := by decide

/-- The precondition says so. -/
theorem rowsOk_of_pre (g : FVec F S69632x1024 .f32) (x : FVec F S32768x1024 .f32) (p : IVec S2x32768 32) (w : FVec F S32768x2 .f32)
    (gf : FVec F S1024 .f32) (h : Cert.Pre_rows_in_range.fn (F := F) g x p w gf = fun _ => 1#1) : RowsOk p := by
  haveI : Subsingleton Cert.Pre_rows_in_range.S_.Idx := ⟨fun a b => funext fun i => i.elim0⟩
  have h0 := congrFun h (fun a => a.elim0)
  unfold Cert.Pre_rows_in_range.fn at h0
  dsimp only at h0
  intro k n
  obtain ⟨h1, h2⟩ := both_one _ _ (Host.reduce_andi_all _ _ _ _ _ h0 (ix2 k n))
  have h1 := (WordCmp.ofBool_decide_eq_one_iff _).mp h1
  have h2 := (WordCmp.ofBool_decide_eq_one_iff _).mp h2
  exact below_of_signed (p (ix2 k n)) 69632#32 (by decide) h1 h2

variable (m : (ℓ : Loc nD τ sig) → Buf (Elt F) ℓ) (c : Dev nD)

/-- The positions as the launch finds them: cut into the points' tiles, a tile's two rows of positions together. -/
theorem positions_eq : (V m c main_v1 : S128x2x256.Idx → BitVec 32)
    = transpose S128x2x256 [1, 0, 2] (shapeCast S2x128x256 (m ((c : Thread nD τ).loc main_arg2) : S2x32768.Idx → BitVec 32)
        Cert.CombIdeal.Gen.shapeCasts_S2x32768_S2x128x256) Cert.CombIdeal.Gen.transposes_S2x128x256_S128x2x256_1_0_2 := by
  unfold_abbrev_sides
  simp only [hostOps0]
  after_results
  rfl

/-- Tile `t`, kind `k`, entry `r` is the position of token `256 t + r`. -/
theorem positions_apply (t : Fin 128) (k : Fin 2) (r : Fin 256) (q : Fin 32768) (hq : q.val = t.val * 256 + r.val) :
    (V m c main_v1 : S128x2x256.Idx → BitVec 32) (ix3 t k r)
      = (m ((c : Thread nD τ).loc main_arg2) : S2x32768.Idx → BitVec 32) (ix2 k q) := by
  rw [positions_eq]
  refine (transpose_apply _ _ _ (ix3 t k r) (ix3 k t r) fun b => ?_).trans
    (shapeCast_apply (s := S2x32768) (t := S2x128x256) _ _ (ix3 k t r) (ix2 k q) ?_)
  · match b with
    | ⟨0, _⟩ => rfl
    | ⟨1, _⟩ => rfl
    | ⟨2, _⟩ => rfl
  · rw [Shape.rowMajor_val_two, Shape.rowMajor_val_three]
    show k.val * 32768 + q.val = (k.val * 128 + t.val) * 256 + r.val
    omega

theorem index0 : ∀ t : Fin cfg0.N, (cfg0.win 0).index t = ![t.val, 0, 0] :=
  (by decide +kernel : ∀ t : Fin grid0.N, win0_0.index t = ![t.val, 0, 0])

/-- The positions' block at a point. -/
theorem block0 (t : Fin cfg0.N) (k : Fin 2) (r : Fin 256) (q : Fin 32768) (hq : q.val = t.val * 256 + r.val) :
    (iblk m c 0 t : S1x2x256.Idx → BitVec 32) (ix3 0 k r)
      = (m ((c : Thread nD τ).loc main_arg2) : S2x32768.Idx → BitVec 32) (ix2 k q) := by
  refine Eq.trans ?_ (positions_apply m c (t : Fin 128) k r q hq)
  refine congrArg (V m c main_v1 : S128x2x256.Idx → BitVec 32) (funext fun a => Fin.ext ?_)
  refine ((cfg0.win 0).rect_emb_val t (ix3 0 k r) a rfl).trans ?_
  rw [index0]
  match a with
  | ⟨0, _⟩ => exact Nat.mul_one t.val
  | ⟨1, _⟩ => exact (Nat.zero_mul _).symm ▸ Nat.zero_add k.val
  | ⟨2, _⟩ => exact (Nat.zero_mul _).symm ▸ Nat.zero_add r.val

/-- So at every point the positions are rows of the experts' array. -/
theorem posOk_of_rows (h : ∀ c : Dev nD, RowsOk (m ((c : Thread nD τ).loc main_arg2) : S2x32768.Idx → BitVec 32)) : PosOk m := by
  intro c t k r
  have ht : t.val < 128 := t.isLt
  have := h c k ⟨t.val * 256 + r.val, by omega⟩
  rw [← block0 m c t k r ⟨t.val * 256 + r.val, by omega⟩ rfl] at this
  exact this

end Cert.CombIdeal.Combine

end
-- ==== Proof.Combine.Claims.lean ====
/-
  The combine call's frame claims, from the precondition: at the extended reals, and at the words of the machine formats.
  The two printed programs are one program read at two instances, so the second claim is the run of the first at words.
-/
module

public import proofs.«01_k».proof.Proof.Combine.Positions
public import proofs.«01_k».proof.Proof.Gen.Comb
public import proofs.«01_k».proof.Defs

@[expose] public section

set_option maxRecDepth 16384

noncomputable section

namespace Cert.CombIdeal.Combine

open Idealize.ShloMosaic Idealize.ShloMosaic.TcCoe Idealize.SL.Sem

variable {F : FTy → Type} [FloatOps F]

/-- The two programs' kernel tables are equal, -/
theorem kernels_eq : Cert.Comb.defs₀ (F := F) = Cert.CombIdeal.defs₀ (F := F) := by
  unfold Cert.Comb.defs₀ Cert.CombIdeal.defs₀
  refine congrArg (Defs.onTc (nD := Cert.Comb.nD) (τ := Cert.Comb.τ) (sig := Cert.Comb.sig) (Val := Elt F) (Λ := Cert.Comb.Λ₀))
    (funext fun l => funext fun a => ?_)
  match l, a with
  | 0, (t, s) => rfl

/-- their tables with the pipeline added, -/
theorem defs_eq : Cert.Comb.defs (F := F) = Cert.CombIdeal.defs (F := F) := by
  show Pipeline.defs Cert.Comb.pcfgs Cert.Comb.defs₀ = _
  rw [kernels_eq]; rfl

/-- and their main functions. -/
theorem main_eq : Cert.Comb.main (F := F) = Cert.CombIdeal.main (F := F) := rfl

/-- A launch that meets the precondition names rows of the experts' array. -/
theorem rowsOk_of_launch (m : (ℓ : Loc CombIdeal.nD CombIdeal.τ CombIdeal.sig) → Buf (Elt Ideal) ℓ) (h : Cert.Pre_CombIdeal m)
    (c : Dev CombIdeal.nD) : RowsOk (m ((c : Thread CombIdeal.nD CombIdeal.τ).loc CombIdeal.main_arg2)) :=
  rowsOk_of_pre (F := Ideal) _ _ _ _ _ (h c)

/-- At the extended reals every run ends, its arguments unchanged and its semaphores at zero. -/
theorem quiescent_ideal : Cert.quiescent_CombIdeal := fun m ρ h => frame m ρ (posOk_of_rows m (rowsOk_of_launch m h))

/-- At words too. -/
theorem quiescent_words : Cert.quiescent_Comb := fun m ρ h => by
  rw [defs_eq, main_eq]
  exact frame (F := Bits) m ρ (posOk_of_rows m fun c => rowsOk_of_pre (F := Bits) _ _ _ _ _ (h c))

end Cert.CombIdeal.Combine

end
-- ==== Proof.Combine.Tile.lean ====
/-
  What one tile of the combine call computes over the extended reals, as a function of a row: the token's own row plus
  its two experts' rows, each scaled by its weight, and the sum normalised.
-/
module

public import proofs.«01_k».proof.Proof.Combine.Body
public import proofs.«01_k».proof.Proof.Layer.Norm

@[expose] public section

set_option maxRecDepth 16384

noncomputable section

namespace Cert.CombIdeal.Combine

open Cert.CombIdeal Cert.CombIdeal.Gen Cert.Layer
open Idealize.ShloMosaic hiding ix1 ix2 ix3 ix4 ix5
open Idealize.ShloMosaic.ValueIdx

/-- A row `x` with two rows added, scaled by `a` and `b`. -/
def mixRow (x : Fin 1024 → EReal) (a b : EReal) (y z : Fin 1024 → EReal) (j : Fin 1024) : EReal := x j + a * y j + b * z j

/-- The combined rows of a tile, from the vector operations that compute them. -/
theorem mix_apply (w : Vec Ideal S256x2 .f32) (x : Vec Ideal S256x1024 .f32) (y z : Vec Ideal S1x256x1024 .f32) (r : Fin 256) (j : Fin 1024) :
    (addf (addf x (mulf (broadcastTo S256x1024 (extractStridedSlice S256x1 ![0, 0] w slices_S256x2_o0_0_S256x1) broadcasts_S256x1_S256x1024)
        (shapeCast S256x1024 y shapeCasts_S1x256x1024_S256x1024)))
      (mulf (broadcastTo S256x1024 (extractStridedSlice S256x1 ![0, 1] w slices_S256x2_o0_1_S256x1) broadcasts_S256x1_S256x1024)
        (shapeCast S256x1024 z shapeCasts_S1x256x1024_S256x1024)) : FVec Ideal S256x1024 .f32) (ix2 r j)
      = mixRow (fun j => x (ix2 r j)) (w (ix2 r 0)) (w (ix2 r 1)) (fun j => y (ix3 0 r j)) (fun j => z (ix3 0 r j)) j := by
  show x (ix2 r j) + broadcastTo S256x1024 _ broadcasts_S256x1_S256x1024 (ix2 r j) * shapeCast S256x1024 y _ (ix2 r j)
    + broadcastTo S256x1024 _ broadcasts_S256x1_S256x1024 (ix2 r j) * shapeCast S256x1024 z _ (ix2 r j) = _
  rw [column_apply, column_apply, shapeCast_1ab_ab_apply, shapeCast_1ab_ab_apply]
  rw [extractStridedSlice_apply (t := S256x1) ![0, 0] w slices_S256x2_o0_0_S256x1 (ix2 r 0) (ix2 r 0) (fun a => by
      match a with
      | ⟨0, _⟩ => exact (Nat.zero_add _).symm
      | ⟨1, _⟩ => rfl),
    extractStridedSlice_apply (t := S256x1) ![0, 1] w slices_S256x2_o0_1_S256x1 (ix2 r 0) (ix2 r 1) (fun a => by
      match a with
      | ⟨0, _⟩ => exact (Nat.zero_add _).symm
      | ⟨1, _⟩ => rfl)]
  rfl

/-- The block the body stores, read at row `r` and column `d`. -/
theorem pay1_apply (w : Vec Ideal S256x2 .f32) (x : Vec Ideal S256x1024 .f32) (y z : Vec Ideal S1x256x1024 .f32) (g : Vec Ideal S1x1024 .f32)
    (r : Fin 256) (d : Fin 1024) :
    k0_pay1 w x y z g (ix2 r d)
      = normRow (mixRow (fun j => x (ix2 r j)) (w (ix2 r 0)) (w (ix2 r 1)) (fun j => y (ix3 0 r j)) (fun j => z (ix3 0 r j)))
          (fun j => g (ix2 0 j)) d := by
  have hg : shapeCast S1x1024 g shapeCasts_S1x1024_S1x1024 = g := funext fun i => shapeCast_apply g _ i i rfl
  unfold k0_pay1
  dsimp only
  rw [hg]
  refine (norm_apply _ g _ _ _ _ _ _ r d).trans ?_
  exact congrArg (fun v => normRow v (fun j => g (ix2 0 j)) d) (funext fun j => mix_apply w x y z r j)

end Cert.CombIdeal.Combine

end
-- ==== Proof.Combine.Array.lean ====
/-
  The combine call's result array over the extended reals, as a function of the call's arguments.
-/
module

public import proofs.«01_k».proof.Proof.Combine.Tile
public import proofs.«01_k».proof.Proof.Combine.Positions

@[expose] public section

set_option maxRecDepth 16384

noncomputable section

namespace Cert.CombIdeal.Combine

open Cert.CombIdeal Cert.CombIdeal.Gen Cert.Layer
open Idealize.ShloMosaic hiding ix1 ix2 ix3 ix4 ix5
open Idealize.ShloMosaic.ValueIdx Idealize.ShloMosaic.TcCoe
open Idealize.ShloMosaic.StableHlo
open Idealize.ShloMosaic.Pipeline (Dat Cfg Window)

section Result

variable (g : S69632x1024.Idx → EReal) (x : S32768x1024.Idx → EReal) (p : S2x32768.Idx → BitVec 32) (w : S32768x2.Idx → EReal)
  (gf : S1024.Idx → EReal)

/-- The experts' row that token `n`'s position of kind `k` names. -/
def namedRow (k : Fin 2) (n : Fin 32768) (j : Fin 1024) : EReal := g (ix2 (Fin.ofNat 69632 (p (ix2 k n)).toNat) j)

/-- Token `n`'s combined row: its own plus the two named rows, each scaled by its weight. -/
def tokenMix (n : Fin 32768) : Fin 1024 → EReal :=
  mixRow (fun j => x (ix2 n j)) (w (ix2 n 0)) (w (ix2 n 1)) (namedRow g p 0 n) (namedRow g p 1 n)

/-- All the tokens' combined rows, normalised. -/
def combined : S32768x1024.Idx → EReal := fun i => normRow (tokenMix g x p w (i 0)) (fun j => gf (ix1 j)) (i 1)

end Result

variable (m : (ℓ : Loc nD τ sig) → Buf (Elt Ideal) ℓ) (c : Dev nD)

/-- The launch's gains are the argument as a row. -/
theorem gainsRow_eq : (V m c main_v2 : S1x1024.Idx → EReal)
    = shapeCast S1x1024 (m ((c : Thread nD τ).loc main_arg4) : S1024.Idx → EReal) Cert.CombIdeal.Gen.shapeCasts_S1024_S1x1024 := by
  unfold_abbrev_sides
  simp only [hostOps0]
  after_results
  rfl

/-! ## The blocks -/

theorem index1 : ∀ t : Fin cfg0.N, (cfg0.win 1).index t = ![t.val, 0] :=
  (by decide +kernel : ∀ t : Fin grid0.N, win0_1.index t = ![t.val, 0])
theorem index2 : ∀ t : Fin cfg0.N, (cfg0.win 2).index t = ![t.val, 0] :=
  (by decide +kernel : ∀ t : Fin grid0.N, win0_2.index t = ![t.val, 0])
theorem index4 : ∀ t : Fin cfg0.N, (cfg0.win 4).index t = ![t.val, 0] :=
  (by decide +kernel : ∀ t : Fin grid0.N, win0_4.index t = ![t.val, 0])

section Blocks

variable (t : Fin cfg0.N) (r : Fin 256) (q : Fin 32768) (hq : q.val = t.val * 256 + r.val)

include hq

/-- The tokens' rows at a point: 256 rows from the point's own place. -/
theorem block1 (j : Fin 1024) : (iblk m c 1 t : S256x1024.Idx → EReal) (ix2 r j)
    = (m ((c : Thread nD τ).loc main_arg1) : S32768x1024.Idx → EReal) (ix2 q j) := by
  refine Eq.trans ?_ (congrFun (V_main_arg1 m c) (ix2 q j))
  refine congrArg (V m c main_arg1 : S32768x1024.Idx → EReal) (funext fun a => Fin.ext ?_)
  refine ((cfg0.win 1).rect_emb_val t (ix2 r j) a rfl).trans ?_
  rw [index1]
  match a with
  | ⟨0, _⟩ => exact hq.symm
  | ⟨1, _⟩ => exact (Nat.zero_mul _).symm ▸ Nat.zero_add j.val

/-- The tokens' weights likewise. -/
theorem block2 (k : Fin 2) : (iblk m c 2 t : S256x2.Idx → EReal) (ix2 r k)
    = (m ((c : Thread nD τ).loc main_arg3) : S32768x2.Idx → EReal) (ix2 q k) := by
  refine Eq.trans ?_ (congrFun (V_main_arg3 m c) (ix2 q k))
  refine congrArg (V m c main_arg3 : S32768x2.Idx → EReal) (funext fun a => Fin.ext ?_)
  refine ((cfg0.win 2).rect_emb_val t (ix2 r k) a rfl).trans ?_
  rw [index2]
  match a with
  | ⟨0, _⟩ => exact hq.symm
  | ⟨1, _⟩ => exact (Nat.zero_mul _).symm ▸ Nat.zero_add k.val

/-- The rows a point gathers are those its tokens' positions name. -/
theorem gathered_apply (k : Fin 2) (j : Fin 1024) :
    halfOf k (gathered (iblk m c 0 t) (V m c main_arg0)) (ix3 0 r j)
      = namedRow (m ((c : Thread nD τ).loc main_arg0)) (m ((c : Thread nD τ).loc main_arg2)) k q j := by
  unfold halfOf gathered namedRow
  have e : rowOf (F := Ideal) (iblk m c 0 t) k r
      = BitVec.toNat ((m ((c : Thread nD τ).loc main_arg2) : S2x32768.Idx → BitVec 32) (ix2 k q)) :=
    congrArg BitVec.toNat (block0 m c t k r q hq)
  rw [V_main_arg0]
  show (m ((c : Thread nD τ).loc main_arg0) : S69632x1024.Idx → EReal) (ix2 (Fin.ofNat 69632 (rowOf (F := Ideal) (iblk m c 0 t) k r)) j) = _
  rw [e]

/-- Where the result's block at a point lies. -/
theorem out_emb (d : Fin 1024) : ((cfg0.win 4).blk t).view.emb (ix2 r d) = (ix2 q d : S32768x1024.Idx) := by
  refine funext fun a => Fin.ext ?_
  refine ((cfg0.win 4).rect_emb_val t (ix2 r d) a rfl).trans ?_
  rw [index4]
  match a with
  | ⟨0, _⟩ => exact hq.symm
  | ⟨1, _⟩ => exact (Nat.zero_mul _).symm ▸ Nat.zero_add d.val

end Blocks

/-- The gains' block is the gains at every point. -/
theorem block3 (t : Fin cfg0.N) (j : Fin 1024) : (iblk m c 3 t : S1x1024.Idx → EReal) (ix2 0 j)
    = (m ((c : Thread nD τ).loc main_arg4) : S1024.Idx → EReal) (ix1 j) := by
  refine Eq.trans ?_ ((congrFun (gainsRow_eq m c) (ix2 0 j)).trans (shapeCast_a_1a_apply _ _ 0 j))
  refine congrArg (V m c main_v2 : S1x1024.Idx → EReal) (funext fun a => Fin.ext ?_)
  refine ((cfg0.win 3).rect_emb_val t (ix2 0 j) a rfl).trans ?_
  match a with
  | ⟨0, _⟩ => rfl
  | ⟨1, _⟩ => exact (Nat.zero_mul _).symm ▸ Nat.zero_add j.val

/-! ## The array -/

/-- The result the launch leaves on core `c`, from its own arguments. -/
abbrev result : S32768x1024.Idx → EReal :=
  combined (m ((c : Thread nD τ).loc main_arg0)) (m ((c : Thread nD τ).loc main_arg1)) (m ((c : Thread nD τ).loc main_arg2))
    (m ((c : Thread nD τ).loc main_arg3)) (m ((c : Thread nD τ).loc main_arg4))

/-- Point `t` leaves its block of the result. -/
theorem outAt_apply (t : Fin cfg0.N) (r : Fin 256) (d : Fin 1024) (q : Fin 32768) (hq : q.val = t.val * 256 + r.val) :
    outAt m c t (ix2 r d) = result m c (ix2 q d) := by
  unfold outAt tileOut
  refine (pay1_apply _ _ _ _ _ r d).trans ?_
  rw [funext (block1 m c t r q hq), funext (block3 m c t), block2 m c t r q hq 0, block2 m c t r q hq 1,
    funext (gathered_apply m c t r q hq 0), funext (gathered_apply m c t r q hq 1)]
  rfl

/-- Every place of the result lies in some point's block. -/
theorem covered (i : S32768x1024.Idx) : ∃ t : Fin cfg0.N, (cfg0.win 4).flush t = true ∧ i ∈ ((cfg0.win 4).blk t).view.set := by
  have hi : (i 0).val < 32768 := (i 0).isLt
  obtain ⟨t, ht⟩ : ∃ t : Fin cfg0.N, t.val = (i 0).val / 256 := ⟨(⟨(i 0).val / 256, by omega⟩ : Fin 128), rfl⟩
  obtain ⟨r, hr⟩ : ∃ r : Fin 256, r.val = (i 0).val % 256 := ⟨⟨_, by omega⟩, rfl⟩
  have h : ((cfg0.win 4).blk t).view.emb (ix2 r (i 1)) = i :=
    (out_emb t r (i 0) (by omega) (i 1)).trans (ValueIdx.eq_ix2 i).symm
  exact ⟨t, flush0_4 t, h ▸ View.emb_mem_set ((cfg0.win 4).blk t).view (ix2 r (i 1))⟩

/-- The result array after the whole grid. -/
theorem array_eq : (dats m 0 c).arrAt 4 cfg0.N = result m c := by
  refine (dats m 0 c).arrAt_eq_of_cover 4 (result m c) (fun t _ => ?_) covered
  refine funext fun (y : S256x1024.Idx) => ?_
  obtain ⟨r, d, rfl⟩ : ∃ r d, y = ix2 r d := ⟨_, _, ValueIdx.eq_ix2 y⟩
  have ht : t.val < 128 := t.isLt
  let q : Fin 32768 := ⟨t.val * 256 + r.val, by omega⟩
  show (dats m 0 c).after 4 t (ix2 r d) = result m c (((cfg0.win 4).blk t).view.emb (ix2 r d))
  rw [out_emb t r q rfl d, after4]
  exact outAt_apply m c t r d q rfl

end Cert.CombIdeal.Combine

end
-- ==== Proof.Combine.Reference.lean ====
/-
  The combine call's reference over the extended reals, read at a token and a column: positions that are rows of the
  experts' array are not negative, so the reference's indexing reads the rows they name, and its mean of squares is the
  one the kernel divides by.
-/
module

public import proofs.«01_k».proof.Proof.Gen.CombRefIdeal.Read
public import proofs.«01_k».proof.Proof.Combine.Array
public import Idealize.ShloMosaic.Lib.Routing.Ops

@[expose] public section

set_option maxRecDepth 16384

noncomputable section

namespace Cert.CombIdeal.Combine

open Cert.CombRefIdeal Cert.CombRefIdeal.Read Cert.Layer
open Idealize.ShloMosaic hiding ix1 ix2 ix3 ix4 ix5
open Idealize.ShloMosaic.ValueIdx

/-- A position that is a row is not negative, so indexing keeps it as it is. -/
theorem index_kept (b : BitVec 32) (h : b.toNat < 69632) (b' : BitVec 32) :
    Scalar.select (IntOp.cmpi .slt b 0#32) b' b = BitVec.ofNat 32 (Fin.ofNat 69632 b.toNat).val := by
  have hn : b.slt 0#32 = false := by
    rw [Bool.eq_false_iff, ne_eq, BitVec.slt_iff_toInt_lt, BitVec.toInt_eq_toNat_cond]
    have h0 : (0#32).toInt = 0 := by decide
    rw [h0]
    split <;> omega
  have hs : IntOp.cmpi .slt b 0#32 = 0#1 := congrArg BitVec.ofBool hn
  rw [hs]
  show b = BitVec.ofNat 32 (b.toNat % 69632)
  rw [Nat.mod_eq_of_lt h, BitVec.ofNat_toNat, BitVec.setWidth_eq]

section Rows

variable (g : FVec Ideal S69632x1024 .f32) (x : FVec Ideal S32768x1024 .f32) (p : IVec S2x32768 32) (w : FVec Ideal S32768x2 .f32)
  (gf : FVec Ideal S1024 .f32)

/-- The two rows of positions. -/
theorem ref_first (n : Fin 32768) : val_main_v2 (F := Ideal) p (ix1 n) = p (ix2 0 n) := by
  rw [val_main_v2_apply, val_main_v1_apply]
  exact congrArg p (funext fun a => by
    match a with
    | ⟨0, _⟩ => rfl
    | ⟨1, _⟩ => exact Fin.ext (Nat.mod_eq_of_lt n.isLt))

theorem ref_second (n : Fin 32768) : val_main_v15 (F := Ideal) p (ix1 n) = p (ix2 1 n) := by
  rw [val_main_v15_apply, val_main_v14_apply]
  exact congrArg p (funext fun a => by
    match a with
    | ⟨0, _⟩ => rfl
    | ⟨1, _⟩ => exact Fin.ext (Nat.mod_eq_of_lt n.isLt))

variable (hp : RowsOk p)

include hp

/-- The rows the first positions name, -/
theorem ref_gather_first (n : Fin 32768) (j : Fin 1024) : val_main_v9 (F := Ideal) g p (ix2 n j) = namedRow g p 0 n j := by
  unfold val_main_v9
  refine Routing.gather_row _ rfl rfl rfl rfl rfl g _ n j (Fin.ofNat 69632 (p (ix2 0 n)).toNat) ?_ (by decide)
  have e : idx_main_v8 (ix2 n 0) = ix1 n := funext fun a => by
    match a with
    | ⟨0, _⟩ => rfl
  rw [val_main_v8_apply, e, val_main_v7_apply, val_main_v4_apply, val_main_v3_apply, val_main_c_apply, ref_first]
  exact index_kept _ (hp 0 n) _

/-- and the rows the second positions name. -/
theorem ref_gather_second (n : Fin 32768) (j : Fin 1024) : val_main_v22 (F := Ideal) g p (ix2 n j) = namedRow g p 1 n j := by
  unfold val_main_v22
  refine Routing.gather_row _ rfl rfl rfl rfl rfl g _ n j (Fin.ofNat 69632 (p (ix2 1 n)).toNat) ?_ (by decide)
  have e : idx_main_v21 (ix2 n 0) = ix1 n := funext fun a => by
    match a with
    | ⟨0, _⟩ => rfl
  rw [val_main_v21_apply, e, val_main_v20_apply, val_main_v17_apply, val_main_v16_apply, val_main_c_1_apply, ref_second]
  exact index_kept _ (hp 1 n) _

/-- The combined rows. -/
theorem ref_mix (n : Fin 32768) (j : Fin 1024) : val_main_v25 (F := Ideal) g x p w (ix2 n j) = tokenMix g x p w n j := by
  have e0 : idx_main_v0 (idx_main_v10 (ix2 n j)) = ix2 n 0 := funext fun a => by
    match a with
    | ⟨0, _⟩ => rfl
    | ⟨1, _⟩ => rfl
  have e1 : idx_main_v13 (idx_main_v23 (ix2 n j)) = ix2 n 1 := funext fun a => by
    match a with
    | ⟨0, _⟩ => rfl
    | ⟨1, _⟩ => rfl
  rw [val_main_v25_apply, val_main_v12_apply, val_main_v11_apply, val_main_v24_apply, val_main_v10_apply, val_main_v0_apply,
    val_main_v23_apply, val_main_v13_apply, ref_gather_first g p hp, ref_gather_second g p hp, e0, e1]
  rfl

/-- The reference's result. -/
theorem ref_combined (n : Fin 32768) (j : Fin 1024) : val_main_v38 (F := Ideal) g x p w gf (ix2 n j) = combined g x p w gf (ix2 n j) := by
  rw [val_main_v38_apply, val_main_v35_apply, val_main_v34_apply, val_main_v33_apply, val_main_v32_apply, val_main_v30_apply,
    val_main_v28_apply, val_main_v27_apply, val_main_v29_apply, val_main_v31_apply, val_main_v37_apply, val_main_v36_apply]
  have e0 : val_main_cst (F := Ideal) (Shape.Idx.first Cert.CombRefIdeal.Gen.h_S_) = 0 := Ideal.ofBits_zero_f32
  rw [e0, zero_add]
  have eg : idx_main_v36 (idx_main_v37 (ix2 n j)) = ix1 j := funext fun a => by
    match a with
    | ⟨0, _⟩ => rfl
  have ex : ∀ k, idx_main_v27 (idx_main_v28 (idx_main_v34 (ix2 n j))) k = ix2 n k := fun k => funext fun a => by
    match a with
    | ⟨0, _⟩ => rfl
    | ⟨1, _⟩ => rfl
  simp only [ex, eg, val_main_v26_apply, ref_mix g x p w hp]
  rfl

end Rows

end Cert.CombIdeal.Combine

end
-- ==== Proof.Combine.Algebraic.lean ====
/-
  The combine call and its reference leave one array over the extended reals: every token's row plus its two experts'
  rows, weighed and normalised.
-/
module

public import proofs.«01_k».proof.Proof.Combine.Claims
public import proofs.«01_k».proof.Proof.Combine.Reference

@[expose] public section

set_option maxRecDepth 16384

noncomputable section

namespace Cert.CombIdeal.Combine

open Cert.CombRefIdeal.Read
open Idealize.ShloMosaic hiding ix1 ix2 ix3 ix4 ix5
open Idealize.ShloMosaic.ValueIdx Idealize.ShloMosaic.TcCoe Idealize.SL.Sem

/-- The reference ends with its arguments unchanged; it has no semaphore. -/
theorem quiescent_reference : Cert.quiescent_CombRefIdeal := fun m ρ _ =>
  (θ_run Cert.CombRefIdeal.defs _ _).mono (fun r h => ⟨fun c => (h c).2, sem_eq_zero_of_no_sems (by decide) r.2⟩)
    (Cert.CombRefIdeal.Value.run (F := Ideal) m ρ)

theorem quiescent_reference_pre : Cert.quiescent_CombRefIdeal_pre_rows_in_range := fun m ρ _ => quiescent_reference m ρ trivial

/-- Both leave the combined rows. -/
theorem algebraic : Cert.algebraic_CombIdeal_CombRefIdeal := fun m g m' g' hpre hagree => by
  have hrows := rowsOk_of_launch m hpre
  refine ⟨fun c => result m c, ?_, ?_⟩
  · refine (θ_run Cert.CombIdeal.defs _ _).mono (fun r h c => ?_) (run_all m g (posOk_of_rows m hrows))
    exact ⟨(h.1 c).2.trans (array_eq m c), (h.1 c).1⟩
  · refine (θ_run Cert.CombRefIdeal.defs _ _).mono (fun r h c => ⟨(h c).1.trans ?_, (h c).2⟩) (Cert.CombRefIdeal.Value.run (F := Ideal) m' g')
    obtain ⟨e0, e1, e2, e3, e4⟩ := hagree c
    refine (val_main_v38_eq m' c).trans ?_
    rw [e0, e1, e2, e3, e4]
    refine funext fun (i : CombIdeal.S32768x1024.Idx) => ?_
    obtain ⟨n, j, rfl⟩ : ∃ n j, i = ix2 n j := ⟨_, _, ValueIdx.eq_ix2 i⟩
    exact ref_combined _ _ _ _ _ (hrows c) n j

end Cert.CombIdeal.Combine

end
-- ==== Proof.lean ====
/-
  The certificate: the frames of the input projection, of the spatial gating, of the retention, of the output projection with its routing,
  of the expert call and of the combine call, on words and over the extended reals, and that over the extended reals each leaves what its
  reference leaves.
-/
module

public import proofs.«01_k».proof.Defs
public import proofs.«01_k».proof.Proof.InProj.Algebraic
public import proofs.«01_k».proof.Proof.Experts.Algebraic
public import proofs.«01_k».proof.Proof.Sgu.Algebraic
public import proofs.«01_k».proof.Proof.Ret.Algebraic
public import proofs.«01_k».proof.Proof.Out.Algebraic
public import proofs.«01_k».proof.Proof.Combine.Algebraic
public import Idealize.ShloMosaic.Adequacy
public import Idealize.ShloMosaic.Init

@[expose] public section

noncomputable section

namespace Cert.Proof

open Cert.InProjIdeal Cert.FfnIdeal Cert.SguIdeal Cert.RetIdeal Cert.OutIdeal Cert.CombIdeal

/-- Every claim of the certificate. -/
theorem claim : Cert.Claim :=
  ⟨Cert.InProj.Gen.facts, Cert.InProjIdeal.Gen.facts, Cert.InProjRefIdeal.Gen.facts, Cert.Ffn.Gen.facts,
    Cert.FfnIdeal.Gen.facts, Cert.FfnRefIdeal.Gen.facts, Cert.Sgu.Gen.facts, Cert.SguIdeal.Gen.facts,
    Cert.SguRefIdeal.Gen.facts, Cert.Ret.Gen.facts, Cert.RetIdeal.Gen.facts, Cert.RetRefIdeal.Gen.facts, Cert.Out.Gen.facts, Cert.OutIdeal.Gen.facts, Cert.OutRefIdeal.Gen.facts,
    Cert.Comb.Gen.facts, Cert.CombIdeal.Gen.facts, Cert.CombRefIdeal.Gen.facts,
    Cert.Pre_tables.Gen.facts, Cert.Pre_finite_heads.Gen.facts, Cert.Pre_finite_router.Gen.facts, Cert.Pre_rows_in_range.Gen.facts,
    Project.quiescent_words, Project.quiescent_ideal, Project.quiescent_reference,
    Experts.quiescent_words, Experts.quiescent_ideal, Experts.quiescent_reference, Experts.quiescent_reference_pre,
    Gating.quiescent_words, Gating.quiescent_ideal, Gating.quiescent_reference,
    Heads.quiescent_words, Heads.quiescent_ideal, Heads.quiescent_ideal_finite, Heads.quiescent_reference,
    Heads.quiescent_reference_finite,
    Route.quiescent_words, Route.quiescent_ideal, Route.quiescent_ideal_finite, Route.quiescent_reference,
    Route.quiescent_reference_finite,
    Combine.quiescent_words, Combine.quiescent_ideal, Combine.quiescent_reference, Combine.quiescent_reference_pre,
    trivial, Project.algebraic, trivial, Experts.algebraic, trivial, Gating.algebraic, trivial, Heads.algebraic, trivial, Route.algebraic,
    trivial, Combine.algebraic⟩

end Cert.Proof

end
